-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_WPle (m : (ℓ : Loc Cert.WPle.nD Cert.WPle.τ Cert.WPle.sig) → Buf (Elt Bits) ℓ) : Prop :=
  True

def Pre_WPleIdeal (m : (ℓ : Loc Cert.WPleIdeal.nD Cert.WPleIdeal.τ Cert.WPleIdeal.sig) → Buf (Elt Ideal) ℓ) : Prop :=
  True

def Pre_WPleRefIdeal (m : (ℓ : Loc Cert.WPleRefIdeal.nD Cert.WPleRefIdeal.τ Cert.WPleRefIdeal.sig) → Buf (Elt Ideal) ℓ) : Prop :=
  True

def Pre_WPleGate (m : (ℓ : Loc Cert.WPleGate.nD Cert.WPleGate.τ Cert.WPleGate.sig) → Buf (Elt Bits) ℓ) : Prop :=
  True

def Pre_WPleGateIdeal (m : (ℓ : Loc Cert.WPleGateIdeal.nD Cert.WPleGateIdeal.τ Cert.WPleGateIdeal.sig) → Buf (Elt Ideal) ℓ) : Prop :=
  True

def Pre_WPleGateRefIdeal (m : (ℓ : Loc Cert.WPleGateRefIdeal.nD Cert.WPleGateRefIdeal.τ Cert.WPleGateRefIdeal.sig) → Buf (Elt Ideal) ℓ) : Prop :=
  True

def Pre_H3 (m : (ℓ : Loc Cert.H3.nD Cert.H3.τ Cert.H3.sig) → Buf (Elt Bits) ℓ) : Prop :=
  True

def Pre_H3Ideal (m : (ℓ : Loc Cert.H3Ideal.nD Cert.H3Ideal.τ Cert.H3Ideal.sig) → Buf (Elt Ideal) ℓ) : Prop :=
  True

def Pre_H3RefIdeal (m : (ℓ : Loc Cert.H3RefIdeal.nD Cert.H3RefIdeal.τ Cert.H3RefIdeal.sig) → Buf (Elt Ideal) ℓ) : Prop :=
  True

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_F (m : (ℓ : Loc Cert.F.nD Cert.F.τ Cert.F.sig) → Buf (Elt Bits) ℓ) : Prop :=
  True

def Pre_FIdeal (m : (ℓ : Loc Cert.FIdeal.nD Cert.FIdeal.τ Cert.FIdeal.sig) → Buf (Elt Ideal) ℓ) : Prop :=
  True

def Pre_FRefIdeal (m : (ℓ : Loc Cert.FRefIdeal.nD Cert.FRefIdeal.τ Cert.FRefIdeal.sig) → Buf (Elt Ideal) ℓ) : Prop :=
  True

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_H2 (m : (ℓ : Loc Cert.H2.nD Cert.H2.τ Cert.H2.sig) → Buf (Elt Bits) ℓ) : Prop :=
  True

def Pre_H2Ideal (m : (ℓ : Loc Cert.H2Ideal.nD Cert.H2Ideal.τ Cert.H2Ideal.sig) → Buf (Elt Ideal) ℓ) : Prop :=
  True

def Pre_H2RefIdeal (m : (ℓ : Loc Cert.H2RefIdeal.nD Cert.H2RefIdeal.τ Cert.H2RefIdeal.sig) → Buf (Elt Ideal) ℓ) : Prop :=
  True

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedRefIdeal (m : (ℓ : Loc Cert.MergedRefIdeal.nD Cert.MergedRefIdeal.τ Cert.MergedRefIdeal.sig) → Buf (Elt Ideal) ℓ) : Prop :=
  True

def Pre_WBranchA (m : (ℓ : Loc Cert.WBranchA.nD Cert.WBranchA.τ Cert.WBranchA.sig) → Buf (Elt Bits) ℓ) : Prop :=
  True

def Pre_WBranchAIdeal (m : (ℓ : Loc Cert.WBranchAIdeal.nD Cert.WBranchAIdeal.τ Cert.WBranchAIdeal.sig) → Buf (Elt Ideal) ℓ) : Prop :=
  True

def Pre_WBranchARefIdeal (m : (ℓ : Loc Cert.WBranchARefIdeal.nD Cert.WBranchARefIdeal.τ Cert.WBranchARefIdeal.sig) → Buf (Elt Ideal) ℓ) : Prop :=
  True

def Pre_Ya (m : (ℓ : Loc Cert.Ya.nD Cert.Ya.τ Cert.Ya.sig) → Buf (Elt Bits) ℓ) : Prop :=
  True

def Pre_YaIdeal (m : (ℓ : Loc Cert.YaIdeal.nD Cert.YaIdeal.τ Cert.YaIdeal.sig) → Buf (Elt Ideal) ℓ) : Prop :=
  True

def Pre_YaRefIdeal (m : (ℓ : Loc Cert.YaRefIdeal.nD Cert.YaRefIdeal.τ Cert.YaRefIdeal.sig) → Buf (Elt Ideal) ℓ) : Prop :=
  True

def Pre_WBranchB (m : (ℓ : Loc Cert.WBranchB.nD Cert.WBranchB.τ Cert.WBranchB.sig) → Buf (Elt Bits) ℓ) : Prop :=
  True

def Pre_WBranchBIdeal (m : (ℓ : Loc Cert.WBranchBIdeal.nD Cert.WBranchBIdeal.τ Cert.WBranchBIdeal.sig) → Buf (Elt Ideal) ℓ) : Prop :=
  True

def Pre_WBranchBRefIdeal (m : (ℓ : Loc Cert.WBranchBRefIdeal.nD Cert.WBranchBRefIdeal.τ Cert.WBranchBRefIdeal.sig) → Buf (Elt Ideal) ℓ) : Prop :=
  True

def Pre_Yb (m : (ℓ : Loc Cert.Yb.nD Cert.Yb.τ Cert.Yb.sig) → Buf (Elt Bits) ℓ) : Prop :=
  True

def Pre_YbIdeal (m : (ℓ : Loc Cert.YbIdeal.nD Cert.YbIdeal.τ Cert.YbIdeal.sig) → Buf (Elt Ideal) ℓ) : Prop :=
  True

def Pre_YbRefIdeal (m : (ℓ : Loc Cert.YbRefIdeal.nD Cert.YbRefIdeal.τ Cert.YbRefIdeal.sig) → Buf (Elt Ideal) ℓ) : Prop :=
  True

def Pre_WGate (m : (ℓ : Loc Cert.WGate.nD Cert.WGate.τ Cert.WGate.sig) → Buf (Elt Bits) ℓ) : Prop :=
  True

def Pre_WGateIdeal (m : (ℓ : Loc Cert.WGateIdeal.nD Cert.WGateIdeal.τ Cert.WGateIdeal.sig) → Buf (Elt Ideal) ℓ) : Prop :=
  True

def Pre_WGateRefIdeal (m : (ℓ : Loc Cert.WGateRefIdeal.nD Cert.WGateRefIdeal.τ Cert.WGateRefIdeal.sig) → Buf (Elt Ideal) ℓ) : Prop :=
  True

def Pre_HGate (m : (ℓ : Loc Cert.HGate.nD Cert.HGate.τ Cert.HGate.sig) → Buf (Elt Bits) ℓ) : Prop :=
  True

def Pre_HGateIdeal (m : (ℓ : Loc Cert.HGateIdeal.nD Cert.HGateIdeal.τ Cert.HGateIdeal.sig) → Buf (Elt Ideal) ℓ) : Prop :=
  True

def Pre_HGateRefIdeal (m : (ℓ : Loc Cert.HGateRefIdeal.nD Cert.HGateRefIdeal.τ Cert.HGateRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_H (m : (ℓ : Loc Cert.H.nD Cert.H.τ Cert.H.sig) → Buf (Elt Bits) ℓ) : Prop :=
  True

def Pre_HIdeal (m : (ℓ : Loc Cert.HIdeal.nD Cert.HIdeal.τ Cert.HIdeal.sig) → Buf (Elt Ideal) ℓ) : Prop :=
  True

def Pre_HRefIdeal (m : (ℓ : Loc Cert.HRefIdeal.nD Cert.HRefIdeal.τ Cert.HRefIdeal.sig) → Buf (Elt Ideal) ℓ) : Prop :=
  True

def Pre_ProjRw (m : (ℓ : Loc Cert.ProjRw.nD Cert.ProjRw.τ Cert.ProjRw.sig) → Buf (Elt Bits) ℓ) : Prop :=
  True

def Pre_ProjRwIdeal (m : (ℓ : Loc Cert.ProjRwIdeal.nD Cert.ProjRwIdeal.τ Cert.ProjRwIdeal.sig) → Buf (Elt Ideal) ℓ) : Prop :=
  True

def Pre_ProjRwRefIdeal (m : (ℓ : Loc Cert.ProjRwRefIdeal.nD Cert.ProjRwRefIdeal.τ Cert.ProjRwRefIdeal.sig) → Buf (Elt Ideal) ℓ) : Prop :=
  True

def Pre_ProjAtt (m : (ℓ : Loc Cert.ProjAtt.nD Cert.ProjAtt.τ Cert.ProjAtt.sig) → Buf (Elt Bits) ℓ) : Prop :=
  True

def Pre_ProjAttIdeal (m : (ℓ : Loc Cert.ProjAttIdeal.nD Cert.ProjAttIdeal.τ Cert.ProjAttIdeal.sig) → Buf (Elt Ideal) ℓ) : Prop :=
  True

def Pre_ProjAttRefIdeal (m : (ℓ : Loc Cert.ProjAttRefIdeal.nD Cert.ProjAttRefIdeal.τ Cert.ProjAttRefIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBRefIdeal (m : (ℓ : Loc Cert.BranchBRefIdeal.nD Cert.BranchBRefIdeal.τ Cert.BranchBRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_PleEmbed (m : (ℓ : Loc Cert.PleEmbed.nD Cert.PleEmbed.τ Cert.PleEmbed.sig) → Buf (Elt Bits) ℓ) : Prop :=
  True

def Pre_PleEmbedIdeal (m : (ℓ : Loc Cert.PleEmbedIdeal.nD Cert.PleEmbedIdeal.τ Cert.PleEmbedIdeal.sig) → Buf (Elt Ideal) ℓ) : Prop :=
  True

def Pre_PleEmbedRefIdeal (m : (ℓ : Loc Cert.PleEmbedRefIdeal.nD Cert.PleEmbedRefIdeal.τ Cert.PleEmbedRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_RmsMixBwd (m : (ℓ : Loc Cert.RmsMixBwd.nD Cert.RmsMixBwd.τ Cert.RmsMixBwd.sig) → Buf (Elt Bits) ℓ) : Prop :=
  True

def Pre_RmsMixBwdIdeal (m : (ℓ : Loc Cert.RmsMixBwdIdeal.nD Cert.RmsMixBwdIdeal.τ Cert.RmsMixBwdIdeal.sig) → Buf (Elt Ideal) ℓ) : Prop :=
  True

def Pre_RmsMixBwdRefIdeal (m : (ℓ : Loc Cert.RmsMixBwdRefIdeal.nD Cert.RmsMixBwdRefIdeal.τ Cert.RmsMixBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamBranchA (m : (ℓ : Loc Cert.AdamBranchA.nD Cert.AdamBranchA.τ Cert.AdamBranchA.sig) → Buf (Elt Bits) ℓ) : Prop :=
  True

def Pre_AdamBranchAIdeal (m : (ℓ : Loc Cert.AdamBranchAIdeal.nD Cert.AdamBranchAIdeal.τ Cert.AdamBranchAIdeal.sig) → Buf (Elt Ideal) ℓ) : Prop :=
  True

def Pre_AdamBranchARefIdeal (m : (ℓ : Loc Cert.AdamBranchARefIdeal.nD Cert.AdamBranchARefIdeal.τ Cert.AdamBranchARefIdeal.sig) → Buf (Elt Ideal) ℓ) : Prop :=
  True

def Pre_AdamBranchB (m : (ℓ : Loc Cert.AdamBranchB.nD Cert.AdamBranchB.τ Cert.AdamBranchB.sig) → Buf (Elt Bits) ℓ) : Prop :=
  True

def Pre_AdamBranchBIdeal (m : (ℓ : Loc Cert.AdamBranchBIdeal.nD Cert.AdamBranchBIdeal.τ Cert.AdamBranchBIdeal.sig) → Buf (Elt Ideal) ℓ) : Prop :=
  True

def Pre_AdamBranchBRefIdeal (m : (ℓ : Loc Cert.AdamBranchBRefIdeal.nD Cert.AdamBranchBRefIdeal.τ Cert.AdamBranchBRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_DProj (m : (ℓ : Loc Cert.DProj.nD Cert.DProj.τ Cert.DProj.sig) → Buf (Elt Bits) ℓ) : Prop :=
  True

def Pre_DProjIdeal (m : (ℓ : Loc Cert.DProjIdeal.nD Cert.DProjIdeal.τ Cert.DProjIdeal.sig) → Buf (Elt Ideal) ℓ) : Prop :=
  True

def Pre_DProjRefIdeal (m : (ℓ : Loc Cert.DProjRefIdeal.nD Cert.DProjRefIdeal.τ Cert.DProjRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_ShuffleGrad (m : (ℓ : Loc Cert.ShuffleGrad.nD Cert.ShuffleGrad.τ Cert.ShuffleGrad.sig) → Buf (Elt Bits) ℓ) : Prop :=
  True

def Pre_ShuffleGradIdeal (m : (ℓ : Loc Cert.ShuffleGradIdeal.nD Cert.ShuffleGradIdeal.τ Cert.ShuffleGradIdeal.sig) → Buf (Elt Ideal) ℓ) : Prop :=
  True

def Pre_ShuffleGradRefIdeal (m : (ℓ : Loc Cert.ShuffleGradRefIdeal.nD Cert.ShuffleGradRefIdeal.τ Cert.ShuffleGradRefIdeal.sig) → Buf (Elt Ideal) ℓ) : Prop :=
  True

def Pre_Unshuffle (m : (ℓ : Loc Cert.Unshuffle.nD Cert.Unshuffle.τ Cert.Unshuffle.sig) → Buf (Elt Bits) ℓ) : Prop :=
  True

def Pre_UnshuffleIdeal (m : (ℓ : Loc Cert.UnshuffleIdeal.nD Cert.UnshuffleIdeal.τ Cert.UnshuffleIdeal.sig) → Buf (Elt Ideal) ℓ) : Prop :=
  True

def Pre_UnshuffleRefIdeal (m : (ℓ : Loc Cert.UnshuffleRefIdeal.nD Cert.UnshuffleRefIdeal.τ Cert.UnshuffleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WPle [hWPle : Cert.WPle.Facts] : Prop :=
  ∀ (m : (ℓ : Loc Cert.WPle.nD Cert.WPle.τ Cert.WPle.sig) → Buf (Elt Bits) ℓ) (g : Dev Cert.WPle.nD → PrngReg), Pre_WPle m →
    θ_run (Cert.WPle.defs (F := Bits)) (onTc (τ := Cert.WPle.τ) (Cert.WPle.main (F := Bits))) ⟨m, fun _ => 0, g⟩ (fun r => (∀ c : Dev Cert.WPle.nD,
      r.2.mem ((c.tc : Thread Cert.WPle.nD Cert.WPle.τ).loc Cert.WPle.main_arg0) = m ((c.tc : Thread Cert.WPle.nD Cert.WPle.τ).loc Cert.WPle.main_arg0)
      ∧ r.2.mem ((c.tc : Thread Cert.WPle.nD Cert.WPle.τ).loc Cert.WPle.main_arg1) = m ((c.tc : Thread Cert.WPle.nD Cert.WPle.τ).loc Cert.WPle.main_arg1))
      ∧ r.2.sem = fun _ => 0)

def quiescent_WPleIdeal [hWPleIdeal : Cert.WPleIdeal.Facts] : Prop :=
  ∀ (m : (ℓ : Loc Cert.WPleIdeal.nD Cert.WPleIdeal.τ Cert.WPleIdeal.sig) → Buf (Elt Ideal) ℓ) (g : Dev Cert.WPleIdeal.nD → PrngReg), Pre_WPleIdeal m →
    θ_run (Cert.WPleIdeal.defs (F := Ideal)) (onTc (τ := Cert.WPleIdeal.τ) (Cert.WPleIdeal.main (F := Ideal))) ⟨m, fun _ => 0, g⟩ (fun r => (∀ c : Dev Cert.WPleIdeal.nD,
      r.2.mem ((c.tc : Thread Cert.WPleIdeal.nD Cert.WPleIdeal.τ).loc Cert.WPleIdeal.main_arg0) = m ((c.tc : Thread Cert.WPleIdeal.nD Cert.WPleIdeal.τ).loc Cert.WPleIdeal.main_arg0)
      ∧ r.2.mem ((c.tc : Thread Cert.WPleIdeal.nD Cert.WPleIdeal.τ).loc Cert.WPleIdeal.main_arg1) = m ((c.tc : Thread Cert.WPleIdeal.nD Cert.WPleIdeal.τ).loc Cert.WPleIdeal.main_arg1))
      ∧ r.2.sem = fun _ => 0)

def quiescent_WPleRefIdeal [hWPleRefIdeal : Cert.WPleRefIdeal.Facts] : Prop :=
  ∀ (m : (ℓ : Loc Cert.WPleRefIdeal.nD Cert.WPleRefIdeal.τ Cert.WPleRefIdeal.sig) → Buf (Elt Ideal) ℓ) (g : Dev Cert.WPleRefIdeal.nD → PrngReg), Pre_WPleRefIdeal m →
    θ_run (Cert.WPleRefIdeal.defs (F := Ideal)) (onTc (τ := Cert.WPleRefIdeal.τ) (Cert.WPleRefIdeal.main (F := Ideal))) ⟨m, fun _ => 0, g⟩ (fun r => (∀ c : Dev Cert.WPleRefIdeal.nD,
      r.2.mem ((c.tc : Thread Cert.WPleRefIdeal.nD Cert.WPleRefIdeal.τ).loc Cert.WPleRefIdeal.main_arg0) = m ((c.tc : Thread Cert.WPleRefIdeal.nD Cert.WPleRefIdeal.τ).loc Cert.WPleRefIdeal.main_arg0)
      ∧ r.2.mem ((c.tc : Thread Cert.WPleRefIdeal.nD Cert.WPleRefIdeal.τ).loc Cert.WPleRefIdeal.main_arg1) = m ((c.tc : Thread Cert.WPleRefIdeal.nD Cert.WPleRefIdeal.τ).loc Cert.WPleRefIdeal.main_arg1))
      ∧ r.2.sem = fun _ => 0)

def quiescent_WPleGate [hWPleGate : Cert.WPleGate.Facts] : Prop :=
  ∀ (m : (ℓ : Loc Cert.WPleGate.nD Cert.WPleGate.τ Cert.WPleGate.sig) → Buf (Elt Bits) ℓ) (g : Dev Cert.WPleGate.nD → PrngReg), Pre_WPleGate m →
    θ_run (Cert.WPleGate.defs (F := Bits)) (onTc (τ := Cert.WPleGate.τ) (Cert.WPleGate.main (F := Bits))) ⟨m, fun _ => 0, g⟩ (fun r => (∀ c : Dev Cert.WPleGate.nD,
      r.2.mem ((c.tc : Thread Cert.WPleGate.nD Cert.WPleGate.τ).loc Cert.WPleGate.main_arg0) = m ((c.tc : Thread Cert.WPleGate.nD Cert.WPleGate.τ).loc Cert.WPleGate.main_arg0)
      ∧ r.2.mem ((c.tc : Thread Cert.WPleGate.nD Cert.WPleGate.τ).loc Cert.WPleGate.main_arg1) = m ((c.tc : Thread Cert.WPleGate.nD Cert.WPleGate.τ).loc Cert.WPleGate.main_arg1))
      ∧ r.2.sem = fun _ => 0)

def quiescent_WPleGateIdeal [hWPleGateIdeal : Cert.WPleGateIdeal.Facts] : Prop :=
  ∀ (m : (ℓ : Loc Cert.WPleGateIdeal.nD Cert.WPleGateIdeal.τ Cert.WPleGateIdeal.sig) → Buf (Elt Ideal) ℓ) (g : Dev Cert.WPleGateIdeal.nD → PrngReg), Pre_WPleGateIdeal m →
    θ_run (Cert.WPleGateIdeal.defs (F := Ideal)) (onTc (τ := Cert.WPleGateIdeal.τ) (Cert.WPleGateIdeal.main (F := Ideal))) ⟨m, fun _ => 0, g⟩ (fun r => (∀ c : Dev Cert.WPleGateIdeal.nD,
      r.2.mem ((c.tc : Thread Cert.WPleGateIdeal.nD Cert.WPleGateIdeal.τ).loc Cert.WPleGateIdeal.main_arg0) = m ((c.tc : Thread Cert.WPleGateIdeal.nD Cert.WPleGateIdeal.τ).loc Cert.WPleGateIdeal.main_arg0)
      ∧ r.2.mem ((c.tc : Thread Cert.WPleGateIdeal.nD Cert.WPleGateIdeal.τ).loc Cert.WPleGateIdeal.main_arg1) = m ((c.tc : Thread Cert.WPleGateIdeal.nD Cert.WPleGateIdeal.τ).loc Cert.WPleGateIdeal.main_arg1))
      ∧ r.2.sem = fun _ => 0)

def quiescent_WPleGateRefIdeal [hWPleGateRefIdeal : Cert.WPleGateRefIdeal.Facts] : Prop :=
  ∀ (m : (ℓ : Loc Cert.WPleGateRefIdeal.nD Cert.WPleGateRefIdeal.τ Cert.WPleGateRefIdeal.sig) → Buf (Elt Ideal) ℓ) (g : Dev Cert.WPleGateRefIdeal.nD → PrngReg), Pre_WPleGateRefIdeal m →
    θ_run (Cert.WPleGateRefIdeal.defs (F := Ideal)) (onTc (τ := Cert.WPleGateRefIdeal.τ) (Cert.WPleGateRefIdeal.main (F := Ideal))) ⟨m, fun _ => 0, g⟩ (fun r => (∀ c : Dev Cert.WPleGateRefIdeal.nD,
      r.2.mem ((c.tc : Thread Cert.WPleGateRefIdeal.nD Cert.WPleGateRefIdeal.τ).loc Cert.WPleGateRefIdeal.main_arg0) = m ((c.tc : Thread Cert.WPleGateRefIdeal.nD Cert.WPleGateRefIdeal.τ).loc Cert.WPleGateRefIdeal.main_arg0)
      ∧ r.2.mem ((c.tc : Thread Cert.WPleGateRefIdeal.nD Cert.WPleGateRefIdeal.τ).loc Cert.WPleGateRefIdeal.main_arg1) = m ((c.tc : Thread Cert.WPleGateRefIdeal.nD Cert.WPleGateRefIdeal.τ).loc Cert.WPleGateRefIdeal.main_arg1))
      ∧ r.2.sem = fun _ => 0)

def quiescent_H3 [hH3 : Cert.H3.Facts] : Prop :=
  ∀ (m : (ℓ : Loc Cert.H3.nD Cert.H3.τ Cert.H3.sig) → Buf (Elt Bits) ℓ) (g : Dev Cert.H3.nD → PrngReg), Pre_H3 m →
    θ_run (Cert.H3.defs (F := Bits)) (onTc (τ := Cert.H3.τ) (Cert.H3.main (F := Bits))) ⟨m, fun _ => 0, g⟩ (fun r => (∀ c : Dev Cert.H3.nD,
      r.2.mem ((c.tc : Thread Cert.H3.nD Cert.H3.τ).loc Cert.H3.main_arg0) = m ((c.tc : Thread Cert.H3.nD Cert.H3.τ).loc Cert.H3.main_arg0)
      ∧ r.2.mem ((c.tc : Thread Cert.H3.nD Cert.H3.τ).loc Cert.H3.main_arg1) = m ((c.tc : Thread Cert.H3.nD Cert.H3.τ).loc Cert.H3.main_arg1))
      ∧ r.2.sem = fun _ => 0)

def quiescent_H3Ideal [hH3Ideal : Cert.H3Ideal.Facts] : Prop :=
  ∀ (m : (ℓ : Loc Cert.H3Ideal.nD Cert.H3Ideal.τ Cert.H3Ideal.sig) → Buf (Elt Ideal) ℓ) (g : Dev Cert.H3Ideal.nD → PrngReg), Pre_H3Ideal m →
    θ_run (Cert.H3Ideal.defs (F := Ideal)) (onTc (τ := Cert.H3Ideal.τ) (Cert.H3Ideal.main (F := Ideal))) ⟨m, fun _ => 0, g⟩ (fun r => (∀ c : Dev Cert.H3Ideal.nD,
      r.2.mem ((c.tc : Thread Cert.H3Ideal.nD Cert.H3Ideal.τ).loc Cert.H3Ideal.main_arg0) = m ((c.tc : Thread Cert.H3Ideal.nD Cert.H3Ideal.τ).loc Cert.H3Ideal.main_arg0)
      ∧ r.2.mem ((c.tc : Thread Cert.H3Ideal.nD Cert.H3Ideal.τ).loc Cert.H3Ideal.main_arg1) = m ((c.tc : Thread Cert.H3Ideal.nD Cert.H3Ideal.τ).loc Cert.H3Ideal.main_arg1))
      ∧ r.2.sem = fun _ => 0)

def quiescent_H3RefIdeal [hH3RefIdeal : Cert.H3RefIdeal.Facts] : Prop :=
  ∀ (m : (ℓ : Loc Cert.H3RefIdeal.nD Cert.H3RefIdeal.τ Cert.H3RefIdeal.sig) → Buf (Elt Ideal) ℓ) (g : Dev Cert.H3RefIdeal.nD → PrngReg), Pre_H3RefIdeal m →
    θ_run (Cert.H3RefIdeal.defs (F := Ideal)) (onTc (τ := Cert.H3RefIdeal.τ) (Cert.H3RefIdeal.main (F := Ideal))) ⟨m, fun _ => 0, g⟩ (fun r => (∀ c : Dev Cert.H3RefIdeal.nD,
      r.2.mem ((c.tc : Thread Cert.H3RefIdeal.nD Cert.H3RefIdeal.τ).loc Cert.H3RefIdeal.main_arg0) = m ((c.tc : Thread Cert.H3RefIdeal.nD Cert.H3RefIdeal.τ).loc Cert.H3RefIdeal.main_arg0)
      ∧ r.2.mem ((c.tc : Thread Cert.H3RefIdeal.nD Cert.H3RefIdeal.τ).loc Cert.H3RefIdeal.main_arg1) = m ((c.tc : Thread Cert.H3RefIdeal.nD Cert.H3RefIdeal.τ).loc Cert.H3RefIdeal.main_arg1))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_F [hF : Cert.F.Facts] : Prop :=
  ∀ (m : (ℓ : Loc Cert.F.nD Cert.F.τ Cert.F.sig) → Buf (Elt Bits) ℓ) (g : Dev Cert.F.nD → PrngReg), Pre_F m →
    θ_run (Cert.F.defs (F := Bits)) (onTc (τ := Cert.F.τ) (Cert.F.main (F := Bits))) ⟨m, fun _ => 0, g⟩ (fun r => (∀ c : Dev Cert.F.nD,
      r.2.mem ((c.tc : Thread Cert.F.nD Cert.F.τ).loc Cert.F.main_arg0) = m ((c.tc : Thread Cert.F.nD Cert.F.τ).loc Cert.F.main_arg0)
      ∧ r.2.mem ((c.tc : Thread Cert.F.nD Cert.F.τ).loc Cert.F.main_arg1) = m ((c.tc : Thread Cert.F.nD Cert.F.τ).loc Cert.F.main_arg1))
      ∧ r.2.sem = fun _ => 0)

def quiescent_FIdeal [hFIdeal : Cert.FIdeal.Facts] : Prop :=
  ∀ (m : (ℓ : Loc Cert.FIdeal.nD Cert.FIdeal.τ Cert.FIdeal.sig) → Buf (Elt Ideal) ℓ) (g : Dev Cert.FIdeal.nD → PrngReg), Pre_FIdeal m →
    θ_run (Cert.FIdeal.defs (F := Ideal)) (onTc (τ := Cert.FIdeal.τ) (Cert.FIdeal.main (F := Ideal))) ⟨m, fun _ => 0, g⟩ (fun r => (∀ c : Dev Cert.FIdeal.nD,
      r.2.mem ((c.tc : Thread Cert.FIdeal.nD Cert.FIdeal.τ).loc Cert.FIdeal.main_arg0) = m ((c.tc : Thread Cert.FIdeal.nD Cert.FIdeal.τ).loc Cert.FIdeal.main_arg0)
      ∧ r.2.mem ((c.tc : Thread Cert.FIdeal.nD Cert.FIdeal.τ).loc Cert.FIdeal.main_arg1) = m ((c.tc : Thread Cert.FIdeal.nD Cert.FIdeal.τ).loc Cert.FIdeal.main_arg1))
      ∧ r.2.sem = fun _ => 0)

def quiescent_FRefIdeal [hFRefIdeal : Cert.FRefIdeal.Facts] : Prop :=
  ∀ (m : (ℓ : Loc Cert.FRefIdeal.nD Cert.FRefIdeal.τ Cert.FRefIdeal.sig) → Buf (Elt Ideal) ℓ) (g : Dev Cert.FRefIdeal.nD → PrngReg), Pre_FRefIdeal m →
    θ_run (Cert.FRefIdeal.defs (F := Ideal)) (onTc (τ := Cert.FRefIdeal.τ) (Cert.FRefIdeal.main (F := Ideal))) ⟨m, fun _ => 0, g⟩ (fun r => (∀ c : Dev Cert.FRefIdeal.nD,
      r.2.mem ((c.tc : Thread Cert.FRefIdeal.nD Cert.FRefIdeal.τ).loc Cert.FRefIdeal.main_arg0) = m ((c.tc : Thread Cert.FRefIdeal.nD Cert.FRefIdeal.τ).loc Cert.FRefIdeal.main_arg0)
      ∧ r.2.mem ((c.tc : Thread Cert.FRefIdeal.nD Cert.FRefIdeal.τ).loc Cert.FRefIdeal.main_arg1) = m ((c.tc : Thread Cert.FRefIdeal.nD Cert.FRefIdeal.τ).loc Cert.FRefIdeal.main_arg1))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1))
      ∧ r.2.sem = fun _ => 0)

def quiescent_H2 [hH2 : Cert.H2.Facts] : Prop :=
  ∀ (m : (ℓ : Loc Cert.H2.nD Cert.H2.τ Cert.H2.sig) → Buf (Elt Bits) ℓ) (g : Dev Cert.H2.nD → PrngReg), Pre_H2 m →
    θ_run (Cert.H2.defs (F := Bits)) (onTc (τ := Cert.H2.τ) (Cert.H2.main (F := Bits))) ⟨m, fun _ => 0, g⟩ (fun r => (∀ c : Dev Cert.H2.nD,
      r.2.mem ((c.tc : Thread Cert.H2.nD Cert.H2.τ).loc Cert.H2.main_arg0) = m ((c.tc : Thread Cert.H2.nD Cert.H2.τ).loc Cert.H2.main_arg0)
      ∧ r.2.mem ((c.tc : Thread Cert.H2.nD Cert.H2.τ).loc Cert.H2.main_arg1) = m ((c.tc : Thread Cert.H2.nD Cert.H2.τ).loc Cert.H2.main_arg1))
      ∧ r.2.sem = fun _ => 0)

def quiescent_H2Ideal [hH2Ideal : Cert.H2Ideal.Facts] : Prop :=
  ∀ (m : (ℓ : Loc Cert.H2Ideal.nD Cert.H2Ideal.τ Cert.H2Ideal.sig) → Buf (Elt Ideal) ℓ) (g : Dev Cert.H2Ideal.nD → PrngReg), Pre_H2Ideal m →
    θ_run (Cert.H2Ideal.defs (F := Ideal)) (onTc (τ := Cert.H2Ideal.τ) (Cert.H2Ideal.main (F := Ideal))) ⟨m, fun _ => 0, g⟩ (fun r => (∀ c : Dev Cert.H2Ideal.nD,
      r.2.mem ((c.tc : Thread Cert.H2Ideal.nD Cert.H2Ideal.τ).loc Cert.H2Ideal.main_arg0) = m ((c.tc : Thread Cert.H2Ideal.nD Cert.H2Ideal.τ).loc Cert.H2Ideal.main_arg0)
      ∧ r.2.mem ((c.tc : Thread Cert.H2Ideal.nD Cert.H2Ideal.τ).loc Cert.H2Ideal.main_arg1) = m ((c.tc : Thread Cert.H2Ideal.nD Cert.H2Ideal.τ).loc Cert.H2Ideal.main_arg1))
      ∧ r.2.sem = fun _ => 0)

def quiescent_H2RefIdeal [hH2RefIdeal : Cert.H2RefIdeal.Facts] : Prop :=
  ∀ (m : (ℓ : Loc Cert.H2RefIdeal.nD Cert.H2RefIdeal.τ Cert.H2RefIdeal.sig) → Buf (Elt Ideal) ℓ) (g : Dev Cert.H2RefIdeal.nD → PrngReg), Pre_H2RefIdeal m →
    θ_run (Cert.H2RefIdeal.defs (F := Ideal)) (onTc (τ := Cert.H2RefIdeal.τ) (Cert.H2RefIdeal.main (F := Ideal))) ⟨m, fun _ => 0, g⟩ (fun r => (∀ c : Dev Cert.H2RefIdeal.nD,
      r.2.mem ((c.tc : Thread Cert.H2RefIdeal.nD Cert.H2RefIdeal.τ).loc Cert.H2RefIdeal.main_arg0) = m ((c.tc : Thread Cert.H2RefIdeal.nD Cert.H2RefIdeal.τ).loc Cert.H2RefIdeal.main_arg0)
      ∧ r.2.mem ((c.tc : Thread Cert.H2RefIdeal.nD Cert.H2RefIdeal.τ).loc Cert.H2RefIdeal.main_arg1) = m ((c.tc : Thread Cert.H2RefIdeal.nD Cert.H2RefIdeal.τ).loc Cert.H2RefIdeal.main_arg1))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1))
      ∧ r.2.sem = fun _ => 0)

def quiescent_MergedRefIdeal [hMergedRefIdeal : Cert.MergedRefIdeal.Facts] : Prop :=
  ∀ (m : (ℓ : Loc Cert.MergedRefIdeal.nD Cert.MergedRefIdeal.τ Cert.MergedRefIdeal.sig) → Buf (Elt Ideal) ℓ) (g : Dev Cert.MergedRefIdeal.nD → PrngReg), Pre_MergedRefIdeal m →
    θ_run (Cert.MergedRefIdeal.defs (F := Ideal)) (onTc (τ := Cert.MergedRefIdeal.τ) (Cert.MergedRefIdeal.main (F := Ideal))) ⟨m, fun _ => 0, g⟩ (fun r => (∀ c : Dev Cert.MergedRefIdeal.nD,
      r.2.mem ((c.tc : Thread Cert.MergedRefIdeal.nD Cert.MergedRefIdeal.τ).loc Cert.MergedRefIdeal.main_arg0) = m ((c.tc : Thread Cert.MergedRefIdeal.nD Cert.MergedRefIdeal.τ).loc Cert.MergedRefIdeal.main_arg0)
      ∧ r.2.mem ((c.tc : Thread Cert.MergedRefIdeal.nD Cert.MergedRefIdeal.τ).loc Cert.MergedRefIdeal.main_arg1) = m ((c.tc : Thread Cert.MergedRefIdeal.nD Cert.MergedRefIdeal.τ).loc Cert.MergedRefIdeal.main_arg1))
      ∧ r.2.sem = fun _ => 0)

def quiescent_WBranchA [hWBranchA : Cert.WBranchA.Facts] : Prop :=
  ∀ (m : (ℓ : Loc Cert.WBranchA.nD Cert.WBranchA.τ Cert.WBranchA.sig) → Buf (Elt Bits) ℓ) (g : Dev Cert.WBranchA.nD → PrngReg), Pre_WBranchA m →
    θ_run (Cert.WBranchA.defs (F := Bits)) (onTc (τ := Cert.WBranchA.τ) (Cert.WBranchA.main (F := Bits))) ⟨m, fun _ => 0, g⟩ (fun r => (∀ c : Dev Cert.WBranchA.nD,
      r.2.mem ((c.tc : Thread Cert.WBranchA.nD Cert.WBranchA.τ).loc Cert.WBranchA.main_arg0) = m ((c.tc : Thread Cert.WBranchA.nD Cert.WBranchA.τ).loc Cert.WBranchA.main_arg0)
      ∧ r.2.mem ((c.tc : Thread Cert.WBranchA.nD Cert.WBranchA.τ).loc Cert.WBranchA.main_arg1) = m ((c.tc : Thread Cert.WBranchA.nD Cert.WBranchA.τ).loc Cert.WBranchA.main_arg1))
      ∧ r.2.sem = fun _ => 0)

def quiescent_WBranchAIdeal [hWBranchAIdeal : Cert.WBranchAIdeal.Facts] : Prop :=
  ∀ (m : (ℓ : Loc Cert.WBranchAIdeal.nD Cert.WBranchAIdeal.τ Cert.WBranchAIdeal.sig) → Buf (Elt Ideal) ℓ) (g : Dev Cert.WBranchAIdeal.nD → PrngReg), Pre_WBranchAIdeal m →
    θ_run (Cert.WBranchAIdeal.defs (F := Ideal)) (onTc (τ := Cert.WBranchAIdeal.τ) (Cert.WBranchAIdeal.main (F := Ideal))) ⟨m, fun _ => 0, g⟩ (fun r => (∀ c : Dev Cert.WBranchAIdeal.nD,
      r.2.mem ((c.tc : Thread Cert.WBranchAIdeal.nD Cert.WBranchAIdeal.τ).loc Cert.WBranchAIdeal.main_arg0) = m ((c.tc : Thread Cert.WBranchAIdeal.nD Cert.WBranchAIdeal.τ).loc Cert.WBranchAIdeal.main_arg0)
      ∧ r.2.mem ((c.tc : Thread Cert.WBranchAIdeal.nD Cert.WBranchAIdeal.τ).loc Cert.WBranchAIdeal.main_arg1) = m ((c.tc : Thread Cert.WBranchAIdeal.nD Cert.WBranchAIdeal.τ).loc Cert.WBranchAIdeal.main_arg1))
      ∧ r.2.sem = fun _ => 0)

def quiescent_WBranchARefIdeal [hWBranchARefIdeal : Cert.WBranchARefIdeal.Facts] : Prop :=
  ∀ (m : (ℓ : Loc Cert.WBranchARefIdeal.nD Cert.WBranchARefIdeal.τ Cert.WBranchARefIdeal.sig) → Buf (Elt Ideal) ℓ) (g : Dev Cert.WBranchARefIdeal.nD → PrngReg), Pre_WBranchARefIdeal m →
    θ_run (Cert.WBranchARefIdeal.defs (F := Ideal)) (onTc (τ := Cert.WBranchARefIdeal.τ) (Cert.WBranchARefIdeal.main (F := Ideal))) ⟨m, fun _ => 0, g⟩ (fun r => (∀ c : Dev Cert.WBranchARefIdeal.nD,
      r.2.mem ((c.tc : Thread Cert.WBranchARefIdeal.nD Cert.WBranchARefIdeal.τ).loc Cert.WBranchARefIdeal.main_arg0) = m ((c.tc : Thread Cert.WBranchARefIdeal.nD Cert.WBranchARefIdeal.τ).loc Cert.WBranchARefIdeal.main_arg0)
      ∧ r.2.mem ((c.tc : Thread Cert.WBranchARefIdeal.nD Cert.WBranchARefIdeal.τ).loc Cert.WBranchARefIdeal.main_arg1) = m ((c.tc : Thread Cert.WBranchARefIdeal.nD Cert.WBranchARefIdeal.τ).loc Cert.WBranchARefIdeal.main_arg1))
      ∧ r.2.sem = fun _ => 0)

def quiescent_Ya [hYa : Cert.Ya.Facts] : Prop :=
  ∀ (m : (ℓ : Loc Cert.Ya.nD Cert.Ya.τ Cert.Ya.sig) → Buf (Elt Bits) ℓ) (g : Dev Cert.Ya.nD → PrngReg), Pre_Ya m →
    θ_run (Cert.Ya.defs (F := Bits)) (onTc (τ := Cert.Ya.τ) (Cert.Ya.main (F := Bits))) ⟨m, fun _ => 0, g⟩ (fun r => (∀ c : Dev Cert.Ya.nD,
      r.2.mem ((c.tc : Thread Cert.Ya.nD Cert.Ya.τ).loc Cert.Ya.main_arg0) = m ((c.tc : Thread Cert.Ya.nD Cert.Ya.τ).loc Cert.Ya.main_arg0)
      ∧ r.2.mem ((c.tc : Thread Cert.Ya.nD Cert.Ya.τ).loc Cert.Ya.main_arg1) = m ((c.tc : Thread Cert.Ya.nD Cert.Ya.τ).loc Cert.Ya.main_arg1))
      ∧ r.2.sem = fun _ => 0)

def quiescent_YaIdeal [hYaIdeal : Cert.YaIdeal.Facts] : Prop :=
  ∀ (m : (ℓ : Loc Cert.YaIdeal.nD Cert.YaIdeal.τ Cert.YaIdeal.sig) → Buf (Elt Ideal) ℓ) (g : Dev Cert.YaIdeal.nD → PrngReg), Pre_YaIdeal m →
    θ_run (Cert.YaIdeal.defs (F := Ideal)) (onTc (τ := Cert.YaIdeal.τ) (Cert.YaIdeal.main (F := Ideal))) ⟨m, fun _ => 0, g⟩ (fun r => (∀ c : Dev Cert.YaIdeal.nD,
      r.2.mem ((c.tc : Thread Cert.YaIdeal.nD Cert.YaIdeal.τ).loc Cert.YaIdeal.main_arg0) = m ((c.tc : Thread Cert.YaIdeal.nD Cert.YaIdeal.τ).loc Cert.YaIdeal.main_arg0)
      ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ r.2.sem = fun _ => 0)

def quiescent_YaRefIdeal [hYaRefIdeal : Cert.YaRefIdeal.Facts] : Prop :=
  ∀ (m : (ℓ : Loc Cert.YaRefIdeal.nD Cert.YaRefIdeal.τ Cert.YaRefIdeal.sig) → Buf (Elt Ideal) ℓ) (g : Dev Cert.YaRefIdeal.nD → PrngReg), Pre_YaRefIdeal m →
    θ_run (Cert.YaRefIdeal.defs (F := Ideal)) (onTc (τ := Cert.YaRefIdeal.τ) (Cert.YaRefIdeal.main (F := Ideal))) ⟨m, fun _ => 0, g⟩ (fun r => (∀ c : Dev Cert.YaRefIdeal.nD,
      r.2.mem ((c.tc : Thread Cert.YaRefIdeal.nD Cert.YaRefIdeal.τ).loc Cert.YaRefIdeal.main_arg0) = m ((c.tc : Thread Cert.YaRefIdeal.nD Cert.YaRefIdeal.τ).loc Cert.YaRefIdeal.main_arg0)
      ∧ r.2.mem ((c.tc : Thread Cert.YaRefIdeal.nD Cert.YaRefIdeal.τ).loc Cert.YaRefIdeal.main_arg1) = m ((c.tc : Thread Cert.YaRefIdeal.nD Cert.YaRefIdeal.τ).loc Cert.YaRefIdeal.main_arg1))
      ∧ r.2.sem = fun _ => 0)

def quiescent_WBranchB [hWBranchB : Cert.WBranchB.Facts] : Prop :=
  ∀ (m : (ℓ : Loc Cert.WBranchB.nD Cert.WBranchB.τ Cert.WBranchB.sig) → Buf (Elt Bits) ℓ) (g : Dev Cert.WBranchB.nD → PrngReg), Pre_WBranchB m →
    θ_run (Cert.WBranchB.defs (F := Bits)) (onTc (τ := Cert.WBranchB.τ) (Cert.WBranchB.main (F := Bits))) ⟨m, fun _ => 0, g⟩ (fun r => (∀ c : Dev Cert.WBranchB.nD,
      r.2.mem ((c.tc : Thread Cert.WBranchB.nD Cert.WBranchB.τ).loc Cert.WBranchB.main_arg0) = m ((c.tc : Thread Cert.WBranchB.nD Cert.WBranchB.τ).loc Cert.WBranchB.main_arg0)
      ∧ r.2.mem ((c.tc : Thread Cert.WBranchB.nD Cert.WBranchB.τ).loc Cert.WBranchB.main_arg1) = m ((c.tc : Thread Cert.WBranchB.nD Cert.WBranchB.τ).loc Cert.WBranchB.main_arg1))
      ∧ r.2.sem = fun _ => 0)

def quiescent_WBranchBIdeal [hWBranchBIdeal : Cert.WBranchBIdeal.Facts] : Prop :=
  ∀ (m : (ℓ : Loc Cert.WBranchBIdeal.nD Cert.WBranchBIdeal.τ Cert.WBranchBIdeal.sig) → Buf (Elt Ideal) ℓ) (g : Dev Cert.WBranchBIdeal.nD → PrngReg), Pre_WBranchBIdeal m →
    θ_run (Cert.WBranchBIdeal.defs (F := Ideal)) (onTc (τ := Cert.WBranchBIdeal.τ) (Cert.WBranchBIdeal.main (F := Ideal))) ⟨m, fun _ => 0, g⟩ (fun r => (∀ c : Dev Cert.WBranchBIdeal.nD,
      r.2.mem ((c.tc : Thread Cert.WBranchBIdeal.nD Cert.WBranchBIdeal.τ).loc Cert.WBranchBIdeal.main_arg0) = m ((c.tc : Thread Cert.WBranchBIdeal.nD Cert.WBranchBIdeal.τ).loc Cert.WBranchBIdeal.main_arg0)
      ∧ r.2.mem ((c.tc : Thread Cert.WBranchBIdeal.nD Cert.WBranchBIdeal.τ).loc Cert.WBranchBIdeal.main_arg1) = m ((c.tc : Thread Cert.WBranchBIdeal.nD Cert.WBranchBIdeal.τ).loc Cert.WBranchBIdeal.main_arg1))
      ∧ r.2.sem = fun _ => 0)

def quiescent_WBranchBRefIdeal [hWBranchBRefIdeal : Cert.WBranchBRefIdeal.Facts] : Prop :=
  ∀ (m : (ℓ : Loc Cert.WBranchBRefIdeal.nD Cert.WBranchBRefIdeal.τ Cert.WBranchBRefIdeal.sig) → Buf (Elt Ideal) ℓ) (g : Dev Cert.WBranchBRefIdeal.nD → PrngReg), Pre_WBranchBRefIdeal m →
    θ_run (Cert.WBranchBRefIdeal.defs (F := Ideal)) (onTc (τ := Cert.WBranchBRefIdeal.τ) (Cert.WBranchBRefIdeal.main (F := Ideal))) ⟨m, fun _ => 0, g⟩ (fun r => (∀ c : Dev Cert.WBranchBRefIdeal.nD,
      r.2.mem ((c.tc : Thread Cert.WBranchBRefIdeal.nD Cert.WBranchBRefIdeal.τ).loc Cert.WBranchBRefIdeal.main_arg0) = m ((c.tc : Thread Cert.WBranchBRefIdeal.nD Cert.WBranchBRefIdeal.τ).loc Cert.WBranchBRefIdeal.main_arg0)
      ∧ r.2.mem ((c.tc : Thread Cert.WBranchBRefIdeal.nD Cert.WBranchBRefIdeal.τ).loc Cert.WBranchBRefIdeal.main_arg1) = m ((c.tc : Thread Cert.WBranchBRefIdeal.nD Cert.WBranchBRefIdeal.τ).loc Cert.WBranchBRefIdeal.main_arg1))
      ∧ r.2.sem = fun _ => 0)

def quiescent_Yb [hYb : Cert.Yb.Facts] : Prop :=
  ∀ (m : (ℓ : Loc Cert.Yb.nD Cert.Yb.τ Cert.Yb.sig) → Buf (Elt Bits) ℓ) (g : Dev Cert.Yb.nD → PrngReg), Pre_Yb m →
    θ_run (Cert.Yb.defs (F := Bits)) (onTc (τ := Cert.Yb.τ) (Cert.Yb.main (F := Bits))) ⟨m, fun _ => 0, g⟩ (fun r => (∀ c : Dev Cert.Yb.nD,
      r.2.mem ((c.tc : Thread Cert.Yb.nD Cert.Yb.τ).loc Cert.Yb.main_arg0) = m ((c.tc : Thread Cert.Yb.nD Cert.Yb.τ).loc Cert.Yb.main_arg0)
      ∧ r.2.mem ((c.tc : Thread Cert.Yb.nD Cert.Yb.τ).loc Cert.Yb.main_arg1) = m ((c.tc : Thread Cert.Yb.nD Cert.Yb.τ).loc Cert.Yb.main_arg1))
      ∧ r.2.sem = fun _ => 0)

def quiescent_YbIdeal [hYbIdeal : Cert.YbIdeal.Facts] : Prop :=
  ∀ (m : (ℓ : Loc Cert.YbIdeal.nD Cert.YbIdeal.τ Cert.YbIdeal.sig) → Buf (Elt Ideal) ℓ) (g : Dev Cert.YbIdeal.nD → PrngReg), Pre_YbIdeal m →
    θ_run (Cert.YbIdeal.defs (F := Ideal)) (onTc (τ := Cert.YbIdeal.τ) (Cert.YbIdeal.main (F := Ideal))) ⟨m, fun _ => 0, g⟩ (fun r => (∀ c : Dev Cert.YbIdeal.nD,
      r.2.mem ((c.tc : Thread Cert.YbIdeal.nD Cert.YbIdeal.τ).loc Cert.YbIdeal.main_arg0) = m ((c.tc : Thread Cert.YbIdeal.nD Cert.YbIdeal.τ).loc Cert.YbIdeal.main_arg0)
      ∧ r.2.mem ((c.tc : Thread Cert.YbIdeal.nD Cert.YbIdeal.τ).loc Cert.YbIdeal.main_arg1) = m ((c.tc : Thread Cert.YbIdeal.nD Cert.YbIdeal.τ).loc Cert.YbIdeal.main_arg1))
      ∧ r.2.sem = fun _ => 0)

def quiescent_YbRefIdeal [hYbRefIdeal : Cert.YbRefIdeal.Facts] : Prop :=
  ∀ (m : (ℓ : Loc Cert.YbRefIdeal.nD Cert.YbRefIdeal.τ Cert.YbRefIdeal.sig) → Buf (Elt Ideal) ℓ) (g : Dev Cert.YbRefIdeal.nD → PrngReg), Pre_YbRefIdeal m →
    θ_run (Cert.YbRefIdeal.defs (F := Ideal)) (onTc (τ := Cert.YbRefIdeal.τ) (Cert.YbRefIdeal.main (F := Ideal))) ⟨m, fun _ => 0, g⟩ (fun r => (∀ c : Dev Cert.YbRefIdeal.nD,
      r.2.mem ((c.tc : Thread Cert.YbRefIdeal.nD Cert.YbRefIdeal.τ).loc Cert.YbRefIdeal.main_arg0) = m ((c.tc : Thread Cert.YbRefIdeal.nD Cert.YbRefIdeal.τ).loc Cert.YbRefIdeal.main_arg0)
      ∧ r.2.mem ((c.tc : Thread Cert.YbRefIdeal.nD Cert.YbRefIdeal.τ).loc Cert.YbRefIdeal.main_arg1) = m ((c.tc : Thread Cert.YbRefIdeal.nD Cert.YbRefIdeal.τ).loc Cert.YbRefIdeal.main_arg1))
      ∧ r.2.sem = fun _ => 0)

def quiescent_WGate [hWGate : Cert.WGate.Facts] : Prop :=
  ∀ (m : (ℓ : Loc Cert.WGate.nD Cert.WGate.τ Cert.WGate.sig) → Buf (Elt Bits) ℓ) (g : Dev Cert.WGate.nD → PrngReg), Pre_WGate m →
    θ_run (Cert.WGate.defs (F := Bits)) (onTc (τ := Cert.WGate.τ) (Cert.WGate.main (F := Bits))) ⟨m, fun _ => 0, g⟩ (fun r => (∀ c : Dev Cert.WGate.nD,
      r.2.mem ((c.tc : Thread Cert.WGate.nD Cert.WGate.τ).loc Cert.WGate.main_arg0) = m ((c.tc : Thread Cert.WGate.nD Cert.WGate.τ).loc Cert.WGate.main_arg0)
      ∧ r.2.mem ((c.tc : Thread Cert.WGate.nD Cert.WGate.τ).loc Cert.WGate.main_arg1) = m ((c.tc : Thread Cert.WGate.nD Cert.WGate.τ).loc Cert.WGate.main_arg1))
      ∧ r.2.sem = fun _ => 0)

def quiescent_WGateIdeal [hWGateIdeal : Cert.WGateIdeal.Facts] : Prop :=
  ∀ (m : (ℓ : Loc Cert.WGateIdeal.nD Cert.WGateIdeal.τ Cert.WGateIdeal.sig) → Buf (Elt Ideal) ℓ) (g : Dev Cert.WGateIdeal.nD → PrngReg), Pre_WGateIdeal m →
    θ_run (Cert.WGateIdeal.defs (F := Ideal)) (onTc (τ := Cert.WGateIdeal.τ) (Cert.WGateIdeal.main (F := Ideal))) ⟨m, fun _ => 0, g⟩ (fun r => (∀ c : Dev Cert.WGateIdeal.nD,
      r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
      ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ r.2.sem = fun _ => 0)

def quiescent_WGateRefIdeal [hWGateRefIdeal : Cert.WGateRefIdeal.Facts] : Prop :=
  ∀ (m : (ℓ : Loc Cert.WGateRefIdeal.nD Cert.WGateRefIdeal.τ Cert.WGateRefIdeal.sig) → Buf (Elt Ideal) ℓ) (g : Dev Cert.WGateRefIdeal.nD → PrngReg), Pre_WGateRefIdeal m →
    θ_run (Cert.WGateRefIdeal.defs (F := Ideal)) (onTc (τ := Cert.WGateRefIdeal.τ) (Cert.WGateRefIdeal.main (F := Ideal))) ⟨m, fun _ => 0, g⟩ (fun r => (∀ c : Dev Cert.WGateRefIdeal.nD,
      r.2.mem ((c.tc : Thread Cert.WGateRefIdeal.nD Cert.WGateRefIdeal.τ).loc Cert.WGateRefIdeal.main_arg0) = m ((c.tc : Thread Cert.WGateRefIdeal.nD Cert.WGateRefIdeal.τ).loc Cert.WGateRefIdeal.main_arg0)
      ∧ r.2.mem ((c.tc : Thread Cert.WGateRefIdeal.nD Cert.WGateRefIdeal.τ).loc Cert.WGateRefIdeal.main_arg1) = m ((c.tc : Thread Cert.WGateRefIdeal.nD Cert.WGateRefIdeal.τ).loc Cert.WGateRefIdeal.main_arg1))
      ∧ r.2.sem = fun _ => 0)

def quiescent_HGate [hHGate : Cert.HGate.Facts] : Prop :=
  ∀ (m : (ℓ : Loc Cert.HGate.nD Cert.HGate.τ Cert.HGate.sig) → Buf (Elt Bits) ℓ) (g : Dev Cert.HGate.nD → PrngReg), Pre_HGate m →
    θ_run (Cert.HGate.defs (F := Bits)) (onTc (τ := Cert.HGate.τ) (Cert.HGate.main (F := Bits))) ⟨m, fun _ => 0, g⟩ (fun r => (∀ c : Dev Cert.HGate.nD,
      r.2.mem ((c.tc : Thread Cert.HGate.nD Cert.HGate.τ).loc Cert.HGate.main_arg0) = m ((c.tc : Thread Cert.HGate.nD Cert.HGate.τ).loc Cert.HGate.main_arg0)
      ∧ r.2.mem ((c.tc : Thread Cert.HGate.nD Cert.HGate.τ).loc Cert.HGate.main_arg1) = m ((c.tc : Thread Cert.HGate.nD Cert.HGate.τ).loc Cert.HGate.main_arg1))
      ∧ r.2.sem = fun _ => 0)

def quiescent_HGateIdeal [hHGateIdeal : Cert.HGateIdeal.Facts] : Prop :=
  ∀ (m : (ℓ : Loc Cert.HGateIdeal.nD Cert.HGateIdeal.τ Cert.HGateIdeal.sig) → Buf (Elt Ideal) ℓ) (g : Dev Cert.HGateIdeal.nD → PrngReg), Pre_HGateIdeal m →
    θ_run (Cert.HGateIdeal.defs (F := Ideal)) (onTc (τ := Cert.HGateIdeal.τ) (Cert.HGateIdeal.main (F := Ideal))) ⟨m, fun _ => 0, g⟩ (fun r => (∀ c : Dev Cert.HGateIdeal.nD,
      r.2.mem ((c.tc : Thread Cert.HGateIdeal.nD Cert.HGateIdeal.τ).loc Cert.HGateIdeal.main_arg0) = m ((c.tc : Thread Cert.HGateIdeal.nD Cert.HGateIdeal.τ).loc Cert.HGateIdeal.main_arg0)
      ∧ r.2.mem ((c.tc : Thread Cert.HGateIdeal.nD Cert.HGateIdeal.τ).loc Cert.HGateIdeal.main_arg1) = m ((c.tc : Thread Cert.HGateIdeal.nD Cert.HGateIdeal.τ).loc Cert.HGateIdeal.main_arg1))
      ∧ r.2.sem = fun _ => 0)

def quiescent_HGateRefIdeal [hHGateRefIdeal : Cert.HGateRefIdeal.Facts] : Prop :=
  ∀ (m : (ℓ : Loc Cert.HGateRefIdeal.nD Cert.HGateRefIdeal.τ Cert.HGateRefIdeal.sig) → Buf (Elt Ideal) ℓ) (g : Dev Cert.HGateRefIdeal.nD → PrngReg), Pre_HGateRefIdeal m →
    θ_run (Cert.HGateRefIdeal.defs (F := Ideal)) (onTc (τ := Cert.HGateRefIdeal.τ) (Cert.HGateRefIdeal.main (F := Ideal))) ⟨m, fun _ => 0, g⟩ (fun r => (∀ c : Dev Cert.HGateRefIdeal.nD,
      r.2.mem ((c.tc : Thread Cert.HGateRefIdeal.nD Cert.HGateRefIdeal.τ).loc Cert.HGateRefIdeal.main_arg0) = m ((c.tc : Thread Cert.HGateRefIdeal.nD Cert.HGateRefIdeal.τ).loc Cert.HGateRefIdeal.main_arg0)
      ∧ r.2.mem ((c.tc : Thread Cert.HGateRefIdeal.nD Cert.HGateRefIdeal.τ).loc Cert.HGateRefIdeal.main_arg1) = m ((c.tc : Thread Cert.HGateRefIdeal.nD Cert.HGateRefIdeal.τ).loc Cert.HGateRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_H [hH : Cert.H.Facts] : Prop :=
  ∀ (m : (ℓ : Loc Cert.H.nD Cert.H.τ Cert.H.sig) → Buf (Elt Bits) ℓ) (g : Dev Cert.H.nD → PrngReg), Pre_H m →
    θ_run (Cert.H.defs (F := Bits)) (onTc (τ := Cert.H.τ) (Cert.H.main (F := Bits))) ⟨m, fun _ => 0, g⟩ (fun r => (∀ c : Dev Cert.H.nD,
      r.2.mem ((c.tc : Thread Cert.H.nD Cert.H.τ).loc Cert.H.main_arg0) = m ((c.tc : Thread Cert.H.nD Cert.H.τ).loc Cert.H.main_arg0)
      ∧ r.2.mem ((c.tc : Thread Cert.H.nD Cert.H.τ).loc Cert.H.main_arg1) = m ((c.tc : Thread Cert.H.nD Cert.H.τ).loc Cert.H.main_arg1)
      ∧ r.2.mem ((c.tc : Thread Cert.H.nD Cert.H.τ).loc Cert.H.main_arg2) = m ((c.tc : Thread Cert.H.nD Cert.H.τ).loc Cert.H.main_arg2))
      ∧ r.2.sem = fun _ => 0)

def quiescent_HIdeal [hHIdeal : Cert.HIdeal.Facts] : Prop :=
  ∀ (m : (ℓ : Loc Cert.HIdeal.nD Cert.HIdeal.τ Cert.HIdeal.sig) → Buf (Elt Ideal) ℓ) (g : Dev Cert.HIdeal.nD → PrngReg), Pre_HIdeal m →
    θ_run (Cert.HIdeal.defs (F := Ideal)) (onTc (τ := Cert.HIdeal.τ) (Cert.HIdeal.main (F := Ideal))) ⟨m, fun _ => 0, g⟩ (fun r => (∀ c : Dev Cert.HIdeal.nD,
      r.2.mem ((c.tc : Thread Cert.HIdeal.nD Cert.HIdeal.τ).loc Cert.HIdeal.main_arg0) = m ((c.tc : Thread Cert.HIdeal.nD Cert.HIdeal.τ).loc Cert.HIdeal.main_arg0)
      ∧ r.2.mem ((c.tc : Thread Cert.HIdeal.nD Cert.HIdeal.τ).loc Cert.HIdeal.main_arg1) = m ((c.tc : Thread Cert.HIdeal.nD Cert.HIdeal.τ).loc Cert.HIdeal.main_arg1)
      ∧ r.2.mem ((c.tc : Thread Cert.HIdeal.nD Cert.HIdeal.τ).loc Cert.HIdeal.main_arg2) = m ((c.tc : Thread Cert.HIdeal.nD Cert.HIdeal.τ).loc Cert.HIdeal.main_arg2))
      ∧ r.2.sem = fun _ => 0)

def quiescent_HRefIdeal [hHRefIdeal : Cert.HRefIdeal.Facts] : Prop :=
  ∀ (m : (ℓ : Loc Cert.HRefIdeal.nD Cert.HRefIdeal.τ Cert.HRefIdeal.sig) → Buf (Elt Ideal) ℓ) (g : Dev Cert.HRefIdeal.nD → PrngReg), Pre_HRefIdeal m →
    θ_run (Cert.HRefIdeal.defs (F := Ideal)) (onTc (τ := Cert.HRefIdeal.τ) (Cert.HRefIdeal.main (F := Ideal))) ⟨m, fun _ => 0, g⟩ (fun r => (∀ c : Dev Cert.HRefIdeal.nD,
      r.2.mem ((c.tc : Thread Cert.HRefIdeal.nD Cert.HRefIdeal.τ).loc Cert.HRefIdeal.main_arg0) = m ((c.tc : Thread Cert.HRefIdeal.nD Cert.HRefIdeal.τ).loc Cert.HRefIdeal.main_arg0)
      ∧ r.2.mem ((c.tc : Thread Cert.HRefIdeal.nD Cert.HRefIdeal.τ).loc Cert.HRefIdeal.main_arg1) = m ((c.tc : Thread Cert.HRefIdeal.nD Cert.HRefIdeal.τ).loc Cert.HRefIdeal.main_arg1)
      ∧ r.2.mem ((c.tc : Thread Cert.HRefIdeal.nD Cert.HRefIdeal.τ).loc Cert.HRefIdeal.main_arg2) = m ((c.tc : Thread Cert.HRefIdeal.nD Cert.HRefIdeal.τ).loc Cert.HRefIdeal.main_arg2))
      ∧ r.2.sem = fun _ => 0)

def quiescent_ProjRw [hProjRw : Cert.ProjRw.Facts] : Prop :=
  ∀ (m : (ℓ : Loc Cert.ProjRw.nD Cert.ProjRw.τ Cert.ProjRw.sig) → Buf (Elt Bits) ℓ) (g : Dev Cert.ProjRw.nD → PrngReg), Pre_ProjRw m →
    θ_run (Cert.ProjRw.defs (F := Bits)) (onTc (τ := Cert.ProjRw.τ) (Cert.ProjRw.main (F := Bits))) ⟨m, fun _ => 0, g⟩ (fun r => (∀ c : Dev Cert.ProjRw.nD,
      r.2.mem ((c.tc : Thread Cert.ProjRw.nD Cert.ProjRw.τ).loc Cert.ProjRw.main_arg0) = m ((c.tc : Thread Cert.ProjRw.nD Cert.ProjRw.τ).loc Cert.ProjRw.main_arg0)
      ∧ r.2.mem ((c.tc : Thread Cert.ProjRw.nD Cert.ProjRw.τ).loc Cert.ProjRw.main_arg1) = m ((c.tc : Thread Cert.ProjRw.nD Cert.ProjRw.τ).loc Cert.ProjRw.main_arg1))
      ∧ r.2.sem = fun _ => 0)

def quiescent_ProjRwIdeal [hProjRwIdeal : Cert.ProjRwIdeal.Facts] : Prop :=
  ∀ (m : (ℓ : Loc Cert.ProjRwIdeal.nD Cert.ProjRwIdeal.τ Cert.ProjRwIdeal.sig) → Buf (Elt Ideal) ℓ) (g : Dev Cert.ProjRwIdeal.nD → PrngReg), Pre_ProjRwIdeal m →
    θ_run (Cert.ProjRwIdeal.defs (F := Ideal)) (onTc (τ := Cert.ProjRwIdeal.τ) (Cert.ProjRwIdeal.main (F := Ideal))) ⟨m, fun _ => 0, g⟩ (fun r => (∀ c : Dev Cert.ProjRwIdeal.nD,
      r.2.mem ((c.tc : Thread Cert.ProjRwIdeal.nD Cert.ProjRwIdeal.τ).loc Cert.ProjRwIdeal.main_arg0) = m ((c.tc : Thread Cert.ProjRwIdeal.nD Cert.ProjRwIdeal.τ).loc Cert.ProjRwIdeal.main_arg0)
      ∧ r.2.mem ((c.tc : Thread Cert.ProjRwIdeal.nD Cert.ProjRwIdeal.τ).loc Cert.ProjRwIdeal.main_arg1) = m ((c.tc : Thread Cert.ProjRwIdeal.nD Cert.ProjRwIdeal.τ).loc Cert.ProjRwIdeal.main_arg1))
      ∧ r.2.sem = fun _ => 0)

def quiescent_ProjRwRefIdeal [hProjRwRefIdeal : Cert.ProjRwRefIdeal.Facts] : Prop :=
  ∀ (m : (ℓ : Loc Cert.ProjRwRefIdeal.nD Cert.ProjRwRefIdeal.τ Cert.ProjRwRefIdeal.sig) → Buf (Elt Ideal) ℓ) (g : Dev Cert.ProjRwRefIdeal.nD → PrngReg), Pre_ProjRwRefIdeal m →
    θ_run (Cert.ProjRwRefIdeal.defs (F := Ideal)) (onTc (τ := Cert.ProjRwRefIdeal.τ) (Cert.ProjRwRefIdeal.main (F := Ideal))) ⟨m, fun _ => 0, g⟩ (fun r => (∀ c : Dev Cert.ProjRwRefIdeal.nD,
      r.2.mem ((c.tc : Thread Cert.ProjRwRefIdeal.nD Cert.ProjRwRefIdeal.τ).loc Cert.ProjRwRefIdeal.main_arg0) = m ((c.tc : Thread Cert.ProjRwRefIdeal.nD Cert.ProjRwRefIdeal.τ).loc Cert.ProjRwRefIdeal.main_arg0)
      ∧ r.2.mem ((c.tc : Thread Cert.ProjRwRefIdeal.nD Cert.ProjRwRefIdeal.τ).loc Cert.ProjRwRefIdeal.main_arg1) = m ((c.tc : Thread Cert.ProjRwRefIdeal.nD Cert.ProjRwRefIdeal.τ).loc Cert.ProjRwRefIdeal.main_arg1))
      ∧ r.2.sem = fun _ => 0)

def quiescent_ProjAtt [hProjAtt : Cert.ProjAtt.Facts] : Prop :=
  ∀ (m : (ℓ : Loc Cert.ProjAtt.nD Cert.ProjAtt.τ Cert.ProjAtt.sig) → Buf (Elt Bits) ℓ) (g : Dev Cert.ProjAtt.nD → PrngReg), Pre_ProjAtt m →
    θ_run (Cert.ProjAtt.defs (F := Bits)) (onTc (τ := Cert.ProjAtt.τ) (Cert.ProjAtt.main (F := Bits))) ⟨m, fun _ => 0, g⟩ (fun r => (∀ c : Dev Cert.ProjAtt.nD,
      r.2.mem ((c.tc : Thread Cert.ProjAtt.nD Cert.ProjAtt.τ).loc Cert.ProjAtt.main_arg0) = m ((c.tc : Thread Cert.ProjAtt.nD Cert.ProjAtt.τ).loc Cert.ProjAtt.main_arg0)
      ∧ r.2.mem ((c.tc : Thread Cert.ProjAtt.nD Cert.ProjAtt.τ).loc Cert.ProjAtt.main_arg1) = m ((c.tc : Thread Cert.ProjAtt.nD Cert.ProjAtt.τ).loc Cert.ProjAtt.main_arg1))
      ∧ r.2.sem = fun _ => 0)

def quiescent_ProjAttIdeal [hProjAttIdeal : Cert.ProjAttIdeal.Facts] : Prop :=
  ∀ (m : (ℓ : Loc Cert.ProjAttIdeal.nD Cert.ProjAttIdeal.τ Cert.ProjAttIdeal.sig) → Buf (Elt Ideal) ℓ) (g : Dev Cert.ProjAttIdeal.nD → PrngReg), Pre_ProjAttIdeal m →
    θ_run (Cert.ProjAttIdeal.defs (F := Ideal)) (onTc (τ := Cert.ProjAttIdeal.τ) (Cert.ProjAttIdeal.main (F := Ideal))) ⟨m, fun _ => 0, g⟩ (fun r => (∀ c : Dev Cert.ProjAttIdeal.nD,
      r.2.mem ((c.tc : Thread Cert.ProjAttIdeal.nD Cert.ProjAttIdeal.τ).loc Cert.ProjAttIdeal.main_arg0) = m ((c.tc : Thread Cert.ProjAttIdeal.nD Cert.ProjAttIdeal.τ).loc Cert.ProjAttIdeal.main_arg0)
      ∧ r.2.mem ((c.tc : Thread Cert.ProjAttIdeal.nD Cert.ProjAttIdeal.τ).loc Cert.ProjAttIdeal.main_arg1) = m ((c.tc : Thread Cert.ProjAttIdeal.nD Cert.ProjAttIdeal.τ).loc Cert.ProjAttIdeal.main_arg1))
      ∧ r.2.sem = fun _ => 0)

def quiescent_ProjAttRefIdeal [hProjAttRefIdeal : Cert.ProjAttRefIdeal.Facts] : Prop :=
  ∀ (m : (ℓ : Loc Cert.ProjAttRefIdeal.nD Cert.ProjAttRefIdeal.τ Cert.ProjAttRefIdeal.sig) → Buf (Elt Ideal) ℓ) (g : Dev Cert.ProjAttRefIdeal.nD → PrngReg), Pre_ProjAttRefIdeal m →
    θ_run (Cert.ProjAttRefIdeal.defs (F := Ideal)) (onTc (τ := Cert.ProjAttRefIdeal.τ) (Cert.ProjAttRefIdeal.main (F := Ideal))) ⟨m, fun _ => 0, g⟩ (fun r => (∀ c : Dev Cert.ProjAttRefIdeal.nD,
      r.2.mem ((c.tc : Thread Cert.ProjAttRefIdeal.nD Cert.ProjAttRefIdeal.τ).loc Cert.ProjAttRefIdeal.main_arg0) = m ((c.tc : Thread Cert.ProjAttRefIdeal.nD Cert.ProjAttRefIdeal.τ).loc Cert.ProjAttRefIdeal.main_arg0)
      ∧ r.2.mem ((c.tc : Thread Cert.ProjAttRefIdeal.nD Cert.ProjAttRefIdeal.τ).loc Cert.ProjAttRefIdeal.main_arg1) = m ((c.tc : Thread Cert.ProjAttRefIdeal.nD Cert.ProjAttRefIdeal.τ).loc Cert.ProjAttRefIdeal.main_arg1))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_BranchBRefIdeal [hBranchBRefIdeal : Cert.BranchBRefIdeal.Facts] : Prop :=
  ∀ (m : (ℓ : Loc Cert.BranchBRefIdeal.nD Cert.BranchBRefIdeal.τ Cert.BranchBRefIdeal.sig) → Buf (Elt Ideal) ℓ) (g : Dev Cert.BranchBRefIdeal.nD → PrngReg), Pre_BranchBRefIdeal m →
    θ_run (Cert.BranchBRefIdeal.defs (F := Ideal)) (onTc (τ := Cert.BranchBRefIdeal.τ) (Cert.BranchBRefIdeal.main (F := Ideal))) ⟨m, fun _ => 0, g⟩ (fun r => (∀ c : Dev Cert.BranchBRefIdeal.nD,
      r.2.mem ((c.tc : Thread Cert.BranchBRefIdeal.nD Cert.BranchBRefIdeal.τ).loc Cert.BranchBRefIdeal.main_arg0) = m ((c.tc : Thread Cert.BranchBRefIdeal.nD Cert.BranchBRefIdeal.τ).loc Cert.BranchBRefIdeal.main_arg0)
      ∧ r.2.mem ((c.tc : Thread Cert.BranchBRefIdeal.nD Cert.BranchBRefIdeal.τ).loc Cert.BranchBRefIdeal.main_arg1) = m ((c.tc : Thread Cert.BranchBRefIdeal.nD Cert.BranchBRefIdeal.τ).loc Cert.BranchBRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1))
      ∧ r.2.sem = fun _ => 0)

def quiescent_PleEmbed [hPleEmbed : Cert.PleEmbed.Facts] : Prop :=
  ∀ (m : (ℓ : Loc Cert.PleEmbed.nD Cert.PleEmbed.τ Cert.PleEmbed.sig) → Buf (Elt Bits) ℓ) (g : Dev Cert.PleEmbed.nD → PrngReg), Pre_PleEmbed m →
    θ_run (Cert.PleEmbed.defs (F := Bits)) (onTc (τ := Cert.PleEmbed.τ) (Cert.PleEmbed.main (F := Bits))) ⟨m, fun _ => 0, g⟩ (fun r => (∀ c : Dev Cert.PleEmbed.nD,
      r.2.mem ((c.tc : Thread Cert.PleEmbed.nD Cert.PleEmbed.τ).loc Cert.PleEmbed.main_arg0) = m ((c.tc : Thread Cert.PleEmbed.nD Cert.PleEmbed.τ).loc Cert.PleEmbed.main_arg0)
      ∧ r.2.mem ((c.tc : Thread Cert.PleEmbed.nD Cert.PleEmbed.τ).loc Cert.PleEmbed.main_arg1) = m ((c.tc : Thread Cert.PleEmbed.nD Cert.PleEmbed.τ).loc Cert.PleEmbed.main_arg1))
      ∧ r.2.sem = fun _ => 0)

def quiescent_PleEmbedIdeal [hPleEmbedIdeal : Cert.PleEmbedIdeal.Facts] : Prop :=
  ∀ (m : (ℓ : Loc Cert.PleEmbedIdeal.nD Cert.PleEmbedIdeal.τ Cert.PleEmbedIdeal.sig) → Buf (Elt Ideal) ℓ) (g : Dev Cert.PleEmbedIdeal.nD → PrngReg), Pre_PleEmbedIdeal m →
    θ_run (Cert.PleEmbedIdeal.defs (F := Ideal)) (onTc (τ := Cert.PleEmbedIdeal.τ) (Cert.PleEmbedIdeal.main (F := Ideal))) ⟨m, fun _ => 0, g⟩ (fun r => (∀ c : Dev Cert.PleEmbedIdeal.nD,
      r.2.mem ((c.tc : Thread Cert.PleEmbedIdeal.nD Cert.PleEmbedIdeal.τ).loc Cert.PleEmbedIdeal.main_arg0) = m ((c.tc : Thread Cert.PleEmbedIdeal.nD Cert.PleEmbedIdeal.τ).loc Cert.PleEmbedIdeal.main_arg0)
      ∧ r.2.mem ((c.tc : Thread Cert.PleEmbedIdeal.nD Cert.PleEmbedIdeal.τ).loc Cert.PleEmbedIdeal.main_arg1) = m ((c.tc : Thread Cert.PleEmbedIdeal.nD Cert.PleEmbedIdeal.τ).loc Cert.PleEmbedIdeal.main_arg1))
      ∧ r.2.sem = fun _ => 0)

def quiescent_PleEmbedRefIdeal [hPleEmbedRefIdeal : Cert.PleEmbedRefIdeal.Facts] : Prop :=
  ∀ (m : (ℓ : Loc Cert.PleEmbedRefIdeal.nD Cert.PleEmbedRefIdeal.τ Cert.PleEmbedRefIdeal.sig) → Buf (Elt Ideal) ℓ) (g : Dev Cert.PleEmbedRefIdeal.nD → PrngReg), Pre_PleEmbedRefIdeal m →
    θ_run (Cert.PleEmbedRefIdeal.defs (F := Ideal)) (onTc (τ := Cert.PleEmbedRefIdeal.τ) (Cert.PleEmbedRefIdeal.main (F := Ideal))) ⟨m, fun _ => 0, g⟩ (fun r => (∀ c : Dev Cert.PleEmbedRefIdeal.nD,
      r.2.mem ((c.tc : Thread Cert.PleEmbedRefIdeal.nD Cert.PleEmbedRefIdeal.τ).loc Cert.PleEmbedRefIdeal.main_arg0) = m ((c.tc : Thread Cert.PleEmbedRefIdeal.nD Cert.PleEmbedRefIdeal.τ).loc Cert.PleEmbedRefIdeal.main_arg0)
      ∧ r.2.mem ((c.tc : Thread Cert.PleEmbedRefIdeal.nD Cert.PleEmbedRefIdeal.τ).loc Cert.PleEmbedRefIdeal.main_arg1) = m ((c.tc : Thread Cert.PleEmbedRefIdeal.nD Cert.PleEmbedRefIdeal.τ).loc Cert.PleEmbedRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsMixBwd [hRmsMixBwd : Cert.RmsMixBwd.Facts] : Prop :=
  ∀ (m : (ℓ : Loc Cert.RmsMixBwd.nD Cert.RmsMixBwd.τ Cert.RmsMixBwd.sig) → Buf (Elt Bits) ℓ) (g : Dev Cert.RmsMixBwd.nD → PrngReg), Pre_RmsMixBwd m →
    θ_run (Cert.RmsMixBwd.defs (F := Bits)) (onTc (τ := Cert.RmsMixBwd.τ) (Cert.RmsMixBwd.main (F := Bits))) ⟨m, fun _ => 0, g⟩ (fun r => (∀ c : Dev Cert.RmsMixBwd.nD,
      r.2.mem ((c.tc : Thread Cert.RmsMixBwd.nD Cert.RmsMixBwd.τ).loc Cert.RmsMixBwd.main_arg0) = m ((c.tc : Thread Cert.RmsMixBwd.nD Cert.RmsMixBwd.τ).loc Cert.RmsMixBwd.main_arg0)
      ∧ r.2.mem ((c.tc : Thread Cert.RmsMixBwd.nD Cert.RmsMixBwd.τ).loc Cert.RmsMixBwd.main_arg1) = m ((c.tc : Thread Cert.RmsMixBwd.nD Cert.RmsMixBwd.τ).loc Cert.RmsMixBwd.main_arg1)
      ∧ r.2.mem ((c.tc : Thread Cert.RmsMixBwd.nD Cert.RmsMixBwd.τ).loc Cert.RmsMixBwd.main_arg2) = m ((c.tc : Thread Cert.RmsMixBwd.nD Cert.RmsMixBwd.τ).loc Cert.RmsMixBwd.main_arg2)
      ∧ r.2.mem ((c.tc : Thread Cert.RmsMixBwd.nD Cert.RmsMixBwd.τ).loc Cert.RmsMixBwd.main_arg3) = m ((c.tc : Thread Cert.RmsMixBwd.nD Cert.RmsMixBwd.τ).loc Cert.RmsMixBwd.main_arg3))
      ∧ r.2.sem = fun _ => 0)

def quiescent_RmsMixBwdIdeal [hRmsMixBwdIdeal : Cert.RmsMixBwdIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg), Pre_RmsMixBwdIdeal m →
    θ_run (Cert.RmsMixBwdIdeal.defs (F := Ideal)) (onTc (τ := Cert.RmsMixBwdIdeal.τ) (Cert.RmsMixBwdIdeal.main (F := Ideal))) ⟨m, fun _ => 0, g⟩ (fun r => (∀ c : Dev Cert.RmsMixBwdIdeal.nD,
      r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
      ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
      ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
      ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3))
      ∧ r.2.sem = fun _ => 0)

def quiescent_RmsMixBwdRefIdeal [hRmsMixBwdRefIdeal : Cert.RmsMixBwdRefIdeal.Facts] : Prop :=
  ∀ (m : (ℓ : Loc Cert.RmsMixBwdRefIdeal.nD Cert.RmsMixBwdRefIdeal.τ Cert.RmsMixBwdRefIdeal.sig) → Buf (Elt Ideal) ℓ) (g : Dev Cert.RmsMixBwdRefIdeal.nD → PrngReg), Pre_RmsMixBwdRefIdeal m →
    θ_run (Cert.RmsMixBwdRefIdeal.defs (F := Ideal)) (onTc (τ := Cert.RmsMixBwdRefIdeal.τ) (Cert.RmsMixBwdRefIdeal.main (F := Ideal))) ⟨m, fun _ => 0, g⟩ (fun r => (∀ c : Dev Cert.RmsMixBwdRefIdeal.nD,
      r.2.mem ((c.tc : Thread Cert.RmsMixBwdRefIdeal.nD Cert.RmsMixBwdRefIdeal.τ).loc Cert.RmsMixBwdRefIdeal.main_arg0) = m ((c.tc : Thread Cert.RmsMixBwdRefIdeal.nD Cert.RmsMixBwdRefIdeal.τ).loc Cert.RmsMixBwdRefIdeal.main_arg0)
      ∧ r.2.mem ((c.tc : Thread Cert.RmsMixBwdRefIdeal.nD Cert.RmsMixBwdRefIdeal.τ).loc Cert.RmsMixBwdRefIdeal.main_arg1) = m ((c.tc : Thread Cert.RmsMixBwdRefIdeal.nD Cert.RmsMixBwdRefIdeal.τ).loc Cert.RmsMixBwdRefIdeal.main_arg1)
      ∧ r.2.mem ((c.tc : Thread Cert.RmsMixBwdRefIdeal.nD Cert.RmsMixBwdRefIdeal.τ).loc Cert.RmsMixBwdRefIdeal.main_arg2) = m ((c.tc : Thread Cert.RmsMixBwdRefIdeal.nD Cert.RmsMixBwdRefIdeal.τ).loc Cert.RmsMixBwdRefIdeal.main_arg2)
      ∧ r.2.mem ((c.tc : Thread Cert.RmsMixBwdRefIdeal.nD Cert.RmsMixBwdRefIdeal.τ).loc Cert.RmsMixBwdRefIdeal.main_arg3) = m ((c.tc : Thread Cert.RmsMixBwdRefIdeal.nD Cert.RmsMixBwdRefIdeal.τ).loc Cert.RmsMixBwdRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamBranchA [hAdamBranchA : Cert.AdamBranchA.Facts] : Prop :=
  ∀ (m : (ℓ : Loc Cert.AdamBranchA.nD Cert.AdamBranchA.τ Cert.AdamBranchA.sig) → Buf (Elt Bits) ℓ) (g : Dev Cert.AdamBranchA.nD → PrngReg), Pre_AdamBranchA m →
    θ_run (Cert.AdamBranchA.defs (F := Bits)) (onTc (τ := Cert.AdamBranchA.τ) (Cert.AdamBranchA.main (F := Bits))) ⟨m, fun _ => 0, g⟩ (fun r => (∀ c : Dev Cert.AdamBranchA.nD,
      r.2.mem ((c.tc : Thread Cert.AdamBranchA.nD Cert.AdamBranchA.τ).loc Cert.AdamBranchA.main_arg0) = m ((c.tc : Thread Cert.AdamBranchA.nD Cert.AdamBranchA.τ).loc Cert.AdamBranchA.main_arg0)
      ∧ r.2.mem ((c.tc : Thread Cert.AdamBranchA.nD Cert.AdamBranchA.τ).loc Cert.AdamBranchA.main_arg1) = m ((c.tc : Thread Cert.AdamBranchA.nD Cert.AdamBranchA.τ).loc Cert.AdamBranchA.main_arg1)
      ∧ r.2.mem ((c.tc : Thread Cert.AdamBranchA.nD Cert.AdamBranchA.τ).loc Cert.AdamBranchA.main_arg2) = m ((c.tc : Thread Cert.AdamBranchA.nD Cert.AdamBranchA.τ).loc Cert.AdamBranchA.main_arg2)
      ∧ r.2.mem ((c.tc : Thread Cert.AdamBranchA.nD Cert.AdamBranchA.τ).loc Cert.AdamBranchA.main_arg3) = m ((c.tc : Thread Cert.AdamBranchA.nD Cert.AdamBranchA.τ).loc Cert.AdamBranchA.main_arg3))
      ∧ r.2.sem = fun _ => 0)

def quiescent_AdamBranchAIdeal [hAdamBranchAIdeal : Cert.AdamBranchAIdeal.Facts] : Prop :=
  ∀ (m : (ℓ : Loc Cert.AdamBranchAIdeal.nD Cert.AdamBranchAIdeal.τ Cert.AdamBranchAIdeal.sig) → Buf (Elt Ideal) ℓ) (g : Dev Cert.AdamBranchAIdeal.nD → PrngReg), Pre_AdamBranchAIdeal m →
    θ_run (Cert.AdamBranchAIdeal.defs (F := Ideal)) (onTc (τ := Cert.AdamBranchAIdeal.τ) (Cert.AdamBranchAIdeal.main (F := Ideal))) ⟨m, fun _ => 0, g⟩ (fun r => (∀ c : Dev Cert.AdamBranchAIdeal.nD,
      r.2.mem ((c.tc : Thread Cert.AdamBranchAIdeal.nD Cert.AdamBranchAIdeal.τ).loc Cert.AdamBranchAIdeal.main_arg0) = m ((c.tc : Thread Cert.AdamBranchAIdeal.nD Cert.AdamBranchAIdeal.τ).loc Cert.AdamBranchAIdeal.main_arg0)
      ∧ r.2.mem ((c.tc : Thread Cert.AdamBranchAIdeal.nD Cert.AdamBranchAIdeal.τ).loc Cert.AdamBranchAIdeal.main_arg1) = m ((c.tc : Thread Cert.AdamBranchAIdeal.nD Cert.AdamBranchAIdeal.τ).loc Cert.AdamBranchAIdeal.main_arg1)
      ∧ r.2.mem ((c.tc : Thread Cert.AdamBranchAIdeal.nD Cert.AdamBranchAIdeal.τ).loc Cert.AdamBranchAIdeal.main_arg2) = m ((c.tc : Thread Cert.AdamBranchAIdeal.nD Cert.AdamBranchAIdeal.τ).loc Cert.AdamBranchAIdeal.main_arg2)
      ∧ r.2.mem ((c.tc : Thread Cert.AdamBranchAIdeal.nD Cert.AdamBranchAIdeal.τ).loc Cert.AdamBranchAIdeal.main_arg3) = m ((c.tc : Thread Cert.AdamBranchAIdeal.nD Cert.AdamBranchAIdeal.τ).loc Cert.AdamBranchAIdeal.main_arg3))
      ∧ r.2.sem = fun _ => 0)

def quiescent_AdamBranchARefIdeal [hAdamBranchARefIdeal : Cert.AdamBranchARefIdeal.Facts] : Prop :=
  ∀ (m : (ℓ : Loc Cert.AdamBranchARefIdeal.nD Cert.AdamBranchARefIdeal.τ Cert.AdamBranchARefIdeal.sig) → Buf (Elt Ideal) ℓ) (g : Dev Cert.AdamBranchARefIdeal.nD → PrngReg), Pre_AdamBranchARefIdeal m →
    θ_run (Cert.AdamBranchARefIdeal.defs (F := Ideal)) (onTc (τ := Cert.AdamBranchARefIdeal.τ) (Cert.AdamBranchARefIdeal.main (F := Ideal))) ⟨m, fun _ => 0, g⟩ (fun r => (∀ c : Dev Cert.AdamBranchARefIdeal.nD,
      r.2.mem ((c.tc : Thread Cert.AdamBranchARefIdeal.nD Cert.AdamBranchARefIdeal.τ).loc Cert.AdamBranchARefIdeal.main_arg0) = m ((c.tc : Thread Cert.AdamBranchARefIdeal.nD Cert.AdamBranchARefIdeal.τ).loc Cert.AdamBranchARefIdeal.main_arg0)
      ∧ r.2.mem ((c.tc : Thread Cert.AdamBranchARefIdeal.nD Cert.AdamBranchARefIdeal.τ).loc Cert.AdamBranchARefIdeal.main_arg1) = m ((c.tc : Thread Cert.AdamBranchARefIdeal.nD Cert.AdamBranchARefIdeal.τ).loc Cert.AdamBranchARefIdeal.main_arg1)
      ∧ r.2.mem ((c.tc : Thread Cert.AdamBranchARefIdeal.nD Cert.AdamBranchARefIdeal.τ).loc Cert.AdamBranchARefIdeal.main_arg2) = m ((c.tc : Thread Cert.AdamBranchARefIdeal.nD Cert.AdamBranchARefIdeal.τ).loc Cert.AdamBranchARefIdeal.main_arg2)
      ∧ r.2.mem ((c.tc : Thread Cert.AdamBranchARefIdeal.nD Cert.AdamBranchARefIdeal.τ).loc Cert.AdamBranchARefIdeal.main_arg3) = m ((c.tc : Thread Cert.AdamBranchARefIdeal.nD Cert.AdamBranchARefIdeal.τ).loc Cert.AdamBranchARefIdeal.main_arg3))
      ∧ r.2.sem = fun _ => 0)

def quiescent_AdamBranchB [hAdamBranchB : Cert.AdamBranchB.Facts] : Prop :=
  ∀ (m : (ℓ : Loc Cert.AdamBranchB.nD Cert.AdamBranchB.τ Cert.AdamBranchB.sig) → Buf (Elt Bits) ℓ) (g : Dev Cert.AdamBranchB.nD → PrngReg), Pre_AdamBranchB m →
    θ_run (Cert.AdamBranchB.defs (F := Bits)) (onTc (τ := Cert.AdamBranchB.τ) (Cert.AdamBranchB.main (F := Bits))) ⟨m, fun _ => 0, g⟩ (fun r => (∀ c : Dev Cert.AdamBranchB.nD,
      r.2.mem ((c.tc : Thread Cert.AdamBranchB.nD Cert.AdamBranchB.τ).loc Cert.AdamBranchB.main_arg0) = m ((c.tc : Thread Cert.AdamBranchB.nD Cert.AdamBranchB.τ).loc Cert.AdamBranchB.main_arg0)
      ∧ r.2.mem ((c.tc : Thread Cert.AdamBranchB.nD Cert.AdamBranchB.τ).loc Cert.AdamBranchB.main_arg1) = m ((c.tc : Thread Cert.AdamBranchB.nD Cert.AdamBranchB.τ).loc Cert.AdamBranchB.main_arg1)
      ∧ r.2.mem ((c.tc : Thread Cert.AdamBranchB.nD Cert.AdamBranchB.τ).loc Cert.AdamBranchB.main_arg2) = m ((c.tc : Thread Cert.AdamBranchB.nD Cert.AdamBranchB.τ).loc Cert.AdamBranchB.main_arg2)
      ∧ r.2.mem ((c.tc : Thread Cert.AdamBranchB.nD Cert.AdamBranchB.τ).loc Cert.AdamBranchB.main_arg3) = m ((c.tc : Thread Cert.AdamBranchB.nD Cert.AdamBranchB.τ).loc Cert.AdamBranchB.main_arg3))
      ∧ r.2.sem = fun _ => 0)

def quiescent_AdamBranchBIdeal [hAdamBranchBIdeal : Cert.AdamBranchBIdeal.Facts] : Prop :=
  ∀ (m : (ℓ : Loc Cert.AdamBranchBIdeal.nD Cert.AdamBranchBIdeal.τ Cert.AdamBranchBIdeal.sig) → Buf (Elt Ideal) ℓ) (g : Dev Cert.AdamBranchBIdeal.nD → PrngReg), Pre_AdamBranchBIdeal m →
    θ_run (Cert.AdamBranchBIdeal.defs (F := Ideal)) (onTc (τ := Cert.AdamBranchBIdeal.τ) (Cert.AdamBranchBIdeal.main (F := Ideal))) ⟨m, fun _ => 0, g⟩ (fun r => (∀ c : Dev Cert.AdamBranchBIdeal.nD,
      r.2.mem ((c.tc : Thread Cert.AdamBranchBIdeal.nD Cert.AdamBranchBIdeal.τ).loc Cert.AdamBranchBIdeal.main_arg0) = m ((c.tc : Thread Cert.AdamBranchBIdeal.nD Cert.AdamBranchBIdeal.τ).loc Cert.AdamBranchBIdeal.main_arg0)
      ∧ r.2.mem ((c.tc : Thread Cert.AdamBranchBIdeal.nD Cert.AdamBranchBIdeal.τ).loc Cert.AdamBranchBIdeal.main_arg1) = m ((c.tc : Thread Cert.AdamBranchBIdeal.nD Cert.AdamBranchBIdeal.τ).loc Cert.AdamBranchBIdeal.main_arg1)
      ∧ r.2.mem ((c.tc : Thread Cert.AdamBranchBIdeal.nD Cert.AdamBranchBIdeal.τ).loc Cert.AdamBranchBIdeal.main_arg2) = m ((c.tc : Thread Cert.AdamBranchBIdeal.nD Cert.AdamBranchBIdeal.τ).loc Cert.AdamBranchBIdeal.main_arg2)
      ∧ r.2.mem ((c.tc : Thread Cert.AdamBranchBIdeal.nD Cert.AdamBranchBIdeal.τ).loc Cert.AdamBranchBIdeal.main_arg3) = m ((c.tc : Thread Cert.AdamBranchBIdeal.nD Cert.AdamBranchBIdeal.τ).loc Cert.AdamBranchBIdeal.main_arg3))
      ∧ r.2.sem = fun _ => 0)

def quiescent_AdamBranchBRefIdeal [hAdamBranchBRefIdeal : Cert.AdamBranchBRefIdeal.Facts] : Prop :=
  ∀ (m : (ℓ : Loc Cert.AdamBranchBRefIdeal.nD Cert.AdamBranchBRefIdeal.τ Cert.AdamBranchBRefIdeal.sig) → Buf (Elt Ideal) ℓ) (g : Dev Cert.AdamBranchBRefIdeal.nD → PrngReg), Pre_AdamBranchBRefIdeal m →
    θ_run (Cert.AdamBranchBRefIdeal.defs (F := Ideal)) (onTc (τ := Cert.AdamBranchBRefIdeal.τ) (Cert.AdamBranchBRefIdeal.main (F := Ideal))) ⟨m, fun _ => 0, g⟩ (fun r => (∀ c : Dev Cert.AdamBranchBRefIdeal.nD,
      r.2.mem ((c.tc : Thread Cert.AdamBranchBRefIdeal.nD Cert.AdamBranchBRefIdeal.τ).loc Cert.AdamBranchBRefIdeal.main_arg0) = m ((c.tc : Thread Cert.AdamBranchBRefIdeal.nD Cert.AdamBranchBRefIdeal.τ).loc Cert.AdamBranchBRefIdeal.main_arg0)
      ∧ r.2.mem ((c.tc : Thread Cert.AdamBranchBRefIdeal.nD Cert.AdamBranchBRefIdeal.τ).loc Cert.AdamBranchBRefIdeal.main_arg1) = m ((c.tc : Thread Cert.AdamBranchBRefIdeal.nD Cert.AdamBranchBRefIdeal.τ).loc Cert.AdamBranchBRefIdeal.main_arg1)
      ∧ r.2.mem ((c.tc : Thread Cert.AdamBranchBRefIdeal.nD Cert.AdamBranchBRefIdeal.τ).loc Cert.AdamBranchBRefIdeal.main_arg2) = m ((c.tc : Thread Cert.AdamBranchBRefIdeal.nD Cert.AdamBranchBRefIdeal.τ).loc Cert.AdamBranchBRefIdeal.main_arg2)
      ∧ r.2.mem ((c.tc : Thread Cert.AdamBranchBRefIdeal.nD Cert.AdamBranchBRefIdeal.τ).loc Cert.AdamBranchBRefIdeal.main_arg3) = m ((c.tc : Thread Cert.AdamBranchBRefIdeal.nD Cert.AdamBranchBRefIdeal.τ).loc Cert.AdamBranchBRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_DProj [hDProj : Cert.DProj.Facts] : Prop :=
  ∀ (m : (ℓ : Loc Cert.DProj.nD Cert.DProj.τ Cert.DProj.sig) → Buf (Elt Bits) ℓ) (g : Dev Cert.DProj.nD → PrngReg), Pre_DProj m →
    θ_run (Cert.DProj.defs (F := Bits)) (onTc (τ := Cert.DProj.τ) (Cert.DProj.main (F := Bits))) ⟨m, fun _ => 0, g⟩ (fun r => (∀ c : Dev Cert.DProj.nD,
      r.2.mem ((c.tc : Thread Cert.DProj.nD Cert.DProj.τ).loc Cert.DProj.main_arg0) = m ((c.tc : Thread Cert.DProj.nD Cert.DProj.τ).loc Cert.DProj.main_arg0)
      ∧ r.2.mem ((c.tc : Thread Cert.DProj.nD Cert.DProj.τ).loc Cert.DProj.main_arg1) = m ((c.tc : Thread Cert.DProj.nD Cert.DProj.τ).loc Cert.DProj.main_arg1)
      ∧ r.2.mem ((c.tc : Thread Cert.DProj.nD Cert.DProj.τ).loc Cert.DProj.main_arg2) = m ((c.tc : Thread Cert.DProj.nD Cert.DProj.τ).loc Cert.DProj.main_arg2)
      ∧ r.2.mem ((c.tc : Thread Cert.DProj.nD Cert.DProj.τ).loc Cert.DProj.main_arg3) = m ((c.tc : Thread Cert.DProj.nD Cert.DProj.τ).loc Cert.DProj.main_arg3)
      ∧ r.2.mem ((c.tc : Thread Cert.DProj.nD Cert.DProj.τ).loc Cert.DProj.main_arg4) = m ((c.tc : Thread Cert.DProj.nD Cert.DProj.τ).loc Cert.DProj.main_arg4)
      ∧ r.2.mem ((c.tc : Thread Cert.DProj.nD Cert.DProj.τ).loc Cert.DProj.main_arg5) = m ((c.tc : Thread Cert.DProj.nD Cert.DProj.τ).loc Cert.DProj.main_arg5)
      ∧ r.2.mem ((c.tc : Thread Cert.DProj.nD Cert.DProj.τ).loc Cert.DProj.main_arg6) = m ((c.tc : Thread Cert.DProj.nD Cert.DProj.τ).loc Cert.DProj.main_arg6)
      ∧ r.2.mem ((c.tc : Thread Cert.DProj.nD Cert.DProj.τ).loc Cert.DProj.main_arg7) = m ((c.tc : Thread Cert.DProj.nD Cert.DProj.τ).loc Cert.DProj.main_arg7)
      ∧ r.2.mem ((c.tc : Thread Cert.DProj.nD Cert.DProj.τ).loc Cert.DProj.main_arg8) = m ((c.tc : Thread Cert.DProj.nD Cert.DProj.τ).loc Cert.DProj.main_arg8)
      ∧ r.2.mem ((c.tc : Thread Cert.DProj.nD Cert.DProj.τ).loc Cert.DProj.main_arg9) = m ((c.tc : Thread Cert.DProj.nD Cert.DProj.τ).loc Cert.DProj.main_arg9)
      ∧ r.2.mem ((c.tc : Thread Cert.DProj.nD Cert.DProj.τ).loc Cert.DProj.main_arg10) = m ((c.tc : Thread Cert.DProj.nD Cert.DProj.τ).loc Cert.DProj.main_arg10))
      ∧ r.2.sem = fun _ => 0)

def quiescent_DProjIdeal [hDProjIdeal : Cert.DProjIdeal.Facts] : Prop :=
  ∀ (m : (ℓ : Loc Cert.DProjIdeal.nD Cert.DProjIdeal.τ Cert.DProjIdeal.sig) → Buf (Elt Ideal) ℓ) (g : Dev Cert.DProjIdeal.nD → PrngReg), Pre_DProjIdeal m →
    θ_run (Cert.DProjIdeal.defs (F := Ideal)) (onTc (τ := Cert.DProjIdeal.τ) (Cert.DProjIdeal.main (F := Ideal))) ⟨m, fun _ => 0, g⟩ (fun r => (∀ c : Dev Cert.DProjIdeal.nD,
      r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
      ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
      ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
      ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
      ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
      ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
      ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
      ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
      ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
      ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
      ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10))
      ∧ r.2.sem = fun _ => 0)

def quiescent_DProjRefIdeal [hDProjRefIdeal : Cert.DProjRefIdeal.Facts] : Prop :=
  ∀ (m : (ℓ : Loc Cert.DProjRefIdeal.nD Cert.DProjRefIdeal.τ Cert.DProjRefIdeal.sig) → Buf (Elt Ideal) ℓ) (g : Dev Cert.DProjRefIdeal.nD → PrngReg), Pre_DProjRefIdeal m →
    θ_run (Cert.DProjRefIdeal.defs (F := Ideal)) (onTc (τ := Cert.DProjRefIdeal.τ) (Cert.DProjRefIdeal.main (F := Ideal))) ⟨m, fun _ => 0, g⟩ (fun r => (∀ c : Dev Cert.DProjRefIdeal.nD,
      r.2.mem ((c.tc : Thread Cert.DProjRefIdeal.nD Cert.DProjRefIdeal.τ).loc Cert.DProjRefIdeal.main_arg0) = m ((c.tc : Thread Cert.DProjRefIdeal.nD Cert.DProjRefIdeal.τ).loc Cert.DProjRefIdeal.main_arg0)
      ∧ r.2.mem ((c.tc : Thread Cert.DProjRefIdeal.nD Cert.DProjRefIdeal.τ).loc Cert.DProjRefIdeal.main_arg1) = m ((c.tc : Thread Cert.DProjRefIdeal.nD Cert.DProjRefIdeal.τ).loc Cert.DProjRefIdeal.main_arg1)
      ∧ r.2.mem ((c.tc : Thread Cert.DProjRefIdeal.nD Cert.DProjRefIdeal.τ).loc Cert.DProjRefIdeal.main_arg2) = m ((c.tc : Thread Cert.DProjRefIdeal.nD Cert.DProjRefIdeal.τ).loc Cert.DProjRefIdeal.main_arg2)
      ∧ r.2.mem ((c.tc : Thread Cert.DProjRefIdeal.nD Cert.DProjRefIdeal.τ).loc Cert.DProjRefIdeal.main_arg3) = m ((c.tc : Thread Cert.DProjRefIdeal.nD Cert.DProjRefIdeal.τ).loc Cert.DProjRefIdeal.main_arg3)
      ∧ r.2.mem ((c.tc : Thread Cert.DProjRefIdeal.nD Cert.DProjRefIdeal.τ).loc Cert.DProjRefIdeal.main_arg4) = m ((c.tc : Thread Cert.DProjRefIdeal.nD Cert.DProjRefIdeal.τ).loc Cert.DProjRefIdeal.main_arg4)
      ∧ r.2.mem ((c.tc : Thread Cert.DProjRefIdeal.nD Cert.DProjRefIdeal.τ).loc Cert.DProjRefIdeal.main_arg5) = m ((c.tc : Thread Cert.DProjRefIdeal.nD Cert.DProjRefIdeal.τ).loc Cert.DProjRefIdeal.main_arg5)
      ∧ r.2.mem ((c.tc : Thread Cert.DProjRefIdeal.nD Cert.DProjRefIdeal.τ).loc Cert.DProjRefIdeal.main_arg6) = m ((c.tc : Thread Cert.DProjRefIdeal.nD Cert.DProjRefIdeal.τ).loc Cert.DProjRefIdeal.main_arg6)
      ∧ r.2.mem ((c.tc : Thread Cert.DProjRefIdeal.nD Cert.DProjRefIdeal.τ).loc Cert.DProjRefIdeal.main_arg7) = m ((c.tc : Thread Cert.DProjRefIdeal.nD Cert.DProjRefIdeal.τ).loc Cert.DProjRefIdeal.main_arg7)
      ∧ r.2.mem ((c.tc : Thread Cert.DProjRefIdeal.nD Cert.DProjRefIdeal.τ).loc Cert.DProjRefIdeal.main_arg8) = m ((c.tc : Thread Cert.DProjRefIdeal.nD Cert.DProjRefIdeal.τ).loc Cert.DProjRefIdeal.main_arg8)
      ∧ r.2.mem ((c.tc : Thread Cert.DProjRefIdeal.nD Cert.DProjRefIdeal.τ).loc Cert.DProjRefIdeal.main_arg9) = m ((c.tc : Thread Cert.DProjRefIdeal.nD Cert.DProjRefIdeal.τ).loc Cert.DProjRefIdeal.main_arg9)
      ∧ r.2.mem ((c.tc : Thread Cert.DProjRefIdeal.nD Cert.DProjRefIdeal.τ).loc Cert.DProjRefIdeal.main_arg10) = m ((c.tc : Thread Cert.DProjRefIdeal.nD Cert.DProjRefIdeal.τ).loc Cert.DProjRefIdeal.main_arg10))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_ShuffleGrad [hShuffleGrad : Cert.ShuffleGrad.Facts] : Prop :=
  ∀ (m : (ℓ : Loc Cert.ShuffleGrad.nD Cert.ShuffleGrad.τ Cert.ShuffleGrad.sig) → Buf (Elt Bits) ℓ) (g : Dev Cert.ShuffleGrad.nD → PrngReg), Pre_ShuffleGrad m →
    θ_run (Cert.ShuffleGrad.defs (F := Bits)) (onTc (τ := Cert.ShuffleGrad.τ) (Cert.ShuffleGrad.main (F := Bits))) ⟨m, fun _ => 0, g⟩ (fun r => (∀ c : Dev Cert.ShuffleGrad.nD,
      r.2.mem ((c.tc : Thread Cert.ShuffleGrad.nD Cert.ShuffleGrad.τ).loc Cert.ShuffleGrad.main_arg0) = m ((c.tc : Thread Cert.ShuffleGrad.nD Cert.ShuffleGrad.τ).loc Cert.ShuffleGrad.main_arg0))
      ∧ r.2.sem = fun _ => 0)

def quiescent_ShuffleGradIdeal [hShuffleGradIdeal : Cert.ShuffleGradIdeal.Facts] : Prop :=
  ∀ (m : (ℓ : Loc Cert.ShuffleGradIdeal.nD Cert.ShuffleGradIdeal.τ Cert.ShuffleGradIdeal.sig) → Buf (Elt Ideal) ℓ) (g : Dev Cert.ShuffleGradIdeal.nD → PrngReg), Pre_ShuffleGradIdeal m →
    θ_run (Cert.ShuffleGradIdeal.defs (F := Ideal)) (onTc (τ := Cert.ShuffleGradIdeal.τ) (Cert.ShuffleGradIdeal.main (F := Ideal))) ⟨m, fun _ => 0, g⟩ (fun r => (∀ c : Dev Cert.ShuffleGradIdeal.nD,
      r.2.mem ((c.tc : Thread Cert.ShuffleGradIdeal.nD Cert.ShuffleGradIdeal.τ).loc Cert.ShuffleGradIdeal.main_arg0) = m ((c.tc : Thread Cert.ShuffleGradIdeal.nD Cert.ShuffleGradIdeal.τ).loc Cert.ShuffleGradIdeal.main_arg0))
      ∧ r.2.sem = fun _ => 0)

def quiescent_ShuffleGradRefIdeal [hShuffleGradRefIdeal : Cert.ShuffleGradRefIdeal.Facts] : Prop :=
  ∀ (m : (ℓ : Loc Cert.ShuffleGradRefIdeal.nD Cert.ShuffleGradRefIdeal.τ Cert.ShuffleGradRefIdeal.sig) → Buf (Elt Ideal) ℓ) (g : Dev Cert.ShuffleGradRefIdeal.nD → PrngReg), Pre_ShuffleGradRefIdeal m →
    θ_run (Cert.ShuffleGradRefIdeal.defs (F := Ideal)) (onTc (τ := Cert.ShuffleGradRefIdeal.τ) (Cert.ShuffleGradRefIdeal.main (F := Ideal))) ⟨m, fun _ => 0, g⟩ (fun r => (∀ c : Dev Cert.ShuffleGradRefIdeal.nD,
      r.2.mem ((c.tc : Thread Cert.ShuffleGradRefIdeal.nD Cert.ShuffleGradRefIdeal.τ).loc Cert.ShuffleGradRefIdeal.main_arg0) = m ((c.tc : Thread Cert.ShuffleGradRefIdeal.nD Cert.ShuffleGradRefIdeal.τ).loc Cert.ShuffleGradRefIdeal.main_arg0))
      ∧ r.2.sem = fun _ => 0)

def quiescent_Unshuffle [hUnshuffle : Cert.Unshuffle.Facts] : Prop :=
  ∀ (m : (ℓ : Loc Cert.Unshuffle.nD Cert.Unshuffle.τ Cert.Unshuffle.sig) → Buf (Elt Bits) ℓ) (g : Dev Cert.Unshuffle.nD → PrngReg), Pre_Unshuffle m →
    θ_run (Cert.Unshuffle.defs (F := Bits)) (onTc (τ := Cert.Unshuffle.τ) (Cert.Unshuffle.main (F := Bits))) ⟨m, fun _ => 0, g⟩ (fun r => (∀ c : Dev Cert.Unshuffle.nD,
      r.2.mem ((c.tc : Thread Cert.Unshuffle.nD Cert.Unshuffle.τ).loc Cert.Unshuffle.main_arg0) = m ((c.tc : Thread Cert.Unshuffle.nD Cert.Unshuffle.τ).loc Cert.Unshuffle.main_arg0))
      ∧ r.2.sem = fun _ => 0)

def quiescent_UnshuffleIdeal [hUnshuffleIdeal : Cert.UnshuffleIdeal.Facts] : Prop :=
  ∀ (m : (ℓ : Loc Cert.UnshuffleIdeal.nD Cert.UnshuffleIdeal.τ Cert.UnshuffleIdeal.sig) → Buf (Elt Ideal) ℓ) (g : Dev Cert.UnshuffleIdeal.nD → PrngReg), Pre_UnshuffleIdeal m →
    θ_run (Cert.UnshuffleIdeal.defs (F := Ideal)) (onTc (τ := Cert.UnshuffleIdeal.τ) (Cert.UnshuffleIdeal.main (F := Ideal))) ⟨m, fun _ => 0, g⟩ (fun r => (∀ c : Dev Cert.UnshuffleIdeal.nD,
      r.2.mem ((c.tc : Thread Cert.UnshuffleIdeal.nD Cert.UnshuffleIdeal.τ).loc Cert.UnshuffleIdeal.main_arg0) = m ((c.tc : Thread Cert.UnshuffleIdeal.nD Cert.UnshuffleIdeal.τ).loc Cert.UnshuffleIdeal.main_arg0))
      ∧ r.2.sem = fun _ => 0)

def quiescent_UnshuffleRefIdeal [hUnshuffleRefIdeal : Cert.UnshuffleRefIdeal.Facts] : Prop :=
  ∀ (m : (ℓ : Loc Cert.UnshuffleRefIdeal.nD Cert.UnshuffleRefIdeal.τ Cert.UnshuffleRefIdeal.sig) → Buf (Elt Ideal) ℓ) (g : Dev Cert.UnshuffleRefIdeal.nD → PrngReg), Pre_UnshuffleRefIdeal m →
    θ_run (Cert.UnshuffleRefIdeal.defs (F := Ideal)) (onTc (τ := Cert.UnshuffleRefIdeal.τ) (Cert.UnshuffleRefIdeal.main (F := Ideal))) ⟨m, fun _ => 0, g⟩ (fun r => (∀ c : Dev Cert.UnshuffleRefIdeal.nD,
      r.2.mem ((c.tc : Thread Cert.UnshuffleRefIdeal.nD Cert.UnshuffleRefIdeal.τ).loc Cert.UnshuffleRefIdeal.main_arg0) = m ((c.tc : Thread Cert.UnshuffleRefIdeal.nD Cert.UnshuffleRefIdeal.τ).loc Cert.UnshuffleRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v117) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v114) = v5 c
          ∧ r.2.mem ((c.tc : Thread Cert.ReferenceIdeal.nD Cert.ReferenceIdeal.τ).loc Cert.ReferenceIdeal.main_v118) = v6 c
          ∧ r.2.mem ((c.tc : Thread Cert.ReferenceIdeal.nD Cert.ReferenceIdeal.τ).loc Cert.ReferenceIdeal.main_v121) = v7 c
          ∧ r.2.mem ((c.tc : Thread Cert.ReferenceIdeal.nD Cert.ReferenceIdeal.τ).loc Cert.ReferenceIdeal.main_v124) = v8 c
          ∧ r.2.mem ((c.tc : Thread Cert.ReferenceIdeal.nD Cert.ReferenceIdeal.τ).loc Cert.ReferenceIdeal.main_v115) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_WPle_WPleIdeal : Prop :=
  True

def algebraic_WPleIdeal_WPleRefIdeal [hWPleIdeal : Cert.WPleIdeal.Facts] [hWPleRefIdeal : Cert.WPleRefIdeal.Facts] : Prop :=
  ∀ (m : (ℓ : Loc Cert.WPleIdeal.nD Cert.WPleIdeal.τ Cert.WPleIdeal.sig) → Buf (Elt Ideal) ℓ) (g : Dev Cert.WPleIdeal.nD → PrngReg)
    (m' : (ℓ : Loc Cert.WPleRefIdeal.nD Cert.WPleRefIdeal.τ Cert.WPleRefIdeal.sig) → Buf (Elt Ideal) ℓ) (g' : Dev Cert.WPleRefIdeal.nD → PrngReg), Pre_WPleIdeal m →
    (∀ c : Dev Cert.WPleIdeal.nD,
      m' ((c.tc : Thread Cert.WPleRefIdeal.nD Cert.WPleRefIdeal.τ).loc Cert.WPleRefIdeal.main_arg0) = m ((c.tc : Thread Cert.WPleIdeal.nD Cert.WPleIdeal.τ).loc Cert.WPleIdeal.main_arg0)
      ∧ m' ((c.tc : Thread Cert.WPleRefIdeal.nD Cert.WPleRefIdeal.τ).loc Cert.WPleRefIdeal.main_arg1) = m ((c.tc : Thread Cert.WPleIdeal.nD Cert.WPleIdeal.τ).loc Cert.WPleIdeal.main_arg1)) →
    ∃ (v0 : (c : Dev Cert.WPleIdeal.nD) → Buf (Elt Ideal) ((c.tc : Thread Cert.WPleIdeal.nD Cert.WPleIdeal.τ).loc Cert.WPleIdeal.main_v0)),
      θ_run (Cert.WPleIdeal.defs (F := Ideal)) (onTc (τ := Cert.WPleIdeal.τ) (Cert.WPleIdeal.main (F := Ideal))) ⟨m, fun _ => 0, g⟩ (fun r => ∀ c : Dev Cert.WPleIdeal.nD,
          r.2.mem ((c.tc : Thread Cert.WPleIdeal.nD Cert.WPleIdeal.τ).loc Cert.WPleIdeal.main_v0) = v0 c
          ∧ r.2.mem ((c.tc : Thread Cert.WPleIdeal.nD Cert.WPleIdeal.τ).loc Cert.WPleIdeal.main_arg0) = m ((c.tc : Thread Cert.WPleIdeal.nD Cert.WPleIdeal.τ).loc Cert.WPleIdeal.main_arg0)
          ∧ r.2.mem ((c.tc : Thread Cert.WPleIdeal.nD Cert.WPleIdeal.τ).loc Cert.WPleIdeal.main_arg1) = m ((c.tc : Thread Cert.WPleIdeal.nD Cert.WPleIdeal.τ).loc Cert.WPleIdeal.main_arg1))
      ∧ θ_run (Cert.WPleRefIdeal.defs (F := Ideal)) (onTc (τ := Cert.WPleRefIdeal.τ) (Cert.WPleRefIdeal.main (F := Ideal))) ⟨m', fun _ => 0, g'⟩ (fun r => ∀ c : Dev Cert.WPleRefIdeal.nD,
          r.2.mem ((c.tc : Thread Cert.WPleRefIdeal.nD Cert.WPleRefIdeal.τ).loc Cert.WPleRefIdeal.main_v5) = v0 c
          ∧ r.2.mem ((c.tc : Thread Cert.WPleRefIdeal.nD Cert.WPleRefIdeal.τ).loc Cert.WPleRefIdeal.main_arg0) = m' ((c.tc : Thread Cert.WPleRefIdeal.nD Cert.WPleRefIdeal.τ).loc Cert.WPleRefIdeal.main_arg0)
          ∧ r.2.mem ((c.tc : Thread Cert.WPleRefIdeal.nD Cert.WPleRefIdeal.τ).loc Cert.WPleRefIdeal.main_arg1) = m' ((c.tc : Thread Cert.WPleRefIdeal.nD Cert.WPleRefIdeal.τ).loc Cert.WPleRefIdeal.main_arg1))

def preserves_WPleGate_WPleGateIdeal : Prop :=
  True

def algebraic_WPleGateIdeal_WPleGateRefIdeal [hWPleGateIdeal : Cert.WPleGateIdeal.Facts] [hWPleGateRefIdeal : Cert.WPleGateRefIdeal.Facts] : Prop :=
  ∀ (m : (ℓ : Loc Cert.WPleGateIdeal.nD Cert.WPleGateIdeal.τ Cert.WPleGateIdeal.sig) → Buf (Elt Ideal) ℓ) (g : Dev Cert.WPleGateIdeal.nD → PrngReg)
    (m' : (ℓ : Loc Cert.WPleGateRefIdeal.nD Cert.WPleGateRefIdeal.τ Cert.WPleGateRefIdeal.sig) → Buf (Elt Ideal) ℓ) (g' : Dev Cert.WPleGateRefIdeal.nD → PrngReg), Pre_WPleGateIdeal m →
    (∀ c : Dev Cert.WPleGateIdeal.nD,
      m' ((c.tc : Thread Cert.WPleGateRefIdeal.nD Cert.WPleGateRefIdeal.τ).loc Cert.WPleGateRefIdeal.main_arg0) = m ((c.tc : Thread Cert.WPleGateIdeal.nD Cert.WPleGateIdeal.τ).loc Cert.WPleGateIdeal.main_arg0)
      ∧ m' ((c.tc : Thread Cert.WPleGateRefIdeal.nD Cert.WPleGateRefIdeal.τ).loc Cert.WPleGateRefIdeal.main_arg1) = m ((c.tc : Thread Cert.WPleGateIdeal.nD Cert.WPleGateIdeal.τ).loc Cert.WPleGateIdeal.main_arg1)) →
    ∃ (v0 : (c : Dev Cert.WPleGateIdeal.nD) → Buf (Elt Ideal) ((c.tc : Thread Cert.WPleGateIdeal.nD Cert.WPleGateIdeal.τ).loc Cert.WPleGateIdeal.main_v0)),
      θ_run (Cert.WPleGateIdeal.defs (F := Ideal)) (onTc (τ := Cert.WPleGateIdeal.τ) (Cert.WPleGateIdeal.main (F := Ideal))) ⟨m, fun _ => 0, g⟩ (fun r => ∀ c : Dev Cert.WPleGateIdeal.nD,
          r.2.mem ((c.tc : Thread Cert.WPleGateIdeal.nD Cert.WPleGateIdeal.τ).loc Cert.WPleGateIdeal.main_v0) = v0 c
          ∧ r.2.mem ((c.tc : Thread Cert.WPleGateIdeal.nD Cert.WPleGateIdeal.τ).loc Cert.WPleGateIdeal.main_arg0) = m ((c.tc : Thread Cert.WPleGateIdeal.nD Cert.WPleGateIdeal.τ).loc Cert.WPleGateIdeal.main_arg0)
          ∧ r.2.mem ((c.tc : Thread Cert.WPleGateIdeal.nD Cert.WPleGateIdeal.τ).loc Cert.WPleGateIdeal.main_arg1) = m ((c.tc : Thread Cert.WPleGateIdeal.nD Cert.WPleGateIdeal.τ).loc Cert.WPleGateIdeal.main_arg1))
      ∧ θ_run (Cert.WPleGateRefIdeal.defs (F := Ideal)) (onTc (τ := Cert.WPleGateRefIdeal.τ) (Cert.WPleGateRefIdeal.main (F := Ideal))) ⟨m', fun _ => 0, g'⟩ (fun r => ∀ c : Dev Cert.WPleGateRefIdeal.nD,
          r.2.mem ((c.tc : Thread Cert.WPleGateRefIdeal.nD Cert.WPleGateRefIdeal.τ).loc Cert.WPleGateRefIdeal.main_v6) = v0 c
          ∧ r.2.mem ((c.tc : Thread Cert.WPleGateRefIdeal.nD Cert.WPleGateRefIdeal.τ).loc Cert.WPleGateRefIdeal.main_arg0) = m' ((c.tc : Thread Cert.WPleGateRefIdeal.nD Cert.WPleGateRefIdeal.τ).loc Cert.WPleGateRefIdeal.main_arg0)
          ∧ r.2.mem ((c.tc : Thread Cert.WPleGateRefIdeal.nD Cert.WPleGateRefIdeal.τ).loc Cert.WPleGateRefIdeal.main_arg1) = m' ((c.tc : Thread Cert.WPleGateRefIdeal.nD Cert.WPleGateRefIdeal.τ).loc Cert.WPleGateRefIdeal.main_arg1))

def preserves_H3_H3Ideal : Prop :=
  True

def algebraic_H3Ideal_H3RefIdeal [hH3Ideal : Cert.H3Ideal.Facts] [hH3RefIdeal : Cert.H3RefIdeal.Facts] : Prop :=
  ∀ (m : (ℓ : Loc Cert.H3Ideal.nD Cert.H3Ideal.τ Cert.H3Ideal.sig) → Buf (Elt Ideal) ℓ) (g : Dev Cert.H3Ideal.nD → PrngReg)
    (m' : (ℓ : Loc Cert.H3RefIdeal.nD Cert.H3RefIdeal.τ Cert.H3RefIdeal.sig) → Buf (Elt Ideal) ℓ) (g' : Dev Cert.H3RefIdeal.nD → PrngReg), Pre_H3Ideal m →
    (∀ c : Dev Cert.H3Ideal.nD,
      m' ((c.tc : Thread Cert.H3RefIdeal.nD Cert.H3RefIdeal.τ).loc Cert.H3RefIdeal.main_arg0) = m ((c.tc : Thread Cert.H3Ideal.nD Cert.H3Ideal.τ).loc Cert.H3Ideal.main_arg0)
      ∧ m' ((c.tc : Thread Cert.H3RefIdeal.nD Cert.H3RefIdeal.τ).loc Cert.H3RefIdeal.main_arg1) = m ((c.tc : Thread Cert.H3Ideal.nD Cert.H3Ideal.τ).loc Cert.H3Ideal.main_arg1)) →
    ∃ (v0 : (c : Dev Cert.H3Ideal.nD) → Buf (Elt Ideal) ((c.tc : Thread Cert.H3Ideal.nD Cert.H3Ideal.τ).loc Cert.H3Ideal.main_v0)),
      θ_run (Cert.H3Ideal.defs (F := Ideal)) (onTc (τ := Cert.H3Ideal.τ) (Cert.H3Ideal.main (F := Ideal))) ⟨m, fun _ => 0, g⟩ (fun r => ∀ c : Dev Cert.H3Ideal.nD,
          r.2.mem ((c.tc : Thread Cert.H3Ideal.nD Cert.H3Ideal.τ).loc Cert.H3Ideal.main_v0) = v0 c
          ∧ r.2.mem ((c.tc : Thread Cert.H3Ideal.nD Cert.H3Ideal.τ).loc Cert.H3Ideal.main_arg0) = m ((c.tc : Thread Cert.H3Ideal.nD Cert.H3Ideal.τ).loc Cert.H3Ideal.main_arg0)
          ∧ r.2.mem ((c.tc : Thread Cert.H3Ideal.nD Cert.H3Ideal.τ).loc Cert.H3Ideal.main_arg1) = m ((c.tc : Thread Cert.H3Ideal.nD Cert.H3Ideal.τ).loc Cert.H3Ideal.main_arg1))
      ∧ θ_run (Cert.H3RefIdeal.defs (F := Ideal)) (onTc (τ := Cert.H3RefIdeal.τ) (Cert.H3RefIdeal.main (F := Ideal))) ⟨m', fun _ => 0, g'⟩ (fun r => ∀ c : Dev Cert.H3RefIdeal.nD,
          r.2.mem ((c.tc : Thread Cert.H3RefIdeal.nD Cert.H3RefIdeal.τ).loc Cert.H3RefIdeal.main_v4) = v0 c
          ∧ r.2.mem ((c.tc : Thread Cert.H3RefIdeal.nD Cert.H3RefIdeal.τ).loc Cert.H3RefIdeal.main_arg0) = m' ((c.tc : Thread Cert.H3RefIdeal.nD Cert.H3RefIdeal.τ).loc Cert.H3RefIdeal.main_arg0)
          ∧ r.2.mem ((c.tc : Thread Cert.H3RefIdeal.nD Cert.H3RefIdeal.τ).loc Cert.H3RefIdeal.main_arg1) = m' ((c.tc : Thread Cert.H3RefIdeal.nD Cert.H3RefIdeal.τ).loc Cert.H3RefIdeal.main_arg1))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v6) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_F_FIdeal : Prop :=
  True

def algebraic_FIdeal_FRefIdeal [hFIdeal : Cert.FIdeal.Facts] [hFRefIdeal : Cert.FRefIdeal.Facts] : Prop :=
  ∀ (m : (ℓ : Loc Cert.FIdeal.nD Cert.FIdeal.τ Cert.FIdeal.sig) → Buf (Elt Ideal) ℓ) (g : Dev Cert.FIdeal.nD → PrngReg)
    (m' : (ℓ : Loc Cert.FRefIdeal.nD Cert.FRefIdeal.τ Cert.FRefIdeal.sig) → Buf (Elt Ideal) ℓ) (g' : Dev Cert.FRefIdeal.nD → PrngReg), Pre_FIdeal m →
    (∀ c : Dev Cert.FIdeal.nD,
      m' ((c.tc : Thread Cert.FRefIdeal.nD Cert.FRefIdeal.τ).loc Cert.FRefIdeal.main_arg0) = m ((c.tc : Thread Cert.FIdeal.nD Cert.FIdeal.τ).loc Cert.FIdeal.main_arg0)
      ∧ m' ((c.tc : Thread Cert.FRefIdeal.nD Cert.FRefIdeal.τ).loc Cert.FRefIdeal.main_arg1) = m ((c.tc : Thread Cert.FIdeal.nD Cert.FIdeal.τ).loc Cert.FIdeal.main_arg1)) →
    ∃ (v0 : (c : Dev Cert.FIdeal.nD) → Buf (Elt Ideal) ((c.tc : Thread Cert.FIdeal.nD Cert.FIdeal.τ).loc Cert.FIdeal.main_v0)),
      θ_run (Cert.FIdeal.defs (F := Ideal)) (onTc (τ := Cert.FIdeal.τ) (Cert.FIdeal.main (F := Ideal))) ⟨m, fun _ => 0, g⟩ (fun r => ∀ c : Dev Cert.FIdeal.nD,
          r.2.mem ((c.tc : Thread Cert.FIdeal.nD Cert.FIdeal.τ).loc Cert.FIdeal.main_v0) = v0 c
          ∧ r.2.mem ((c.tc : Thread Cert.FIdeal.nD Cert.FIdeal.τ).loc Cert.FIdeal.main_arg0) = m ((c.tc : Thread Cert.FIdeal.nD Cert.FIdeal.τ).loc Cert.FIdeal.main_arg0)
          ∧ r.2.mem ((c.tc : Thread Cert.FIdeal.nD Cert.FIdeal.τ).loc Cert.FIdeal.main_arg1) = m ((c.tc : Thread Cert.FIdeal.nD Cert.FIdeal.τ).loc Cert.FIdeal.main_arg1))
      ∧ θ_run (Cert.FRefIdeal.defs (F := Ideal)) (onTc (τ := Cert.FRefIdeal.τ) (Cert.FRefIdeal.main (F := Ideal))) ⟨m', fun _ => 0, g'⟩ (fun r => ∀ c : Dev Cert.FRefIdeal.nD,
          r.2.mem ((c.tc : Thread Cert.FRefIdeal.nD Cert.FRefIdeal.τ).loc Cert.FRefIdeal.main_v5) = v0 c
          ∧ r.2.mem ((c.tc : Thread Cert.FRefIdeal.nD Cert.FRefIdeal.τ).loc Cert.FRefIdeal.main_arg0) = m' ((c.tc : Thread Cert.FRefIdeal.nD Cert.FRefIdeal.τ).loc Cert.FRefIdeal.main_arg0)
          ∧ r.2.mem ((c.tc : Thread Cert.FRefIdeal.nD Cert.FRefIdeal.τ).loc Cert.FRefIdeal.main_arg1) = m' ((c.tc : Thread Cert.FRefIdeal.nD Cert.FRefIdeal.τ).loc Cert.FRefIdeal.main_arg1))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v0)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v0) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v6) = v0 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1))

def preserves_H2_H2Ideal : Prop :=
  True

def algebraic_H2Ideal_H2RefIdeal [hH2Ideal : Cert.H2Ideal.Facts] [hH2RefIdeal : Cert.H2RefIdeal.Facts] : Prop :=
  ∀ (m : (ℓ : Loc Cert.H2Ideal.nD Cert.H2Ideal.τ Cert.H2Ideal.sig) → Buf (Elt Ideal) ℓ) (g : Dev Cert.H2Ideal.nD → PrngReg)
    (m' : (ℓ : Loc Cert.H2RefIdeal.nD Cert.H2RefIdeal.τ Cert.H2RefIdeal.sig) → Buf (Elt Ideal) ℓ) (g' : Dev Cert.H2RefIdeal.nD → PrngReg), Pre_H2Ideal m →
    (∀ c : Dev Cert.H2Ideal.nD,
      m' ((c.tc : Thread Cert.H2RefIdeal.nD Cert.H2RefIdeal.τ).loc Cert.H2RefIdeal.main_arg0) = m ((c.tc : Thread Cert.H2Ideal.nD Cert.H2Ideal.τ).loc Cert.H2Ideal.main_arg0)
      ∧ m' ((c.tc : Thread Cert.H2RefIdeal.nD Cert.H2RefIdeal.τ).loc Cert.H2RefIdeal.main_arg1) = m ((c.tc : Thread Cert.H2Ideal.nD Cert.H2Ideal.τ).loc Cert.H2Ideal.main_arg1)) →
    ∃ (v0 : (c : Dev Cert.H2Ideal.nD) → Buf (Elt Ideal) ((c.tc : Thread Cert.H2Ideal.nD Cert.H2Ideal.τ).loc Cert.H2Ideal.main_v0)),
      θ_run (Cert.H2Ideal.defs (F := Ideal)) (onTc (τ := Cert.H2Ideal.τ) (Cert.H2Ideal.main (F := Ideal))) ⟨m, fun _ => 0, g⟩ (fun r => ∀ c : Dev Cert.H2Ideal.nD,
          r.2.mem ((c.tc : Thread Cert.H2Ideal.nD Cert.H2Ideal.τ).loc Cert.H2Ideal.main_v0) = v0 c
          ∧ r.2.mem ((c.tc : Thread Cert.H2Ideal.nD Cert.H2Ideal.τ).loc Cert.H2Ideal.main_arg0) = m ((c.tc : Thread Cert.H2Ideal.nD Cert.H2Ideal.τ).loc Cert.H2Ideal.main_arg0)
          ∧ r.2.mem ((c.tc : Thread Cert.H2Ideal.nD Cert.H2Ideal.τ).loc Cert.H2Ideal.main_arg1) = m ((c.tc : Thread Cert.H2Ideal.nD Cert.H2Ideal.τ).loc Cert.H2Ideal.main_arg1))
      ∧ θ_run (Cert.H2RefIdeal.defs (F := Ideal)) (onTc (τ := Cert.H2RefIdeal.τ) (Cert.H2RefIdeal.main (F := Ideal))) ⟨m', fun _ => 0, g'⟩ (fun r => ∀ c : Dev Cert.H2RefIdeal.nD,
          r.2.mem ((c.tc : Thread Cert.H2RefIdeal.nD Cert.H2RefIdeal.τ).loc Cert.H2RefIdeal.main_v4) = v0 c
          ∧ r.2.mem ((c.tc : Thread Cert.H2RefIdeal.nD Cert.H2RefIdeal.τ).loc Cert.H2RefIdeal.main_arg0) = m' ((c.tc : Thread Cert.H2RefIdeal.nD Cert.H2RefIdeal.τ).loc Cert.H2RefIdeal.main_arg0)
          ∧ r.2.mem ((c.tc : Thread Cert.H2RefIdeal.nD Cert.H2RefIdeal.τ).loc Cert.H2RefIdeal.main_arg1) = m' ((c.tc : Thread Cert.H2RefIdeal.nD Cert.H2RefIdeal.τ).loc Cert.H2RefIdeal.main_arg1))

def preserves_Merged_MergedIdeal : Prop :=
  True

def algebraic_MergedIdeal_MergedRefIdeal [hMergedIdeal : Cert.MergedIdeal.Facts] [hMergedRefIdeal : Cert.MergedRefIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedRefIdeal.nD Cert.MergedRefIdeal.τ Cert.MergedRefIdeal.sig) → Buf (Elt Ideal) ℓ) (g' : Dev Cert.MergedRefIdeal.nD → PrngReg), Pre_MergedIdeal m →
    (∀ c : Dev Cert.MergedIdeal.nD,
      m' ((c.tc : Thread Cert.MergedRefIdeal.nD Cert.MergedRefIdeal.τ).loc Cert.MergedRefIdeal.main_arg0) = m ((c.tc : Thread Cert.MergedIdeal.nD Cert.MergedIdeal.τ).loc Cert.MergedIdeal.main_arg0)
      ∧ m' ((c.tc : Thread Cert.MergedRefIdeal.nD Cert.MergedRefIdeal.τ).loc Cert.MergedRefIdeal.main_arg1) = m ((c.tc : Thread Cert.MergedIdeal.nD Cert.MergedIdeal.τ).loc Cert.MergedIdeal.main_arg1)) →
    ∃ (v0 : (c : Dev Cert.MergedIdeal.nD) → Buf (Elt Ideal) ((c.tc : Thread Cert.MergedIdeal.nD Cert.MergedIdeal.τ).loc Cert.MergedIdeal.main_v0)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v0) = v0 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1))
      ∧ θ_run (Cert.MergedRefIdeal.defs (F := Ideal)) (onTc (τ := Cert.MergedRefIdeal.τ) (Cert.MergedRefIdeal.main (F := Ideal))) ⟨m', fun _ => 0, g'⟩ (fun r => ∀ c : Dev Cert.MergedRefIdeal.nD,
          r.2.mem ((c.tc : Thread Cert.MergedRefIdeal.nD Cert.MergedRefIdeal.τ).loc Cert.MergedRefIdeal.main_v5) = v0 c
          ∧ r.2.mem ((c.tc : Thread Cert.MergedRefIdeal.nD Cert.MergedRefIdeal.τ).loc Cert.MergedRefIdeal.main_arg0) = m' ((c.tc : Thread Cert.MergedRefIdeal.nD Cert.MergedRefIdeal.τ).loc Cert.MergedRefIdeal.main_arg0)
          ∧ r.2.mem ((c.tc : Thread Cert.MergedRefIdeal.nD Cert.MergedRefIdeal.τ).loc Cert.MergedRefIdeal.main_arg1) = m' ((c.tc : Thread Cert.MergedRefIdeal.nD Cert.MergedRefIdeal.τ).loc Cert.MergedRefIdeal.main_arg1))

def preserves_WBranchA_WBranchAIdeal : Prop :=
  True

def algebraic_WBranchAIdeal_WBranchARefIdeal [hWBranchAIdeal : Cert.WBranchAIdeal.Facts] [hWBranchARefIdeal : Cert.WBranchARefIdeal.Facts] : Prop :=
  ∀ (m : (ℓ : Loc Cert.WBranchAIdeal.nD Cert.WBranchAIdeal.τ Cert.WBranchAIdeal.sig) → Buf (Elt Ideal) ℓ) (g : Dev Cert.WBranchAIdeal.nD → PrngReg)
    (m' : (ℓ : Loc Cert.WBranchARefIdeal.nD Cert.WBranchARefIdeal.τ Cert.WBranchARefIdeal.sig) → Buf (Elt Ideal) ℓ) (g' : Dev Cert.WBranchARefIdeal.nD → PrngReg), Pre_WBranchAIdeal m →
    (∀ c : Dev Cert.WBranchAIdeal.nD,
      m' ((c.tc : Thread Cert.WBranchARefIdeal.nD Cert.WBranchARefIdeal.τ).loc Cert.WBranchARefIdeal.main_arg0) = m ((c.tc : Thread Cert.WBranchAIdeal.nD Cert.WBranchAIdeal.τ).loc Cert.WBranchAIdeal.main_arg0)
      ∧ m' ((c.tc : Thread Cert.WBranchARefIdeal.nD Cert.WBranchARefIdeal.τ).loc Cert.WBranchARefIdeal.main_arg1) = m ((c.tc : Thread Cert.WBranchAIdeal.nD Cert.WBranchAIdeal.τ).loc Cert.WBranchAIdeal.main_arg1)) →
    ∃ (v0 : (c : Dev Cert.WBranchAIdeal.nD) → Buf (Elt Ideal) ((c.tc : Thread Cert.WBranchAIdeal.nD Cert.WBranchAIdeal.τ).loc Cert.WBranchAIdeal.main_v0)),
      θ_run (Cert.WBranchAIdeal.defs (F := Ideal)) (onTc (τ := Cert.WBranchAIdeal.τ) (Cert.WBranchAIdeal.main (F := Ideal))) ⟨m, fun _ => 0, g⟩ (fun r => ∀ c : Dev Cert.WBranchAIdeal.nD,
          r.2.mem ((c.tc : Thread Cert.WBranchAIdeal.nD Cert.WBranchAIdeal.τ).loc Cert.WBranchAIdeal.main_v0) = v0 c
          ∧ r.2.mem ((c.tc : Thread Cert.WBranchAIdeal.nD Cert.WBranchAIdeal.τ).loc Cert.WBranchAIdeal.main_arg0) = m ((c.tc : Thread Cert.WBranchAIdeal.nD Cert.WBranchAIdeal.τ).loc Cert.WBranchAIdeal.main_arg0)
          ∧ r.2.mem ((c.tc : Thread Cert.WBranchAIdeal.nD Cert.WBranchAIdeal.τ).loc Cert.WBranchAIdeal.main_arg1) = m ((c.tc : Thread Cert.WBranchAIdeal.nD Cert.WBranchAIdeal.τ).loc Cert.WBranchAIdeal.main_arg1))
      ∧ θ_run (Cert.WBranchARefIdeal.defs (F := Ideal)) (onTc (τ := Cert.WBranchARefIdeal.τ) (Cert.WBranchARefIdeal.main (F := Ideal))) ⟨m', fun _ => 0, g'⟩ (fun r => ∀ c : Dev Cert.WBranchARefIdeal.nD,
          r.2.mem ((c.tc : Thread Cert.WBranchARefIdeal.nD Cert.WBranchARefIdeal.τ).loc Cert.WBranchARefIdeal.main_v6) = v0 c
          ∧ r.2.mem ((c.tc : Thread Cert.WBranchARefIdeal.nD Cert.WBranchARefIdeal.τ).loc Cert.WBranchARefIdeal.main_arg0) = m' ((c.tc : Thread Cert.WBranchARefIdeal.nD Cert.WBranchARefIdeal.τ).loc Cert.WBranchARefIdeal.main_arg0)
          ∧ r.2.mem ((c.tc : Thread Cert.WBranchARefIdeal.nD Cert.WBranchARefIdeal.τ).loc Cert.WBranchARefIdeal.main_arg1) = m' ((c.tc : Thread Cert.WBranchARefIdeal.nD Cert.WBranchARefIdeal.τ).loc Cert.WBranchARefIdeal.main_arg1))

def preserves_Ya_YaIdeal : Prop :=
  True

def algebraic_YaIdeal_YaRefIdeal [hYaIdeal : Cert.YaIdeal.Facts] [hYaRefIdeal : Cert.YaRefIdeal.Facts] : Prop :=
  ∀ (m : (ℓ : Loc Cert.YaIdeal.nD Cert.YaIdeal.τ Cert.YaIdeal.sig) → Buf (Elt Ideal) ℓ) (g : Dev Cert.YaIdeal.nD → PrngReg)
    (m' : (ℓ : Loc Cert.YaRefIdeal.nD Cert.YaRefIdeal.τ Cert.YaRefIdeal.sig) → Buf (Elt Ideal) ℓ) (g' : Dev Cert.YaRefIdeal.nD → PrngReg), Pre_YaIdeal m →
    (∀ c : Dev Cert.YaIdeal.nD,
      m' ((c.tc : Thread Cert.YaRefIdeal.nD Cert.YaRefIdeal.τ).loc Cert.YaRefIdeal.main_arg0) = m ((c.tc : Thread Cert.YaIdeal.nD Cert.YaIdeal.τ).loc Cert.YaIdeal.main_arg0)
      ∧ m' ((c.tc : Thread Cert.YaRefIdeal.nD Cert.YaRefIdeal.τ).loc Cert.YaRefIdeal.main_arg1) = m ((c.tc : Thread Cert.YaIdeal.nD Cert.YaIdeal.τ).loc Cert.YaIdeal.main_arg1)) →
    ∃ (v0 : (c : Dev Cert.YaIdeal.nD) → Buf (Elt Ideal) ((c.tc : Thread Cert.YaIdeal.nD Cert.YaIdeal.τ).loc Cert.YaIdeal.main_v0)),
      θ_run (Cert.YaIdeal.defs (F := Ideal)) (onTc (τ := Cert.YaIdeal.τ) (Cert.YaIdeal.main (F := Ideal))) ⟨m, fun _ => 0, g⟩ (fun r => ∀ c : Dev Cert.YaIdeal.nD,
          r.2.mem ((c.tc : Thread Cert.YaIdeal.nD Cert.YaIdeal.τ).loc Cert.YaIdeal.main_v0) = v0 c
          ∧ r.2.mem ((c.tc : Thread Cert.YaIdeal.nD Cert.YaIdeal.τ).loc Cert.YaIdeal.main_arg0) = m ((c.tc : Thread Cert.YaIdeal.nD Cert.YaIdeal.τ).loc Cert.YaIdeal.main_arg0)
          ∧ r.2.mem ((c.tc : Thread Cert.YaIdeal.nD Cert.YaIdeal.τ).loc Cert.YaIdeal.main_arg1) = m ((c.tc : Thread Cert.YaIdeal.nD Cert.YaIdeal.τ).loc Cert.YaIdeal.main_arg1))
      ∧ θ_run (Cert.YaRefIdeal.defs (F := Ideal)) (onTc (τ := Cert.YaRefIdeal.τ) (Cert.YaRefIdeal.main (F := Ideal))) ⟨m', fun _ => 0, g'⟩ (fun r => ∀ c : Dev Cert.YaRefIdeal.nD,
          r.2.mem ((c.tc : Thread Cert.YaRefIdeal.nD Cert.YaRefIdeal.τ).loc Cert.YaRefIdeal.main_v4) = v0 c
          ∧ r.2.mem ((c.tc : Thread Cert.YaRefIdeal.nD Cert.YaRefIdeal.τ).loc Cert.YaRefIdeal.main_arg0) = m' ((c.tc : Thread Cert.YaRefIdeal.nD Cert.YaRefIdeal.τ).loc Cert.YaRefIdeal.main_arg0)
          ∧ r.2.mem ((c.tc : Thread Cert.YaRefIdeal.nD Cert.YaRefIdeal.τ).loc Cert.YaRefIdeal.main_arg1) = m' ((c.tc : Thread Cert.YaRefIdeal.nD Cert.YaRefIdeal.τ).loc Cert.YaRefIdeal.main_arg1))

def preserves_WBranchB_WBranchBIdeal : Prop :=
  True

def algebraic_WBranchBIdeal_WBranchBRefIdeal [hWBranchBIdeal : Cert.WBranchBIdeal.Facts] [hWBranchBRefIdeal : Cert.WBranchBRefIdeal.Facts] : Prop :=
  ∀ (m : (ℓ : Loc Cert.WBranchBIdeal.nD Cert.WBranchBIdeal.τ Cert.WBranchBIdeal.sig) → Buf (Elt Ideal) ℓ) (g : Dev Cert.WBranchBIdeal.nD → PrngReg)
    (m' : (ℓ : Loc Cert.WBranchBRefIdeal.nD Cert.WBranchBRefIdeal.τ Cert.WBranchBRefIdeal.sig) → Buf (Elt Ideal) ℓ) (g' : Dev Cert.WBranchBRefIdeal.nD → PrngReg), Pre_WBranchBIdeal m →
    (∀ c : Dev Cert.WBranchBIdeal.nD,
      m' ((c.tc : Thread Cert.WBranchBRefIdeal.nD Cert.WBranchBRefIdeal.τ).loc Cert.WBranchBRefIdeal.main_arg0) = m ((c.tc : Thread Cert.WBranchBIdeal.nD Cert.WBranchBIdeal.τ).loc Cert.WBranchBIdeal.main_arg0)
      ∧ m' ((c.tc : Thread Cert.WBranchBRefIdeal.nD Cert.WBranchBRefIdeal.τ).loc Cert.WBranchBRefIdeal.main_arg1) = m ((c.tc : Thread Cert.WBranchBIdeal.nD Cert.WBranchBIdeal.τ).loc Cert.WBranchBIdeal.main_arg1)) →
    ∃ (v0 : (c : Dev Cert.WBranchBIdeal.nD) → Buf (Elt Ideal) ((c.tc : Thread Cert.WBranchBIdeal.nD Cert.WBranchBIdeal.τ).loc Cert.WBranchBIdeal.main_v0)),
      θ_run (Cert.WBranchBIdeal.defs (F := Ideal)) (onTc (τ := Cert.WBranchBIdeal.τ) (Cert.WBranchBIdeal.main (F := Ideal))) ⟨m, fun _ => 0, g⟩ (fun r => ∀ c : Dev Cert.WBranchBIdeal.nD,
          r.2.mem ((c.tc : Thread Cert.WBranchBIdeal.nD Cert.WBranchBIdeal.τ).loc Cert.WBranchBIdeal.main_v0) = v0 c
          ∧ r.2.mem ((c.tc : Thread Cert.WBranchBIdeal.nD Cert.WBranchBIdeal.τ).loc Cert.WBranchBIdeal.main_arg0) = m ((c.tc : Thread Cert.WBranchBIdeal.nD Cert.WBranchBIdeal.τ).loc Cert.WBranchBIdeal.main_arg0)
          ∧ r.2.mem ((c.tc : Thread Cert.WBranchBIdeal.nD Cert.WBranchBIdeal.τ).loc Cert.WBranchBIdeal.main_arg1) = m ((c.tc : Thread Cert.WBranchBIdeal.nD Cert.WBranchBIdeal.τ).loc Cert.WBranchBIdeal.main_arg1))
      ∧ θ_run (Cert.WBranchBRefIdeal.defs (F := Ideal)) (onTc (τ := Cert.WBranchBRefIdeal.τ) (Cert.WBranchBRefIdeal.main (F := Ideal))) ⟨m', fun _ => 0, g'⟩ (fun r => ∀ c : Dev Cert.WBranchBRefIdeal.nD,
          r.2.mem ((c.tc : Thread Cert.WBranchBRefIdeal.nD Cert.WBranchBRefIdeal.τ).loc Cert.WBranchBRefIdeal.main_v6) = v0 c
          ∧ r.2.mem ((c.tc : Thread Cert.WBranchBRefIdeal.nD Cert.WBranchBRefIdeal.τ).loc Cert.WBranchBRefIdeal.main_arg0) = m' ((c.tc : Thread Cert.WBranchBRefIdeal.nD Cert.WBranchBRefIdeal.τ).loc Cert.WBranchBRefIdeal.main_arg0)
          ∧ r.2.mem ((c.tc : Thread Cert.WBranchBRefIdeal.nD Cert.WBranchBRefIdeal.τ).loc Cert.WBranchBRefIdeal.main_arg1) = m' ((c.tc : Thread Cert.WBranchBRefIdeal.nD Cert.WBranchBRefIdeal.τ).loc Cert.WBranchBRefIdeal.main_arg1))

def preserves_Yb_YbIdeal : Prop :=
  True

def algebraic_YbIdeal_YbRefIdeal [hYbIdeal : Cert.YbIdeal.Facts] [hYbRefIdeal : Cert.YbRefIdeal.Facts] : Prop :=
  ∀ (m : (ℓ : Loc Cert.YbIdeal.nD Cert.YbIdeal.τ Cert.YbIdeal.sig) → Buf (Elt Ideal) ℓ) (g : Dev Cert.YbIdeal.nD → PrngReg)
    (m' : (ℓ : Loc Cert.YbRefIdeal.nD Cert.YbRefIdeal.τ Cert.YbRefIdeal.sig) → Buf (Elt Ideal) ℓ) (g' : Dev Cert.YbRefIdeal.nD → PrngReg), Pre_YbIdeal m →
    (∀ c : Dev Cert.YbIdeal.nD,
      m' ((c.tc : Thread Cert.YbRefIdeal.nD Cert.YbRefIdeal.τ).loc Cert.YbRefIdeal.main_arg0) = m ((c.tc : Thread Cert.YbIdeal.nD Cert.YbIdeal.τ).loc Cert.YbIdeal.main_arg0)
      ∧ m' ((c.tc : Thread Cert.YbRefIdeal.nD Cert.YbRefIdeal.τ).loc Cert.YbRefIdeal.main_arg1) = m ((c.tc : Thread Cert.YbIdeal.nD Cert.YbIdeal.τ).loc Cert.YbIdeal.main_arg1)) →
    ∃ (v0 : (c : Dev Cert.YbIdeal.nD) → Buf (Elt Ideal) ((c.tc : Thread Cert.YbIdeal.nD Cert.YbIdeal.τ).loc Cert.YbIdeal.main_v0)),
      θ_run (Cert.YbIdeal.defs (F := Ideal)) (onTc (τ := Cert.YbIdeal.τ) (Cert.YbIdeal.main (F := Ideal))) ⟨m, fun _ => 0, g⟩ (fun r => ∀ c : Dev Cert.YbIdeal.nD,
          r.2.mem ((c.tc : Thread Cert.YbIdeal.nD Cert.YbIdeal.τ).loc Cert.YbIdeal.main_v0) = v0 c
          ∧ r.2.mem ((c.tc : Thread Cert.YbIdeal.nD Cert.YbIdeal.τ).loc Cert.YbIdeal.main_arg0) = m ((c.tc : Thread Cert.YbIdeal.nD Cert.YbIdeal.τ).loc Cert.YbIdeal.main_arg0)
          ∧ r.2.mem ((c.tc : Thread Cert.YbIdeal.nD Cert.YbIdeal.τ).loc Cert.YbIdeal.main_arg1) = m ((c.tc : Thread Cert.YbIdeal.nD Cert.YbIdeal.τ).loc Cert.YbIdeal.main_arg1))
      ∧ θ_run (Cert.YbRefIdeal.defs (F := Ideal)) (onTc (τ := Cert.YbRefIdeal.τ) (Cert.YbRefIdeal.main (F := Ideal))) ⟨m', fun _ => 0, g'⟩ (fun r => ∀ c : Dev Cert.YbRefIdeal.nD,
          r.2.mem ((c.tc : Thread Cert.YbRefIdeal.nD Cert.YbRefIdeal.τ).loc Cert.YbRefIdeal.main_v4) = v0 c
          ∧ r.2.mem ((c.tc : Thread Cert.YbRefIdeal.nD Cert.YbRefIdeal.τ).loc Cert.YbRefIdeal.main_arg0) = m' ((c.tc : Thread Cert.YbRefIdeal.nD Cert.YbRefIdeal.τ).loc Cert.YbRefIdeal.main_arg0)
          ∧ r.2.mem ((c.tc : Thread Cert.YbRefIdeal.nD Cert.YbRefIdeal.τ).loc Cert.YbRefIdeal.main_arg1) = m' ((c.tc : Thread Cert.YbRefIdeal.nD Cert.YbRefIdeal.τ).loc Cert.YbRefIdeal.main_arg1))

def preserves_WGate_WGateIdeal : Prop :=
  True

def algebraic_WGateIdeal_WGateRefIdeal [hWGateIdeal : Cert.WGateIdeal.Facts] [hWGateRefIdeal : Cert.WGateRefIdeal.Facts] : Prop :=
  ∀ (m : (ℓ : Loc Cert.WGateIdeal.nD Cert.WGateIdeal.τ Cert.WGateIdeal.sig) → Buf (Elt Ideal) ℓ) (g : Dev Cert.WGateIdeal.nD → PrngReg)
    (m' : (ℓ : Loc Cert.WGateRefIdeal.nD Cert.WGateRefIdeal.τ Cert.WGateRefIdeal.sig) → Buf (Elt Ideal) ℓ) (g' : Dev Cert.WGateRefIdeal.nD → PrngReg), Pre_WGateIdeal m →
    (∀ c : Dev Cert.WGateIdeal.nD,
      m' ((c.tc : Thread Cert.WGateRefIdeal.nD Cert.WGateRefIdeal.τ).loc Cert.WGateRefIdeal.main_arg0) = m ((c.tc : Thread Cert.WGateIdeal.nD Cert.WGateIdeal.τ).loc Cert.WGateIdeal.main_arg0)
      ∧ m' ((c.tc : Thread Cert.WGateRefIdeal.nD Cert.WGateRefIdeal.τ).loc Cert.WGateRefIdeal.main_arg1) = m ((c.tc : Thread Cert.WGateIdeal.nD Cert.WGateIdeal.τ).loc Cert.WGateIdeal.main_arg1)) →
    ∃ (v0 : (c : Dev Cert.WGateIdeal.nD) → Buf (Elt Ideal) ((c.tc : Thread Cert.WGateIdeal.nD Cert.WGateIdeal.τ).loc Cert.WGateIdeal.main_v0)),
      θ_run (Cert.WGateIdeal.defs (F := Ideal)) (onTc (τ := Cert.WGateIdeal.τ) (Cert.WGateIdeal.main (F := Ideal))) ⟨m, fun _ => 0, g⟩ (fun r => ∀ c : Dev Cert.WGateIdeal.nD,
          r.2.mem ((c.tc : Thread Cert.WGateIdeal.nD Cert.WGateIdeal.τ).loc Cert.WGateIdeal.main_v0) = v0 c
          ∧ r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
          ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ θ_run (Cert.WGateRefIdeal.defs (F := Ideal)) (onTc (τ := Cert.WGateRefIdeal.τ) (Cert.WGateRefIdeal.main (F := Ideal))) ⟨m', fun _ => 0, g'⟩ (fun r => ∀ c : Dev Cert.WGateRefIdeal.nD,
          r.2.mem ((c.tc : Thread Cert.WGateRefIdeal.nD Cert.WGateRefIdeal.τ).loc Cert.WGateRefIdeal.main_v6) = v0 c
          ∧ r.2.mem ((c.tc : Thread Cert.WGateRefIdeal.nD Cert.WGateRefIdeal.τ).loc Cert.WGateRefIdeal.main_arg0) = m' ((c.tc : Thread Cert.WGateRefIdeal.nD Cert.WGateRefIdeal.τ).loc Cert.WGateRefIdeal.main_arg0)
          ∧ r.2.mem ((c.tc : Thread Cert.WGateRefIdeal.nD Cert.WGateRefIdeal.τ).loc Cert.WGateRefIdeal.main_arg1) = m' ((c.tc : Thread Cert.WGateRefIdeal.nD Cert.WGateRefIdeal.τ).loc Cert.WGateRefIdeal.main_arg1))

def preserves_HGate_HGateIdeal : Prop :=
  True

def algebraic_HGateIdeal_HGateRefIdeal [hHGateIdeal : Cert.HGateIdeal.Facts] [hHGateRefIdeal : Cert.HGateRefIdeal.Facts] : Prop :=
  ∀ (m : (ℓ : Loc Cert.HGateIdeal.nD Cert.HGateIdeal.τ Cert.HGateIdeal.sig) → Buf (Elt Ideal) ℓ) (g : Dev Cert.HGateIdeal.nD → PrngReg)
    (m' : (ℓ : Loc Cert.HGateRefIdeal.nD Cert.HGateRefIdeal.τ Cert.HGateRefIdeal.sig) → Buf (Elt Ideal) ℓ) (g' : Dev Cert.HGateRefIdeal.nD → PrngReg), Pre_HGateIdeal m →
    (∀ c : Dev Cert.HGateIdeal.nD,
      m' ((c.tc : Thread Cert.HGateRefIdeal.nD Cert.HGateRefIdeal.τ).loc Cert.HGateRefIdeal.main_arg0) = m ((c.tc : Thread Cert.HGateIdeal.nD Cert.HGateIdeal.τ).loc Cert.HGateIdeal.main_arg0)
      ∧ m' ((c.tc : Thread Cert.HGateRefIdeal.nD Cert.HGateRefIdeal.τ).loc Cert.HGateRefIdeal.main_arg1) = m ((c.tc : Thread Cert.HGateIdeal.nD Cert.HGateIdeal.τ).loc Cert.HGateIdeal.main_arg1)) →
    ∃ (v0 : (c : Dev Cert.HGateIdeal.nD) → Buf (Elt Ideal) ((c.tc : Thread Cert.HGateIdeal.nD Cert.HGateIdeal.τ).loc Cert.HGateIdeal.main_v0)),
      θ_run (Cert.HGateIdeal.defs (F := Ideal)) (onTc (τ := Cert.HGateIdeal.τ) (Cert.HGateIdeal.main (F := Ideal))) ⟨m, fun _ => 0, g⟩ (fun r => ∀ c : Dev Cert.HGateIdeal.nD,
          r.2.mem ((c.tc : Thread Cert.HGateIdeal.nD Cert.HGateIdeal.τ).loc Cert.HGateIdeal.main_v0) = v0 c
          ∧ r.2.mem ((c.tc : Thread Cert.HGateIdeal.nD Cert.HGateIdeal.τ).loc Cert.HGateIdeal.main_arg0) = m ((c.tc : Thread Cert.HGateIdeal.nD Cert.HGateIdeal.τ).loc Cert.HGateIdeal.main_arg0)
          ∧ r.2.mem ((c.tc : Thread Cert.HGateIdeal.nD Cert.HGateIdeal.τ).loc Cert.HGateIdeal.main_arg1) = m ((c.tc : Thread Cert.HGateIdeal.nD Cert.HGateIdeal.τ).loc Cert.HGateIdeal.main_arg1))
      ∧ θ_run (Cert.HGateRefIdeal.defs (F := Ideal)) (onTc (τ := Cert.HGateRefIdeal.τ) (Cert.HGateRefIdeal.main (F := Ideal))) ⟨m', fun _ => 0, g'⟩ (fun r => ∀ c : Dev Cert.HGateRefIdeal.nD,
          r.2.mem ((c.tc : Thread Cert.HGateRefIdeal.nD Cert.HGateRefIdeal.τ).loc Cert.HGateRefIdeal.main_v4) = v0 c
          ∧ r.2.mem ((c.tc : Thread Cert.HGateRefIdeal.nD Cert.HGateRefIdeal.τ).loc Cert.HGateRefIdeal.main_arg0) = m' ((c.tc : Thread Cert.HGateRefIdeal.nD Cert.HGateRefIdeal.τ).loc Cert.HGateRefIdeal.main_arg0)
          ∧ r.2.mem ((c.tc : Thread Cert.HGateRefIdeal.nD Cert.HGateRefIdeal.τ).loc Cert.HGateRefIdeal.main_arg1) = m' ((c.tc : Thread Cert.HGateRefIdeal.nD Cert.HGateRefIdeal.τ).loc Cert.HGateRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v6) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_H_HIdeal : Prop :=
  True

def algebraic_HIdeal_HRefIdeal [hHIdeal : Cert.HIdeal.Facts] [hHRefIdeal : Cert.HRefIdeal.Facts] : Prop :=
  ∀ (m : (ℓ : Loc Cert.HIdeal.nD Cert.HIdeal.τ Cert.HIdeal.sig) → Buf (Elt Ideal) ℓ) (g : Dev Cert.HIdeal.nD → PrngReg)
    (m' : (ℓ : Loc Cert.HRefIdeal.nD Cert.HRefIdeal.τ Cert.HRefIdeal.sig) → Buf (Elt Ideal) ℓ) (g' : Dev Cert.HRefIdeal.nD → PrngReg), Pre_HIdeal m →
    (∀ c : Dev Cert.HIdeal.nD,
      m' ((c.tc : Thread Cert.HRefIdeal.nD Cert.HRefIdeal.τ).loc Cert.HRefIdeal.main_arg0) = m ((c.tc : Thread Cert.HIdeal.nD Cert.HIdeal.τ).loc Cert.HIdeal.main_arg0)
      ∧ m' ((c.tc : Thread Cert.HRefIdeal.nD Cert.HRefIdeal.τ).loc Cert.HRefIdeal.main_arg1) = m ((c.tc : Thread Cert.HIdeal.nD Cert.HIdeal.τ).loc Cert.HIdeal.main_arg1)
      ∧ m' ((c.tc : Thread Cert.HRefIdeal.nD Cert.HRefIdeal.τ).loc Cert.HRefIdeal.main_arg2) = m ((c.tc : Thread Cert.HIdeal.nD Cert.HIdeal.τ).loc Cert.HIdeal.main_arg2)) →
    ∃ (v0 : (c : Dev Cert.HIdeal.nD) → Buf (Elt Ideal) ((c.tc : Thread Cert.HIdeal.nD Cert.HIdeal.τ).loc Cert.HIdeal.main_v0)),
      θ_run (Cert.HIdeal.defs (F := Ideal)) (onTc (τ := Cert.HIdeal.τ) (Cert.HIdeal.main (F := Ideal))) ⟨m, fun _ => 0, g⟩ (fun r => ∀ c : Dev Cert.HIdeal.nD,
          r.2.mem ((c.tc : Thread Cert.HIdeal.nD Cert.HIdeal.τ).loc Cert.HIdeal.main_v0) = v0 c
          ∧ r.2.mem ((c.tc : Thread Cert.HIdeal.nD Cert.HIdeal.τ).loc Cert.HIdeal.main_arg0) = m ((c.tc : Thread Cert.HIdeal.nD Cert.HIdeal.τ).loc Cert.HIdeal.main_arg0)
          ∧ r.2.mem ((c.tc : Thread Cert.HIdeal.nD Cert.HIdeal.τ).loc Cert.HIdeal.main_arg1) = m ((c.tc : Thread Cert.HIdeal.nD Cert.HIdeal.τ).loc Cert.HIdeal.main_arg1)
          ∧ r.2.mem ((c.tc : Thread Cert.HIdeal.nD Cert.HIdeal.τ).loc Cert.HIdeal.main_arg2) = m ((c.tc : Thread Cert.HIdeal.nD Cert.HIdeal.τ).loc Cert.HIdeal.main_arg2))
      ∧ θ_run (Cert.HRefIdeal.defs (F := Ideal)) (onTc (τ := Cert.HRefIdeal.τ) (Cert.HRefIdeal.main (F := Ideal))) ⟨m', fun _ => 0, g'⟩ (fun r => ∀ c : Dev Cert.HRefIdeal.nD,
          r.2.mem ((c.tc : Thread Cert.HRefIdeal.nD Cert.HRefIdeal.τ).loc Cert.HRefIdeal.main_v5) = v0 c
          ∧ r.2.mem ((c.tc : Thread Cert.HRefIdeal.nD Cert.HRefIdeal.τ).loc Cert.HRefIdeal.main_arg0) = m' ((c.tc : Thread Cert.HRefIdeal.nD Cert.HRefIdeal.τ).loc Cert.HRefIdeal.main_arg0)
          ∧ r.2.mem ((c.tc : Thread Cert.HRefIdeal.nD Cert.HRefIdeal.τ).loc Cert.HRefIdeal.main_arg1) = m' ((c.tc : Thread Cert.HRefIdeal.nD Cert.HRefIdeal.τ).loc Cert.HRefIdeal.main_arg1)
          ∧ r.2.mem ((c.tc : Thread Cert.HRefIdeal.nD Cert.HRefIdeal.τ).loc Cert.HRefIdeal.main_arg2) = m' ((c.tc : Thread Cert.HRefIdeal.nD Cert.HRefIdeal.τ).loc Cert.HRefIdeal.main_arg2))

def preserves_ProjRw_ProjRwIdeal : Prop :=
  True

def algebraic_ProjRwIdeal_ProjRwRefIdeal [hProjRwIdeal : Cert.ProjRwIdeal.Facts] [hProjRwRefIdeal : Cert.ProjRwRefIdeal.Facts] : Prop :=
  ∀ (m : (ℓ : Loc Cert.ProjRwIdeal.nD Cert.ProjRwIdeal.τ Cert.ProjRwIdeal.sig) → Buf (Elt Ideal) ℓ) (g : Dev Cert.ProjRwIdeal.nD → PrngReg)
    (m' : (ℓ : Loc Cert.ProjRwRefIdeal.nD Cert.ProjRwRefIdeal.τ Cert.ProjRwRefIdeal.sig) → Buf (Elt Ideal) ℓ) (g' : Dev Cert.ProjRwRefIdeal.nD → PrngReg), Pre_ProjRwIdeal m →
    (∀ c : Dev Cert.ProjRwIdeal.nD,
      m' ((c.tc : Thread Cert.ProjRwRefIdeal.nD Cert.ProjRwRefIdeal.τ).loc Cert.ProjRwRefIdeal.main_arg0) = m ((c.tc : Thread Cert.ProjRwIdeal.nD Cert.ProjRwIdeal.τ).loc Cert.ProjRwIdeal.main_arg0)
      ∧ m' ((c.tc : Thread Cert.ProjRwRefIdeal.nD Cert.ProjRwRefIdeal.τ).loc Cert.ProjRwRefIdeal.main_arg1) = m ((c.tc : Thread Cert.ProjRwIdeal.nD Cert.ProjRwIdeal.τ).loc Cert.ProjRwIdeal.main_arg1)) →
    ∃ (v0 : (c : Dev Cert.ProjRwIdeal.nD) → Buf (Elt Ideal) ((c.tc : Thread Cert.ProjRwIdeal.nD Cert.ProjRwIdeal.τ).loc Cert.ProjRwIdeal.main_v0)),
      θ_run (Cert.ProjRwIdeal.defs (F := Ideal)) (onTc (τ := Cert.ProjRwIdeal.τ) (Cert.ProjRwIdeal.main (F := Ideal))) ⟨m, fun _ => 0, g⟩ (fun r => ∀ c : Dev Cert.ProjRwIdeal.nD,
          r.2.mem ((c.tc : Thread Cert.ProjRwIdeal.nD Cert.ProjRwIdeal.τ).loc Cert.ProjRwIdeal.main_v0) = v0 c
          ∧ r.2.mem ((c.tc : Thread Cert.ProjRwIdeal.nD Cert.ProjRwIdeal.τ).loc Cert.ProjRwIdeal.main_arg0) = m ((c.tc : Thread Cert.ProjRwIdeal.nD Cert.ProjRwIdeal.τ).loc Cert.ProjRwIdeal.main_arg0)
          ∧ r.2.mem ((c.tc : Thread Cert.ProjRwIdeal.nD Cert.ProjRwIdeal.τ).loc Cert.ProjRwIdeal.main_arg1) = m ((c.tc : Thread Cert.ProjRwIdeal.nD Cert.ProjRwIdeal.τ).loc Cert.ProjRwIdeal.main_arg1))
      ∧ θ_run (Cert.ProjRwRefIdeal.defs (F := Ideal)) (onTc (τ := Cert.ProjRwRefIdeal.τ) (Cert.ProjRwRefIdeal.main (F := Ideal))) ⟨m', fun _ => 0, g'⟩ (fun r => ∀ c : Dev Cert.ProjRwRefIdeal.nD,
          r.2.mem ((c.tc : Thread Cert.ProjRwRefIdeal.nD Cert.ProjRwRefIdeal.τ).loc Cert.ProjRwRefIdeal.main_v2) = v0 c
          ∧ r.2.mem ((c.tc : Thread Cert.ProjRwRefIdeal.nD Cert.ProjRwRefIdeal.τ).loc Cert.ProjRwRefIdeal.main_arg0) = m' ((c.tc : Thread Cert.ProjRwRefIdeal.nD Cert.ProjRwRefIdeal.τ).loc Cert.ProjRwRefIdeal.main_arg0)
          ∧ r.2.mem ((c.tc : Thread Cert.ProjRwRefIdeal.nD Cert.ProjRwRefIdeal.τ).loc Cert.ProjRwRefIdeal.main_arg1) = m' ((c.tc : Thread Cert.ProjRwRefIdeal.nD Cert.ProjRwRefIdeal.τ).loc Cert.ProjRwRefIdeal.main_arg1))

def preserves_ProjAtt_ProjAttIdeal : Prop :=
  True

def algebraic_ProjAttIdeal_ProjAttRefIdeal [hProjAttIdeal : Cert.ProjAttIdeal.Facts] [hProjAttRefIdeal : Cert.ProjAttRefIdeal.Facts] : Prop :=
  ∀ (m : (ℓ : Loc Cert.ProjAttIdeal.nD Cert.ProjAttIdeal.τ Cert.ProjAttIdeal.sig) → Buf (Elt Ideal) ℓ) (g : Dev Cert.ProjAttIdeal.nD → PrngReg)
    (m' : (ℓ : Loc Cert.ProjAttRefIdeal.nD Cert.ProjAttRefIdeal.τ Cert.ProjAttRefIdeal.sig) → Buf (Elt Ideal) ℓ) (g' : Dev Cert.ProjAttRefIdeal.nD → PrngReg), Pre_ProjAttIdeal m →
    (∀ c : Dev Cert.ProjAttIdeal.nD,
      m' ((c.tc : Thread Cert.ProjAttRefIdeal.nD Cert.ProjAttRefIdeal.τ).loc Cert.ProjAttRefIdeal.main_arg0) = m ((c.tc : Thread Cert.ProjAttIdeal.nD Cert.ProjAttIdeal.τ).loc Cert.ProjAttIdeal.main_arg0)
      ∧ m' ((c.tc : Thread Cert.ProjAttRefIdeal.nD Cert.ProjAttRefIdeal.τ).loc Cert.ProjAttRefIdeal.main_arg1) = m ((c.tc : Thread Cert.ProjAttIdeal.nD Cert.ProjAttIdeal.τ).loc Cert.ProjAttIdeal.main_arg1)) →
    ∃ (v0 : (c : Dev Cert.ProjAttIdeal.nD) → Buf (Elt Ideal) ((c.tc : Thread Cert.ProjAttIdeal.nD Cert.ProjAttIdeal.τ).loc Cert.ProjAttIdeal.main_v0)),
      θ_run (Cert.ProjAttIdeal.defs (F := Ideal)) (onTc (τ := Cert.ProjAttIdeal.τ) (Cert.ProjAttIdeal.main (F := Ideal))) ⟨m, fun _ => 0, g⟩ (fun r => ∀ c : Dev Cert.ProjAttIdeal.nD,
          r.2.mem ((c.tc : Thread Cert.ProjAttIdeal.nD Cert.ProjAttIdeal.τ).loc Cert.ProjAttIdeal.main_v0) = v0 c
          ∧ r.2.mem ((c.tc : Thread Cert.ProjAttIdeal.nD Cert.ProjAttIdeal.τ).loc Cert.ProjAttIdeal.main_arg0) = m ((c.tc : Thread Cert.ProjAttIdeal.nD Cert.ProjAttIdeal.τ).loc Cert.ProjAttIdeal.main_arg0)
          ∧ r.2.mem ((c.tc : Thread Cert.ProjAttIdeal.nD Cert.ProjAttIdeal.τ).loc Cert.ProjAttIdeal.main_arg1) = m ((c.tc : Thread Cert.ProjAttIdeal.nD Cert.ProjAttIdeal.τ).loc Cert.ProjAttIdeal.main_arg1))
      ∧ θ_run (Cert.ProjAttRefIdeal.defs (F := Ideal)) (onTc (τ := Cert.ProjAttRefIdeal.τ) (Cert.ProjAttRefIdeal.main (F := Ideal))) ⟨m', fun _ => 0, g'⟩ (fun r => ∀ c : Dev Cert.ProjAttRefIdeal.nD,
          r.2.mem ((c.tc : Thread Cert.ProjAttRefIdeal.nD Cert.ProjAttRefIdeal.τ).loc Cert.ProjAttRefIdeal.main_v3) = v0 c
          ∧ r.2.mem ((c.tc : Thread Cert.ProjAttRefIdeal.nD Cert.ProjAttRefIdeal.τ).loc Cert.ProjAttRefIdeal.main_arg0) = m' ((c.tc : Thread Cert.ProjAttRefIdeal.nD Cert.ProjAttRefIdeal.τ).loc Cert.ProjAttRefIdeal.main_arg0)
          ∧ r.2.mem ((c.tc : Thread Cert.ProjAttRefIdeal.nD Cert.ProjAttRefIdeal.τ).loc Cert.ProjAttRefIdeal.main_arg1) = m' ((c.tc : Thread Cert.ProjAttRefIdeal.nD Cert.ProjAttRefIdeal.τ).loc Cert.ProjAttRefIdeal.main_arg1))

def preserves_BranchA_BranchAIdeal : Prop :=
  True

def algebraic_BranchAIdeal_BranchARefIdeal [hBranchAIdeal : Cert.BranchAIdeal.Facts] [hBranchARefIdeal : Cert.BranchARefIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchARefIdeal.nD Cert.BranchARefIdeal.τ Cert.BranchARefIdeal.sig) → Buf (Elt Ideal) ℓ) (g' : Dev Cert.BranchARefIdeal.nD → PrngReg), Pre_BranchAIdeal m →
    (∀ c : Dev Cert.BranchAIdeal.nD,
      m' ((c.tc : Thread Cert.BranchARefIdeal.nD Cert.BranchARefIdeal.τ).loc Cert.BranchARefIdeal.main_arg0) = m ((c.tc : Thread Cert.BranchAIdeal.nD Cert.BranchAIdeal.τ).loc Cert.BranchAIdeal.main_arg0)
      ∧ m' ((c.tc : Thread Cert.BranchARefIdeal.nD Cert.BranchARefIdeal.τ).loc Cert.BranchARefIdeal.main_arg1) = m ((c.tc : Thread Cert.BranchAIdeal.nD Cert.BranchAIdeal.τ).loc Cert.BranchAIdeal.main_arg1)) →
    ∃ (v0 : (c : Dev Cert.BranchAIdeal.nD) → Buf (Elt Ideal) ((c.tc : Thread Cert.BranchAIdeal.nD Cert.BranchAIdeal.τ).loc Cert.BranchAIdeal.main_v0)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v0) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ θ_run (Cert.BranchARefIdeal.defs (F := Ideal)) (onTc (τ := Cert.BranchARefIdeal.τ) (Cert.BranchARefIdeal.main (F := Ideal))) ⟨m', fun _ => 0, g'⟩ (fun r => ∀ c : Dev Cert.BranchARefIdeal.nD,
          r.2.mem ((c.tc : Thread Cert.BranchARefIdeal.nD Cert.BranchARefIdeal.τ).loc Cert.BranchARefIdeal.main_v2) = v0 c
          ∧ r.2.mem ((c.tc : Thread Cert.BranchARefIdeal.nD Cert.BranchARefIdeal.τ).loc Cert.BranchARefIdeal.main_arg0) = m' ((c.tc : Thread Cert.BranchARefIdeal.nD Cert.BranchARefIdeal.τ).loc Cert.BranchARefIdeal.main_arg0)
          ∧ r.2.mem ((c.tc : Thread Cert.BranchARefIdeal.nD Cert.BranchARefIdeal.τ).loc Cert.BranchARefIdeal.main_arg1) = m' ((c.tc : Thread Cert.BranchARefIdeal.nD Cert.BranchARefIdeal.τ).loc Cert.BranchARefIdeal.main_arg1))

def preserves_BranchB_BranchBIdeal : Prop :=
  True

def algebraic_BranchBIdeal_BranchBRefIdeal [hBranchBIdeal : Cert.BranchBIdeal.Facts] [hBranchBRefIdeal : Cert.BranchBRefIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBRefIdeal.nD Cert.BranchBRefIdeal.τ Cert.BranchBRefIdeal.sig) → Buf (Elt Ideal) ℓ) (g' : Dev Cert.BranchBRefIdeal.nD → PrngReg), Pre_BranchBIdeal m →
    (∀ c : Dev Cert.BranchBIdeal.nD,
      m' ((c.tc : Thread Cert.BranchBRefIdeal.nD Cert.BranchBRefIdeal.τ).loc Cert.BranchBRefIdeal.main_arg0) = m ((c.tc : Thread Cert.BranchBIdeal.nD Cert.BranchBIdeal.τ).loc Cert.BranchBIdeal.main_arg0)
      ∧ m' ((c.tc : Thread Cert.BranchBRefIdeal.nD Cert.BranchBRefIdeal.τ).loc Cert.BranchBRefIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v0)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v0) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.BranchBRefIdeal.defs (F := Ideal)) (onTc (τ := Cert.BranchBRefIdeal.τ) (Cert.BranchBRefIdeal.main (F := Ideal))) ⟨m', fun _ => 0, g'⟩ (fun r => ∀ c : Dev Cert.BranchBRefIdeal.nD,
          r.2.mem ((c.tc : Thread Cert.BranchBRefIdeal.nD Cert.BranchBRefIdeal.τ).loc Cert.BranchBRefIdeal.main_v2) = v0 c
          ∧ r.2.mem ((c.tc : Thread Cert.BranchBRefIdeal.nD Cert.BranchBRefIdeal.τ).loc Cert.BranchBRefIdeal.main_arg0) = m' ((c.tc : Thread Cert.BranchBRefIdeal.nD Cert.BranchBRefIdeal.τ).loc Cert.BranchBRefIdeal.main_arg0)
          ∧ r.2.mem ((c.tc : Thread Cert.BranchBRefIdeal.nD Cert.BranchBRefIdeal.τ).loc Cert.BranchBRefIdeal.main_arg1) = m' ((c.tc : Thread Cert.BranchBRefIdeal.nD Cert.BranchBRefIdeal.τ).loc Cert.BranchBRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)) →
    ∃ (v0 : (c : Dev Cert.PleGateIdeal.nD) → Buf (Elt Ideal) ((c.tc : Thread Cert.PleGateIdeal.nD Cert.PleGateIdeal.τ).loc Cert.PleGateIdeal.main_v0)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v0) = v0 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v2) = v0 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1))

def preserves_PleEmbed_PleEmbedIdeal : Prop :=
  True

def algebraic_PleEmbedIdeal_PleEmbedRefIdeal [hPleEmbedIdeal : Cert.PleEmbedIdeal.Facts] [hPleEmbedRefIdeal : Cert.PleEmbedRefIdeal.Facts] : Prop :=
  ∀ (m : (ℓ : Loc Cert.PleEmbedIdeal.nD Cert.PleEmbedIdeal.τ Cert.PleEmbedIdeal.sig) → Buf (Elt Ideal) ℓ) (g : Dev Cert.PleEmbedIdeal.nD → PrngReg)
    (m' : (ℓ : Loc Cert.PleEmbedRefIdeal.nD Cert.PleEmbedRefIdeal.τ Cert.PleEmbedRefIdeal.sig) → Buf (Elt Ideal) ℓ) (g' : Dev Cert.PleEmbedRefIdeal.nD → PrngReg), Pre_PleEmbedIdeal m →
    (∀ c : Dev Cert.PleEmbedIdeal.nD,
      m' ((c.tc : Thread Cert.PleEmbedRefIdeal.nD Cert.PleEmbedRefIdeal.τ).loc Cert.PleEmbedRefIdeal.main_arg0) = m ((c.tc : Thread Cert.PleEmbedIdeal.nD Cert.PleEmbedIdeal.τ).loc Cert.PleEmbedIdeal.main_arg0)
      ∧ m' ((c.tc : Thread Cert.PleEmbedRefIdeal.nD Cert.PleEmbedRefIdeal.τ).loc Cert.PleEmbedRefIdeal.main_arg1) = m ((c.tc : Thread Cert.PleEmbedIdeal.nD Cert.PleEmbedIdeal.τ).loc Cert.PleEmbedIdeal.main_arg1)) →
    ∃ (v0 : (c : Dev Cert.PleEmbedIdeal.nD) → Buf (Elt Ideal) ((c.tc : Thread Cert.PleEmbedIdeal.nD Cert.PleEmbedIdeal.τ).loc Cert.PleEmbedIdeal.main_v0)),
      θ_run (Cert.PleEmbedIdeal.defs (F := Ideal)) (onTc (τ := Cert.PleEmbedIdeal.τ) (Cert.PleEmbedIdeal.main (F := Ideal))) ⟨m, fun _ => 0, g⟩ (fun r => ∀ c : Dev Cert.PleEmbedIdeal.nD,
          r.2.mem ((c.tc : Thread Cert.PleEmbedIdeal.nD Cert.PleEmbedIdeal.τ).loc Cert.PleEmbedIdeal.main_v0) = v0 c
          ∧ r.2.mem ((c.tc : Thread Cert.PleEmbedIdeal.nD Cert.PleEmbedIdeal.τ).loc Cert.PleEmbedIdeal.main_arg0) = m ((c.tc : Thread Cert.PleEmbedIdeal.nD Cert.PleEmbedIdeal.τ).loc Cert.PleEmbedIdeal.main_arg0)
          ∧ r.2.mem ((c.tc : Thread Cert.PleEmbedIdeal.nD Cert.PleEmbedIdeal.τ).loc Cert.PleEmbedIdeal.main_arg1) = m ((c.tc : Thread Cert.PleEmbedIdeal.nD Cert.PleEmbedIdeal.τ).loc Cert.PleEmbedIdeal.main_arg1))
      ∧ θ_run (Cert.PleEmbedRefIdeal.defs (F := Ideal)) (onTc (τ := Cert.PleEmbedRefIdeal.τ) (Cert.PleEmbedRefIdeal.main (F := Ideal))) ⟨m', fun _ => 0, g'⟩ (fun r => ∀ c : Dev Cert.PleEmbedRefIdeal.nD,
          r.2.mem ((c.tc : Thread Cert.PleEmbedRefIdeal.nD Cert.PleEmbedRefIdeal.τ).loc Cert.PleEmbedRefIdeal.main_v1) = v0 c
          ∧ r.2.mem ((c.tc : Thread Cert.PleEmbedRefIdeal.nD Cert.PleEmbedRefIdeal.τ).loc Cert.PleEmbedRefIdeal.main_arg0) = m' ((c.tc : Thread Cert.PleEmbedRefIdeal.nD Cert.PleEmbedRefIdeal.τ).loc Cert.PleEmbedRefIdeal.main_arg0)
          ∧ r.2.mem ((c.tc : Thread Cert.PleEmbedRefIdeal.nD Cert.PleEmbedRefIdeal.τ).loc Cert.PleEmbedRefIdeal.main_arg1) = m' ((c.tc : Thread Cert.PleEmbedRefIdeal.nD Cert.PleEmbedRefIdeal.τ).loc Cert.PleEmbedRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v37) = v0 c
          ∧ r.2.mem ((c.tc : Thread Cert.RmsBwdRefIdeal.nD Cert.RmsBwdRefIdeal.τ).loc Cert.RmsBwdRefIdeal.main_v39) = v1 c
          ∧ r.2.mem ((c.tc : Thread Cert.RmsBwdRefIdeal.nD Cert.RmsBwdRefIdeal.τ).loc Cert.RmsBwdRefIdeal.main_v38) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_RmsMixBwd_RmsMixBwdIdeal : Prop :=
  True

def algebraic_RmsMixBwdIdeal_RmsMixBwdRefIdeal [hRmsMixBwdIdeal : Cert.RmsMixBwdIdeal.Facts] [hRmsMixBwdRefIdeal : Cert.RmsMixBwdRefIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg)
    (m' : (ℓ : Loc Cert.RmsMixBwdRefIdeal.nD Cert.RmsMixBwdRefIdeal.τ Cert.RmsMixBwdRefIdeal.sig) → Buf (Elt Ideal) ℓ) (g' : Dev Cert.RmsMixBwdRefIdeal.nD → PrngReg), Pre_RmsMixBwdIdeal m →
    (∀ c : Dev Cert.RmsMixBwdIdeal.nD,
      m' ((c.tc : Thread Cert.RmsMixBwdRefIdeal.nD Cert.RmsMixBwdRefIdeal.τ).loc Cert.RmsMixBwdRefIdeal.main_arg0) = m ((c.tc : Thread Cert.RmsMixBwdIdeal.nD Cert.RmsMixBwdIdeal.τ).loc Cert.RmsMixBwdIdeal.main_arg0)
      ∧ m' ((c.tc : Thread Cert.RmsMixBwdRefIdeal.nD Cert.RmsMixBwdRefIdeal.τ).loc Cert.RmsMixBwdRefIdeal.main_arg1) = m ((c.tc : Thread Cert.RmsMixBwdIdeal.nD Cert.RmsMixBwdIdeal.τ).loc Cert.RmsMixBwdIdeal.main_arg1)
      ∧ m' ((c.tc : Thread Cert.RmsMixBwdRefIdeal.nD Cert.RmsMixBwdRefIdeal.τ).loc Cert.RmsMixBwdRefIdeal.main_arg2) = m ((c.tc : Thread Cert.RmsMixBwdIdeal.nD Cert.RmsMixBwdIdeal.τ).loc Cert.RmsMixBwdIdeal.main_arg2)
      ∧ m' ((c.tc : Thread Cert.RmsMixBwdRefIdeal.nD Cert.RmsMixBwdRefIdeal.τ).loc Cert.RmsMixBwdRefIdeal.main_arg3) = m ((c.tc : Thread Cert.RmsMixBwdIdeal.nD Cert.RmsMixBwdIdeal.τ).loc Cert.RmsMixBwdIdeal.main_arg3)) →
    ∃ (v0 : (c : Dev Cert.RmsMixBwdIdeal.nD) → Buf (Elt Ideal) ((c.tc : Thread Cert.RmsMixBwdIdeal.nD Cert.RmsMixBwdIdeal.τ).loc Cert.RmsMixBwdIdeal.main_v0_0)) (v1 : (c : Dev Cert.RmsMixBwdIdeal.nD) → Buf (Elt Ideal) ((c.tc : Thread Cert.RmsMixBwdIdeal.nD Cert.RmsMixBwdIdeal.τ).loc Cert.RmsMixBwdIdeal.main_v0_1)),
      θ_run (Cert.RmsMixBwdIdeal.defs (F := Ideal)) (onTc (τ := Cert.RmsMixBwdIdeal.τ) (Cert.RmsMixBwdIdeal.main (F := Ideal))) ⟨m, fun _ => 0, g⟩ (fun r => ∀ c : Dev Cert.RmsMixBwdIdeal.nD,
          r.2.mem ((c.tc : Thread Cert.RmsMixBwdIdeal.nD Cert.RmsMixBwdIdeal.τ).loc Cert.RmsMixBwdIdeal.main_v0_0) = v0 c
          ∧ r.2.mem ((c.tc : Thread Cert.RmsMixBwdIdeal.nD Cert.RmsMixBwdIdeal.τ).loc Cert.RmsMixBwdIdeal.main_v0_1) = v1 c
          ∧ r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
          ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
          ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
          ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3))
      ∧ θ_run (Cert.RmsMixBwdRefIdeal.defs (F := Ideal)) (onTc (τ := Cert.RmsMixBwdRefIdeal.τ) (Cert.RmsMixBwdRefIdeal.main (F := Ideal))) ⟨m', fun _ => 0, g'⟩ (fun r => ∀ c : Dev Cert.RmsMixBwdRefIdeal.nD,
          r.2.mem ((c.tc : Thread Cert.RmsMixBwdRefIdeal.nD Cert.RmsMixBwdRefIdeal.τ).loc Cert.RmsMixBwdRefIdeal.main_v37) = v0 c
          ∧ r.2.mem ((c.tc : Thread Cert.RmsMixBwdRefIdeal.nD Cert.RmsMixBwdRefIdeal.τ).loc Cert.RmsMixBwdRefIdeal.main_v38) = v1 c
          ∧ r.2.mem ((c.tc : Thread Cert.RmsMixBwdRefIdeal.nD Cert.RmsMixBwdRefIdeal.τ).loc Cert.RmsMixBwdRefIdeal.main_arg0) = m' ((c.tc : Thread Cert.RmsMixBwdRefIdeal.nD Cert.RmsMixBwdRefIdeal.τ).loc Cert.RmsMixBwdRefIdeal.main_arg0)
          ∧ r.2.mem ((c.tc : Thread Cert.RmsMixBwdRefIdeal.nD Cert.RmsMixBwdRefIdeal.τ).loc Cert.RmsMixBwdRefIdeal.main_arg1) = m' ((c.tc : Thread Cert.RmsMixBwdRefIdeal.nD Cert.RmsMixBwdRefIdeal.τ).loc Cert.RmsMixBwdRefIdeal.main_arg1)
          ∧ r.2.mem ((c.tc : Thread Cert.RmsMixBwdRefIdeal.nD Cert.RmsMixBwdRefIdeal.τ).loc Cert.RmsMixBwdRefIdeal.main_arg2) = m' ((c.tc : Thread Cert.RmsMixBwdRefIdeal.nD Cert.RmsMixBwdRefIdeal.τ).loc Cert.RmsMixBwdRefIdeal.main_arg2)
          ∧ r.2.mem ((c.tc : Thread Cert.RmsMixBwdRefIdeal.nD Cert.RmsMixBwdRefIdeal.τ).loc Cert.RmsMixBwdRefIdeal.main_arg3) = m' ((c.tc : Thread Cert.RmsMixBwdRefIdeal.nD Cert.RmsMixBwdRefIdeal.τ).loc Cert.RmsMixBwdRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v28) = v0 c
          ∧ r.2.mem ((c.tc : Thread Cert.MergeBwdRefIdeal.nD Cert.MergeBwdRefIdeal.τ).loc Cert.MergeBwdRefIdeal.main_v29) = v1 c
          ∧ r.2.mem ((c.tc : Thread Cert.MergeBwdRefIdeal.nD Cert.MergeBwdRefIdeal.τ).loc Cert.MergeBwdRefIdeal.main_v30) = v2 c
          ∧ r.2.mem ((c.tc : Thread Cert.MergeBwdRefIdeal.nD Cert.MergeBwdRefIdeal.τ).loc Cert.MergeBwdRefIdeal.main_v31) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v0)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v14) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v15) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v62) = v0 c
          ∧ r.2.mem ((c.tc : Thread Cert.TailRefIdeal.nD Cert.TailRefIdeal.τ).loc Cert.TailRefIdeal.main_v66) = v1 c
          ∧ r.2.mem ((c.tc : Thread Cert.TailRefIdeal.nD Cert.TailRefIdeal.τ).loc Cert.TailRefIdeal.main_v67) = v2 c
          ∧ r.2.mem ((c.tc : Thread Cert.TailRefIdeal.nD Cert.TailRefIdeal.τ).loc Cert.TailRefIdeal.main_v68) = v3 c
          ∧ r.2.mem ((c.tc : Thread Cert.TailRefIdeal.nD Cert.TailRefIdeal.τ).loc Cert.TailRefIdeal.main_v69) = v4 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v1) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v6) = v2 c
          ∧ r.2.mem ((c.tc : Thread Cert.AdamUpRefIdeal.nD Cert.AdamUpRefIdeal.τ).loc Cert.AdamUpRefIdeal.main_v12) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v1) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v6) = v2 c
          ∧ r.2.mem ((c.tc : Thread Cert.AdamGateRefIdeal.nD Cert.AdamGateRefIdeal.τ).loc Cert.AdamGateRefIdeal.main_v12) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v1) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v6) = v2 c
          ∧ r.2.mem ((c.tc : Thread Cert.AdamDownRefIdeal.nD Cert.AdamDownRefIdeal.τ).loc Cert.AdamDownRefIdeal.main_v12) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamBranchA_AdamBranchAIdeal : Prop :=
  True

def algebraic_AdamBranchAIdeal_AdamBranchARefIdeal [hAdamBranchAIdeal : Cert.AdamBranchAIdeal.Facts] [hAdamBranchARefIdeal : Cert.AdamBranchARefIdeal.Facts] : Prop :=
  ∀ (m : (ℓ : Loc Cert.AdamBranchAIdeal.nD Cert.AdamBranchAIdeal.τ Cert.AdamBranchAIdeal.sig) → Buf (Elt Ideal) ℓ) (g : Dev Cert.AdamBranchAIdeal.nD → PrngReg)
    (m' : (ℓ : Loc Cert.AdamBranchARefIdeal.nD Cert.AdamBranchARefIdeal.τ Cert.AdamBranchARefIdeal.sig) → Buf (Elt Ideal) ℓ) (g' : Dev Cert.AdamBranchARefIdeal.nD → PrngReg), Pre_AdamBranchAIdeal m →
    (∀ c : Dev Cert.AdamBranchAIdeal.nD,
      m' ((c.tc : Thread Cert.AdamBranchARefIdeal.nD Cert.AdamBranchARefIdeal.τ).loc Cert.AdamBranchARefIdeal.main_arg0) = m ((c.tc : Thread Cert.AdamBranchAIdeal.nD Cert.AdamBranchAIdeal.τ).loc Cert.AdamBranchAIdeal.main_arg0)
      ∧ m' ((c.tc : Thread Cert.AdamBranchARefIdeal.nD Cert.AdamBranchARefIdeal.τ).loc Cert.AdamBranchARefIdeal.main_arg1) = m ((c.tc : Thread Cert.AdamBranchAIdeal.nD Cert.AdamBranchAIdeal.τ).loc Cert.AdamBranchAIdeal.main_arg1)
      ∧ m' ((c.tc : Thread Cert.AdamBranchARefIdeal.nD Cert.AdamBranchARefIdeal.τ).loc Cert.AdamBranchARefIdeal.main_arg2) = m ((c.tc : Thread Cert.AdamBranchAIdeal.nD Cert.AdamBranchAIdeal.τ).loc Cert.AdamBranchAIdeal.main_arg2)
      ∧ m' ((c.tc : Thread Cert.AdamBranchARefIdeal.nD Cert.AdamBranchARefIdeal.τ).loc Cert.AdamBranchARefIdeal.main_arg3) = m ((c.tc : Thread Cert.AdamBranchAIdeal.nD Cert.AdamBranchAIdeal.τ).loc Cert.AdamBranchAIdeal.main_arg3)) →
    ∃ (v0 : (c : Dev Cert.AdamBranchAIdeal.nD) → Buf (Elt Ideal) ((c.tc : Thread Cert.AdamBranchAIdeal.nD Cert.AdamBranchAIdeal.τ).loc Cert.AdamBranchAIdeal.main_v0_0)) (v1 : (c : Dev Cert.AdamBranchAIdeal.nD) → Buf (Elt Ideal) ((c.tc : Thread Cert.AdamBranchAIdeal.nD Cert.AdamBranchAIdeal.τ).loc Cert.AdamBranchAIdeal.main_v0_1)) (v2 : (c : Dev Cert.AdamBranchAIdeal.nD) → Buf (Elt Ideal) ((c.tc : Thread Cert.AdamBranchAIdeal.nD Cert.AdamBranchAIdeal.τ).loc Cert.AdamBranchAIdeal.main_v0_2)) (v3 : (c : Dev Cert.AdamBranchAIdeal.nD) → Buf (Elt Ideal) ((c.tc : Thread Cert.AdamBranchAIdeal.nD Cert.AdamBranchAIdeal.τ).loc Cert.AdamBranchAIdeal.main_v0_3)),
      θ_run (Cert.AdamBranchAIdeal.defs (F := Ideal)) (onTc (τ := Cert.AdamBranchAIdeal.τ) (Cert.AdamBranchAIdeal.main (F := Ideal))) ⟨m, fun _ => 0, g⟩ (fun r => ∀ c : Dev Cert.AdamBranchAIdeal.nD,
          r.2.mem ((c.tc : Thread Cert.AdamBranchAIdeal.nD Cert.AdamBranchAIdeal.τ).loc Cert.AdamBranchAIdeal.main_v0_0) = v0 c
          ∧ r.2.mem ((c.tc : Thread Cert.AdamBranchAIdeal.nD Cert.AdamBranchAIdeal.τ).loc Cert.AdamBranchAIdeal.main_v0_1) = v1 c
          ∧ r.2.mem ((c.tc : Thread Cert.AdamBranchAIdeal.nD Cert.AdamBranchAIdeal.τ).loc Cert.AdamBranchAIdeal.main_v0_2) = v2 c
          ∧ r.2.mem ((c.tc : Thread Cert.AdamBranchAIdeal.nD Cert.AdamBranchAIdeal.τ).loc Cert.AdamBranchAIdeal.main_v0_3) = v3 c
          ∧ r.2.mem ((c.tc : Thread Cert.AdamBranchAIdeal.nD Cert.AdamBranchAIdeal.τ).loc Cert.AdamBranchAIdeal.main_arg0) = m ((c.tc : Thread Cert.AdamBranchAIdeal.nD Cert.AdamBranchAIdeal.τ).loc Cert.AdamBranchAIdeal.main_arg0)
          ∧ r.2.mem ((c.tc : Thread Cert.AdamBranchAIdeal.nD Cert.AdamBranchAIdeal.τ).loc Cert.AdamBranchAIdeal.main_arg1) = m ((c.tc : Thread Cert.AdamBranchAIdeal.nD Cert.AdamBranchAIdeal.τ).loc Cert.AdamBranchAIdeal.main_arg1)
          ∧ r.2.mem ((c.tc : Thread Cert.AdamBranchAIdeal.nD Cert.AdamBranchAIdeal.τ).loc Cert.AdamBranchAIdeal.main_arg2) = m ((c.tc : Thread Cert.AdamBranchAIdeal.nD Cert.AdamBranchAIdeal.τ).loc Cert.AdamBranchAIdeal.main_arg2)
          ∧ r.2.mem ((c.tc : Thread Cert.AdamBranchAIdeal.nD Cert.AdamBranchAIdeal.τ).loc Cert.AdamBranchAIdeal.main_arg3) = m ((c.tc : Thread Cert.AdamBranchAIdeal.nD Cert.AdamBranchAIdeal.τ).loc Cert.AdamBranchAIdeal.main_arg3))
      ∧ θ_run (Cert.AdamBranchARefIdeal.defs (F := Ideal)) (onTc (τ := Cert.AdamBranchARefIdeal.τ) (Cert.AdamBranchARefIdeal.main (F := Ideal))) ⟨m', fun _ => 0, g'⟩ (fun r => ∀ c : Dev Cert.AdamBranchARefIdeal.nD,
          r.2.mem ((c.tc : Thread Cert.AdamBranchARefIdeal.nD Cert.AdamBranchARefIdeal.τ).loc Cert.AdamBranchARefIdeal.main_v1) = v0 c
          ∧ r.2.mem ((c.tc : Thread Cert.AdamBranchARefIdeal.nD Cert.AdamBranchARefIdeal.τ).loc Cert.AdamBranchARefIdeal.main_v25) = v1 c
          ∧ r.2.mem ((c.tc : Thread Cert.AdamBranchARefIdeal.nD Cert.AdamBranchARefIdeal.τ).loc Cert.AdamBranchARefIdeal.main_v6) = v2 c
          ∧ r.2.mem ((c.tc : Thread Cert.AdamBranchARefIdeal.nD Cert.AdamBranchARefIdeal.τ).loc Cert.AdamBranchARefIdeal.main_v12) = v3 c
          ∧ r.2.mem ((c.tc : Thread Cert.AdamBranchARefIdeal.nD Cert.AdamBranchARefIdeal.τ).loc Cert.AdamBranchARefIdeal.main_arg0) = m' ((c.tc : Thread Cert.AdamBranchARefIdeal.nD Cert.AdamBranchARefIdeal.τ).loc Cert.AdamBranchARefIdeal.main_arg0)
          ∧ r.2.mem ((c.tc : Thread Cert.AdamBranchARefIdeal.nD Cert.AdamBranchARefIdeal.τ).loc Cert.AdamBranchARefIdeal.main_arg1) = m' ((c.tc : Thread Cert.AdamBranchARefIdeal.nD Cert.AdamBranchARefIdeal.τ).loc Cert.AdamBranchARefIdeal.main_arg1)
          ∧ r.2.mem ((c.tc : Thread Cert.AdamBranchARefIdeal.nD Cert.AdamBranchARefIdeal.τ).loc Cert.AdamBranchARefIdeal.main_arg2) = m' ((c.tc : Thread Cert.AdamBranchARefIdeal.nD Cert.AdamBranchARefIdeal.τ).loc Cert.AdamBranchARefIdeal.main_arg2)
          ∧ r.2.mem ((c.tc : Thread Cert.AdamBranchARefIdeal.nD Cert.AdamBranchARefIdeal.τ).loc Cert.AdamBranchARefIdeal.main_arg3) = m' ((c.tc : Thread Cert.AdamBranchARefIdeal.nD Cert.AdamBranchARefIdeal.τ).loc Cert.AdamBranchARefIdeal.main_arg3))

def preserves_AdamBranchB_AdamBranchBIdeal : Prop :=
  True

def algebraic_AdamBranchBIdeal_AdamBranchBRefIdeal [hAdamBranchBIdeal : Cert.AdamBranchBIdeal.Facts] [hAdamBranchBRefIdeal : Cert.AdamBranchBRefIdeal.Facts] : Prop :=
  ∀ (m : (ℓ : Loc Cert.AdamBranchBIdeal.nD Cert.AdamBranchBIdeal.τ Cert.AdamBranchBIdeal.sig) → Buf (Elt Ideal) ℓ) (g : Dev Cert.AdamBranchBIdeal.nD → PrngReg)
    (m' : (ℓ : Loc Cert.AdamBranchBRefIdeal.nD Cert.AdamBranchBRefIdeal.τ Cert.AdamBranchBRefIdeal.sig) → Buf (Elt Ideal) ℓ) (g' : Dev Cert.AdamBranchBRefIdeal.nD → PrngReg), Pre_AdamBranchBIdeal m →
    (∀ c : Dev Cert.AdamBranchBIdeal.nD,
      m' ((c.tc : Thread Cert.AdamBranchBRefIdeal.nD Cert.AdamBranchBRefIdeal.τ).loc Cert.AdamBranchBRefIdeal.main_arg0) = m ((c.tc : Thread Cert.AdamBranchBIdeal.nD Cert.AdamBranchBIdeal.τ).loc Cert.AdamBranchBIdeal.main_arg0)
      ∧ m' ((c.tc : Thread Cert.AdamBranchBRefIdeal.nD Cert.AdamBranchBRefIdeal.τ).loc Cert.AdamBranchBRefIdeal.main_arg1) = m ((c.tc : Thread Cert.AdamBranchBIdeal.nD Cert.AdamBranchBIdeal.τ).loc Cert.AdamBranchBIdeal.main_arg1)
      ∧ m' ((c.tc : Thread Cert.AdamBranchBRefIdeal.nD Cert.AdamBranchBRefIdeal.τ).loc Cert.AdamBranchBRefIdeal.main_arg2) = m ((c.tc : Thread Cert.AdamBranchBIdeal.nD Cert.AdamBranchBIdeal.τ).loc Cert.AdamBranchBIdeal.main_arg2)
      ∧ m' ((c.tc : Thread Cert.AdamBranchBRefIdeal.nD Cert.AdamBranchBRefIdeal.τ).loc Cert.AdamBranchBRefIdeal.main_arg3) = m ((c.tc : Thread Cert.AdamBranchBIdeal.nD Cert.AdamBranchBIdeal.τ).loc Cert.AdamBranchBIdeal.main_arg3)) →
    ∃ (v0 : (c : Dev Cert.AdamBranchBIdeal.nD) → Buf (Elt Ideal) ((c.tc : Thread Cert.AdamBranchBIdeal.nD Cert.AdamBranchBIdeal.τ).loc Cert.AdamBranchBIdeal.main_v0_0)) (v1 : (c : Dev Cert.AdamBranchBIdeal.nD) → Buf (Elt Ideal) ((c.tc : Thread Cert.AdamBranchBIdeal.nD Cert.AdamBranchBIdeal.τ).loc Cert.AdamBranchBIdeal.main_v0_1)) (v2 : (c : Dev Cert.AdamBranchBIdeal.nD) → Buf (Elt Ideal) ((c.tc : Thread Cert.AdamBranchBIdeal.nD Cert.AdamBranchBIdeal.τ).loc Cert.AdamBranchBIdeal.main_v0_2)) (v3 : (c : Dev Cert.AdamBranchBIdeal.nD) → Buf (Elt Ideal) ((c.tc : Thread Cert.AdamBranchBIdeal.nD Cert.AdamBranchBIdeal.τ).loc Cert.AdamBranchBIdeal.main_v0_3)),
      θ_run (Cert.AdamBranchBIdeal.defs (F := Ideal)) (onTc (τ := Cert.AdamBranchBIdeal.τ) (Cert.AdamBranchBIdeal.main (F := Ideal))) ⟨m, fun _ => 0, g⟩ (fun r => ∀ c : Dev Cert.AdamBranchBIdeal.nD,
          r.2.mem ((c.tc : Thread Cert.AdamBranchBIdeal.nD Cert.AdamBranchBIdeal.τ).loc Cert.AdamBranchBIdeal.main_v0_0) = v0 c
          ∧ r.2.mem ((c.tc : Thread Cert.AdamBranchBIdeal.nD Cert.AdamBranchBIdeal.τ).loc Cert.AdamBranchBIdeal.main_v0_1) = v1 c
          ∧ r.2.mem ((c.tc : Thread Cert.AdamBranchBIdeal.nD Cert.AdamBranchBIdeal.τ).loc Cert.AdamBranchBIdeal.main_v0_2) = v2 c
          ∧ r.2.mem ((c.tc : Thread Cert.AdamBranchBIdeal.nD Cert.AdamBranchBIdeal.τ).loc Cert.AdamBranchBIdeal.main_v0_3) = v3 c
          ∧ r.2.mem ((c.tc : Thread Cert.AdamBranchBIdeal.nD Cert.AdamBranchBIdeal.τ).loc Cert.AdamBranchBIdeal.main_arg0) = m ((c.tc : Thread Cert.AdamBranchBIdeal.nD Cert.AdamBranchBIdeal.τ).loc Cert.AdamBranchBIdeal.main_arg0)
          ∧ r.2.mem ((c.tc : Thread Cert.AdamBranchBIdeal.nD Cert.AdamBranchBIdeal.τ).loc Cert.AdamBranchBIdeal.main_arg1) = m ((c.tc : Thread Cert.AdamBranchBIdeal.nD Cert.AdamBranchBIdeal.τ).loc Cert.AdamBranchBIdeal.main_arg1)
          ∧ r.2.mem ((c.tc : Thread Cert.AdamBranchBIdeal.nD Cert.AdamBranchBIdeal.τ).loc Cert.AdamBranchBIdeal.main_arg2) = m ((c.tc : Thread Cert.AdamBranchBIdeal.nD Cert.AdamBranchBIdeal.τ).loc Cert.AdamBranchBIdeal.main_arg2)
          ∧ r.2.mem ((c.tc : Thread Cert.AdamBranchBIdeal.nD Cert.AdamBranchBIdeal.τ).loc Cert.AdamBranchBIdeal.main_arg3) = m ((c.tc : Thread Cert.AdamBranchBIdeal.nD Cert.AdamBranchBIdeal.τ).loc Cert.AdamBranchBIdeal.main_arg3))
      ∧ θ_run (Cert.AdamBranchBRefIdeal.defs (F := Ideal)) (onTc (τ := Cert.AdamBranchBRefIdeal.τ) (Cert.AdamBranchBRefIdeal.main (F := Ideal))) ⟨m', fun _ => 0, g'⟩ (fun r => ∀ c : Dev Cert.AdamBranchBRefIdeal.nD,
          r.2.mem ((c.tc : Thread Cert.AdamBranchBRefIdeal.nD Cert.AdamBranchBRefIdeal.τ).loc Cert.AdamBranchBRefIdeal.main_v1) = v0 c
          ∧ r.2.mem ((c.tc : Thread Cert.AdamBranchBRefIdeal.nD Cert.AdamBranchBRefIdeal.τ).loc Cert.AdamBranchBRefIdeal.main_v25) = v1 c
          ∧ r.2.mem ((c.tc : Thread Cert.AdamBranchBRefIdeal.nD Cert.AdamBranchBRefIdeal.τ).loc Cert.AdamBranchBRefIdeal.main_v6) = v2 c
          ∧ r.2.mem ((c.tc : Thread Cert.AdamBranchBRefIdeal.nD Cert.AdamBranchBRefIdeal.τ).loc Cert.AdamBranchBRefIdeal.main_v12) = v3 c
          ∧ r.2.mem ((c.tc : Thread Cert.AdamBranchBRefIdeal.nD Cert.AdamBranchBRefIdeal.τ).loc Cert.AdamBranchBRefIdeal.main_arg0) = m' ((c.tc : Thread Cert.AdamBranchBRefIdeal.nD Cert.AdamBranchBRefIdeal.τ).loc Cert.AdamBranchBRefIdeal.main_arg0)
          ∧ r.2.mem ((c.tc : Thread Cert.AdamBranchBRefIdeal.nD Cert.AdamBranchBRefIdeal.τ).loc Cert.AdamBranchBRefIdeal.main_arg1) = m' ((c.tc : Thread Cert.AdamBranchBRefIdeal.nD Cert.AdamBranchBRefIdeal.τ).loc Cert.AdamBranchBRefIdeal.main_arg1)
          ∧ r.2.mem ((c.tc : Thread Cert.AdamBranchBRefIdeal.nD Cert.AdamBranchBRefIdeal.τ).loc Cert.AdamBranchBRefIdeal.main_arg2) = m' ((c.tc : Thread Cert.AdamBranchBRefIdeal.nD Cert.AdamBranchBRefIdeal.τ).loc Cert.AdamBranchBRefIdeal.main_arg2)
          ∧ r.2.mem ((c.tc : Thread Cert.AdamBranchBRefIdeal.nD Cert.AdamBranchBRefIdeal.τ).loc Cert.AdamBranchBRefIdeal.main_arg3) = m' ((c.tc : Thread Cert.AdamBranchBRefIdeal.nD Cert.AdamBranchBRefIdeal.τ).loc Cert.AdamBranchBRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_DProj_DProjIdeal : Prop :=
  True

def algebraic_DProjIdeal_DProjRefIdeal [hDProjIdeal : Cert.DProjIdeal.Facts] [hDProjRefIdeal : Cert.DProjRefIdeal.Facts] : Prop :=
  ∀ (m : (ℓ : Loc Cert.DProjIdeal.nD Cert.DProjIdeal.τ Cert.DProjIdeal.sig) → Buf (Elt Ideal) ℓ) (g : Dev Cert.DProjIdeal.nD → PrngReg)
    (m' : (ℓ : Loc Cert.DProjRefIdeal.nD Cert.DProjRefIdeal.τ Cert.DProjRefIdeal.sig) → Buf (Elt Ideal) ℓ) (g' : Dev Cert.DProjRefIdeal.nD → PrngReg), Pre_DProjIdeal m →
    (∀ c : Dev Cert.DProjIdeal.nD,
      m' ((c.tc : Thread Cert.DProjRefIdeal.nD Cert.DProjRefIdeal.τ).loc Cert.DProjRefIdeal.main_arg0) = m ((c.tc : Thread Cert.DProjIdeal.nD Cert.DProjIdeal.τ).loc Cert.DProjIdeal.main_arg0)
      ∧ m' ((c.tc : Thread Cert.DProjRefIdeal.nD Cert.DProjRefIdeal.τ).loc Cert.DProjRefIdeal.main_arg1) = m ((c.tc : Thread Cert.DProjIdeal.nD Cert.DProjIdeal.τ).loc Cert.DProjIdeal.main_arg1)
      ∧ m' ((c.tc : Thread Cert.DProjRefIdeal.nD Cert.DProjRefIdeal.τ).loc Cert.DProjRefIdeal.main_arg2) = m ((c.tc : Thread Cert.DProjIdeal.nD Cert.DProjIdeal.τ).loc Cert.DProjIdeal.main_arg2)
      ∧ m' ((c.tc : Thread Cert.DProjRefIdeal.nD Cert.DProjRefIdeal.τ).loc Cert.DProjRefIdeal.main_arg3) = m ((c.tc : Thread Cert.DProjIdeal.nD Cert.DProjIdeal.τ).loc Cert.DProjIdeal.main_arg3)
      ∧ m' ((c.tc : Thread Cert.DProjRefIdeal.nD Cert.DProjRefIdeal.τ).loc Cert.DProjRefIdeal.main_arg4) = m ((c.tc : Thread Cert.DProjIdeal.nD Cert.DProjIdeal.τ).loc Cert.DProjIdeal.main_arg4)
      ∧ m' ((c.tc : Thread Cert.DProjRefIdeal.nD Cert.DProjRefIdeal.τ).loc Cert.DProjRefIdeal.main_arg5) = m ((c.tc : Thread Cert.DProjIdeal.nD Cert.DProjIdeal.τ).loc Cert.DProjIdeal.main_arg5)
      ∧ m' ((c.tc : Thread Cert.DProjRefIdeal.nD Cert.DProjRefIdeal.τ).loc Cert.DProjRefIdeal.main_arg6) = m ((c.tc : Thread Cert.DProjIdeal.nD Cert.DProjIdeal.τ).loc Cert.DProjIdeal.main_arg6)
      ∧ m' ((c.tc : Thread Cert.DProjRefIdeal.nD Cert.DProjRefIdeal.τ).loc Cert.DProjRefIdeal.main_arg7) = m ((c.tc : Thread Cert.DProjIdeal.nD Cert.DProjIdeal.τ).loc Cert.DProjIdeal.main_arg7)
      ∧ m' ((c.tc : Thread Cert.DProjRefIdeal.nD Cert.DProjRefIdeal.τ).loc Cert.DProjRefIdeal.main_arg8) = m ((c.tc : Thread Cert.DProjIdeal.nD Cert.DProjIdeal.τ).loc Cert.DProjIdeal.main_arg8)
      ∧ m' ((c.tc : Thread Cert.DProjRefIdeal.nD Cert.DProjRefIdeal.τ).loc Cert.DProjRefIdeal.main_arg9) = m ((c.tc : Thread Cert.DProjIdeal.nD Cert.DProjIdeal.τ).loc Cert.DProjIdeal.main_arg9)
      ∧ m' ((c.tc : Thread Cert.DProjRefIdeal.nD Cert.DProjRefIdeal.τ).loc Cert.DProjRefIdeal.main_arg10) = m ((c.tc : Thread Cert.DProjIdeal.nD Cert.DProjIdeal.τ).loc Cert.DProjIdeal.main_arg10)) →
    ∃ (v0 : (c : Dev Cert.DProjIdeal.nD) → Buf (Elt Ideal) ((c.tc : Thread Cert.DProjIdeal.nD Cert.DProjIdeal.τ).loc Cert.DProjIdeal.main_v0)),
      θ_run (Cert.DProjIdeal.defs (F := Ideal)) (onTc (τ := Cert.DProjIdeal.τ) (Cert.DProjIdeal.main (F := Ideal))) ⟨m, fun _ => 0, g⟩ (fun r => ∀ c : Dev Cert.DProjIdeal.nD,
          r.2.mem ((c.tc : Thread Cert.DProjIdeal.nD Cert.DProjIdeal.τ).loc Cert.DProjIdeal.main_v0) = v0 c
          ∧ r.2.mem ((c.tc : Thread Cert.DProjIdeal.nD Cert.DProjIdeal.τ).loc Cert.DProjIdeal.main_arg0) = m ((c.tc : Thread Cert.DProjIdeal.nD Cert.DProjIdeal.τ).loc Cert.DProjIdeal.main_arg0)
          ∧ r.2.mem ((c.tc : Thread Cert.DProjIdeal.nD Cert.DProjIdeal.τ).loc Cert.DProjIdeal.main_arg1) = m ((c.tc : Thread Cert.DProjIdeal.nD Cert.DProjIdeal.τ).loc Cert.DProjIdeal.main_arg1)
          ∧ r.2.mem ((c.tc : Thread Cert.DProjIdeal.nD Cert.DProjIdeal.τ).loc Cert.DProjIdeal.main_arg2) = m ((c.tc : Thread Cert.DProjIdeal.nD Cert.DProjIdeal.τ).loc Cert.DProjIdeal.main_arg2)
          ∧ r.2.mem ((c.tc : Thread Cert.DProjIdeal.nD Cert.DProjIdeal.τ).loc Cert.DProjIdeal.main_arg3) = m ((c.tc : Thread Cert.DProjIdeal.nD Cert.DProjIdeal.τ).loc Cert.DProjIdeal.main_arg3)
          ∧ r.2.mem ((c.tc : Thread Cert.DProjIdeal.nD Cert.DProjIdeal.τ).loc Cert.DProjIdeal.main_arg4) = m ((c.tc : Thread Cert.DProjIdeal.nD Cert.DProjIdeal.τ).loc Cert.DProjIdeal.main_arg4)
          ∧ r.2.mem ((c.tc : Thread Cert.DProjIdeal.nD Cert.DProjIdeal.τ).loc Cert.DProjIdeal.main_arg5) = m ((c.tc : Thread Cert.DProjIdeal.nD Cert.DProjIdeal.τ).loc Cert.DProjIdeal.main_arg5)
          ∧ r.2.mem ((c.tc : Thread Cert.DProjIdeal.nD Cert.DProjIdeal.τ).loc Cert.DProjIdeal.main_arg6) = m ((c.tc : Thread Cert.DProjIdeal.nD Cert.DProjIdeal.τ).loc Cert.DProjIdeal.main_arg6)
          ∧ r.2.mem ((c.tc : Thread Cert.DProjIdeal.nD Cert.DProjIdeal.τ).loc Cert.DProjIdeal.main_arg7) = m ((c.tc : Thread Cert.DProjIdeal.nD Cert.DProjIdeal.τ).loc Cert.DProjIdeal.main_arg7)
          ∧ r.2.mem ((c.tc : Thread Cert.DProjIdeal.nD Cert.DProjIdeal.τ).loc Cert.DProjIdeal.main_arg8) = m ((c.tc : Thread Cert.DProjIdeal.nD Cert.DProjIdeal.τ).loc Cert.DProjIdeal.main_arg8)
          ∧ r.2.mem ((c.tc : Thread Cert.DProjIdeal.nD Cert.DProjIdeal.τ).loc Cert.DProjIdeal.main_arg9) = m ((c.tc : Thread Cert.DProjIdeal.nD Cert.DProjIdeal.τ).loc Cert.DProjIdeal.main_arg9)
          ∧ r.2.mem ((c.tc : Thread Cert.DProjIdeal.nD Cert.DProjIdeal.τ).loc Cert.DProjIdeal.main_arg10) = m ((c.tc : Thread Cert.DProjIdeal.nD Cert.DProjIdeal.τ).loc Cert.DProjIdeal.main_arg10))
      ∧ θ_run (Cert.DProjRefIdeal.defs (F := Ideal)) (onTc (τ := Cert.DProjRefIdeal.τ) (Cert.DProjRefIdeal.main (F := Ideal))) ⟨m', fun _ => 0, g'⟩ (fun r => ∀ c : Dev Cert.DProjRefIdeal.nD,
          r.2.mem ((c.tc : Thread Cert.DProjRefIdeal.nD Cert.DProjRefIdeal.τ).loc Cert.DProjRefIdeal.main_v39) = v0 c
          ∧ r.2.mem ((c.tc : Thread Cert.DProjRefIdeal.nD Cert.DProjRefIdeal.τ).loc Cert.DProjRefIdeal.main_arg0) = m' ((c.tc : Thread Cert.DProjRefIdeal.nD Cert.DProjRefIdeal.τ).loc Cert.DProjRefIdeal.main_arg0)
          ∧ r.2.mem ((c.tc : Thread Cert.DProjRefIdeal.nD Cert.DProjRefIdeal.τ).loc Cert.DProjRefIdeal.main_arg1) = m' ((c.tc : Thread Cert.DProjRefIdeal.nD Cert.DProjRefIdeal.τ).loc Cert.DProjRefIdeal.main_arg1)
          ∧ r.2.mem ((c.tc : Thread Cert.DProjRefIdeal.nD Cert.DProjRefIdeal.τ).loc Cert.DProjRefIdeal.main_arg2) = m' ((c.tc : Thread Cert.DProjRefIdeal.nD Cert.DProjRefIdeal.τ).loc Cert.DProjRefIdeal.main_arg2)
          ∧ r.2.mem ((c.tc : Thread Cert.DProjRefIdeal.nD Cert.DProjRefIdeal.τ).loc Cert.DProjRefIdeal.main_arg3) = m' ((c.tc : Thread Cert.DProjRefIdeal.nD Cert.DProjRefIdeal.τ).loc Cert.DProjRefIdeal.main_arg3)
          ∧ r.2.mem ((c.tc : Thread Cert.DProjRefIdeal.nD Cert.DProjRefIdeal.τ).loc Cert.DProjRefIdeal.main_arg4) = m' ((c.tc : Thread Cert.DProjRefIdeal.nD Cert.DProjRefIdeal.τ).loc Cert.DProjRefIdeal.main_arg4)
          ∧ r.2.mem ((c.tc : Thread Cert.DProjRefIdeal.nD Cert.DProjRefIdeal.τ).loc Cert.DProjRefIdeal.main_arg5) = m' ((c.tc : Thread Cert.DProjRefIdeal.nD Cert.DProjRefIdeal.τ).loc Cert.DProjRefIdeal.main_arg5)
          ∧ r.2.mem ((c.tc : Thread Cert.DProjRefIdeal.nD Cert.DProjRefIdeal.τ).loc Cert.DProjRefIdeal.main_arg6) = m' ((c.tc : Thread Cert.DProjRefIdeal.nD Cert.DProjRefIdeal.τ).loc Cert.DProjRefIdeal.main_arg6)
          ∧ r.2.mem ((c.tc : Thread Cert.DProjRefIdeal.nD Cert.DProjRefIdeal.τ).loc Cert.DProjRefIdeal.main_arg7) = m' ((c.tc : Thread Cert.DProjRefIdeal.nD Cert.DProjRefIdeal.τ).loc Cert.DProjRefIdeal.main_arg7)
          ∧ r.2.mem ((c.tc : Thread Cert.DProjRefIdeal.nD Cert.DProjRefIdeal.τ).loc Cert.DProjRefIdeal.main_arg8) = m' ((c.tc : Thread Cert.DProjRefIdeal.nD Cert.DProjRefIdeal.τ).loc Cert.DProjRefIdeal.main_arg8)
          ∧ r.2.mem ((c.tc : Thread Cert.DProjRefIdeal.nD Cert.DProjRefIdeal.τ).loc Cert.DProjRefIdeal.main_arg9) = m' ((c.tc : Thread Cert.DProjRefIdeal.nD Cert.DProjRefIdeal.τ).loc Cert.DProjRefIdeal.main_arg9)
          ∧ r.2.mem ((c.tc : Thread Cert.DProjRefIdeal.nD Cert.DProjRefIdeal.τ).loc Cert.DProjRefIdeal.main_arg10) = m' ((c.tc : Thread Cert.DProjRefIdeal.nD Cert.DProjRefIdeal.τ).loc Cert.DProjRefIdeal.main_arg10))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v47) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_ShuffleGrad_ShuffleGradIdeal : Prop :=
  True

def algebraic_ShuffleGradIdeal_ShuffleGradRefIdeal [hShuffleGradIdeal : Cert.ShuffleGradIdeal.Facts] [hShuffleGradRefIdeal : Cert.ShuffleGradRefIdeal.Facts] : Prop :=
  ∀ (m : (ℓ : Loc Cert.ShuffleGradIdeal.nD Cert.ShuffleGradIdeal.τ Cert.ShuffleGradIdeal.sig) → Buf (Elt Ideal) ℓ) (g : Dev Cert.ShuffleGradIdeal.nD → PrngReg)
    (m' : (ℓ : Loc Cert.ShuffleGradRefIdeal.nD Cert.ShuffleGradRefIdeal.τ Cert.ShuffleGradRefIdeal.sig) → Buf (Elt Ideal) ℓ) (g' : Dev Cert.ShuffleGradRefIdeal.nD → PrngReg), Pre_ShuffleGradIdeal m →
    (∀ c : Dev Cert.ShuffleGradIdeal.nD,
      m' ((c.tc : Thread Cert.ShuffleGradRefIdeal.nD Cert.ShuffleGradRefIdeal.τ).loc Cert.ShuffleGradRefIdeal.main_arg0) = m ((c.tc : Thread Cert.ShuffleGradIdeal.nD Cert.ShuffleGradIdeal.τ).loc Cert.ShuffleGradIdeal.main_arg0)) →
    ∃ (v0 : (c : Dev Cert.ShuffleGradIdeal.nD) → Buf (Elt Ideal) ((c.tc : Thread Cert.ShuffleGradIdeal.nD Cert.ShuffleGradIdeal.τ).loc Cert.ShuffleGradIdeal.main_v0)),
      θ_run (Cert.ShuffleGradIdeal.defs (F := Ideal)) (onTc (τ := Cert.ShuffleGradIdeal.τ) (Cert.ShuffleGradIdeal.main (F := Ideal))) ⟨m, fun _ => 0, g⟩ (fun r => ∀ c : Dev Cert.ShuffleGradIdeal.nD,
          r.2.mem ((c.tc : Thread Cert.ShuffleGradIdeal.nD Cert.ShuffleGradIdeal.τ).loc Cert.ShuffleGradIdeal.main_v0) = v0 c
          ∧ r.2.mem ((c.tc : Thread Cert.ShuffleGradIdeal.nD Cert.ShuffleGradIdeal.τ).loc Cert.ShuffleGradIdeal.main_arg0) = m ((c.tc : Thread Cert.ShuffleGradIdeal.nD Cert.ShuffleGradIdeal.τ).loc Cert.ShuffleGradIdeal.main_arg0))
      ∧ θ_run (Cert.ShuffleGradRefIdeal.defs (F := Ideal)) (onTc (τ := Cert.ShuffleGradRefIdeal.τ) (Cert.ShuffleGradRefIdeal.main (F := Ideal))) ⟨m', fun _ => 0, g'⟩ (fun r => ∀ c : Dev Cert.ShuffleGradRefIdeal.nD,
          r.2.mem ((c.tc : Thread Cert.ShuffleGradRefIdeal.nD Cert.ShuffleGradRefIdeal.τ).loc Cert.ShuffleGradRefIdeal.main_v8) = v0 c
          ∧ r.2.mem ((c.tc : Thread Cert.ShuffleGradRefIdeal.nD Cert.ShuffleGradRefIdeal.τ).loc Cert.ShuffleGradRefIdeal.main_arg0) = m' ((c.tc : Thread Cert.ShuffleGradRefIdeal.nD Cert.ShuffleGradRefIdeal.τ).loc Cert.ShuffleGradRefIdeal.main_arg0))

def preserves_Unshuffle_UnshuffleIdeal : Prop :=
  True

def algebraic_UnshuffleIdeal_UnshuffleRefIdeal [hUnshuffleIdeal : Cert.UnshuffleIdeal.Facts] [hUnshuffleRefIdeal : Cert.UnshuffleRefIdeal.Facts] : Prop :=
  ∀ (m : (ℓ : Loc Cert.UnshuffleIdeal.nD Cert.UnshuffleIdeal.τ Cert.UnshuffleIdeal.sig) → Buf (Elt Ideal) ℓ) (g : Dev Cert.UnshuffleIdeal.nD → PrngReg)
    (m' : (ℓ : Loc Cert.UnshuffleRefIdeal.nD Cert.UnshuffleRefIdeal.τ Cert.UnshuffleRefIdeal.sig) → Buf (Elt Ideal) ℓ) (g' : Dev Cert.UnshuffleRefIdeal.nD → PrngReg), Pre_UnshuffleIdeal m →
    (∀ c : Dev Cert.UnshuffleIdeal.nD,
      m' ((c.tc : Thread Cert.UnshuffleRefIdeal.nD Cert.UnshuffleRefIdeal.τ).loc Cert.UnshuffleRefIdeal.main_arg0) = m ((c.tc : Thread Cert.UnshuffleIdeal.nD Cert.UnshuffleIdeal.τ).loc Cert.UnshuffleIdeal.main_arg0)) →
    ∃ (v0 : (c : Dev Cert.UnshuffleIdeal.nD) → Buf (Elt Ideal) ((c.tc : Thread Cert.UnshuffleIdeal.nD Cert.UnshuffleIdeal.τ).loc Cert.UnshuffleIdeal.main_v0)),
      θ_run (Cert.UnshuffleIdeal.defs (F := Ideal)) (onTc (τ := Cert.UnshuffleIdeal.τ) (Cert.UnshuffleIdeal.main (F := Ideal))) ⟨m, fun _ => 0, g⟩ (fun r => ∀ c : Dev Cert.UnshuffleIdeal.nD,
          r.2.mem ((c.tc : Thread Cert.UnshuffleIdeal.nD Cert.UnshuffleIdeal.τ).loc Cert.UnshuffleIdeal.main_v0) = v0 c
          ∧ r.2.mem ((c.tc : Thread Cert.UnshuffleIdeal.nD Cert.UnshuffleIdeal.τ).loc Cert.UnshuffleIdeal.main_arg0) = m ((c.tc : Thread Cert.UnshuffleIdeal.nD Cert.UnshuffleIdeal.τ).loc Cert.UnshuffleIdeal.main_arg0))
      ∧ θ_run (Cert.UnshuffleRefIdeal.defs (F := Ideal)) (onTc (τ := Cert.UnshuffleRefIdeal.τ) (Cert.UnshuffleRefIdeal.main (F := Ideal))) ⟨m', fun _ => 0, g'⟩ (fun r => ∀ c : Dev Cert.UnshuffleRefIdeal.nD,
          r.2.mem ((c.tc : Thread Cert.UnshuffleRefIdeal.nD Cert.UnshuffleRefIdeal.τ).loc Cert.UnshuffleRefIdeal.main_v11) = v0 c
          ∧ r.2.mem ((c.tc : Thread Cert.UnshuffleRefIdeal.nD Cert.UnshuffleRefIdeal.τ).loc Cert.UnshuffleRefIdeal.main_arg0) = m' ((c.tc : Thread Cert.UnshuffleRefIdeal.nD Cert.UnshuffleRefIdeal.τ).loc Cert.UnshuffleRefIdeal.main_arg0))

def Claim : Prop :=
  ∃ (hKernel : Cert.Kernel.Facts) (hKernelIdeal : Cert.KernelIdeal.Facts) (hReferenceIdeal : Cert.ReferenceIdeal.Facts) (hWPle : Cert.WPle.Facts) (hWPleIdeal : Cert.WPleIdeal.Facts) (hWPleRefIdeal : Cert.WPleRefIdeal.Facts) (hWPleGate : Cert.WPleGate.Facts) (hWPleGateIdeal : Cert.WPleGateIdeal.Facts) (hWPleGateRefIdeal : Cert.WPleGateRefIdeal.Facts) (hH3 : Cert.H3.Facts) (hH3Ideal : Cert.H3Ideal.Facts) (hH3RefIdeal : Cert.H3RefIdeal.Facts) (hWDown : Cert.WDown.Facts) (hWDownIdeal : Cert.WDownIdeal.Facts) (hWDownRefIdeal : Cert.WDownRefIdeal.Facts) (hF : Cert.F.Facts) (hFIdeal : Cert.FIdeal.Facts) (hFRefIdeal : Cert.FRefIdeal.Facts) (hWUp : Cert.WUp.Facts) (hWUpIdeal : Cert.WUpIdeal.Facts) (hWUpRefIdeal : Cert.WUpRefIdeal.Facts) (hH2 : Cert.H2.Facts) (hH2Ideal : Cert.H2Ideal.Facts) (hH2RefIdeal : Cert.H2RefIdeal.Facts) (hMerged : Cert.Merged.Facts) (hMergedIdeal : Cert.MergedIdeal.Facts) (hMergedRefIdeal : Cert.MergedRefIdeal.Facts) (hWBranchA : Cert.WBranchA.Facts) (hWBranchAIdeal : Cert.WBranchAIdeal.Facts) (hWBranchARefIdeal : Cert.WBranchARefIdeal.Facts) (hYa : Cert.Ya.Facts) (hYaIdeal : Cert.YaIdeal.Facts) (hYaRefIdeal : Cert.YaRefIdeal.Facts) (hWBranchB : Cert.WBranchB.Facts) (hWBranchBIdeal : Cert.WBranchBIdeal.Facts) (hWBranchBRefIdeal : Cert.WBranchBRefIdeal.Facts) (hYb : Cert.Yb.Facts) (hYbIdeal : Cert.YbIdeal.Facts) (hYbRefIdeal : Cert.YbRefIdeal.Facts) (hWGate : Cert.WGate.Facts) (hWGateIdeal : Cert.WGateIdeal.Facts) (hWGateRefIdeal : Cert.WGateRefIdeal.Facts) (hHGate : Cert.HGate.Facts) (hHGateIdeal : Cert.HGateIdeal.Facts) (hHGateRefIdeal : Cert.HGateRefIdeal.Facts) (hWIn : Cert.WIn.Facts) (hWInIdeal : Cert.WInIdeal.Facts) (hWInRefIdeal : Cert.WInRefIdeal.Facts) (hH : Cert.H.Facts) (hHIdeal : Cert.HIdeal.Facts) (hHRefIdeal : Cert.HRefIdeal.Facts) (hProjRw : Cert.ProjRw.Facts) (hProjRwIdeal : Cert.ProjRwIdeal.Facts) (hProjRwRefIdeal : Cert.ProjRwRefIdeal.Facts) (hProjAtt : Cert.ProjAtt.Facts) (hProjAttIdeal : Cert.ProjAttIdeal.Facts) (hProjAttRefIdeal : Cert.ProjAttRefIdeal.Facts) (hBranchA : Cert.BranchA.Facts) (hBranchAIdeal : Cert.BranchAIdeal.Facts) (hBranchARefIdeal : Cert.BranchARefIdeal.Facts) (hBranchB : Cert.BranchB.Facts) (hBranchBIdeal : Cert.BranchBIdeal.Facts) (hBranchBRefIdeal : Cert.BranchBRefIdeal.Facts) (hMixOut : Cert.MixOut.Facts) (hMixOutIdeal : Cert.MixOutIdeal.Facts) (hMixOutRefIdeal : Cert.MixOutRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hPleGate : Cert.PleGate.Facts) (hPleGateIdeal : Cert.PleGateIdeal.Facts) (hPleGateRefIdeal : Cert.PleGateRefIdeal.Facts) (hPleEmbed : Cert.PleEmbed.Facts) (hPleEmbedIdeal : Cert.PleEmbedIdeal.Facts) (hPleEmbedRefIdeal : Cert.PleEmbedRefIdeal.Facts) (hRmsBwd : Cert.RmsBwd.Facts) (hRmsBwdIdeal : Cert.RmsBwdIdeal.Facts) (hRmsBwdRefIdeal : Cert.RmsBwdRefIdeal.Facts) (hRmsMixBwd : Cert.RmsMixBwd.Facts) (hRmsMixBwdIdeal : Cert.RmsMixBwdIdeal.Facts) (hRmsMixBwdRefIdeal : Cert.RmsMixBwdRefIdeal.Facts) (hMergeBwd : Cert.MergeBwd.Facts) (hMergeBwdIdeal : Cert.MergeBwdIdeal.Facts) (hMergeBwdRefIdeal : Cert.MergeBwdRefIdeal.Facts) (hRms : Cert.Rms.Facts) (hRmsIdeal : Cert.RmsIdeal.Facts) (hRmsRefIdeal : Cert.RmsRefIdeal.Facts) (hMerge : Cert.Merge.Facts) (hMergeIdeal : Cert.MergeIdeal.Facts) (hMergeRefIdeal : Cert.MergeRefIdeal.Facts) (hTail : Cert.Tail.Facts) (hTailIdeal : Cert.TailIdeal.Facts) (hTailRefIdeal : Cert.TailRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamGate : Cert.AdamGate.Facts) (hAdamGateIdeal : Cert.AdamGateIdeal.Facts) (hAdamGateRefIdeal : Cert.AdamGateRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hAdamBranchA : Cert.AdamBranchA.Facts) (hAdamBranchAIdeal : Cert.AdamBranchAIdeal.Facts) (hAdamBranchARefIdeal : Cert.AdamBranchARefIdeal.Facts) (hAdamBranchB : Cert.AdamBranchB.Facts) (hAdamBranchBIdeal : Cert.AdamBranchBIdeal.Facts) (hAdamBranchBRefIdeal : Cert.AdamBranchBRefIdeal.Facts) (hAdamSmall : Cert.AdamSmall.Facts) (hAdamSmallIdeal : Cert.AdamSmallIdeal.Facts) (hAdamSmallRefIdeal : Cert.AdamSmallRefIdeal.Facts) (hDProj : Cert.DProj.Facts) (hDProjIdeal : Cert.DProjIdeal.Facts) (hDProjRefIdeal : Cert.DProjRefIdeal.Facts) (hConvFwd : Cert.ConvFwd.Facts) (hConvFwdIdeal : Cert.ConvFwdIdeal.Facts) (hConvFwdRefIdeal : Cert.ConvFwdRefIdeal.Facts) (hShuffleGrad : Cert.ShuffleGrad.Facts) (hShuffleGradIdeal : Cert.ShuffleGradIdeal.Facts) (hShuffleGradRefIdeal : Cert.ShuffleGradRefIdeal.Facts) (hUnshuffle : Cert.Unshuffle.Facts) (hUnshuffleIdeal : Cert.UnshuffleIdeal.Facts) (hUnshuffleRefIdeal : Cert.UnshuffleRefIdeal.Facts),
    quiescent_Kernel (hKernel := hKernel)
    ∧ quiescent_KernelIdeal (hKernelIdeal := hKernelIdeal)
    ∧ quiescent_ReferenceIdeal (hReferenceIdeal := hReferenceIdeal)
    ∧ quiescent_WPle (hWPle := hWPle)
    ∧ quiescent_WPleIdeal (hWPleIdeal := hWPleIdeal)
    ∧ quiescent_WPleRefIdeal (hWPleRefIdeal := hWPleRefIdeal)
    ∧ quiescent_WPleGate (hWPleGate := hWPleGate)
    ∧ quiescent_WPleGateIdeal (hWPleGateIdeal := hWPleGateIdeal)
    ∧ quiescent_WPleGateRefIdeal (hWPleGateRefIdeal := hWPleGateRefIdeal)
    ∧ quiescent_H3 (hH3 := hH3)
    ∧ quiescent_H3Ideal (hH3Ideal := hH3Ideal)
    ∧ quiescent_H3RefIdeal (hH3RefIdeal := hH3RefIdeal)
    ∧ quiescent_WDown (hWDown := hWDown)
    ∧ quiescent_WDownIdeal (hWDownIdeal := hWDownIdeal)
    ∧ quiescent_WDownRefIdeal (hWDownRefIdeal := hWDownRefIdeal)
    ∧ quiescent_F (hF := hF)
    ∧ quiescent_FIdeal (hFIdeal := hFIdeal)
    ∧ quiescent_FRefIdeal (hFRefIdeal := hFRefIdeal)
    ∧ quiescent_WUp (hWUp := hWUp)
    ∧ quiescent_WUpIdeal (hWUpIdeal := hWUpIdeal)
    ∧ quiescent_WUpRefIdeal (hWUpRefIdeal := hWUpRefIdeal)
    ∧ quiescent_H2 (hH2 := hH2)
    ∧ quiescent_H2Ideal (hH2Ideal := hH2Ideal)
    ∧ quiescent_H2RefIdeal (hH2RefIdeal := hH2RefIdeal)
    ∧ quiescent_Merged (hMerged := hMerged)
    ∧ quiescent_MergedIdeal (hMergedIdeal := hMergedIdeal)
    ∧ quiescent_MergedRefIdeal (hMergedRefIdeal := hMergedRefIdeal)
    ∧ quiescent_WBranchA (hWBranchA := hWBranchA)
    ∧ quiescent_WBranchAIdeal (hWBranchAIdeal := hWBranchAIdeal)
    ∧ quiescent_WBranchARefIdeal (hWBranchARefIdeal := hWBranchARefIdeal)
    ∧ quiescent_Ya (hYa := hYa)
    ∧ quiescent_YaIdeal (hYaIdeal := hYaIdeal)
    ∧ quiescent_YaRefIdeal (hYaRefIdeal := hYaRefIdeal)
    ∧ quiescent_WBranchB (hWBranchB := hWBranchB)
    ∧ quiescent_WBranchBIdeal (hWBranchBIdeal := hWBranchBIdeal)
    ∧ quiescent_WBranchBRefIdeal (hWBranchBRefIdeal := hWBranchBRefIdeal)
    ∧ quiescent_Yb (hYb := hYb)
    ∧ quiescent_YbIdeal (hYbIdeal := hYbIdeal)
    ∧ quiescent_YbRefIdeal (hYbRefIdeal := hYbRefIdeal)
    ∧ quiescent_WGate (hWGate := hWGate)
    ∧ quiescent_WGateIdeal (hWGateIdeal := hWGateIdeal)
    ∧ quiescent_WGateRefIdeal (hWGateRefIdeal := hWGateRefIdeal)
    ∧ quiescent_HGate (hHGate := hHGate)
    ∧ quiescent_HGateIdeal (hHGateIdeal := hHGateIdeal)
    ∧ quiescent_HGateRefIdeal (hHGateRefIdeal := hHGateRefIdeal)
    ∧ quiescent_WIn (hWIn := hWIn)
    ∧ quiescent_WInIdeal (hWInIdeal := hWInIdeal)
    ∧ quiescent_WInRefIdeal (hWInRefIdeal := hWInRefIdeal)
    ∧ quiescent_H (hH := hH)
    ∧ quiescent_HIdeal (hHIdeal := hHIdeal)
    ∧ quiescent_HRefIdeal (hHRefIdeal := hHRefIdeal)
    ∧ quiescent_ProjRw (hProjRw := hProjRw)
    ∧ quiescent_ProjRwIdeal (hProjRwIdeal := hProjRwIdeal)
    ∧ quiescent_ProjRwRefIdeal (hProjRwRefIdeal := hProjRwRefIdeal)
    ∧ quiescent_ProjAtt (hProjAtt := hProjAtt)
    ∧ quiescent_ProjAttIdeal (hProjAttIdeal := hProjAttIdeal)
    ∧ quiescent_ProjAttRefIdeal (hProjAttRefIdeal := hProjAttRefIdeal)
    ∧ quiescent_BranchA (hBranchA := hBranchA)
    ∧ quiescent_BranchAIdeal (hBranchAIdeal := hBranchAIdeal)
    ∧ quiescent_BranchARefIdeal (hBranchARefIdeal := hBranchARefIdeal)
    ∧ quiescent_BranchB (hBranchB := hBranchB)
    ∧ quiescent_BranchBIdeal (hBranchBIdeal := hBranchBIdeal)
    ∧ quiescent_BranchBRefIdeal (hBranchBRefIdeal := hBranchBRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_PleEmbed (hPleEmbed := hPleEmbed)
    ∧ quiescent_PleEmbedIdeal (hPleEmbedIdeal := hPleEmbedIdeal)
    ∧ quiescent_PleEmbedRefIdeal (hPleEmbedRefIdeal := hPleEmbedRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_RmsMixBwd (hRmsMixBwd := hRmsMixBwd)
    ∧ quiescent_RmsMixBwdIdeal (hRmsMixBwdIdeal := hRmsMixBwdIdeal)
    ∧ quiescent_RmsMixBwdRefIdeal (hRmsMixBwdRefIdeal := hRmsMixBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Rms (hRms := hRms)
    ∧ quiescent_RmsIdeal (hRmsIdeal := hRmsIdeal)
    ∧ quiescent_RmsRefIdeal (hRmsRefIdeal := hRmsRefIdeal)
    ∧ quiescent_Merge (hMerge := hMerge)
    ∧ quiescent_MergeIdeal (hMergeIdeal := hMergeIdeal)
    ∧ quiescent_MergeRefIdeal (hMergeRefIdeal := hMergeRefIdeal)
    ∧ quiescent_Tail (hTail := hTail)
    ∧ quiescent_TailIdeal (hTailIdeal := hTailIdeal)
    ∧ quiescent_TailRefIdeal (hTailRefIdeal := hTailRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamBranchA (hAdamBranchA := hAdamBranchA)
    ∧ quiescent_AdamBranchAIdeal (hAdamBranchAIdeal := hAdamBranchAIdeal)
    ∧ quiescent_AdamBranchARefIdeal (hAdamBranchARefIdeal := hAdamBranchARefIdeal)
    ∧ quiescent_AdamBranchB (hAdamBranchB := hAdamBranchB)
    ∧ quiescent_AdamBranchBIdeal (hAdamBranchBIdeal := hAdamBranchBIdeal)
    ∧ quiescent_AdamBranchBRefIdeal (hAdamBranchBRefIdeal := hAdamBranchBRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_DProj (hDProj := hDProj)
    ∧ quiescent_DProjIdeal (hDProjIdeal := hDProjIdeal)
    ∧ quiescent_DProjRefIdeal (hDProjRefIdeal := hDProjRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_ShuffleGrad (hShuffleGrad := hShuffleGrad)
    ∧ quiescent_ShuffleGradIdeal (hShuffleGradIdeal := hShuffleGradIdeal)
    ∧ quiescent_ShuffleGradRefIdeal (hShuffleGradRefIdeal := hShuffleGradRefIdeal)
    ∧ quiescent_Unshuffle (hUnshuffle := hUnshuffle)
    ∧ quiescent_UnshuffleIdeal (hUnshuffleIdeal := hUnshuffleIdeal)
    ∧ quiescent_UnshuffleRefIdeal (hUnshuffleRefIdeal := hUnshuffleRefIdeal)
    ∧ preserves_Kernel_KernelIdeal
    ∧ algebraic_KernelIdeal_ReferenceIdeal (hKernelIdeal := hKernelIdeal) (hReferenceIdeal := hReferenceIdeal)
    ∧ preserves_WPle_WPleIdeal
    ∧ algebraic_WPleIdeal_WPleRefIdeal (hWPleIdeal := hWPleIdeal) (hWPleRefIdeal := hWPleRefIdeal)
    ∧ preserves_WPleGate_WPleGateIdeal
    ∧ algebraic_WPleGateIdeal_WPleGateRefIdeal (hWPleGateIdeal := hWPleGateIdeal) (hWPleGateRefIdeal := hWPleGateRefIdeal)
    ∧ preserves_H3_H3Ideal
    ∧ algebraic_H3Ideal_H3RefIdeal (hH3Ideal := hH3Ideal) (hH3RefIdeal := hH3RefIdeal)
    ∧ preserves_WDown_WDownIdeal
    ∧ algebraic_WDownIdeal_WDownRefIdeal (hWDownIdeal := hWDownIdeal) (hWDownRefIdeal := hWDownRefIdeal)
    ∧ preserves_F_FIdeal
    ∧ algebraic_FIdeal_FRefIdeal (hFIdeal := hFIdeal) (hFRefIdeal := hFRefIdeal)
    ∧ preserves_WUp_WUpIdeal
    ∧ algebraic_WUpIdeal_WUpRefIdeal (hWUpIdeal := hWUpIdeal) (hWUpRefIdeal := hWUpRefIdeal)
    ∧ preserves_H2_H2Ideal
    ∧ algebraic_H2Ideal_H2RefIdeal (hH2Ideal := hH2Ideal) (hH2RefIdeal := hH2RefIdeal)
    ∧ preserves_Merged_MergedIdeal
    ∧ algebraic_MergedIdeal_MergedRefIdeal (hMergedIdeal := hMergedIdeal) (hMergedRefIdeal := hMergedRefIdeal)
    ∧ preserves_WBranchA_WBranchAIdeal
    ∧ algebraic_WBranchAIdeal_WBranchARefIdeal (hWBranchAIdeal := hWBranchAIdeal) (hWBranchARefIdeal := hWBranchARefIdeal)
    ∧ preserves_Ya_YaIdeal
    ∧ algebraic_YaIdeal_YaRefIdeal (hYaIdeal := hYaIdeal) (hYaRefIdeal := hYaRefIdeal)
    ∧ preserves_WBranchB_WBranchBIdeal
    ∧ algebraic_WBranchBIdeal_WBranchBRefIdeal (hWBranchBIdeal := hWBranchBIdeal) (hWBranchBRefIdeal := hWBranchBRefIdeal)
    ∧ preserves_Yb_YbIdeal
    ∧ algebraic_YbIdeal_YbRefIdeal (hYbIdeal := hYbIdeal) (hYbRefIdeal := hYbRefIdeal)
    ∧ preserves_WGate_WGateIdeal
    ∧ algebraic_WGateIdeal_WGateRefIdeal (hWGateIdeal := hWGateIdeal) (hWGateRefIdeal := hWGateRefIdeal)
    ∧ preserves_HGate_HGateIdeal
    ∧ algebraic_HGateIdeal_HGateRefIdeal (hHGateIdeal := hHGateIdeal) (hHGateRefIdeal := hHGateRefIdeal)
    ∧ preserves_WIn_WInIdeal
    ∧ algebraic_WInIdeal_WInRefIdeal (hWInIdeal := hWInIdeal) (hWInRefIdeal := hWInRefIdeal)
    ∧ preserves_H_HIdeal
    ∧ algebraic_HIdeal_HRefIdeal (hHIdeal := hHIdeal) (hHRefIdeal := hHRefIdeal)
    ∧ preserves_ProjRw_ProjRwIdeal
    ∧ algebraic_ProjRwIdeal_ProjRwRefIdeal (hProjRwIdeal := hProjRwIdeal) (hProjRwRefIdeal := hProjRwRefIdeal)
    ∧ preserves_ProjAtt_ProjAttIdeal
    ∧ algebraic_ProjAttIdeal_ProjAttRefIdeal (hProjAttIdeal := hProjAttIdeal) (hProjAttRefIdeal := hProjAttRefIdeal)
    ∧ preserves_BranchA_BranchAIdeal
    ∧ algebraic_BranchAIdeal_BranchARefIdeal (hBranchAIdeal := hBranchAIdeal) (hBranchARefIdeal := hBranchARefIdeal)
    ∧ preserves_BranchB_BranchBIdeal
    ∧ algebraic_BranchBIdeal_BranchBRefIdeal (hBranchBIdeal := hBranchBIdeal) (hBranchBRefIdeal := hBranchBRefIdeal)
    ∧ preserves_MixOut_MixOutIdeal
    ∧ algebraic_MixOutIdeal_MixOutRefIdeal (hMixOutIdeal := hMixOutIdeal) (hMixOutRefIdeal := hMixOutRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_PleGate_PleGateIdeal
    ∧ algebraic_PleGateIdeal_PleGateRefIdeal (hPleGateIdeal := hPleGateIdeal) (hPleGateRefIdeal := hPleGateRefIdeal)
    ∧ preserves_PleEmbed_PleEmbedIdeal
    ∧ algebraic_PleEmbedIdeal_PleEmbedRefIdeal (hPleEmbedIdeal := hPleEmbedIdeal) (hPleEmbedRefIdeal := hPleEmbedRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_RmsMixBwd_RmsMixBwdIdeal
    ∧ algebraic_RmsMixBwdIdeal_RmsMixBwdRefIdeal (hRmsMixBwdIdeal := hRmsMixBwdIdeal) (hRmsMixBwdRefIdeal := hRmsMixBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Rms_RmsIdeal
    ∧ algebraic_RmsIdeal_RmsRefIdeal (hRmsIdeal := hRmsIdeal) (hRmsRefIdeal := hRmsRefIdeal)
    ∧ preserves_Merge_MergeIdeal
    ∧ algebraic_MergeIdeal_MergeRefIdeal (hMergeIdeal := hMergeIdeal) (hMergeRefIdeal := hMergeRefIdeal)
    ∧ preserves_Tail_TailIdeal
    ∧ algebraic_TailIdeal_TailRefIdeal (hTailIdeal := hTailIdeal) (hTailRefIdeal := hTailRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamBranchA_AdamBranchAIdeal
    ∧ algebraic_AdamBranchAIdeal_AdamBranchARefIdeal (hAdamBranchAIdeal := hAdamBranchAIdeal) (hAdamBranchARefIdeal := hAdamBranchARefIdeal)
    ∧ preserves_AdamBranchB_AdamBranchBIdeal
    ∧ algebraic_AdamBranchBIdeal_AdamBranchBRefIdeal (hAdamBranchBIdeal := hAdamBranchBIdeal) (hAdamBranchBRefIdeal := hAdamBranchBRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_DProj_DProjIdeal
    ∧ algebraic_DProjIdeal_DProjRefIdeal (hDProjIdeal := hDProjIdeal) (hDProjRefIdeal := hDProjRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_ShuffleGrad_ShuffleGradIdeal
    ∧ algebraic_ShuffleGradIdeal_ShuffleGradRefIdeal (hShuffleGradIdeal := hShuffleGradIdeal) (hShuffleGradRefIdeal := hShuffleGradRefIdeal)
    ∧ preserves_Unshuffle_UnshuffleIdeal
    ∧ algebraic_UnshuffleIdeal_UnshuffleRefIdeal (hUnshuffleIdeal := hUnshuffleIdeal) (hUnshuffleRefIdeal := hUnshuffleRefIdeal)
-- ==== Kernel.lean ====
abbrev S4096x6144 : Shape := ⟨2, ![4096, 6144]⟩
abbrev S3x6144 : Shape := ⟨2, ![3, 6144]⟩
abbrev S1x6144 : Shape := ⟨2, ![1, 6144]⟩
abbrev S4096x3072 : Shape := ⟨2, ![4096, 3072]⟩
abbrev S1x3072 : Shape := ⟨2, ![1, 3072]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S504x512 : Shape := ⟨2, ![504, 512]⟩
abbrev S512 : Shape := ⟨1, ![512]⟩

abbrev nBuf : Space → Nat
  | .hbm => 14
  | .vmem => 40
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S1x6144, .f32⟩
  | .hbm, ⟨3, _⟩ => ⟨S4096x3072, .bf16⟩
  | .hbm, ⟨4, _⟩ => ⟨S4096x3072, .bf16⟩
  | .hbm, ⟨5, _⟩ => ⟨S4096x3072, .bf16⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S1x3072, .f32⟩
  | .hbm, ⟨10, _⟩ => ⟨S1x3072, .f32⟩
  | .hbm, ⟨11, _⟩ => ⟨S1x3072, .f32⟩
  | .hbm, ⟨12, _⟩ => ⟨S1x3072, .f32⟩
  | .hbm, ⟨13, _⟩ => ⟨S1x3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S8x512, .f32⟩
  | .local _ .vmem, ⟨39, _⟩ => ⟨S8x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi arg0 c0_i32
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let v4 : BitVec 32 := Scalar.addi arg0 c0_i32_0
  let c0_i32_1 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c6_i32 : BitVec 32 := 6#32
  let v1 : BitVec 32 := Scalar.addi arg0 c6_i32
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c6_i32 : BitVec 32 := 6#32
  let v4 : BitVec 32 := Scalar.addi arg0 c6_i32
  let c0_i32_0 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi arg0 c0_i32
  let c0_i32_0 : BitVec 32 := 0#32
  ![v0.toNat, v1.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi arg0 c0_i32
  let c0_i32_0 : BitVec 32 := 0#32
  ![v0.toNat, v1.toNat]

def cc0_transform_10 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi arg0 c0_i32
  let c0_i32_0 : BitVec 32 := 0#32
  ![v0.toNat, v1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceIdeal.lean ====
abbrev S4096x6144 : Shape := ⟨2, ![4096, 6144]⟩
abbrev S3x6144 : Shape := ⟨2, ![3, 6144]⟩
abbrev S1x6144 : Shape := ⟨2, ![1, 6144]⟩
abbrev S4096x3072 : Shape := ⟨2, ![4096, 3072]⟩
abbrev S1x4096x6144 : Shape := ⟨3, ![1, 4096, 6144]⟩
abbrev S6144 : Shape := ⟨1, ![6144]⟩
abbrev S1x1x6144 : Shape := ⟨3, ![1, 1, 6144]⟩
abbrev S_ : Shape := ⟨0, ![]⟩
abbrev S1x4095x6144 : Shape := ⟨3, ![1, 4095, 6144]⟩
abbrev S1x2x6144 : Shape := ⟨3, ![1, 2, 6144]⟩
abbrev S1x4094x6144 : Shape := ⟨3, ![1, 4094, 6144]⟩
abbrev S1x4096x3072 : Shape := ⟨3, ![1, 4096, 3072]⟩
abbrev S1x3072 : Shape := ⟨2, ![1, 3072]⟩

abbrev nBuf : Space → Nat
  | .hbm => 159
  | .vmem => 0
  | .smem => 0
  | _ => 0

abbrev hbmTy0_0 (i : Nat) : BufTy := match i % 128 with
  | 0 => ⟨S4096x6144, .f32⟩
  | 1 => ⟨S3x6144, .f32⟩
  | 2 => ⟨S1x6144, .f32⟩
  | 3 => ⟨S4096x3072, .bf16⟩
  | 4 => ⟨S1x4096x6144, .f32⟩
  | 5 => ⟨S6144, .f32⟩
  | 6 => ⟨S1x6144, .f32⟩
  | 7 => ⟨S6144, .f32⟩
  | 8 => ⟨S1x1x6144, .f32⟩
  | 9 => ⟨S1x4096x6144, .f32⟩
  | 10 => ⟨S1x4096x6144, .f32⟩
  | 11 => ⟨S_, .f32⟩
  | 12 => ⟨S1x4096x6144, .f32⟩
  | 13 => ⟨S1x4096x6144, .f32⟩
  | 14 => ⟨S1x6144, .f32⟩
  | 15 => ⟨S6144, .f32⟩
  | 16 => ⟨S_, .f32⟩
  | 17 => ⟨S1x1x6144, .f32⟩
  | 18 => ⟨S1x4095x6144, .f32⟩
  | 19 => ⟨S1x4096x6144, .f32⟩
  | 20 => ⟨S_, .f32⟩
  | 21 => ⟨S1x1x6144, .f32⟩
  | 22 => ⟨S1x1x6144, .f32⟩
  | 23 => ⟨S1x4096x6144, .f32⟩
  | 24 => ⟨S1x4096x6144, .f32⟩
  | 25 => ⟨S1x4096x6144, .f32⟩
  | 26 => ⟨S1x6144, .f32⟩
  | 27 => ⟨S6144, .f32⟩
  | 28 => ⟨S_, .f32⟩
  | 29 => ⟨S1x2x6144, .f32⟩
  | 30 => ⟨S1x4094x6144, .f32⟩
  | 31 => ⟨S1x4096x6144, .f32⟩
  | 32 => ⟨S_, .f32⟩
  | 33 => ⟨S1x2x6144, .f32⟩
  | 34 => ⟨S1x1x6144, .f32⟩
  | 35 => ⟨S1x4096x6144, .f32⟩
  | 36 => ⟨S1x4096x6144, .f32⟩
  | 37 => ⟨S1x4096x6144, .f32⟩
  | 38 => ⟨S1x1x6144, .f32⟩
  | 39 => ⟨S1x4096x6144, .f32⟩
  | 40 => ⟨S1x4096x6144, .f32⟩
  | 41 => ⟨S1x4096x3072, .f32⟩
  | 42 => ⟨S1x4096x3072, .f32⟩
  | 43 => ⟨S1x4096x3072, .f32⟩
  | 44 => ⟨S1x4096x3072, .f32⟩
  | 45 => ⟨S1x4096x3072, .f32⟩
  | 46 => ⟨S_, .f32⟩
  | 47 => ⟨S1x4096x3072, .f32⟩
  | 48 => ⟨S1x4096x3072, .f32⟩
  | 49 => ⟨S_, .f32⟩
  | 50 => ⟨S1x4096x3072, .f32⟩
  | 51 => ⟨S1x4096x3072, .f32⟩
  | 52 => ⟨S1x4096x3072, .f32⟩
  | 53 => ⟨S_, .f32⟩
  | 54 => ⟨S1x4096x3072, .f32⟩
  | 55 => ⟨S1x4096x3072, .f32⟩
  | 56 => ⟨S1x4096x3072, .f32⟩
  | 57 => ⟨S_, .f32⟩
  | 58 => ⟨S1x4096x3072, .f32⟩
  | 59 => ⟨S1x4096x3072, .f32⟩
  | 60 => ⟨S_, .f32⟩
  | 61 => ⟨S1x4096x3072, .f32⟩
  | 62 => ⟨S1x4096x3072, .f32⟩
  | 63 => ⟨S1x4096x3072, .f32⟩
  | 64 => ⟨S_, .f32⟩
  | 65 => ⟨S1x4096x3072, .f32⟩
  | 66 => ⟨S1x4096x3072, .f32⟩
  | 67 => ⟨S_, .f32⟩
  | 68 => ⟨S1x4096x3072, .f32⟩
  | 69 => ⟨S1x4096x3072, .f32⟩
  | 70 => ⟨S1x4096x3072, .f32⟩
  | 71 => ⟨S1x4096x3072, .f32⟩
  | 72 => ⟨S4096x3072, .f32⟩
  | 73 => ⟨S1x4096x3072, .f32⟩
  | 74 => ⟨S1x4096x3072, .f32⟩
  | 75 => ⟨S1x4096x3072, .f32⟩
  | 76 => ⟨S1x4096x3072, .f32⟩
  | 77 => ⟨S1x4096x3072, .f32⟩
  | 78 => ⟨S_, .f32⟩
  | 79 => ⟨S1x4096x3072, .f32⟩
  | 80 => ⟨S1x4096x3072, .f32⟩
  | 81 => ⟨S1x4096x3072, .f32⟩
  | 82 => ⟨S_, .f32⟩
  | 83 => ⟨S1x4096x3072, .f32⟩
  | 84 => ⟨S1x4096x3072, .f32⟩
  | 85 => ⟨S1x4096x3072, .f32⟩
  | 86 => ⟨S_, .f32⟩
  | 87 => ⟨S1x4096x3072, .f32⟩
  | 88 => ⟨S1x4096x3072, .f32⟩
  | 89 => ⟨S1x4096x3072, .f32⟩
  | 90 => ⟨S1x4096x3072, .f32⟩
  | 91 => ⟨S1x4096x6144, .f32⟩
  | 92 => ⟨S_, .f32⟩
  | 93 => ⟨S1x6144, .f32⟩
  | 94 => ⟨S1x1x6144, .f32⟩
  | 95 => ⟨S_, .f32⟩
  | 96 => ⟨S6144, .f32⟩
  | 97 => ⟨S1x4096x6144, .f32⟩
  | 98 => ⟨S1x4096x6144, .f32⟩
  | 99 => ⟨S1x4096x6144, .f32⟩
  | 100 => ⟨S_, .f32⟩
  | 101 => ⟨S1x6144, .f32⟩
  | 102 => ⟨S1x1x6144, .f32⟩
  | 103 => ⟨S_, .f32⟩
  | 104 => ⟨S6144, .f32⟩
  | 105 => ⟨S1x2x6144, .f32⟩
  | 106 => ⟨S1x4094x6144, .f32⟩
  | 107 => ⟨S_, .f32⟩
  | 108 => ⟨S1x4096x6144, .f32⟩
  | 109 => ⟨S1x6144, .f32⟩
  | 110 => ⟨S_, .f32⟩
  | 111 => ⟨S3x6144, .f32⟩
  | 112 => ⟨S1x4096x6144, .f32⟩
  | 113 => ⟨S1x4096x6144, .f32⟩
  | 114 => ⟨S1x4096x6144, .f32⟩
  | 115 => ⟨S_, .f32⟩
  | 116 => ⟨S1x6144, .f32⟩
  | 117 => ⟨S1x1x6144, .f32⟩
  | 118 => ⟨S_, .f32⟩
  | 119 => ⟨S6144, .f32⟩
  | 120 => ⟨S1x1x6144, .f32⟩
  | 121 => ⟨S1x4095x6144, .f32⟩
  | 122 => ⟨S_, .f32⟩
  | 123 => ⟨S1x4096x6144, .f32⟩
  | 124 => ⟨S1x4096x6144, .f32⟩
  | 125 => ⟨S1x6144, .f32⟩
  | 126 => ⟨S_, .f32⟩
  | 127 => ⟨S3x6144, .f32⟩
  | _ => ⟨S4096x6144, .f32⟩

abbrev hbmTy0_1 (i : Nat) : BufTy := match i % 128 with
  | 0 => ⟨S3x6144, .f32⟩
  | 1 => ⟨S1x4096x6144, .f32⟩
  | 2 => ⟨S1x4096x6144, .f32⟩
  | 3 => ⟨S1x4096x6144, .f32⟩
  | 4 => ⟨S1x4096x6144, .f32⟩
  | 5 => ⟨S_, .f32⟩
  | 6 => ⟨S1x6144, .f32⟩
  | 7 => ⟨S1x1x6144, .f32⟩
  | 8 => ⟨S_, .f32⟩
  | 9 => ⟨S6144, .f32⟩
  | 10 => ⟨S1x6144, .f32⟩
  | 11 => ⟨S_, .f32⟩
  | 12 => ⟨S3x6144, .f32⟩
  | 13 => ⟨S3x6144, .f32⟩
  | 14 => ⟨S4096x6144, .f32⟩
  | 15 => ⟨S1x6144, .f32⟩
  | 16 => ⟨S4096x3072, .f32⟩
  | 17 => ⟨S4096x3072, .f32⟩
  | 18 => ⟨S1x3072, .f32⟩
  | 19 => ⟨S1x3072, .f32⟩
  | 20 => ⟨S1x6144, .f32⟩
  | 21 => ⟨S1x3072, .f32⟩
  | 22 => ⟨S1x3072, .f32⟩
  | 23 => ⟨S1x6144, .f32⟩
  | 24 => ⟨S1x3072, .f32⟩
  | 25 => ⟨S1x3072, .f32⟩
  | 26 => ⟨S1x6144, .f32⟩
  | 27 => ⟨S1x3072, .f32⟩
  | 28 => ⟨S1x3072, .f32⟩
  | 29 => ⟨S4096x3072, .bf16⟩
  | 30 => ⟨S4096x3072, .bf16⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_cst_8 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_16 : Ref sig .tc := ⟨.hbm, 100, rfl⟩
abbrev main_v79 : Ref sig .tc := ⟨.hbm, 101, rfl⟩
abbrev main_v80 : Ref sig .tc := ⟨.hbm, 102, rfl⟩
abbrev main_cst_17 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_18 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_20 : Ref sig .tc := ⟨.hbm, 115, rfl⟩
abbrev main_v90 : Ref sig .tc := ⟨.hbm, 116, rfl⟩
abbrev main_v91 : Ref sig .tc := ⟨.hbm, 117, rfl⟩
abbrev main_cst_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_22 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_23 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_24 : Ref sig .tc := ⟨.hbm, 133, rfl⟩
abbrev main_v104 : Ref sig .tc := ⟨.hbm, 134, rfl⟩
abbrev main_v105 : Ref sig .tc := ⟨.hbm, 135, rfl⟩
abbrev main_cst_25 : Ref sig .tc := ⟨.hbm, 136, rfl⟩
abbrev main_v106 : Ref sig .tc := ⟨.hbm, 137, rfl⟩
abbrev main_v107 : Ref sig .tc := ⟨.hbm, 138, rfl⟩
abbrev main_cst_26 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩

abbrev nD : Nat := 1
abbrev τ : Topo := Topo.v7x

variable {F : FTy → Type} [FloatOps F]
-- ==== WPle.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WPleGate.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WPleGateRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== H3.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== H3RefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WDown.lean ====
abbrev S4096x3072 : Shape := ⟨2, ![4096, 3072]⟩
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownRefIdeal.lean ====
abbrev S4096x3072 : Shape := ⟨2, ![4096, 3072]⟩
abbrev S4096x1024 : Shape := ⟨2, ![4096, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S_, .f32⟩
  | .hbm, ⟨3, _⟩ => ⟨S3072x1024, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== F.lean ====
abbrev S4096x1024 : Shape := ⟨2, ![4096, 1024]⟩
abbrev S3072x1024 : Shape := ⟨2, ![3072, 1024]⟩
abbrev S4096x3072 : Shape := ⟨2, ![4096, 3072]⟩
abbrev S1024x1024 : Shape := ⟨2, ![1024, 1024]⟩
abbrev S1536x1024 : Shape := ⟨2, ![1536, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FRefIdeal.lean ====
abbrev S4096x1024 : Shape := ⟨2, ![4096, 1024]⟩
abbrev S3072x1024 : Shape := ⟨2, ![3072, 1024]⟩
abbrev S_ : Shape := ⟨0, ![]⟩
abbrev S4096x3072 : Shape := ⟨2, ![4096, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S_, .f32⟩
  | .hbm, ⟨3, _⟩ => ⟨S4096x3072, .f32⟩
  | .hbm, ⟨4, _⟩ => ⟨S3072x1024, .f32⟩
  | .hbm, ⟨5, _⟩ => ⟨S4096x1024, .f32⟩
  | .hbm, ⟨6, _⟩ => ⟨S4096x1024, .f32⟩
  | .hbm, ⟨7, _⟩ => ⟨S4096x3072, .f32⟩
  | .hbm, ⟨8, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WUp.lean ====
abbrev S4096x1024 : Shape := ⟨2, ![4096, 1024]⟩
abbrev S4096x6144 : Shape := ⟨2, ![4096, 6144]⟩
abbrev S1024x6144 : Shape := ⟨2, ![1024, 6144]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WUpRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== H2.lean ====
abbrev S4096x6144 : Shape := ⟨2, ![4096, 6144]⟩
abbrev S1024x6144 : Shape := ⟨2, ![1024, 6144]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== H2RefIdeal.lean ====
abbrev S4096x6144 : Shape := ⟨2, ![4096, 6144]⟩
abbrev S1024x6144 : Shape := ⟨2, ![1024, 6144]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S_, .f32⟩
  | .hbm, ⟨3, _⟩ => ⟨S4096x1024, .f32⟩
  | .hbm, ⟨4, _⟩ => ⟨S1024x6144, .f32⟩
  | .hbm, ⟨5, _⟩ => ⟨S4096x6144, .f32⟩
  | .hbm, ⟨6, _⟩ => ⟨S4096x6144, .f32⟩
  | .hbm, ⟨7, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Merged.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergedRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WBranchA.lean ====
abbrev S4096x512 : Shape := ⟨2, ![4096, 512]⟩
abbrev S4096x1024 : Shape := ⟨2, ![4096, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchARefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ya.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YaRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WBranchB.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchBRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Yb.lean ====
abbrev S4096x1024 : Shape := ⟨2, ![4096, 1024]⟩
abbrev S256x1024 : Shape := ⟨2, ![256, 1024]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YbRefIdeal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S_, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WGate.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WGateRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HGate.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HGateRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WIn.lean ====
abbrev S4096x1024 : Shape := ⟨2, ![4096, 1024]⟩
abbrev S4096x4608 : Shape := ⟨2, ![4096, 4608]⟩
abbrev S1024x4608 : Shape := ⟨2, ![1024, 4608]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S1024x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInRefIdeal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S_, .f32⟩
  | .hbm, ⟨3, _⟩ => ⟨S1024x4608, .f32⟩
  | .hbm, ⟨4, _⟩ => ⟨S4096x1024, .f32⟩
  | .hbm, ⟨5, _⟩ => ⟨S4096x4608, .f32⟩
  | .hbm, ⟨6, _⟩ => ⟨S4096x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== H.lean ====
abbrev S4096x4608 : Shape := ⟨2, ![4096, 4608]⟩
abbrev S1024x4608 : Shape := ⟨2, ![1024, 4608]⟩
abbrev S4096x1024 : Shape := ⟨2, ![4096, 1024]⟩
abbrev S1024x1536 : Shape := ⟨2, ![1024, 1536]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4608, .bf16⟩
  | .hbm, ⟨1, _⟩ => ⟨S1024x4608, .bf16⟩
  | .hbm, ⟨2, _⟩ => ⟨S4096x1024, .f32⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HRefIdeal.lean ====
abbrev S4096x4608 : Shape := ⟨2, ![4096, 4608]⟩
abbrev S1024x4608 : Shape := ⟨2, ![1024, 4608]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S1024x4608, .bf16⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S1024x4608, .f32⟩
  | .hbm, ⟨6, _⟩ => ⟨S4096x4608, .f32⟩
  | .hbm, ⟨7, _⟩ => ⟨S4096x4608, .f32⟩
  | .hbm, ⟨8, _⟩ => ⟨S4096x1024, .f32⟩
  | .hbm, ⟨9, _⟩ => ⟨S4096x1024, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjRw.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRwRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjAtt.lean ====
abbrev S4096x1024 : Shape := ⟨2, ![4096, 1024]⟩
abbrev S1024x2304 : Shape := ⟨2, ![1024, 2304]⟩
abbrev S4096x2304 : Shape := ⟨2, ![4096, 2304]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAttRefIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | .hbm, ⟨5, _⟩ => ⟨S4096x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchA.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchARefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchB.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDown.lean ====
abbrev S4096x3072 : Shape := ⟨2, ![4096, 3072]⟩
abbrev S3072x1024 : Shape := ⟨2, ![3072, 1024]⟩
abbrev S4096x1024 : Shape := ⟨2, ![4096, 1024]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x1024, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x3072 : Shape := ⟨2, ![4096, 3072]⟩
abbrev S3072x1024 : Shape := ⟨2, ![3072, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S4096x3072, .f32⟩
  | .hbm, ⟨4, _⟩ => ⟨S3072x1024, .f32⟩
  | .hbm, ⟨5, _⟩ => ⟨S4096x1024, .f32⟩
  | .hbm, ⟨6, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== PleGate.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleGateRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PleEmbed.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleEmbedRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1024, .bf16⟩
  | .hbm, ⟨2, _⟩ => ⟨S256x1024, .f32⟩
  | .hbm, ⟨3, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== RmsBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== RmsMixBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsMixBwdRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MergeBwd.lean ====
abbrev S4096x2048 : Shape := ⟨2, ![4096, 2048]⟩
abbrev S1x2048 : Shape := ⟨2, ![1, 2048]⟩
abbrev S4096x1024 : Shape := ⟨2, ![4096, 1024]⟩
abbrev S512x2048 : Shape := ⟨2, ![512, 2048]⟩
abbrev S512x1024 : Shape := ⟨2, ![512, 1024]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x2048, .bf16⟩
  | .hbm, ⟨6, _⟩ => ⟨S1x2048, .f32⟩
  | .hbm, ⟨7, _⟩ => ⟨S4096x1024, .bf16⟩
  | .hbm, ⟨8, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBwdRefIdeal.lean ====
abbrev S4096x2048 : Shape := ⟨2, ![4096, 2048]⟩
abbrev S1x2048 : Shape := ⟨2, ![1, 2048]⟩
abbrev S4096x1024 : Shape := ⟨2, ![4096, 1024]⟩
abbrev S2048 : Shape := ⟨1, ![2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S_, .f32⟩
  | .hbm, ⟨37, _⟩ => ⟨S2048, .f32⟩
  | .hbm, ⟨38, _⟩ => ⟨S4096x2048, .bf16⟩
  | .hbm, ⟨39, _⟩ => ⟨S1x2048, .f32⟩
  | .hbm, ⟨40, _⟩ => ⟨S4096x1024, .bf16⟩
  | .hbm, ⟨41, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Merge.lean ====
abbrev S4096x2048 : Shape := ⟨2, ![4096, 2048]⟩
abbrev S1x2048 : Shape := ⟨2, ![1, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S4096x2048 : Shape := ⟨2, ![4096, 2048]⟩
abbrev S1x2048 : Shape := ⟨2, ![1, 2048]⟩
abbrev S4096x1024 : Shape := ⟨2, ![4096, 1024]⟩
abbrev S2048 : Shape := ⟨1, ![2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x1024, .f32⟩
  | .hbm, ⟨3, _⟩ => ⟨S4096x1024, .f32⟩
  | .hbm, ⟨4, _⟩ => ⟨S2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Tail.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S1x1024, .f32⟩
  | .hbm, ⟨9, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== TailRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .bf16⟩
  | .hbm, ⟨92, _⟩ => ⟨S4096x1024, .bf16⟩
  | .hbm, ⟨93, _⟩ => ⟨S1x1024, .f32⟩
  | .hbm, ⟨94, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_cst_11 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_cst_18 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== AdamIn.lean ====
abbrev S8x1024x640 : Shape := ⟨3, ![8, 1024, 640]⟩
abbrev S1024x640 : Shape := ⟨2, ![1024, 640]⟩
abbrev S8x256x640 : Shape := ⟨3, ![8, 256, 640]⟩
abbrev S256x640 : Shape := ⟨2, ![256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S8x256x640, .bf16⟩
  | .local _ .vmem, ⟨1, _⟩ => ⟨S8x256x640, .bf16⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x640 : Shape := ⟨3, ![8, 1024, 640]⟩
abbrev S1024x640 : Shape := ⟨2, ![1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S8x1024x640, .f32⟩
  | .hbm, ⟨5, _⟩ => ⟨S_, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S_, .f32⟩
  | .hbm, ⟨11, _⟩ => ⟨S1024x640, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamUp.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamGate.lean ====
abbrev S8x1024x256 : Shape := ⟨3, ![8, 1024, 256]⟩
abbrev S1024x256 : Shape := ⟨2, ![1024, 256]⟩
abbrev S1x1024x256 : Shape := ⟨3, ![1, 1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x1024x256, .bf16⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamDown.lean ====
abbrev S8x384x1024 : Shape := ⟨3, ![8, 384, 1024]⟩
abbrev S384x1024 : Shape := ⟨2, ![384, 1024]⟩
abbrev S8x192x1024 : Shape := ⟨3, ![8, 192, 1024]⟩
abbrev S192x1024 : Shape := ⟨2, ![192, 1024]⟩
abbrev S1x192x1024 : Shape := ⟨3, ![1, 192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S8x192x1024, .bf16⟩
  | .local _ .vmem, ⟨1, _⟩ => ⟨S8x192x1024, .bf16⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S8x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S8x384x1024 : Shape := ⟨3, ![8, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S8x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranchA.lean ====
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S8x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchARefIdeal.lean ====
abbrev S8x512x128 : Shape := ⟨3, ![8, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranchB.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x256x128, .bf16⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchBRefIdeal.lean ====
abbrev S8x256x128 : Shape := ⟨3, ![8, 256, 128]⟩
abbrev S256x128 : Shape := ⟨2, ![256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x48x1024 : Shape := ⟨3, ![8, 48, 1024]⟩
abbrev S48x1024 : Shape := ⟨2, ![48, 1024]⟩
abbrev S1x48x1024 : Shape := ⟨3, ![1, 48, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x48x1024, .bf16⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .hbm, ⟨7, _⟩ => ⟨S48x1024, .f32⟩
  | .local _ .vmem, ⟨0, _⟩ => ⟨S8x48x1024, .bf16⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S48x1024, .f32⟩
  | _, _ => ⟨S8x48x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x48x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x48x1024 : Shape := ⟨3, ![8, 48, 1024]⟩
abbrev S48x1024 : Shape := ⟨2, ![48, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x48x1024, .bf16⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S8x48x1024, .f32⟩
  | .hbm, ⟨5, _⟩ => ⟨S_, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S_, .f32⟩
  | .hbm, ⟨11, _⟩ => ⟨S48x1024, .f32⟩
  | .hbm, ⟨12, _⟩ => ⟨S48x1024, .f32⟩
  | .hbm, ⟨13, _⟩ => ⟨S48x1024, .f32⟩
  | .hbm, ⟨14, _⟩ => ⟨S_, .f32⟩
  | .hbm, ⟨15, _⟩ => ⟨S48x1024, .f32⟩
  | .hbm, ⟨16, _⟩ => ⟨S48x1024, .f32⟩
  | .hbm, ⟨17, _⟩ => ⟨S48x1024, .f32⟩
  | .hbm, ⟨18, _⟩ => ⟨S_, .f32⟩
  | .hbm, ⟨19, _⟩ => ⟨S48x1024, .f32⟩
  | .hbm, ⟨20, _⟩ => ⟨S48x1024, .f32⟩
  | .hbm, ⟨21, _⟩ => ⟨S48x1024, .f32⟩
  | .hbm, ⟨22, _⟩ => ⟨S_, .f32⟩
  | .hbm, ⟨23, _⟩ => ⟨S48x1024, .f32⟩
  | .hbm, ⟨24, _⟩ => ⟨S48x1024, .f32⟩
  | .hbm, ⟨25, _⟩ => ⟨S_, .f32⟩
  | .hbm, ⟨26, _⟩ => ⟨S48x1024, .f32⟩
  | .hbm, ⟨27, _⟩ => ⟨S48x1024, .f32⟩
  | .hbm, ⟨28, _⟩ => ⟨S48x1024, .f32⟩
  | .hbm, ⟨29, _⟩ => ⟨S_, .f32⟩
  | .hbm, ⟨30, _⟩ => ⟨S48x1024, .f32⟩
  | .hbm, ⟨31, _⟩ => ⟨S48x1024, .f32⟩
  | .hbm, ⟨32, _⟩ => ⟨S48x1024, .f32⟩
  | .hbm, ⟨33, _⟩ => ⟨S_, .f32⟩
  | .hbm, ⟨34, _⟩ => ⟨S48x1024, .f32⟩
  | .hbm, ⟨35, _⟩ => ⟨S48x1024, .f32⟩
  | .hbm, ⟨36, _⟩ => ⟨S48x1024, .f32⟩
  | .hbm, ⟨37, _⟩ => ⟨S_, .f32⟩
  | .hbm, ⟨38, _⟩ => ⟨S48x1024, .f32⟩
  | .hbm, ⟨39, _⟩ => ⟨S48x1024, .f32⟩
  | _, _ => ⟨S8x48x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== DProj.lean ====
abbrev S4096x2048 : Shape := ⟨2, ![4096, 2048]⟩
abbrev S4096x256 : Shape := ⟨2, ![4096, 256]⟩
abbrev S4096x4608 : Shape := ⟨2, ![4096, 4608]⟩
abbrev S512x2048 : Shape := ⟨2, ![512, 2048]⟩
abbrev S8x2048 : Shape := ⟨2, ![8, 2048]⟩
abbrev S512x256 : Shape := ⟨2, ![512, 256]⟩
abbrev S512x4608 : Shape := ⟨2, ![512, 4608]⟩
abbrev S504x2048 : Shape := ⟨2, ![504, 2048]⟩

abbrev nBuf : Space → Nat
  | .hbm => 12
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x256, .bf16⟩
  | .hbm, ⟨3, _⟩ => ⟨S4096x256, .bf16⟩
  | .hbm, ⟨4, _⟩ => ⟨S4096x256, .bf16⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x4608, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S8x2048, .f32⟩
  | .local _ .vmem, ⟨5, _⟩ => ⟨S8x2048, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x4608, .bf16⟩
  | .local _ .vmem, ⟨25, _⟩ => ⟨S512x4608, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4608 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== DProjRefIdeal.lean ====
abbrev S4096x2048 : Shape := ⟨2, ![4096, 2048]⟩
abbrev S4096x256 : Shape := ⟨2, ![4096, 256]⟩
abbrev S_ : Shape := ⟨0, ![]⟩
abbrev S1x4096x4608 : Shape := ⟨3, ![1, 4096, 4608]⟩
abbrev S1x4096x2048 : Shape := ⟨3, ![1, 4096, 2048]⟩
abbrev S1x4096x2304 : Shape := ⟨3, ![1, 4096, 2304]⟩
abbrev S1x1x2048 : Shape := ⟨3, ![1, 1, 2048]⟩
abbrev S1x4095x2048 : Shape := ⟨3, ![1, 4095, 2048]⟩
abbrev S1x4096x256 : Shape := ⟨3, ![1, 4096, 256]⟩
abbrev S4096x4608 : Shape := ⟨2, ![4096, 4608]⟩

abbrev nBuf : Space → Nat
  | .hbm => 57
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x256, .bf16⟩
  | .hbm, ⟨3, _⟩ => ⟨S4096x256, .bf16⟩
  | .hbm, ⟨4, _⟩ => ⟨S4096x256, .bf16⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S1x4096x4608, .f32⟩
  | .hbm, ⟨13, _⟩ => ⟨S1x4096x2048, .f32⟩
  | .hbm, ⟨14, _⟩ => ⟨S1x4096x2304, .f32⟩
  | .hbm, ⟨15, _⟩ => ⟨S_, .f32⟩
  | .hbm, ⟨16, _⟩ => ⟨S1x1x2048, .f32⟩
  | .hbm, ⟨17, _⟩ => ⟨S1x4095x2048, .f32⟩
  | .hbm, ⟨18, _⟩ => ⟨S1x4096x2048, .f32⟩
  | .hbm, ⟨19, _⟩ => ⟨S_, .f32⟩
  | .hbm, ⟨20, _⟩ => ⟨S1x1x2048, .f32⟩
  | .hbm, ⟨21, _⟩ => ⟨S1x4096x256, .f32⟩
  | .hbm, ⟨22, _⟩ => ⟨S1x4096x256, .f32⟩
  | .hbm, ⟨23, _⟩ => ⟨S1x4096x256, .f32⟩
  | .hbm, ⟨24, _⟩ => ⟨S1x4096x256, .f32⟩
  | .hbm, ⟨25, _⟩ => ⟨S1x4096x256, .f32⟩
  | .hbm, ⟨26, _⟩ => ⟨S1x4096x256, .f32⟩
  | .hbm, ⟨27, _⟩ => ⟨S1x4096x256, .f32⟩
  | .hbm, ⟨28, _⟩ => ⟨S1x4096x256, .f32⟩
  | .hbm, ⟨29, _⟩ => ⟨S1x4096x256, .f32⟩
  | .hbm, ⟨30, _⟩ => ⟨S1x4096x2048, .f32⟩
  | .hbm, ⟨31, _⟩ => ⟨S1x4096x2048, .f32⟩
  | .hbm, ⟨32, _⟩ => ⟨S4096x256, .f32⟩
  | .hbm, ⟨33, _⟩ => ⟨S1x4096x256, .f32⟩
  | .hbm, ⟨34, _⟩ => ⟨S4096x256, .f32⟩
  | .hbm, ⟨35, _⟩ => ⟨S1x4096x256, .f32⟩
  | .hbm, ⟨36, _⟩ => ⟨S4096x256, .f32⟩
  | .hbm, ⟨37, _⟩ => ⟨S1x4096x256, .f32⟩
  | .hbm, ⟨38, _⟩ => ⟨S1x4096x256, .f32⟩
  | .hbm, ⟨39, _⟩ => ⟨S1x4096x256, .f32⟩
  | .hbm, ⟨40, _⟩ => ⟨S1x4096x256, .f32⟩
  | .hbm, ⟨41, _⟩ => ⟨S1x4096x256, .f32⟩
  | .hbm, ⟨42, _⟩ => ⟨S1x4096x256, .f32⟩
  | .hbm, ⟨43, _⟩ => ⟨S1x4096x256, .f32⟩
  | .hbm, ⟨44, _⟩ => ⟨S1x4096x2304, .f32⟩
  | .hbm, ⟨45, _⟩ => ⟨S1x1x2048, .f32⟩
  | .hbm, ⟨46, _⟩ => ⟨S1x4095x2048, .f32⟩
  | .hbm, ⟨47, _⟩ => ⟨S_, .f32⟩
  | .hbm, ⟨48, _⟩ => ⟨S1x4096x2048, .f32⟩
  | .hbm, ⟨49, _⟩ => ⟨S1x4096x2048, .f32⟩
  | .hbm, ⟨50, _⟩ => ⟨S_, .f32⟩
  | .hbm, ⟨51, _⟩ => ⟨S1x4096x4608, .f32⟩
  | .hbm, ⟨52, _⟩ => ⟨S_, .f32⟩
  | .hbm, ⟨53, _⟩ => ⟨S1x4096x4608, .f32⟩
  | .hbm, ⟨54, _⟩ => ⟨S1x4096x4608, .f32⟩
  | .hbm, ⟨55, _⟩ => ⟨S4096x4608, .f32⟩
  | .hbm, ⟨56, _⟩ => ⟨S4096x4608, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_2 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== ConvFwd.lean ====
abbrev S4096x6144 : Shape := ⟨2, ![4096, 6144]⟩
abbrev S3x6144 : Shape := ⟨2, ![3, 6144]⟩
abbrev S1x6144 : Shape := ⟨2, ![1, 6144]⟩
abbrev S4096x3072 : Shape := ⟨2, ![4096, 3072]⟩
abbrev S512x512 : Shape := ⟨2, ![512, 512]⟩
abbrev S8x512 : Shape := ⟨2, ![8, 512]⟩
abbrev S3x512 : Shape := ⟨2, ![3, 512]⟩
abbrev S1x512 : Shape := ⟨2, ![1, 512]⟩
abbrev S504x512 : Shape := ⟨2, ![504, 512]⟩

abbrev nBuf : Space → Nat
  | .hbm => 4
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S1x6144, .f32⟩
  | .hbm, ⟨3, _⟩ => ⟨S4096x3072, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S3x512, .f32⟩
  | .local _ .vmem, ⟨13, _⟩ => ⟨S3x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S512x512, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi arg0 c6_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ConvFwdRefIdeal.lean ====
abbrev S4096x6144 : Shape := ⟨2, ![4096, 6144]⟩
abbrev S3x6144 : Shape := ⟨2, ![3, 6144]⟩
abbrev S1x6144 : Shape := ⟨2, ![1, 6144]⟩
abbrev S1x4096x6144 : Shape := ⟨3, ![1, 4096, 6144]⟩
abbrev S6144 : Shape := ⟨1, ![6144]⟩
abbrev S1x1x6144 : Shape := ⟨3, ![1, 1, 6144]⟩
abbrev S_ : Shape := ⟨0, ![]⟩
abbrev S1x4095x6144 : Shape := ⟨3, ![1, 4095, 6144]⟩
abbrev S1x2x6144 : Shape := ⟨3, ![1, 2, 6144]⟩
abbrev S1x4094x6144 : Shape := ⟨3, ![1, 4094, 6144]⟩
abbrev S1x4096x3072 : Shape := ⟨3, ![1, 4096, 3072]⟩
abbrev S4096x3072 : Shape := ⟨2, ![4096, 3072]⟩

abbrev nBuf : Space → Nat
  | .hbm => 58
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S3x6144, .f32⟩
  | .hbm, ⟨2, _⟩ => ⟨S1x6144, .f32⟩
  | .hbm, ⟨3, _⟩ => ⟨S1x4096x6144, .f32⟩
  | .hbm, ⟨4, _⟩ => ⟨S6144, .f32⟩
  | .hbm, ⟨5, _⟩ => ⟨S1x6144, .f32⟩
  | .hbm, ⟨6, _⟩ => ⟨S6144, .f32⟩
  | .hbm, ⟨7, _⟩ => ⟨S1x1x6144, .f32⟩
  | .hbm, ⟨8, _⟩ => ⟨S1x4096x6144, .f32⟩
  | .hbm, ⟨9, _⟩ => ⟨S1x4096x6144, .f32⟩
  | .hbm, ⟨10, _⟩ => ⟨S_, .f32⟩
  | .hbm, ⟨11, _⟩ => ⟨S1x4096x6144, .f32⟩
  | .hbm, ⟨12, _⟩ => ⟨S1x4096x6144, .f32⟩
  | .hbm, ⟨13, _⟩ => ⟨S1x6144, .f32⟩
  | .hbm, ⟨14, _⟩ => ⟨S6144, .f32⟩
  | .hbm, ⟨15, _⟩ => ⟨S_, .f32⟩
  | .hbm, ⟨16, _⟩ => ⟨S1x1x6144, .f32⟩
  | .hbm, ⟨17, _⟩ => ⟨S1x4095x6144, .f32⟩
  | .hbm, ⟨18, _⟩ => ⟨S1x4096x6144, .f32⟩
  | .hbm, ⟨19, _⟩ => ⟨S1x1x6144, .f32⟩
  | .hbm, ⟨20, _⟩ => ⟨S1x4096x6144, .f32⟩
  | .hbm, ⟨21, _⟩ => ⟨S1x4096x6144, .f32⟩
  | .hbm, ⟨22, _⟩ => ⟨S1x4096x6144, .f32⟩
  | .hbm, ⟨23, _⟩ => ⟨S1x6144, .f32⟩
  | .hbm, ⟨24, _⟩ => ⟨S6144, .f32⟩
  | .hbm, ⟨25, _⟩ => ⟨S_, .f32⟩
  | .hbm, ⟨26, _⟩ => ⟨S1x2x6144, .f32⟩
  | .hbm, ⟨27, _⟩ => ⟨S1x4094x6144, .f32⟩
  | .hbm, ⟨28, _⟩ => ⟨S1x4096x6144, .f32⟩
  | .hbm, ⟨29, _⟩ => ⟨S1x1x6144, .f32⟩
  | .hbm, ⟨30, _⟩ => ⟨S1x4096x6144, .f32⟩
  | .hbm, ⟨31, _⟩ => ⟨S1x4096x6144, .f32⟩
  | .hbm, ⟨32, _⟩ => ⟨S1x4096x6144, .f32⟩
  | .hbm, ⟨33, _⟩ => ⟨S1x1x6144, .f32⟩
  | .hbm, ⟨34, _⟩ => ⟨S1x4096x6144, .f32⟩
  | .hbm, ⟨35, _⟩ => ⟨S1x4096x6144, .f32⟩
  | .hbm, ⟨36, _⟩ => ⟨S1x4096x3072, .f32⟩
  | .hbm, ⟨37, _⟩ => ⟨S1x4096x3072, .f32⟩
  | .hbm, ⟨38, _⟩ => ⟨S1x4096x3072, .f32⟩
  | .hbm, ⟨39, _⟩ => ⟨S1x4096x3072, .f32⟩
  | .hbm, ⟨40, _⟩ => ⟨S_, .f32⟩
  | .hbm, ⟨41, _⟩ => ⟨S1x4096x3072, .f32⟩
  | .hbm, ⟨42, _⟩ => ⟨S1x4096x3072, .f32⟩
  | .hbm, ⟨43, _⟩ => ⟨S1x4096x3072, .f32⟩
  | .hbm, ⟨44, _⟩ => ⟨S_, .f32⟩
  | .hbm, ⟨45, _⟩ => ⟨S1x4096x3072, .f32⟩
  | .hbm, ⟨46, _⟩ => ⟨S1x4096x3072, .f32⟩
  | .hbm, ⟨47, _⟩ => ⟨S1x4096x3072, .f32⟩
  | .hbm, ⟨48, _⟩ => ⟨S_, .f32⟩
  | .hbm, ⟨49, _⟩ => ⟨S1x4096x3072, .f32⟩
  | .hbm, ⟨50, _⟩ => ⟨S1x4096x3072, .f32⟩
  | .hbm, ⟨51, _⟩ => ⟨S_, .f32⟩
  | .hbm, ⟨52, _⟩ => ⟨S1x4096x3072, .f32⟩
  | .hbm, ⟨53, _⟩ => ⟨S1x4096x3072, .f32⟩
  | .hbm, ⟨54, _⟩ => ⟨S1x4096x3072, .f32⟩
  | .hbm, ⟨55, _⟩ => ⟨S1x4096x3072, .f32⟩
  | .hbm, ⟨56, _⟩ => ⟨S4096x3072, .f32⟩
  | .hbm, ⟨57, _⟩ => ⟨S4096x3072, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== ShuffleGrad.lean ====
abbrev S1024x4608 : Shape := ⟨2, ![1024, 4608]⟩
abbrev S8x1024x640 : Shape := ⟨3, ![8, 1024, 640]⟩
abbrev S1024x768 : Shape := ⟨2, ![1024, 768]⟩
abbrev S1x1024x640 : Shape := ⟨3, ![1, 1024, 640]⟩
abbrev S1024x640 : Shape := ⟨2, ![1024, 640]⟩
abbrev S640x768 : Shape := ⟨2, ![640, 768]⟩

abbrev nBuf : Space → Nat
  | .hbm => 2
  | .vmem => 5
  | .smem => 0
  | _ => 0

abbrev bufTy : (tb : Table) → Fin (tcTables nBuf tb) → BufTy
  | .hbm, ⟨0, _⟩ => ⟨S1024x4608, .bf16⟩
  | .hbm, ⟨1, _⟩ => ⟨S8x1024x640, .bf16⟩
  | .local _ .vmem, ⟨0, _⟩ => ⟨S1024x768, .bf16⟩
  | .local _ .vmem, ⟨1, _⟩ => ⟨S1024x768, .bf16⟩
  | .local _ .vmem, ⟨2, _⟩ => ⟨S1x1024x640, .bf16⟩
  | .local _ .vmem, ⟨3, _⟩ => ⟨S1x1024x640, .bf16⟩
  | .local _ .vmem, ⟨4, _⟩ => ⟨S1024x640, .f32⟩
  | _, _ => ⟨S1024x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32_25 : BitVec 32 := 1#32
  let v67 : BitVec 1 := Scalar.cmpi .eq arg1 c1_i32_25
  let v68 : BitVec 32 := Scalar.extui v67
  let c0_i32_26 : BitVec 32 := 0#32
  let v69 : BitVec 1 := Scalar.cmpi .ne v68 c0_i32_26
  v69

def cc0_transform_0 (i : grid0.Coords) : Fin 2 → Nat :=
  let arg0 : BitVec 32 := BitVec.ofNat 32 (i 0).val
  let arg1 : BitVec 32 := BitVec.ofNat 32 (i 1).val
  let c516_i32 : BitVec 32 := 516#32
  let v0 : BitVec 32 := Scalar.muli arg0 c516_i32
  let c1600_i32 : BitVec 32 := 1600#32
  let v1 : BitVec 1 := Scalar.cmpi .sge v0 c1600_i32
  let c64_i32 : BitVec 32 := 64#32
  let c0_i32 : BitVec 32 := 0#32
  let v2 : BitVec 32 := Scalar.select v1 c64_i32 c0_i32
  let v3 : BitVec 32 := Scalar.addi v0 v2
  let c1664_i32 : BitVec 32 := 1664#32
  let v4 : BitVec 1 := Scalar.cmpi .sge v0 c1664_i32
  let c64_i32_0 : BitVec 32 := 64#32
  let c0_i32_1 : BitVec 32 := 0#32
  let v5 : BitVec 32 := Scalar.select v4 c64_i32_0 c0_i32_1
  let v6 : BitVec 32 := Scalar.addi v3 v5
  let c1824_i32 : BitVec 32 := 1824#32
  let v7 : BitVec 1 := Scalar.cmpi .sge v0 c1824_i32
  let c96_i32 : BitVec 32 := 96#32
  let c0_i32_2 : BitVec 32 := 0#32
  let v8 : BitVec 32 := Scalar.select v7 c96_i32 c0_i32_2
  let v9 : BitVec 32 := Scalar.addi v6 v8
  let c768_i32 : BitVec 32 := 768#32
  let v10 : BitVec 32 := Scalar.divsi v9 c768_i32
  let c0_i32_3 : BitVec 32 := 0#32
  let v11 : BitVec 1 := Scalar.cmpi .sgt v9 c0_i32_3
  let v12 : BitVec 32 := Scalar.extui v11
  let c0_i32_4 : BitVec 32 := 0#32
  let v13 : BitVec 1 := Scalar.cmpi .slt v9 c0_i32_4
  let v14 : BitVec 32 := Scalar.extui v13
  let v15 : BitVec 32 := Scalar.subi v12 v14
  let c0_i32_5 : BitVec 32 := 0#32
  let v16 : BitVec 1 := Scalar.cmpi .sgt c768_i32 c0_i32_5
  let v17 : BitVec 32 := Scalar.extui v16
  let c0_i32_6 : BitVec 32 := 0#32
  let v18 : BitVec 1 := Scalar.cmpi .slt c768_i32 c0_i32_6
  let v19 : BitVec 32 := Scalar.extui v18
  let v20 : BitVec 32 := Scalar.subi v17 v19
  let v21 : BitVec 1 := Scalar.cmpi .ne v15 v20
  let v22 : BitVec 32 := Scalar.remsi v9 c768_i32
  let c0_i32_7 : BitVec 32 := 0#32
  let v23 : BitVec 1 := Scalar.cmpi .ne v22 c0_i32_7
  let v24 : BitVec 1 := Scalar.andi v21 v23
  let c1_i32 : BitVec 32 := 1#32
  let v25 : BitVec 32 := Scalar.subi v10 c1_i32
  let v26 : BitVec 32 := Scalar.select v24 v25 v10
  let v27 : BitVec 32 := Scalar.addi v26 arg1
  let c0_i32_8 : BitVec 32 := 0#32
  let c0_i32_9 : BitVec 32 := 0#32
  ![c0_i32_8.toNat, v27.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ShuffleGradRefIdeal.lean ====
abbrev S1024x4608 : Shape := ⟨2, ![1024, 4608]⟩
abbrev S1024x1600 : Shape := ⟨2, ![1024, 1600]⟩
abbrev S1024x64 : Shape := ⟨2, ![1024, 64]⟩
abbrev S1024x160 : Shape := ⟨2, ![1024, 160]⟩
abbrev S1024x2304 : Shape := ⟨2, ![1024, 2304]⟩
abbrev S1024x4128 : Shape := ⟨2, ![1024, 4128]⟩
abbrev S1024x8x516 : Shape := ⟨3, ![1024, 8, 516]⟩
abbrev S8x1024x516 : Shape := ⟨3, ![8, 1024, 516]⟩
abbrev S_ : Shape := ⟨0, ![]⟩
abbrev S8x1024x124 : Shape := ⟨3, ![8, 1024, 124]⟩
abbrev S8x1024x640 : Shape := ⟨3, ![8, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S1024x4608, .bf16⟩
  | .hbm, ⟨1, _⟩ => ⟨S1024x1600, .bf16⟩
  | .hbm, ⟨2, _⟩ => ⟨S1024x64, .bf16⟩
  | .hbm, ⟨3, _⟩ => ⟨S1024x160, .bf16⟩
  | .hbm, ⟨4, _⟩ => ⟨S1024x2304, .bf16⟩
  | .hbm, ⟨5, _⟩ => ⟨S1024x4128, .bf16⟩
  | .hbm, ⟨6, _⟩ => ⟨S1024x8x516, .bf16⟩
  | .hbm, ⟨7, _⟩ => ⟨S8x1024x516, .bf16⟩
  | .hbm, ⟨8, _⟩ => ⟨S_, .bf16⟩
  | .hbm, ⟨9, _⟩ => ⟨S8x1024x124, .bf16⟩
  | .hbm, ⟨10, _⟩ => ⟨S8x1024x640, .bf16⟩
  | _, _ => ⟨S1024x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Unshuffle.lean ====
abbrev S8x1024x640 : Shape := ⟨3, ![8, 1024, 640]⟩
abbrev S1024x4608 : Shape := ⟨2, ![1024, 4608]⟩
abbrev S1x1024x640 : Shape := ⟨3, ![1, 1024, 640]⟩
abbrev S1024x768 : Shape := ⟨2, ![1024, 768]⟩
abbrev S1024x640 : Shape := ⟨2, ![1024, 640]⟩
abbrev S640x768 : Shape := ⟨2, ![640, 768]⟩

abbrev nBuf : Space → Nat
  | .hbm => 2
  | .vmem => 5
  | .smem => 0
  | _ => 0

abbrev bufTy : (tb : Table) → Fin (tcTables nBuf tb) → BufTy
  | .hbm, ⟨0, _⟩ => ⟨S8x1024x640, .bf16⟩
  | .hbm, ⟨1, _⟩ => ⟨S1024x4608, .bf16⟩
  | .local _ .vmem, ⟨0, _⟩ => ⟨S1x1024x640, .bf16⟩
  | .local _ .vmem, ⟨1, _⟩ => ⟨S1x1024x640, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![6, 3], ![false, false]⟩

def k0_cond3 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_5 : BitVec 32 := 0#32
  let v15 : BitVec 1 := Scalar.cmpi .ne v14 c0_i32_5
  v15

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .sge arg0 c3_i32
  let c1_i32 : BitVec 32 := 1#32
  let c0_i32 : BitVec 32 := 0#32
  let v1 : BitVec 32 := Scalar.select v0 c1_i32 c0_i32
  let v2 : BitVec 32 := Scalar.addi arg0 v1
  let c5_i32 : BitVec 32 := 5#32
  let v3 : BitVec 1 := Scalar.cmpi .sge arg0 c5_i32
  let c1_i32_0 : BitVec 32 := 1#32
  let c0_i32_1 : BitVec 32 := 0#32
  let v4 : BitVec 32 := Scalar.select v3 c1_i32_0 c0_i32_1
  let v5 : BitVec 32 := Scalar.addi v2 v4
  let v6 : BitVec 32 := Scalar.addi v5 arg1
  let c7_i32 : BitVec 32 := 7#32
  let v7 : BitVec 32 := Scalar.minsi v6 c7_i32
  let c0_i32_2 : BitVec 32 := 0#32
  let c0_i32_3 : BitVec 32 := 0#32
  let c0_i32_4 : BitVec 32 := 0#32
  ![v7.toNat, c0_i32_2.toNat, c0_i32_3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== UnshuffleRefIdeal.lean ====
abbrev S8x1024x640 : Shape := ⟨3, ![8, 1024, 640]⟩
abbrev S8x1024x516 : Shape := ⟨3, ![8, 1024, 516]⟩
abbrev S1024x8x516 : Shape := ⟨3, ![1024, 8, 516]⟩
abbrev S1024x4128 : Shape := ⟨2, ![1024, 4128]⟩
abbrev S1024x1600 : Shape := ⟨2, ![1024, 1600]⟩
abbrev S_ : Shape := ⟨0, ![]⟩
abbrev S1024x64 : Shape := ⟨2, ![1024, 64]⟩
abbrev S1024x160 : Shape := ⟨2, ![1024, 160]⟩
abbrev S1024x96 : Shape := ⟨2, ![1024, 96]⟩
abbrev S1024x2304 : Shape := ⟨2, ![1024, 2304]⟩
abbrev S1024x256 : Shape := ⟨2, ![1024, 256]⟩
abbrev S1024x4608 : Shape := ⟨2, ![1024, 4608]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S8x1024x516, .bf16⟩
  | .hbm, ⟨2, _⟩ => ⟨S1024x8x516, .bf16⟩
  | .hbm, ⟨3, _⟩ => ⟨S1024x4128, .bf16⟩
  | .hbm, ⟨4, _⟩ => ⟨S1024x1600, .bf16⟩
  | .hbm, ⟨5, _⟩ => ⟨S_, .bf16⟩
  | .hbm, ⟨6, _⟩ => ⟨S1024x64, .bf16⟩
  | .hbm, ⟨7, _⟩ => ⟨S1024x64, .bf16⟩
  | .hbm, ⟨8, _⟩ => ⟨S_, .bf16⟩
  | .hbm, ⟨9, _⟩ => ⟨S1024x64, .bf16⟩
  | .hbm, ⟨10, _⟩ => ⟨S1024x160, .bf16⟩
  | .hbm, ⟨11, _⟩ => ⟨S_, .bf16⟩
  | .hbm, ⟨12, _⟩ => ⟨S1024x96, .bf16⟩
  | .hbm, ⟨13, _⟩ => ⟨S1024x2304, .bf16⟩
  | .hbm, ⟨14, _⟩ => ⟨S_, .bf16⟩
  | .hbm, ⟨15, _⟩ => ⟨S1024x256, .bf16⟩
  | .hbm, ⟨16, _⟩ => ⟨S1024x4608, .bf16⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.ConvMath.lean ====
module

public import Idealize.ShloMosaic.Lib.Pointwise

/-!
The gradient of the causal three-tap convolution followed by the gated tanh unit, over the extended
reals: the formulas both programs are read to.
-/

@[expose] public section

noncomputable section

namespace Cert.ConvMath

open Idealize.ShloMosaic

/-- The factor √(2/π) of the tanh form, as its `f32` word reads. -/
def k1 : EReal := Ideal.ofBits FTy.f32 1061962282#32

/-- The factor of the cube in the tanh form, as its `f32` word reads. -/
def k2 : EReal := Ideal.ofBits FTy.f32 1027024659#32

/-- One half, as its `f32` word reads. -/
def hf : EReal := Ideal.ofBits FTy.f32 1056964608#32

/-- The hyperbolic tangent inside the gate. -/
def th (x : EReal) : EReal := Ideal.tanh (k1 * (x + k2 * (x * x * x)))

/-- The part of the gate's gradient that comes through the tangent. -/
def qq (x y d : EReal) : EReal := hf * x * (d * y) * ((1 + th x) * (1 - th x))

/-- The gradient at the gate column's convolution `x`, the value column's being `y` and the result's gradient `d`. -/
def gGate (x y d : EReal) : EReal :=
  k1 * qq x y d + x * x * (k2 * (k1 * qq x y d)) + x * (k2 * (k1 * qq x y d) * x) + k2 * (k1 * qq x y d) * x * x
    + hf * (d * y * (1 + th x))

/-- The gradient at the value column's convolution. -/
def gVal (x d : EReal) : EReal := hf * x * (1 + th x) * d

/-- Three times a number is its sum with itself twice, on the extended reals too. -/
theorem three_mul' (s : EReal) : s + s + s = 3 * s := by
  have h3 : (3 : EReal) = ((3 : ℝ) : EReal) := rfl
  induction s using EReal.rec with
  | bot => rw [h3, EReal.coe_mul_bot_of_pos (by norm_num)]; rfl
  | top => rw [h3, EReal.coe_mul_top_of_pos (by norm_num)]; rfl
  | coe x => rw [h3, ← EReal.coe_mul, ← EReal.coe_add, ← EReal.coe_add]; congr 1; ring

/-- The derivative of the cube taken as `3 x²` gives the same gradient. -/
theorem gGate_eq (x y d : EReal) :
    d * y * (hf * (1 + th x)) + k1 * (hf * (x * (d * y)) * ((1 + th x) * (1 - th x)))
      + k2 * (k1 * (hf * (x * (d * y)) * ((1 + th x) * (1 - th x)))) * (3 * (x * x)) = gGate x y d := by
  have hq : hf * (x * (d * y)) * ((1 + th x) * (1 - th x)) = qq x y d := by
    unfold qq; simp only [mul_assoc, mul_comm, mul_left_comm]
  rw [hq]
  unfold gGate
  generalize qq x y d = q
  have h1 : k2 * (k1 * q) * (3 * (x * x)) = 3 * (x * x * (k2 * (k1 * q))) := by
    simp only [mul_assoc, mul_comm, mul_left_comm]
  have h2 : x * (k2 * (k1 * q) * x) = x * x * (k2 * (k1 * q)) := by
    simp only [mul_assoc, mul_comm, mul_left_comm]
  have h3 : k2 * (k1 * q) * x * x = x * x * (k2 * (k1 * q)) := by
    simp only [mul_assoc, mul_comm, mul_left_comm]
  have h4 : d * y * (hf * (1 + th x)) = hf * (d * y * (1 + th x)) := by
    simp only [mul_assoc, mul_comm, mul_left_comm]
  rw [h1, h2, h3, h4, ← three_mul']
  simp only [add_assoc, add_comm, add_left_comm]

/-- The value gradient with the result's gradient on the right of the gated column. -/
theorem gVal_eq (x d : EReal) : x * (hf * (1 + th x)) * d = gVal x d := by
  unfold gVal; simp only [mul_assoc, mul_comm, mul_left_comm]

/-! ### Rows of the arrays, numbered by naturals -/

/-- Row `n - k` of a column of `U`, zero before the first row. -/
def back (U : (⟨2, ![4096, 6144]⟩ : Shape).Idx → EReal) (k n : ℕ) (c : Fin 6144) : EReal :=
  if h : k ≤ n ∧ n - k < 4096 then U (ix2 ⟨n - k, h.2⟩ c) else 0

/-- The causal three-tap convolution with its bias. -/
def conv (U : (⟨2, ![4096, 6144]⟩ : Shape).Idx → EReal) (W : (⟨2, ![3, 6144]⟩ : Shape).Idx → EReal)
    (B : (⟨2, ![1, 6144]⟩ : Shape).Idx → EReal) (n : ℕ) (c : Fin 6144) : EReal :=
  B (ix2 0 c) + W (ix2 0 c) * back U 0 n c + W (ix2 1 c) * back U 1 n c + W (ix2 2 c) * back U 2 n c

/-- A gate column's place among all columns. -/
def colG (c : Fin 3072) : Fin 6144 := ⟨c.val, by omega⟩

/-- A value column's place among all columns. -/
def colV (c : Fin 3072) : Fin 6144 := ⟨3072 + c.val, by omega⟩

section
variable (U : (⟨2, ![4096, 6144]⟩ : Shape).Idx → EReal) (W : (⟨2, ![3, 6144]⟩ : Shape).Idx → EReal)
  (B : (⟨2, ![1, 6144]⟩ : Shape).Idx → EReal) (D : (⟨2, ![4096, 3072]⟩ : Shape).Idx → EReal)

/-- The gradient at row `n` of a gate column's convolution, zero past the last row. -/
def dcG (c : Fin 3072) (n : ℕ) : EReal :=
  if h : n < 4096 then gGate (conv U W B n (colG c)) (conv U W B n (colV c)) (D (ix2 ⟨n, h⟩ c)) else 0

/-- The gradient at row `n` of a value column's convolution, zero past the last row. -/
def dcV (c : Fin 3072) (n : ℕ) : EReal :=
  if h : n < 4096 then gVal (conv U W B n (colG c)) (D (ix2 ⟨n, h⟩ c)) else 0

end

/-- The convolution's gradient at its input: three taps forward. -/
def up (W : (⟨2, ![3, 6144]⟩ : Shape).Idx → EReal) (dc : ℕ → EReal) (c : Fin 6144) (n : ℕ) : EReal :=
  W (ix2 0 c) * dc n + W (ix2 1 c) * dc (n + 1) + W (ix2 2 c) * dc (n + 2)

/-- The gradient at tap `k`: the sum over all rows. -/
def tap (U : (⟨2, ![4096, 6144]⟩ : Shape).Idx → EReal) (dc : ℕ → EReal) (c : Fin 6144) (k : ℕ) (n : ℕ) : EReal :=
  dc n * back U k n c

/-- A sum over all rows. -/
def tot (f : ℕ → EReal) : EReal := ∑ n ∈ Finset.Ico 0 4096, f n

/-- A sum over all rows as a sum over an index. -/
theorem tot_eq (f : ℕ → EReal) : tot f = ∑ n : Fin 4096, f n.val := by
  unfold tot
  rw [Finset.sum_Ico_eq_sum_range, Finset.sum_range]
  exact Finset.sum_congr rfl fun i _ => by rw [Nat.zero_add]

/-- One row tile's part of a sum, in front of the rows below it. -/
theorem tile_add (f : ℕ → EReal) (r : ℕ) (hr : r < 8) :
    (∑ n ∈ Finset.Ico (512 * (r + 1)) 4096, f n) + ∑ x : Fin 512, f (512 * r + x.val)
      = ∑ n ∈ Finset.Ico (512 * r) 4096, f n := by
  rw [add_comm, ← Finset.sum_Ico_consecutive f (show 512 * r ≤ 512 * (r + 1) by omega) (by omega)]
  congr 1
  rw [Finset.sum_Ico_eq_sum_range, show 512 * (r + 1) - 512 * r = 512 by omega, Finset.sum_range]

end Cert.ConvMath

end
-- ==== Proof.ConvDefs.lean ====
module

public import proofs.«01_k».proof.Proof.Gen.KernelIdeal.Frame.Runs

/-!
The tiles one step of the gradient kernel forms from its blocks.
-/

@[expose] public section

set_option maxRecDepth 16384

noncomputable section

namespace Cert.KernelIdeal.Conv

open Cert.KernelIdeal Cert.KernelIdeal.Gen Idealize.ShloMosaic Idealize.ShloMosaic.TcCoe Idealize.SL.Sem

/-- Zero index offsets of a whole load or store. -/
theorem hz : (![0, 0] : Fin 2 → Nat) = fun _ => 0 := funext fun a => by fin_cases a <;> rfl

section Tiles

variable {F : FTy → Type} [FloatOps F]

/-- The convolved gate columns of one row tile. -/
def cG (i : grid0.Coords) (x0 : Vec F S512x512 .f32) (x1 : Vec F S8x512 .f32) (x4 : Vec F S3x512 .f32) (x5 : Vec F S1x512 .f32) :
    FVec F S512x512 .f32 :=
  k0_pay12 x0 x4 (k0_pay7 i x1) (k0_pay9 x0 x4 x5) (k0_pay10 i x0 x1) (k0_pay11 x4)

/-- The convolved value columns of one row tile. -/
def cV (i : grid0.Coords) (x2 : Vec F S512x512 .f32) (x3 : Vec F S8x512 .f32) (x6 : Vec F S3x512 .f32) (x7 : Vec F S1x512 .f32) :
    FVec F S512x512 .f32 :=
  k0_pay13 x2 x6 x7 (k0_pay8 i x3)

/-- Half the convolved gate columns. -/
def cH (i : grid0.Coords) (x0 : Vec F S512x512 .f32) (x1 : Vec F S8x512 .f32) (x4 : Vec F S3x512 .f32) (x5 : Vec F S1x512 .f32) :
    FVec F S512x512 .f32 :=
  k0_pay14 x0 x4 (k0_pay7 i x1) (k0_pay9 x0 x4 x5) (k0_pay10 i x0 x1) (k0_pay11 x4)

/-- The square of the convolved gate columns. -/
def cQ (i : grid0.Coords) (x0 : Vec F S512x512 .f32) (x1 : Vec F S8x512 .f32) (x4 : Vec F S3x512 .f32) (x5 : Vec F S1x512 .f32) :
    FVec F S512x512 .f32 :=
  k0_pay15 x0 x4 (k0_pay7 i x1) (k0_pay9 x0 x4 x5) (k0_pay10 i x0 x1) (k0_pay11 x4)

/-- The cube of the convolved gate columns. -/
def cC (i : grid0.Coords) (x0 : Vec F S512x512 .f32) (x1 : Vec F S8x512 .f32) (x4 : Vec F S3x512 .f32) (x5 : Vec F S1x512 .f32) :
    FVec F S512x512 .f32 :=
  k0_pay16 x0 x4 (k0_pay7 i x1) (k0_pay9 x0 x4 x5) (k0_pay10 i x0 x1) (k0_pay11 x4)

/-- The gradient at the convolved gate columns of one row tile. -/
def tG (i : grid0.Coords) (x0 : Vec F S512x512 .f32) (x1 : Vec F S8x512 .f32) (x2 : Vec F S512x512 .f32) (x3 : Vec F S8x512 .f32)
    (x4 : Vec F S3x512 .f32) (x5 : Vec F S1x512 .f32) (x6 : Vec F S3x512 .f32) (x7 : Vec F S1x512 .f32) (x8 : Vec F S512x512 .bf16) :
    FVec F S512x512 .f32 :=
  k0_pay21 x8 (cG i x0 x1 x4 x5) (cV i x2 x3 x6 x7) (cH i x0 x1 x4 x5) (cQ i x0 x1 x4 x5) (cC i x0 x1 x4 x5)

/-- The gradient at the convolved value columns of one row tile. -/
def tV (i : grid0.Coords) (x0 : Vec F S512x512 .f32) (x1 : Vec F S8x512 .f32)
    (x4 : Vec F S3x512 .f32) (x5 : Vec F S1x512 .f32) (x8 : Vec F S512x512 .bf16) :
    FVec F S512x512 .f32 :=
  k0_pay20 x8 (cG i x0 x1 x4 x5) (cH i x0 x1 x4 x5) (cC i x0 x1 x4 x5)

/-- The gradient tile of the gate columns, from the gradient at the convolved columns and the first rows of the next tile's. -/
def dG (x4 : Vec F S3x512 .f32) (T : FVec F S512x512 .f32) (nxt : Vec F S8x512 .f32) : FVec F S512x512 .f32 :=
  k0_pay28 x4 T nxt
    (mulf (broadcastTo S512x512 (extractStridedSlice S1x512 ![0, 0] x4 slices_S3x512_o0_0_S1x512) broadcasts_S1x512_S512x512) T)
    (k0_pay25 x4) (dynamicRotate 0 511#32 none T rotates_S512x512_d0) (k0_pay27 nxt) (iota .tc S8x512 32 [0] iota_S8x512_d0_w32)

/-- The gradient tile of the value columns. -/
def dV (x6 : Vec F S3x512 .f32) (T : FVec F S512x512 .f32) (nxt : Vec F S8x512 .f32) : FVec F S512x512 .f32 :=
  k0_pay34 (k0_pay30 x6 T nxt) (k0_pay31 x6) (k0_pay32 T) (k0_pay33 nxt)

end Tiles

end Cert.KernelIdeal.Conv

end
-- ==== Proof.ConvTile.lean ====
module

public import proofs.«01_k».proof.Proof.ConvMath
public import proofs.«01_k».proof.Proof.ConvDefs

/-!
One row tile's values over the extended reals: each payload of the body, read at an index, is the
formula at the tile's rows.
-/

@[expose] public section

set_option maxRecDepth 16384

noncomputable section

namespace Cert.KernelIdeal.Conv

open Cert.KernelIdeal Cert.KernelIdeal.Gen Cert.ConvMath Idealize.ShloMosaic Idealize.ShloMosaic.TcCoe Idealize.SL.Sem

/-- A tile's rows moved down by two, the last two rows of the tile above in front. -/
def sh2 (i : grid0.Coords) (x0 : Vec Ideal S512x512 .f32) (x1 : Vec Ideal S8x512 .f32) : FVec Ideal S512x512 .f32 :=
  concatenate S512x512 0
    [⟨S8x512, select (cmpi .slt (iota .tc S8x512 32 [0] iota_S8x512_d0_w32) (broadcast S8x512 2#32))
        (dynamicRotate 0 2#32 none (k0_pay7 i x1) rotates_S8x512_d0)
        (extractStridedSlice S8x512 ![0, 0] (dynamicRotate 0 2#32 none x0 rotates_S512x512_d0) slices_S512x512_o0_0_S8x512)⟩,
     ⟨S504x512, extractStridedSlice S504x512 ![8, 0] (dynamicRotate 0 2#32 none x0 rotates_S512x512_d0) slices_S512x512_o8_0_S504x512⟩]
    concatenates_S8x512_S504x512_S512x512_d0

theorem cV_eq (i : grid0.Coords) (x2 : Vec Ideal S512x512 .f32) (x3 : Vec Ideal S8x512 .f32) (x6 : Vec Ideal S3x512 .f32)
    (x7 : Vec Ideal S1x512 .f32) : cV i x2 x3 x6 x7 = cG i x2 x3 x6 x7 := rfl

theorem dV_eq (x6 : Vec Ideal S3x512 .f32) (T : FVec Ideal S512x512 .f32) (nxt : Vec Ideal S8x512 .f32) :
    dV x6 T nxt = dG x6 T nxt := rfl

theorem pay37_eq (i : grid0.Coords) (x0 : Vec Ideal S512x512 .f32) (x1 : Vec Ideal S8x512 .f32) (T : FVec Ideal S512x512 .f32) :
    k0_pay37 x0 (k0_pay7 i x1) T = k0_pay36 (k0_pay10 i x0 x1) T := rfl

theorem pay38_eq (i : grid0.Coords) (x0 : Vec Ideal S512x512 .f32) (x1 : Vec Ideal S8x512 .f32) (T : FVec Ideal S512x512 .f32) :
    k0_pay38 x0 (k0_pay7 i x1) T = k0_pay36 (sh2 i x0 x1) T := rfl

theorem pay42_eq (i : grid0.Coords) (x0 : Vec Ideal S512x512 .f32) (x1 : Vec Ideal S8x512 .f32) (T : FVec Ideal S512x512 .f32) :
    k0_pay42 x0 (k0_pay8 i x1) T = k0_pay36 (k0_pay10 i x0 x1) T := rfl

theorem pay43_eq (i : grid0.Coords) (x0 : Vec Ideal S512x512 .f32) (x1 : Vec Ideal S8x512 .f32) (T : FVec Ideal S512x512 .f32) :
    k0_pay43 x0 (k0_pay8 i x1) T = k0_pay36 (sh2 i x0 x1) T := rfl

theorem pay40_eq (x0 : Vec Ideal S512x512 .f32) (T : FVec Ideal S512x512 .f32) :
    k0_pay41 (k0_pay40 x0 T) = k0_pay36 x0 T := rfl

/-- A column sum of products. -/
theorem pay36_apply (x T : FVec Ideal S512x512 .f32) (j : S1x512.Idx) :
    k0_pay36 x T j = ∑ n : Fin 512, T (ix2 n (j 1)) * x (ix2 n (j 1)) := by
  pointwise [k0_pay36]

/-- A column sum. -/
theorem pay39_apply (T : FVec Ideal S512x512 .f32) (j : S1x512.Idx) :
    k0_pay39 T j = ∑ n : Fin 512, T (ix2 n (j 1)) := by
  pointwise [k0_pay39]

theorem lt1 (a : Fin 8) : IntOp.cmpi .slt (BitVec.ofNat 32 a.val) 1#32 = if a.val < 1 then 1#1 else 0#1 := by
  revert a; decide

theorem lt2 (a : Fin 8) : IntOp.cmpi .slt (BitVec.ofNat 32 a.val) 2#32 = if a.val < 2 then 1#1 else 0#1 := by
  revert a; decide

theorem ge7 (a : Fin 8) : IntOp.cmpi .sge (BitVec.ofNat 32 a.val) 7#32 = if 7 ≤ a.val then 1#1 else 0#1 := by
  revert a; decide

theorem ge6 (a : Fin 8) : IntOp.cmpi .sge (BitVec.ofNat 32 a.val) 6#32 = if 6 ≤ a.val then 1#1 else 0#1 := by
  revert a; decide

theorem gt0 (a : Fin 8) : Scalar.cmpi .sgt (Scalar.subi (7#32) (BitVec.ofNat 32 a.val)) 0#32 = if a.val < 7 then 1#1 else 0#1 := by
  revert a; decide

/-- The rows above the tile, zero above the first tile. -/
theorem pay7_apply (i : grid0.Coords) (x1 : Vec Ideal S8x512 .f32) (a : Fin 8) (b : Fin 512) :
    k0_pay7 i x1 (ix2 a b) = if (i 1).val < 7 then x1 (ix2 a b) else 0 := by
  have hi : (i 1).val < 8 := (i 1).isLt
  pointwise [k0_pay7]
  have hg := gt0 ⟨(i 1).val, hi⟩
  by_cases h : (i 1).val < 7
  · rw [if_pos h]; exact if_pos (hg.trans (if_pos h))
  · rw [if_neg h]; exact if_neg (fun e => absurd ((hg.trans (if_neg h)).symm.trans e) (by decide))

/-- A tile's rows moved down by one, the rows `z` above it in front. -/
def mv1 (z : FVec Ideal S8x512 .f32) (x0 : Vec Ideal S512x512 .f32) : FVec Ideal S512x512 .f32 :=
  concatenate S512x512 0
    [⟨S8x512, select (cmpi .slt (iota .tc S8x512 32 [0] iota_S8x512_d0_w32) (broadcast S8x512 1#32))
        (dynamicRotate 0 1#32 none z rotates_S8x512_d0)
        (extractStridedSlice S8x512 ![0, 0] (dynamicRotate 0 1#32 none x0 rotates_S512x512_d0) slices_S512x512_o0_0_S8x512)⟩,
     ⟨S504x512, extractStridedSlice S504x512 ![8, 0] (dynamicRotate 0 1#32 none x0 rotates_S512x512_d0) slices_S512x512_o8_0_S504x512⟩]
    concatenates_S8x512_S504x512_S512x512_d0

theorem mv1_apply (z : FVec Ideal S8x512 .f32) (x0 : Vec Ideal S512x512 .f32) (a b : Fin 512) :
    mv1 z x0 (ix2 a b) = if h : a.val < 1 then z (ix2 ⟨a.val + 8 - 1, by omega⟩ b) else x0 (ix2 ⟨a.val - 1, by omega⟩ b) := by
  have ha : a.val < 512 := a.isLt
  pointwise [mv1]
  split
  · next h8 =>
    have hl := lt1 ⟨a.val, h8⟩
    by_cases h : a.val < 1
    · rw [dif_pos h]
      refine (if_pos (hl.trans (if_pos h))).trans ?_
      congr 2; apply Fin.ext; dsimp only; omega
    · rw [dif_neg h]
      refine (if_neg (fun e => absurd ((hl.trans (if_neg h)).symm.trans e) (by decide))).trans ?_
      congr 2; apply Fin.ext; dsimp only; omega
  · next h8 =>
    rw [dif_neg (by omega)]
    congr 2; apply Fin.ext; dsimp only; omega

/-- A tile's rows moved down by two, the rows `z` above it in front. -/
def mv2 (z : FVec Ideal S8x512 .f32) (x0 : Vec Ideal S512x512 .f32) : FVec Ideal S512x512 .f32 :=
  concatenate S512x512 0
    [⟨S8x512, select (cmpi .slt (iota .tc S8x512 32 [0] iota_S8x512_d0_w32) (broadcast S8x512 2#32))
        (dynamicRotate 0 2#32 none z rotates_S8x512_d0)
        (extractStridedSlice S8x512 ![0, 0] (dynamicRotate 0 2#32 none x0 rotates_S512x512_d0) slices_S512x512_o0_0_S8x512)⟩,
     ⟨S504x512, extractStridedSlice S504x512 ![8, 0] (dynamicRotate 0 2#32 none x0 rotates_S512x512_d0) slices_S512x512_o8_0_S504x512⟩]
    concatenates_S8x512_S504x512_S512x512_d0

theorem mv2_apply (z : FVec Ideal S8x512 .f32) (x0 : Vec Ideal S512x512 .f32) (a b : Fin 512) :
    mv2 z x0 (ix2 a b) = if h : a.val < 2 then z (ix2 ⟨a.val + 8 - 2, by omega⟩ b) else x0 (ix2 ⟨a.val - 2, by omega⟩ b) := by
  have ha : a.val < 512 := a.isLt
  pointwise [mv2]
  split
  · next h8 =>
    have hl := lt2 ⟨a.val, h8⟩
    by_cases h : a.val < 2
    · rw [dif_pos h]
      refine (if_pos (hl.trans (if_pos h))).trans ?_
      congr 2; apply Fin.ext; dsimp only; omega
    · rw [dif_neg h]
      refine (if_neg (fun e => absurd ((hl.trans (if_neg h)).symm.trans e) (by decide))).trans ?_
      congr 2; apply Fin.ext; dsimp only; omega
  · next h8 =>
    rw [dif_neg (by omega)]
    congr 2; apply Fin.ext; dsimp only; omega

section Tile

variable (U : (⟨2, ![4096, 6144]⟩ : Shape).Idx → EReal) (W : (⟨2, ![3, 6144]⟩ : Shape).Idx → EReal)
  (B : (⟨2, ![1, 6144]⟩ : Shape).Idx → EReal)
  (i : grid0.Coords) (r : ℕ) (hr : r + (i 1).val = 7) (col : Fin 512 → Fin 6144)
  (x0 : Vec Ideal S512x512 .f32) (x1 : Vec Ideal S8x512 .f32)
  (h0 : ∀ (a b : Fin 512) (h : 512 * r + a.val < 4096), x0 (ix2 a b) = U (ix2 ⟨512 * r + a.val, h⟩ (col b)))
  (h1 : ∀ (a : Fin 8) (b : Fin 512) (h : 512 * r - 8 + a.val < 4096), 0 < r → x1 (ix2 a b) = U (ix2 ⟨512 * r - 8 + a.val, h⟩ (col b)))

include hr h0 in
/-- The tile itself. -/
theorem back0 (a b : Fin 512) : x0 (ix2 a b) = back U 0 (512 * r + a.val) (col b) := by
  have hj : a.val < 512 := a.isLt
  unfold back
  rw [dif_pos ⟨Nat.zero_le _, by omega⟩]
  exact h0 _ _ (by omega)

include hr h0 h1 in
/-- The tile's rows moved down by one. -/
theorem back1 (a b : Fin 512) : k0_pay10 i x0 x1 (ix2 a b) = back U 1 (512 * r + a.val) (col b) := by
  have hj : a.val < 512 := a.isLt
  rw [show k0_pay10 i x0 x1 = mv1 (k0_pay7 i x1) x0 from rfl, mv1_apply]
  unfold back
  by_cases h : a.val < 1
  · rw [dif_pos h, pay7_apply]
    by_cases hr0 : 0 < r
    · rw [dif_pos (by omega), if_pos (by omega), h1 _ _ (by dsimp only; omega) hr0]
      congr 2; apply Fin.ext; dsimp only; omega
    · rw [dif_neg (by omega), if_neg (by omega)]
  · rw [dif_neg h, dif_pos (by omega), h0 _ _ (by dsimp only; omega)]
    congr 2; apply Fin.ext; dsimp only; omega

include hr h0 h1 in
/-- The tile's rows moved down by two. -/
theorem back2 (a b : Fin 512) : sh2 i x0 x1 (ix2 a b) = back U 2 (512 * r + a.val) (col b) := by
  have hj : a.val < 512 := a.isLt
  rw [show sh2 i x0 x1 = mv2 (k0_pay7 i x1) x0 from rfl, mv2_apply]
  unfold back
  by_cases h : a.val < 2
  · rw [dif_pos h, pay7_apply]
    by_cases hr0 : 0 < r
    · rw [dif_pos (by omega), if_pos (by omega), h1 _ _ (by dsimp only; omega) hr0]
      congr 2; apply Fin.ext; dsimp only; omega
    · rw [dif_neg (by omega), if_neg (by omega)]
  · rw [dif_neg h, dif_pos (by omega), h0 _ _ (by dsimp only; omega)]
    congr 2; apply Fin.ext; dsimp only; omega

/-- The convolved tile as a sum of its three shifted tiles. -/
theorem cG_open (x4 : Vec Ideal S3x512 .f32) (x5 : Vec Ideal S1x512 .f32) (a b : Fin 512) :
    cG i x0 x1 x4 x5 (ix2 a b) = x5 (ix2 0 b) + x4 (ix2 0 b) * x0 (ix2 a b) + x4 (ix2 1 b) * k0_pay10 i x0 x1 (ix2 a b)
      + x4 (ix2 2 b) * sh2 i x0 x1 (ix2 a b) := by
  show k0_pay12 x0 x4 (k0_pay7 i x1) (k0_pay9 x0 x4 x5) (k0_pay10 i x0 x1) (k0_pay11 x4) (ix2 a b) = _
  have e : k0_pay12 x0 x4 (k0_pay7 i x1) (k0_pay9 x0 x4 x5) (k0_pay10 i x0 x1) (k0_pay11 x4)
      = addf (addf (k0_pay9 x0 x4 x5) (mulf (k0_pay11 x4) (k0_pay10 i x0 x1)))
          (mulf (broadcastTo S512x512 (extractStridedSlice S1x512 ![2, 0] x4 slices_S3x512_o2_0_S1x512) broadcasts_S1x512_S512x512)
            (sh2 i x0 x1)) := rfl
  rw [e]
  generalize k0_pay10 i x0 x1 = s1
  generalize sh2 i x0 x1 = s2
  pointwise [k0_pay9, k0_pay11]

include hr h0 h1 in
/-- The convolved tile at an index. -/
theorem cG_apply (x4 : Vec Ideal S3x512 .f32) (x5 : Vec Ideal S1x512 .f32)
    (h4 : ∀ (a : Fin 3) (b : Fin 512), x4 (ix2 a b) = W (ix2 a (col b)))
    (h5 : ∀ (b : Fin 512), x5 (ix2 0 b) = B (ix2 0 (col b))) (a b : Fin 512) :
    cG i x0 x1 x4 x5 (ix2 a b) = conv U W B (512 * r + a.val) (col b) := by
  rw [cG_open, back0 U i r hr col x0 h0 a b, back1 U i r hr col x0 x1 h0 h1 a b, back2 U i r hr col x0 x1 h0 h1 a b, h5, h4, h4, h4]
  rfl

end Tile

/-- The gate gradient of a tile at an index. -/
theorem tG_open (i : grid0.Coords) (x0 : Vec Ideal S512x512 .f32) (x1 : Vec Ideal S8x512 .f32) (x2 : Vec Ideal S512x512 .f32)
    (x3 : Vec Ideal S8x512 .f32) (x4 : Vec Ideal S3x512 .f32) (x5 : Vec Ideal S1x512 .f32) (x6 : Vec Ideal S3x512 .f32)
    (x7 : Vec Ideal S1x512 .f32) (x8 : Vec Ideal S512x512 .bf16) (a b : Fin 512) :
    tG i x0 x1 x2 x3 x4 x5 x6 x7 x8 (ix2 a b) = gGate (cG i x0 x1 x4 x5 (ix2 a b)) (cG i x2 x3 x6 x7 (ix2 a b)) (x8 (ix2 a b)) := by
  unfold tG
  rw [cV_eq]
  have hH : cH i x0 x1 x4 x5 (ix2 a b) = hf * cG i x0 x1 x4 x5 (ix2 a b) := rfl
  have hQ : cQ i x0 x1 x4 x5 (ix2 a b) = cG i x0 x1 x4 x5 (ix2 a b) * cG i x0 x1 x4 x5 (ix2 a b) := rfl
  have hC : cC i x0 x1 x4 x5 (ix2 a b) = cG i x0 x1 x4 x5 (ix2 a b) * cG i x0 x1 x4 x5 (ix2 a b) * cG i x0 x1 x4 x5 (ix2 a b) := rfl
  revert hH hQ hC
  generalize cH i x0 x1 x4 x5 = H
  generalize cQ i x0 x1 x4 x5 = Q
  generalize cC i x0 x1 x4 x5 = C
  generalize cG i x0 x1 x4 x5 = X
  generalize cG i x2 x3 x6 x7 = Y
  intro hH hQ hC
  pointwise [k0_pay21, k0_pay17, k0_pay18, k0_pay19]
  rw [hH, hQ, hC]
  rfl

/-- The value gradient of a tile at an index. -/
theorem tV_open (i : grid0.Coords) (x0 : Vec Ideal S512x512 .f32) (x1 : Vec Ideal S8x512 .f32)
    (x4 : Vec Ideal S3x512 .f32) (x5 : Vec Ideal S1x512 .f32) (x8 : Vec Ideal S512x512 .bf16) (a b : Fin 512) :
    tV i x0 x1 x4 x5 x8 (ix2 a b) = gVal (cG i x0 x1 x4 x5 (ix2 a b)) (x8 (ix2 a b)) := by
  unfold tV
  have hH : cH i x0 x1 x4 x5 (ix2 a b) = hf * cG i x0 x1 x4 x5 (ix2 a b) := rfl
  have hC : cC i x0 x1 x4 x5 (ix2 a b) = cG i x0 x1 x4 x5 (ix2 a b) * cG i x0 x1 x4 x5 (ix2 a b) * cG i x0 x1 x4 x5 (ix2 a b) := rfl
  revert hH hC
  generalize cH i x0 x1 x4 x5 = H
  generalize cC i x0 x1 x4 x5 = C
  generalize cG i x0 x1 x4 x5 = X
  intro hH hC
  pointwise [k0_pay20, k0_pay17, k0_pay18, k0_pay19]
  rw [hH, hC]
  rfl

/-- The tile of the gradient at the convolution's input: three taps forward, the next tile's first rows behind. -/
theorem dG_apply (W : (⟨2, ![3, 6144]⟩ : Shape).Idx → EReal) (r : ℕ) (col : Fin 512 → Fin 6144)
    (x4 : Vec Ideal S3x512 .f32) (T : FVec Ideal S512x512 .f32) (nxt : Vec Ideal S8x512 .f32)
    (h4 : ∀ (a : Fin 3) (b : Fin 512), x4 (ix2 a b) = W (ix2 a (col b)))
    (dc : Fin 512 → ℕ → EReal)
    (hT : ∀ a b : Fin 512, T (ix2 a b) = dc b (512 * r + a.val))
    (hN : ∀ (a : Fin 8) (b : Fin 512), nxt (ix2 a b) = dc b (512 * (r + 1) + a.val)) (a b : Fin 512) :
    dG x4 T nxt (ix2 a b) = up W (dc b) (col b) (512 * r + a.val) := by
  have hj : a.val < 512 := a.isLt
  pointwise [dG, k0_pay28, k0_pay25, k0_pay27]
  rw [h4, h4, h4]
  unfold up
  congr 1
  · congr 1
    · rw [hT]
    · congr 1
      split
      · rw [hT]; congr 1; dsimp only; omega
      · next h =>
        rw [ge7 ⟨a.val - 504, by omega⟩]
        simp only [Scalar.select]
        by_cases hz : 7 ≤ a.val - 504
        · rw [if_pos hz]; refine (if_pos rfl).trans ((hN _ _).trans ?_); congr 1; dsimp only; omega
        · rw [if_neg hz]; refine (if_neg (by decide)).trans ((hT _ _).trans ?_); congr 1; dsimp only; omega
  · congr 1
    split
    · rw [hT]; congr 1; dsimp only; omega
    · next h =>
      rw [ge6 ⟨a.val - 504, by omega⟩]
      simp only [Scalar.select]
      by_cases hz : 6 ≤ a.val - 504
      · rw [if_pos hz]; refine (if_pos rfl).trans ((hN _ _).trans ?_); congr 1; dsimp only; omega
      · rw [if_neg hz]; refine (if_neg (by decide)).trans ((hT _ _).trans ?_); congr 1; dsimp only; omega

end Cert.KernelIdeal.Conv

end
-- ==== Proof.ConvRunA.lean ====
module

public import proofs.«01_k».proof.Proof.ConvDefs
public import proofs.«01_k».proof.Proof.Gen.KernelIdeal.Frame.RunA
public import Idealize.ShloMosaic.Lib.Tactic
public import Idealize.ShloMosaic.Lib.Pipeline.Value

/-!
What the stores of one step leave in each buffer, case A (the first step of a column).
-/

@[expose] public section

set_option maxRecDepth 16384

noncomputable section

namespace Cert.KernelIdeal.Conv

open Cert.KernelIdeal Cert.KernelIdeal.Gen Idealize.ShloMosaic Idealize.ShloMosaic.TcCoe Idealize.SL.Sem

variable {F : FTy → Type} [FloatOps F]
variable (c : Dev nD) (i : grid0.Coords) (arg2 : Memref sig .tc .vmem S512x512 .f32) (harg2 : arg2.IsWhole) (arg3 : Memref sig .tc .vmem S8x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S8x512 .f32) (harg21 : arg21.IsWhole) (arg22 : Memref sig .tc .vmem S8x512 .f32) (harg22 : arg22.IsWhole) (hc0 : cond0_0 i) (hc1 : cond0_1 i) (hc2 : cond0_2 i) (hc3 : cond0_3 i) (hc4 : cond0_4 i) (hc5 : cond0_5 i) (hc6 : cond0_6 i) (hc7 : cond0_7 i) (hc8 : cond0_8 i)
    (x0 : Vec F S512x512 .f32) (x1 : Vec F S8x512 .f32) (x2 : Vec F S512x512 .f32) (x3 : Vec F S8x512 .f32) (x4 : Vec F S3x512 .f32) (x5 : Vec F S1x512 .f32) (x6 : Vec F S3x512 .f32) (x7 : Vec F S1x512 .f32) (x8 : Vec F S512x512 .bf16)

/-- What the stores leave in the gate gradient tile. -/
theorem eA_9 (v : View sig .tc .vmem S512x512 .bf16) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).1)
      = k0_pay45 (dG x4 (tG i x0 x1 x2 x3 x4 x5 x6 x7 x8) k0_pay22) := by
  rw [View.read_writes_eq_canon _ _ _ (View.cover_of_tiledL _ S512x512.size (by sl_kernel_rfl))]
  unfold kernelRun0_A
  dsimp only
  sl_unfold_words
  refine (View.canon_cons_unit_zero (S := S512x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in the value gradient tile. -/
theorem eA_10 (v : View sig .tc .vmem S512x512 .bf16) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.1)
      = k0_pay46 (dV x6 (tV i x0 x1 x4 x5 x8) k0_pay23) := by
  rw [View.read_writes_eq_canon _ _ _ (View.cover_of_tiledL _ S512x512.size (by sl_kernel_rfl))]
  unfold kernelRun0_A
  dsimp only
  sl_unfold_words
  refine (View.canon_cons_unit_zero (S := S512x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 11. -/
theorem eA_11 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.1)
      = k0_pay48 (k0_pay36 x0 (tG i x0 x1 x2 x3 x4 x5 x6 x7 x8)) k0_pay47 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 12. -/
theorem eA_12 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.1)
      = k0_pay50 (k0_pay37 x0 (k0_pay7 i x1) (tG i x0 x1 x2 x3 x4 x5 x6 x7 x8)) k0_pay49 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 13. -/
theorem eA_13 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.1)
      = k0_pay52 (k0_pay38 x0 (k0_pay7 i x1) (tG i x0 x1 x2 x3 x4 x5 x6 x7 x8)) k0_pay51 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 14. -/
theorem eA_14 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.2.1)
      = k0_pay54 (k0_pay39 (tG i x0 x1 x2 x3 x4 x5 x6 x7 x8)) k0_pay53 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 15. -/
theorem eA_15 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.2.2.1)
      = k0_pay56 (k0_pay41 (k0_pay40 x2 (tV i x0 x1 x4 x5 x8))) k0_pay55 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 16. -/
theorem eA_16 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.2.2.2.1)
      = k0_pay2 (k0_pay42 x2 (k0_pay8 i x3) (tV i x0 x1 x4 x5 x8)) k0_pay1 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 17. -/
theorem eA_17 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.2.2.2.2.1)
      = k0_pay4 (k0_pay43 x2 (k0_pay8 i x3) (tV i x0 x1 x4 x5 x8)) k0_pay3 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in accumulator 18. -/
theorem eA_18 (v : View sig .tc .vmem S1x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.2.2.2.2.2.1)
      = k0_pay6 (k0_pay44 (tV i x0 x1 x4 x5 x8)) k0_pay5 := by
  rw [View.read_writes_eq_canon _ _ _ (View.cover_of_tiledL _ S1x512.size (by sl_kernel_rfl))]
  unfold kernelRun0_A
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in the carried gate rows. -/
theorem eA_s0 (v : View sig .tc .vmem S8x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.2.2.2.2.2.2.1)
      = k0_pay29 (tG i x0 x1 x2 x3 x4 x5 x6 x7 x8) := by
  rw [View.read_writes_eq_canon _ _ _ (View.cover_of_tiledL _ S8x512.size (by sl_kernel_rfl))]
  unfold kernelRun0_A
  dsimp only
  sl_unfold_words
  refine (View.canon_cons_unit_zero (S := S8x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

/-- What the stores leave in the carried value rows. -/
theorem eA_s1 (v : View sig .tc .vmem S8x512 .f32) (f : v.ty.Contents (Elt F)) :
    v.read (Elt F) (v.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8).2.2.2.2.2.2.2.2.2.2.2.1)
      = k0_pay35 (tV i x0 x1 x4 x5 x8) := by
  rw [View.read_writes_eq_canon _ _ _ (View.cover_of_tiledL _ S8x512.size (by sl_kernel_rfl))]
  unfold kernelRun0_A
  dsimp only
  sl_unfold_words
  refine (View.canon_cons_unit_zero (S := S8x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, View.ld_unit_zero (S := S512x512) hz, View.ld_unit_zero (S := S8x512) hz, View.ld_unit_zero (S := S3x512) hz, View.ld_unit_zero (S := S1x512) hz]
  rfl

end Cert.KernelIdeal.Conv

end
-- ==== Proof.ConvRunB.lean ====
module

public import proofs.«01_k».proof.Proof.ConvDefs
public import proofs.«01_k».proof.Proof.Gen.KernelIdeal.Frame.RunB
public import Idealize.ShloMosaic.Lib.Tactic
public import Idealize.ShloMosaic.Lib.Pipeline.Value

/-!
What the stores of one step leave in each buffer, case B (a later step of a column).
-/

@[expose] public section

set_option maxRecDepth 16384

noncomputable section

namespace Cert.KernelIdeal.Conv

open Cert.KernelIdeal Cert.KernelIdeal.Gen Idealize.ShloMosaic Idealize.ShloMosaic.TcCoe Idealize.SL.Sem

variable {F : FTy → Type} [FloatOps F]
variable (c : Dev nD) (i : grid0.Coords) (arg2 : Memref sig .tc .vmem S512x512 .f32) (harg2 : arg2.IsWhole) (arg3 : Memref sig .tc .vmem S8x512 .f32) (harg3 : arg3.IsWhole) (arg4 : Memref sig .tc .vmem S512x512 .f32) (harg4 : arg4.IsWhole) (arg5 : Memref sig .tc .vmem S8x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S3x512 .f32) (harg8 : arg8.IsWhole) (arg9 : Memref sig .tc .vmem S1x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S8x512 .f32) (harg21 : arg21.IsWhole) (arg22 : Memref sig .tc .vmem S8x512 .f32) (harg22 : arg22.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S512x512 .f32) (x1 : Vec F S8x512 .f32) (x2 : Vec F S512x512 .f32) (x3 : Vec F S8x512 .f32) (x4 : Vec F S3x512 .f32) (x5 : Vec F S1x512 .f32) (x6 : Vec F S3x512 .f32) (x7 : Vec F S1x512 .f32) (x8 : Vec F S512x512 .bf16) (xo11 : Vec F S1x512 .f32) (xo12 : Vec F S1x512 .f32) (xo13 : Vec F S1x512 .f32) (xo14 : Vec F S1x512 .f32) (xo15 : Vec F S1x512 .f32) (xo16 : Vec F S1x512 .f32) (xo17 : Vec F S1x512 .f32) (xo18 : Vec F S1x512 .f32) (xs0 : Vec F S8x512 .f32) (xs1 : Vec F S8x512 .f32)

/-- What the stores leave in the gate gradient tile. -/
theorem eB_9 (v : View sig .tc .vmem S512x512 .bf16) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).1)
      = k0_pay45 (dG x4 (tG i x0 x1 x2 x3 x4 x5 x6 x7 x8) xs0) := by
  rw [View.read_writes_eq_canon _ _ _ (View.cover_of_tiledL _ S512x512.size (by sl_kernel_rfl))]
  unfold kernelRun0_B
  dsimp only
  sl_unfold_words
  refine (View.canon_cons_unit_zero (S := S512x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in the value gradient tile. -/
theorem eB_10 (v : View sig .tc .vmem S512x512 .bf16) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.1)
      = k0_pay46 (dV x6 (tV i x0 x1 x4 x5 x8) xs1) := by
  rw [View.read_writes_eq_canon _ _ _ (View.cover_of_tiledL _ S512x512.size (by sl_kernel_rfl))]
  unfold kernelRun0_B
  dsimp only
  sl_unfold_words
  refine (View.canon_cons_unit_zero (S := S512x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 11. -/
theorem eB_11 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.1)
      = k0_pay48 (k0_pay36 x0 (tG i x0 x1 x2 x3 x4 x5 x6 x7 x8)) xo11 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 12. -/
theorem eB_12 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.1)
      = k0_pay50 (k0_pay37 x0 (k0_pay7 i x1) (tG i x0 x1 x2 x3 x4 x5 x6 x7 x8)) xo12 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 13. -/
theorem eB_13 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.1)
      = k0_pay52 (k0_pay38 x0 (k0_pay7 i x1) (tG i x0 x1 x2 x3 x4 x5 x6 x7 x8)) xo13 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 14. -/
theorem eB_14 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.2.1)
      = k0_pay54 (k0_pay39 (tG i x0 x1 x2 x3 x4 x5 x6 x7 x8)) xo14 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 15. -/
theorem eB_15 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.2.2.1)
      = k0_pay56 (k0_pay41 (k0_pay40 x2 (tV i x0 x1 x4 x5 x8))) xo15 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 16. -/
theorem eB_16 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.2.2.2.1)
      = k0_pay2 (k0_pay42 x2 (k0_pay8 i x3) (tV i x0 x1 x4 x5 x8)) xo16 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 17. -/
theorem eB_17 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.2.2.2.2.1)
      = k0_pay4 (k0_pay43 x2 (k0_pay8 i x3) (tV i x0 x1 x4 x5 x8)) xo17 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in accumulator 18. -/
theorem eB_18 (v : View sig .tc .vmem S1x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.2.2.2.2.2.1)
      = k0_pay6 (k0_pay44 (tV i x0 x1 x4 x5 x8)) xo18 := by
  rw [View.read_writes_eq_canon _ _ _ (View.cover_of_tiledL _ S1x512.size (by sl_kernel_rfl))]
  unfold kernelRun0_B
  dsimp only
  sl_unfold_words
  refine (View.canon_cons_unit_zero (S := S1x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in the carried gate rows. -/
theorem eB_s0 (v : View sig .tc .vmem S8x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.2.2.2.2.2.2.1)
      = k0_pay29 (tG i x0 x1 x2 x3 x4 x5 x6 x7 x8) := by
  rw [View.read_writes_eq_canon _ _ _ (View.cover_of_tiledL _ S8x512.size (by sl_kernel_rfl))]
  unfold kernelRun0_B
  dsimp only
  sl_unfold_words
  refine (View.canon_cons_unit_zero (S := S8x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

/-- What the stores leave in the carried value rows. -/
theorem eB_s1 (v : View sig .tc .vmem S8x512 .f32) (f : v.ty.Contents (Elt F)) :
    v.read (Elt F) (v.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 xo11 xo12 xo13 xo14 xo15 xo16 xo17 xo18 xs0 xs1).2.2.2.2.2.2.2.2.2.2.2.1)
      = k0_pay35 (tV i x0 x1 x4 x5 x8) := by
  rw [View.read_writes_eq_canon _ _ _ (View.cover_of_tiledL _ S8x512.size (by sl_kernel_rfl))]
  unfold kernelRun0_B
  dsimp only
  sl_unfold_words
  refine (View.canon_cons_unit_zero (S := S8x512) hz _ _ _).trans ?_
  simp only [View.readCov_unit_zero (S := S1x512) _ hz, View.readCov_unit_zero (S := S8x512) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, View.ld_unit_zero (S := S512x512) hz, View.ld_unit_zero (S := S8x512) hz, View.ld_unit_zero (S := S3x512) hz, View.ld_unit_zero (S := S1x512) hz]
  rfl

end Cert.KernelIdeal.Conv

end
-- ==== Proof.ConvFrame.lean ====
module

public import proofs.«01_k».proof.Proof.ConvRunA
public import proofs.«01_k».proof.Proof.ConvRunB
public import Idealize.ShloMosaic.Lib.Claim

/-!
The frame of the gradient kernel with what each buffer holds after each step: two cases, the first step of a
column and a later one, told apart by one condition.
-/

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers a step leaves: the ten outputs, then the two carried blocks of rows. -/
abbrev Tup (F : FTy → Type) : Type := Vec F S512x512 .bf16 × Vec F S512x512 .bf16 × Vec F S1x512 .f32 × Vec F S1x512 .f32 × Vec F S1x512 .f32 × Vec F S1x512 .f32 × Vec F S1x512 .f32 × Vec F S1x512 .f32 × Vec F S1x512 .f32 × Vec F S1x512 .f32 × Vec F S8x512 .f32 × Vec F S8x512 .f32

/-- What the first step of a column leaves. -/
def outA (c : Dev nD) (t : Fin cfg0.N) : Tup F :=
  (k0_pay45 (dG (iblk m c 4 t) (tG (grid0.coords t) (iblk m c 0 t) (iblk m c 1 t) (iblk m c 2 t) (iblk m c 3 t) (iblk m c 4 t) (iblk m c 5 t) (iblk m c 6 t) (iblk m c 7 t) (iblk m c 8 t)) k0_pay22),
   k0_pay46 (dV (iblk m c 6 t) (tV (grid0.coords t) (iblk m c 0 t) (iblk m c 1 t) (iblk m c 4 t) (iblk m c 5 t) (iblk m c 8 t)) k0_pay23),
   k0_pay48 (k0_pay36 (iblk m c 0 t) (tG (grid0.coords t) (iblk m c 0 t) (iblk m c 1 t) (iblk m c 2 t) (iblk m c 3 t) (iblk m c 4 t) (iblk m c 5 t) (iblk m c 6 t) (iblk m c 7 t) (iblk m c 8 t))) k0_pay47,
   k0_pay50 (k0_pay37 (iblk m c 0 t) (k0_pay7 (grid0.coords t) (iblk m c 1 t)) (tG (grid0.coords t) (iblk m c 0 t) (iblk m c 1 t) (iblk m c 2 t) (iblk m c 3 t) (iblk m c 4 t) (iblk m c 5 t) (iblk m c 6 t) (iblk m c 7 t) (iblk m c 8 t))) k0_pay49,
   k0_pay52 (k0_pay38 (iblk m c 0 t) (k0_pay7 (grid0.coords t) (iblk m c 1 t)) (tG (grid0.coords t) (iblk m c 0 t) (iblk m c 1 t) (iblk m c 2 t) (iblk m c 3 t) (iblk m c 4 t) (iblk m c 5 t) (iblk m c 6 t) (iblk m c 7 t) (iblk m c 8 t))) k0_pay51,
   k0_pay54 (k0_pay39 (tG (grid0.coords t) (iblk m c 0 t) (iblk m c 1 t) (iblk m c 2 t) (iblk m c 3 t) (iblk m c 4 t) (iblk m c 5 t) (iblk m c 6 t) (iblk m c 7 t) (iblk m c 8 t))) k0_pay53,
   k0_pay56 (k0_pay41 (k0_pay40 (iblk m c 2 t) (tV (grid0.coords t) (iblk m c 0 t) (iblk m c 1 t) (iblk m c 4 t) (iblk m c 5 t) (iblk m c 8 t)))) k0_pay55,
   k0_pay2 (k0_pay42 (iblk m c 2 t) (k0_pay8 (grid0.coords t) (iblk m c 3 t)) (tV (grid0.coords t) (iblk m c 0 t) (iblk m c 1 t) (iblk m c 4 t) (iblk m c 5 t) (iblk m c 8 t))) k0_pay1,
   k0_pay4 (k0_pay43 (iblk m c 2 t) (k0_pay8 (grid0.coords t) (iblk m c 3 t)) (tV (grid0.coords t) (iblk m c 0 t) (iblk m c 1 t) (iblk m c 4 t) (iblk m c 5 t) (iblk m c 8 t))) k0_pay3,
   k0_pay6 (k0_pay44 (tV (grid0.coords t) (iblk m c 0 t) (iblk m c 1 t) (iblk m c 4 t) (iblk m c 5 t) (iblk m c 8 t))) k0_pay5,
   k0_pay29 (tG (grid0.coords t) (iblk m c 0 t) (iblk m c 1 t) (iblk m c 2 t) (iblk m c 3 t) (iblk m c 4 t) (iblk m c 5 t) (iblk m c 6 t) (iblk m c 7 t) (iblk m c 8 t)),
   k0_pay35 (tV (grid0.coords t) (iblk m c 0 t) (iblk m c 1 t) (iblk m c 4 t) (iblk m c 5 t) (iblk m c 8 t)))

/-- What a later step leaves, over what the step before left. -/
def outB (c : Dev nD) (t : Fin cfg0.N) (p : Tup F) : Tup F :=
  (k0_pay45 (dG (iblk m c 4 t) (tG (grid0.coords t) (iblk m c 0 t) (iblk m c 1 t) (iblk m c 2 t) (iblk m c 3 t) (iblk m c 4 t) (iblk m c 5 t) (iblk m c 6 t) (iblk m c 7 t) (iblk m c 8 t)) (p.2.2.2.2.2.2.2.2.2.2.1)),
   k0_pay46 (dV (iblk m c 6 t) (tV (grid0.coords t) (iblk m c 0 t) (iblk m c 1 t) (iblk m c 4 t) (iblk m c 5 t) (iblk m c 8 t)) (p.2.2.2.2.2.2.2.2.2.2.2)),
   k0_pay48 (k0_pay36 (iblk m c 0 t) (tG (grid0.coords t) (iblk m c 0 t) (iblk m c 1 t) (iblk m c 2 t) (iblk m c 3 t) (iblk m c 4 t) (iblk m c 5 t) (iblk m c 6 t) (iblk m c 7 t) (iblk m c 8 t))) (p.2.2.1),
   k0_pay50 (k0_pay37 (iblk m c 0 t) (k0_pay7 (grid0.coords t) (iblk m c 1 t)) (tG (grid0.coords t) (iblk m c 0 t) (iblk m c 1 t) (iblk m c 2 t) (iblk m c 3 t) (iblk m c 4 t) (iblk m c 5 t) (iblk m c 6 t) (iblk m c 7 t) (iblk m c 8 t))) (p.2.2.2.1),
   k0_pay52 (k0_pay38 (iblk m c 0 t) (k0_pay7 (grid0.coords t) (iblk m c 1 t)) (tG (grid0.coords t) (iblk m c 0 t) (iblk m c 1 t) (iblk m c 2 t) (iblk m c 3 t) (iblk m c 4 t) (iblk m c 5 t) (iblk m c 6 t) (iblk m c 7 t) (iblk m c 8 t))) (p.2.2.2.2.1),
   k0_pay54 (k0_pay39 (tG (grid0.coords t) (iblk m c 0 t) (iblk m c 1 t) (iblk m c 2 t) (iblk m c 3 t) (iblk m c 4 t) (iblk m c 5 t) (iblk m c 6 t) (iblk m c 7 t) (iblk m c 8 t))) (p.2.2.2.2.2.1),
   k0_pay56 (k0_pay41 (k0_pay40 (iblk m c 2 t) (tV (grid0.coords t) (iblk m c 0 t) (iblk m c 1 t) (iblk m c 4 t) (iblk m c 5 t) (iblk m c 8 t)))) (p.2.2.2.2.2.2.1),
   k0_pay2 (k0_pay42 (iblk m c 2 t) (k0_pay8 (grid0.coords t) (iblk m c 3 t)) (tV (grid0.coords t) (iblk m c 0 t) (iblk m c 1 t) (iblk m c 4 t) (iblk m c 5 t) (iblk m c 8 t))) (p.2.2.2.2.2.2.2.1),
   k0_pay4 (k0_pay43 (iblk m c 2 t) (k0_pay8 (grid0.coords t) (iblk m c 3 t)) (tV (grid0.coords t) (iblk m c 0 t) (iblk m c 1 t) (iblk m c 4 t) (iblk m c 5 t) (iblk m c 8 t))) (p.2.2.2.2.2.2.2.2.1),
   k0_pay6 (k0_pay44 (tV (grid0.coords t) (iblk m c 0 t) (iblk m c 1 t) (iblk m c 4 t) (iblk m c 5 t) (iblk m c 8 t))) (p.2.2.2.2.2.2.2.2.2.1),
   k0_pay29 (tG (grid0.coords t) (iblk m c 0 t) (iblk m c 1 t) (iblk m c 2 t) (iblk m c 3 t) (iblk m c 4 t) (iblk m c 5 t) (iblk m c 6 t) (iblk m c 7 t) (iblk m c 8 t)),
   k0_pay35 (tV (grid0.coords t) (iblk m c 0 t) (iblk m c 1 t) (iblk m c 4 t) (iblk m c 5 t) (iblk m c 8 t)))

/-- What the buffers hold after each step. -/
def outsAt (c : Dev nD) : (n : ℕ) → n < cfg0.N → Tup F
  | 0, hn => outA m c ⟨0, hn⟩
  | n + 1, hn => if (n + 1) % 8 = 0 then outA m c ⟨n + 1, hn⟩ else outB m c ⟨n + 1, hn⟩ (outsAt c n (Nat.lt_of_succ_lt hn))

theorem outsAt_A (c : Dev nD) (t : Fin cfg0.N) (h : t.val % 8 = 0) : outsAt m c t.val t.isLt = outA m c t := by
  obtain ⟨n, hn⟩ := t
  cases n with
  | zero => rfl
  | succ n => exact if_pos h

theorem outsAt_B (c : Dev nD) (t : Fin cfg0.N) (h : ¬t.val % 8 = 0) :
    outsAt m c t.val t.isLt = outB m c t (outsAt m c (t.val - 1) (Nat.lt_of_le_of_lt (Nat.sub_le _ _) t.isLt)) := by
  obtain ⟨n, hn⟩ := t
  cases n with
  | zero => exact absurd (Nat.zero_mod _) h
  | succ n => exact if_neg h

/-- The region invariant before position `n` with a scratch the kernel CARRIES between points: before the first point the
    class's (Lib/Pipeline/Frame.lean `ΦA`: every scratch at anything); afterwards the scoped rest with each carried scratch
    at what the point before left in it (`outsAt`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2.2.2.2.1) ∗ owns (c : Thread nD τ) scM0_1 fullShare ((outsAt m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt m c n hn).2.2.2.2.2.2.2.2.2.2.1) ∗ owns (c : Thread nD τ) scM0_1 fullShare ((outsAt m c n hn).2.2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2.2.2.2.1) ∗ owns (c : Thread nD τ) scM0_1 fullShare ((outsAt m c (n - 1) (by omega)).2.2.2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt`; the invariant the class's
    (`PhiS`: the class's `ΦA` before the first point, then the scoped rest with the carried scratch at `outsAt`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
    | ⟨12, _⟩ => (outsAt m c t.val t.isLt).2.2.2.1
    | ⟨13, _⟩ => (outsAt m c t.val t.isLt).2.2.2.2.1
    | ⟨14, _⟩ => (outsAt m c t.val t.isLt).2.2.2.2.2.1
    | ⟨15, _⟩ => (outsAt m c t.val t.isLt).2.2.2.2.2.2.1
    | ⟨16, _⟩ => (outsAt m c t.val t.isLt).2.2.2.2.2.2.2.1
    | ⟨17, _⟩ => (outsAt m c t.val t.isLt).2.2.2.2.2.2.2.2.1
    | ⟨18, _⟩ => (outsAt m c t.val t.isLt).2.2.2.2.2.2.2.2.2.1
    | ⟨_ + 19, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt m c t.val t.isLt).1 := by dsimp only [dats]
theorem after0_10 (c : Dev nD) (t : Fin cfg0.N) : (dats m 0 c).after 10 t = (outsAt m c t.val t.isLt).2.1 := by dsimp only [dats]
theorem after0_11 (c : Dev nD) (t : Fin cfg0.N) : (dats m 0 c).after 11 t = (outsAt m c t.val t.isLt).2.2.1 := by dsimp only [dats]
theorem after0_12 (c : Dev nD) (t : Fin cfg0.N) : (dats m 0 c).after 12 t = (outsAt m c t.val t.isLt).2.2.2.1 := by dsimp only [dats]
theorem after0_13 (c : Dev nD) (t : Fin cfg0.N) : (dats m 0 c).after 13 t = (outsAt m c t.val t.isLt).2.2.2.2.1 := by dsimp only [dats]
theorem after0_14 (c : Dev nD) (t : Fin cfg0.N) : (dats m 0 c).after 14 t = (outsAt m c t.val t.isLt).2.2.2.2.2.1 := by dsimp only [dats]
theorem after0_15 (c : Dev nD) (t : Fin cfg0.N) : (dats m 0 c).after 15 t = (outsAt m c t.val t.isLt).2.2.2.2.2.2.1 := by dsimp only [dats]
theorem after0_16 (c : Dev nD) (t : Fin cfg0.N) : (dats m 0 c).after 16 t = (outsAt m c t.val t.isLt).2.2.2.2.2.2.2.1 := by dsimp only [dats]
theorem after0_17 (c : Dev nD) (t : Fin cfg0.N) : (dats m 0 c).after 17 t = (outsAt m c t.val t.isLt).2.2.2.2.2.2.2.2.1 := by dsimp only [dats]
theorem after0_18 (c : Dev nD) (t : Fin cfg0.N) : (dats m 0 c).after 18 t = (outsAt m c t.val t.isLt).2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a later step accumulator 11 still holds what the step before left. -/
theorem before0_11_B (c : Dev nD) (t : Fin cfg0.N) (h0 : ¬t.val % 8 = 0) (d) :
    (dats m 0 c).before 11 t d = (outsAt m c (t.val - 1) (Nat.lt_of_le_of_lt (Nat.sub_le _ _) t.isLt)).2.2.1 := by
  have hN : t.val < 48 := lt_of_lt_of_eq t.isLt (show cfg0.N = 48 from N_0)
  rw [Dat.before_out_kept _ 11 rfl t (by omega) (Bool.eq_false_iff.mpr fun h => by have := (flush0_11 _).mp h; dsimp only at this; omega)
    (fun _ => rfl) (fun _ _ => rfl)]
  dsimp only [dats]

/-- At a later step accumulator 12 still holds what the step before left. -/
theorem before0_12_B (c : Dev nD) (t : Fin cfg0.N) (h0 : ¬t.val % 8 = 0) (d) :
    (dats m 0 c).before 12 t d = (outsAt m c (t.val - 1) (Nat.lt_of_le_of_lt (Nat.sub_le _ _) t.isLt)).2.2.2.1 := by
  have hN : t.val < 48 := lt_of_lt_of_eq t.isLt (show cfg0.N = 48 from N_0)
  rw [Dat.before_out_kept _ 12 rfl t (by omega) (Bool.eq_false_iff.mpr fun h => by have := (flush0_12 _).mp h; dsimp only at this; omega)
    (fun _ => rfl) (fun _ _ => rfl)]
  dsimp only [dats]

/-- At a later step accumulator 13 still holds what the step before left. -/
theorem before0_13_B (c : Dev nD) (t : Fin cfg0.N) (h0 : ¬t.val % 8 = 0) (d) :
    (dats m 0 c).before 13 t d = (outsAt m c (t.val - 1) (Nat.lt_of_le_of_lt (Nat.sub_le _ _) t.isLt)).2.2.2.2.1 := by
  have hN : t.val < 48 := lt_of_lt_of_eq t.isLt (show cfg0.N = 48 from N_0)
  rw [Dat.before_out_kept _ 13 rfl t (by omega) (Bool.eq_false_iff.mpr fun h => by have := (flush0_13 _).mp h; dsimp only at this; omega)
    (fun _ => rfl) (fun _ _ => rfl)]
  dsimp only [dats]

/-- At a later step accumulator 14 still holds what the step before left. -/
theorem before0_14_B (c : Dev nD) (t : Fin cfg0.N) (h0 : ¬t.val % 8 = 0) (d) :
    (dats m 0 c).before 14 t d = (outsAt m c (t.val - 1) (Nat.lt_of_le_of_lt (Nat.sub_le _ _) t.isLt)).2.2.2.2.2.1 := by
  have hN : t.val < 48 := lt_of_lt_of_eq t.isLt (show cfg0.N = 48 from N_0)
  rw [Dat.before_out_kept _ 14 rfl t (by omega) (Bool.eq_false_iff.mpr fun h => by have := (flush0_14 _).mp h; dsimp only at this; omega)
    (fun _ => rfl) (fun _ _ => rfl)]
  dsimp only [dats]

/-- At a later step accumulator 15 still holds what the step before left. -/
theorem before0_15_B (c : Dev nD) (t : Fin cfg0.N) (h0 : ¬t.val % 8 = 0) (d) :
    (dats m 0 c).before 15 t d = (outsAt m c (t.val - 1) (Nat.lt_of_le_of_lt (Nat.sub_le _ _) t.isLt)).2.2.2.2.2.2.1 := by
  have hN : t.val < 48 := lt_of_lt_of_eq t.isLt (show cfg0.N = 48 from N_0)
  rw [Dat.before_out_kept _ 15 rfl t (by omega) (Bool.eq_false_iff.mpr fun h => by have := (flush0_15 _).mp h; dsimp only at this; omega)
    (fun _ => rfl) (fun _ _ => rfl)]
  dsimp only [dats]

/-- At a later step accumulator 16 still holds what the step before left. -/
theorem before0_16_B (c : Dev nD) (t : Fin cfg0.N) (h0 : ¬t.val % 8 = 0) (d) :
    (dats m 0 c).before 16 t d = (outsAt m c (t.val - 1) (Nat.lt_of_le_of_lt (Nat.sub_le _ _) t.isLt)).2.2.2.2.2.2.2.1 := by
  have hN : t.val < 48 := lt_of_lt_of_eq t.isLt (show cfg0.N = 48 from N_0)
  rw [Dat.before_out_kept _ 16 rfl t (by omega) (Bool.eq_false_iff.mpr fun h => by have := (flush0_16 _).mp h; dsimp only at this; omega)
    (fun _ => rfl) (fun _ _ => rfl)]
  dsimp only [dats]

/-- At a later step accumulator 17 still holds what the step before left. -/
theorem before0_17_B (c : Dev nD) (t : Fin cfg0.N) (h0 : ¬t.val % 8 = 0) (d) :
    (dats m 0 c).before 17 t d = (outsAt m c (t.val - 1) (Nat.lt_of_le_of_lt (Nat.sub_le _ _) t.isLt)).2.2.2.2.2.2.2.2.1 := by
  have hN : t.val < 48 := lt_of_lt_of_eq t.isLt (show cfg0.N = 48 from N_0)
  rw [Dat.before_out_kept _ 17 rfl t (by omega) (Bool.eq_false_iff.mpr fun h => by have := (flush0_17 _).mp h; dsimp only at this; omega)
    (fun _ => rfl) (fun _ _ => rfl)]
  dsimp only [dats]

/-- At a later step accumulator 18 still holds what the step before left. -/
theorem before0_18_B (c : Dev nD) (t : Fin cfg0.N) (h0 : ¬t.val % 8 = 0) (d) :
    (dats m 0 c).before 18 t d = (outsAt m c (t.val - 1) (Nat.lt_of_le_of_lt (Nat.sub_le _ _) t.isLt)).2.2.2.2.2.2.2.2.2.1 := by
  have hN : t.val < 48 := lt_of_lt_of_eq t.isLt (show cfg0.N = 48 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 16000000 in
/-- The body at any step: its blocks hold what they stage, the accumulators and the carried rows what the step before
    left; the case's run applies, and what its stores leave is the case's tuple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.succ = PhiS m c (t.val + 1) t.isLt from rfl, PhiS_succ]
  have hN : t.val < 48 := lt_of_lt_of_eq t.isLt (show cfg0.N = 48 from N_0)
  by_cases h0 : t.val % 8 = 0
  · · by_cases hz : t.val = 0
      · rw [PhiS_castSucc m c t, PhiS_zero m c _ _ hz, PhiA0_eq]
        rw [outsAt_A m c t h0]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t) (iblk m c 3 t) (iblk m c 4 t) (iblk m c 5 t) (iblk m c 6 t) (iblk m c 7 t) (iblk m c 8 t)).2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexact HS0
        isplitl [HS1]; · iexact HS1
        iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%es0, HS0⟩, ⟨%es1, HS1⟩⟩
        isplitl [HS0 HS1 Hg]
        · isplitl [HS0 HS1]
          · isplitl [HS0]
            · unfold owns; iexists _; isplitr
              swap; · iexact HS0
              ipureintro; exact eA_s0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
            unfold owns; iexists _; isplitr
            swap; · iexact HS1
            ipureintro; exact eA_s1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact eA_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H10]
        · unfold owns; iexists _; isplitr
          swap; · iexact H10
          ipureintro; exact eA_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H11]
        · unfold owns; iexists _; isplitr
          swap; · iexact H11
          ipureintro; exact eA_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H12]
        · unfold owns; iexists _; isplitr
          swap; · iexact H12
          ipureintro; exact eA_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H13]
        · unfold owns; iexists _; isplitr
          swap; · iexact H13
          ipureintro; exact eA_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H14]
        · unfold owns; iexists _; isplitr
          swap; · iexact H14
          ipureintro; exact eA_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H15]
        · unfold owns; iexists _; isplitr
          swap; · iexact H15
          ipureintro; exact eA_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H16]
        · unfold owns; iexists _; isplitr
          swap; · iexact H16
          ipureintro; exact eA_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H17]
        · unfold owns; iexists _; isplitr
          swap; · iexact H17
          ipureintro; exact eA_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        unfold owns; iexists _; isplitr
        swap; · iexact H18
        ipureintro; exact eA_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      · rw [PhiS_castSucc m c t, PhiS_pos m c _ _ hz]
        rw [outsAt_A m c t h0]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) ((hcond0_1 t).mpr h0) ((hcond0_2 t).mpr h0) ((hcond0_3 t).mpr h0) ((hcond0_4 t).mpr h0) ((hcond0_5 t).mpr h0) ((hcond0_6 t).mpr h0) ((hcond0_7 t).mpr h0) ((hcond0_8 t).mpr h0) (iblk m c 0 t) (iblk m c 1 t) (iblk m c 2 t) (iblk m c 3 t) (iblk m c 4 t) (iblk m c 5 t) (iblk m c 6 t) (iblk m c 7 t) (iblk m c 8 t)).2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [H17]; · iexists _; iexact H17
        isplitl [H18]; · iexists _; iexact H18
        isplitl [HS0]; · iexists _; iexact HS0
        isplitl [HS1]; · iexists _; iexact HS1
        iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%es0, HS0⟩, ⟨%es1, HS1⟩⟩
        isplitl [HS0 HS1 Hg]
        · isplitl [HS0 HS1]
          · isplitl [HS0]
            · unfold owns; iexists _; isplitr
              swap; · iexact HS0
              ipureintro; exact eA_s0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
            unfold owns; iexists _; isplitr
            swap; · iexact HS1
            ipureintro; exact eA_s1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact eA_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H10]
        · unfold owns; iexists _; isplitr
          swap; · iexact H10
          ipureintro; exact eA_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H11]
        · unfold owns; iexists _; isplitr
          swap; · iexact H11
          ipureintro; exact eA_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H12]
        · unfold owns; iexists _; isplitr
          swap; · iexact H12
          ipureintro; exact eA_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H13]
        · unfold owns; iexists _; isplitr
          swap; · iexact H13
          ipureintro; exact eA_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H14]
        · unfold owns; iexists _; isplitr
          swap; · iexact H14
          ipureintro; exact eA_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H15]
        · unfold owns; iexists _; isplitr
          swap; · iexact H15
          ipureintro; exact eA_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H16]
        · unfold owns; iexists _; isplitr
          swap; · iexact H16
          ipureintro; exact eA_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H17]
        · unfold owns; iexists _; isplitr
          swap; · iexact H17
          ipureintro; exact eA_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        unfold owns; iexists _; isplitr
        swap; · iexact H18
        ipureintro; exact eA_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  · · by_cases hz : t.val = 0
      · exfalso; have hN : t.val < 48 := lt_of_lt_of_eq t.isLt (show cfg0.N = 48 from N_0); omega
      · rw [PhiS_castSucc m c t, PhiS_pos m c _ _ hz]
        rw [outsAt_B m c t h0]
        simp only [before0_11_B m c t h0, before0_12_B m c t h0, before0_13_B m c t h0, before0_14_B m c t h0, before0_15_B m c t h0, before0_16_B m c t h0, before0_17_B m c t h0, before0_18_B m c t h0]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h0 ((hcond0_1 t).mp h)) (fun h => h0 ((hcond0_2 t).mp h)) (fun h => h0 ((hcond0_3 t).mp h)) (fun h => h0 ((hcond0_4 t).mp h)) (fun h => h0 ((hcond0_5 t).mp h)) (fun h => h0 ((hcond0_6 t).mp h)) (fun h => h0 ((hcond0_7 t).mp h)) (fun h => h0 ((hcond0_8 t).mp h)) (iblk m c 0 t) (iblk m c 1 t) (iblk m c 2 t) (iblk m c 3 t) (iblk m c 4 t) (iblk m c 5 t) (iblk m c 6 t) (iblk m c 7 t) (iblk m c 8 t) _ _ _ _ _ _ _ _ _ _).2.2.2.2.2.2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [HS0]; · iexact HS0
        isplitl [HS1]; · iexact HS1
        iintro ⟨H0, H1, H2, H3, H4, H5, H6, H7, H8, ⟨%e9, H9⟩, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%es0, HS0⟩, ⟨%es1, HS1⟩⟩
        isplitl [HS0 HS1 Hg]
        · isplitl [HS0 HS1]
          · isplitl [HS0]
            · unfold owns; iexists _; isplitr
              swap; · iexact HS0
              ipureintro; exact eB_s0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
            unfold owns; iexists _; isplitr
            swap; · iexact HS1
            ipureintro; exact eB_s1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact eB_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H10]
        · unfold owns; iexists _; isplitr
          swap; · iexact H10
          ipureintro; exact eB_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H11]
        · unfold owns; iexists _; isplitr
          swap; · iexact H11
          ipureintro; exact eB_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H12]
        · unfold owns; iexists _; isplitr
          swap; · iexact H12
          ipureintro; exact eB_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H13]
        · unfold owns; iexists _; isplitr
          swap; · iexact H13
          ipureintro; exact eB_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H14]
        · unfold owns; iexists _; isplitr
          swap; · iexact H14
          ipureintro; exact eB_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H15]
        · unfold owns; iexists _; isplitr
          swap; · iexact H15
          ipureintro; exact eB_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H16]
        · unfold owns; iexists _; isplitr
          swap; · iexact H16
          ipureintro; exact eB_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        isplitl [H17]
        · unfold owns; iexists _; isplitr
          swap; · iexact H17
          ipureintro; exact eB_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
        unfold owns; iexists _; isplitr
        swap; · iexact H18
        ipureintro; exact eB_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 48 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- What step `t` writes back to result 9: what it left in its buffer. -/
theorem flushed9 (c : Dev nD) (t : Fin cfg0.N) :
    (dats m 0 c).flushed 9 t = (cfg0.win 9).cut (grid0.coords t) ((outsAt m c t.val t.isLt).1) := by
  show (cfg0.win 9).cut (grid0.coords t) ((dats m 0 c).after 9 t) = _
  rw [after0_9]

/-- What step `t` writes back to result 10: what it left in its buffer. -/
theorem flushed10 (c : Dev nD) (t : Fin cfg0.N) :
    (dats m 0 c).flushed 10 t = (cfg0.win 10).cut (grid0.coords t) ((outsAt m c t.val t.isLt).2.1) := by
  show (cfg0.win 10).cut (grid0.coords t) ((dats m 0 c).after 10 t) = _
  rw [after0_10]

/-- What step `t` writes back to result 11: what it left in its buffer. -/
theorem flushed11 (c : Dev nD) (t : Fin cfg0.N) :
    (dats m 0 c).flushed 11 t = (cfg0.win 11).cut (grid0.coords t) ((outsAt m c t.val t.isLt).2.2.1) := by
  show (cfg0.win 11).cut (grid0.coords t) ((dats m 0 c).after 11 t) = _
  rw [after0_11]

/-- What step `t` writes back to result 12: what it left in its buffer. -/
theorem flushed12 (c : Dev nD) (t : Fin cfg0.N) :
    (dats m 0 c).flushed 12 t = (cfg0.win 12).cut (grid0.coords t) ((outsAt m c t.val t.isLt).2.2.2.1) := by
  show (cfg0.win 12).cut (grid0.coords t) ((dats m 0 c).after 12 t) = _
  rw [after0_12]

/-- What step `t` writes back to result 13: what it left in its buffer. -/
theorem flushed13 (c : Dev nD) (t : Fin cfg0.N) :
    (dats m 0 c).flushed 13 t = (cfg0.win 13).cut (grid0.coords t) ((outsAt m c t.val t.isLt).2.2.2.2.1) := by
  show (cfg0.win 13).cut (grid0.coords t) ((dats m 0 c).after 13 t) = _
  rw [after0_13]

/-- What step `t` writes back to result 14: what it left in its buffer. -/
theorem flushed14 (c : Dev nD) (t : Fin cfg0.N) :
    (dats m 0 c).flushed 14 t = (cfg0.win 14).cut (grid0.coords t) ((outsAt m c t.val t.isLt).2.2.2.2.2.1) := by
  show (cfg0.win 14).cut (grid0.coords t) ((dats m 0 c).after 14 t) = _
  rw [after0_14]

/-- What step `t` writes back to result 15: what it left in its buffer. -/
theorem flushed15 (c : Dev nD) (t : Fin cfg0.N) :
    (dats m 0 c).flushed 15 t = (cfg0.win 15).cut (grid0.coords t) ((outsAt m c t.val t.isLt).2.2.2.2.2.2.1) := by
  show (cfg0.win 15).cut (grid0.coords t) ((dats m 0 c).after 15 t) = _
  rw [after0_15]

/-- What step `t` writes back to result 16: what it left in its buffer. -/
theorem flushed16 (c : Dev nD) (t : Fin cfg0.N) :
    (dats m 0 c).flushed 16 t = (cfg0.win 16).cut (grid0.coords t) ((outsAt m c t.val t.isLt).2.2.2.2.2.2.2.1) := by
  show (cfg0.win 16).cut (grid0.coords t) ((dats m 0 c).after 16 t) = _
  rw [after0_16]

/-- What step `t` writes back to result 17: what it left in its buffer. -/
theorem flushed17 (c : Dev nD) (t : Fin cfg0.N) :
    (dats m 0 c).flushed 17 t = (cfg0.win 17).cut (grid0.coords t) ((outsAt m c t.val t.isLt).2.2.2.2.2.2.2.2.1) := by
  show (cfg0.win 17).cut (grid0.coords t) ((dats m 0 c).after 17 t) = _
  rw [after0_17]

/-- What step `t` writes back to result 18: what it left in its buffer. -/
theorem flushed18 (c : Dev nD) (t : Fin cfg0.N) :
    (dats m 0 c).flushed 18 t = (cfg0.win 18).cut (grid0.coords t) ((outsAt m c t.val t.isLt).2.2.2.2.2.2.2.2.2.1) := by
  show (cfg0.win 18).cut (grid0.coords t) ((dats m 0 c).after 18 t) = _
  rw [after0_18]

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_0) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_1) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_2) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_3) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_4) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_5) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v0_6) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v0_7) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v0_8) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v0_9) = (dats m 0 c).arrAt 18 cfg0.N :=
  (h c).1 18

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 6 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 6).trans (((dats m 0 c).arrAt_in 6 rfl _).trans ((A_eq m c 6).trans (V_main_arg1 m c)))

/-- After the frame run, argument `main_arg2` is as launched: input window 7 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 7).trans (((dats m 0 c).arrAt_in 7 rfl _).trans ((A_eq m c 7).trans (V_main_arg2 m c)))

/-- After the frame run, argument `main_arg3` is as launched: input window 8 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 8).trans (((dats m 0 c).arrAt_in 8 rfl _).trans ((A_eq m c 8).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 9 cfg0.N
      ∧ r.2.mem ((c : Thread nD τ).loc main_v0_1) = (dats m 0 c).arrAt 10 cfg0.N
      ∧ r.2.mem ((c : Thread nD τ).loc main_v0_2) = (dats m 0 c).arrAt 11 cfg0.N
      ∧ r.2.mem ((c : Thread nD τ).loc main_v0_3) = (dats m 0 c).arrAt 12 cfg0.N
      ∧ r.2.mem ((c : Thread nD τ).loc main_v0_4) = (dats m 0 c).arrAt 13 cfg0.N
      ∧ r.2.mem ((c : Thread nD τ).loc main_v0_5) = (dats m 0 c).arrAt 14 cfg0.N
      ∧ r.2.mem ((c : Thread nD τ).loc main_v0_6) = (dats m 0 c).arrAt 15 cfg0.N
      ∧ r.2.mem ((c : Thread nD τ).loc main_v0_7) = (dats m 0 c).arrAt 16 cfg0.N
      ∧ r.2.mem ((c : Thread nD τ).loc main_v0_8) = (dats m 0 c).arrAt 17 cfg0.N
      ∧ r.2.mem ((c : Thread nD τ).loc main_v0_9) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post9 m r h c,
      post10 m r h c,
      post11 m r h c,
      post12 m r h c,
      post13 m r h c,
      post14 m r h c,
      post15 m r h c,
      post16 m r h c,
      post17 m r h c,
      post18 m r h c,
      kept_main_arg0 m r h c,
      kept_main_arg1 m r h c,
      kept_main_arg2 m r h c,
      kept_main_arg3 m r h c⟩)
    (run_main m ρ)

end Cert.KernelIdeal.Conv

end
-- ==== Proof.ConvAcc.lean ====
module

public import proofs.«01_k».proof.Proof.ConvTile
public import proofs.«01_k».proof.Proof.ConvFrame

/-!
What the gradient kernel's buffers hold after each step, over the extended reals: the gradient tiles at the
step's rows and columns, the accumulators at the sum over all rows from the step's first one down.
-/

@[expose] public section

set_option maxRecDepth 16384

noncomputable section

namespace Cert.KernelIdeal.Conv

open Cert.KernelIdeal Cert.KernelIdeal.Gen Cert.ConvMath Idealize.ShloMosaic Idealize.ShloMosaic.TcCoe Idealize.SL.Sem

theorem pay45_apply (X : FVec Ideal S512x512 .f32) (a b : Fin 512) : k0_pay45 X (ix2 a b) = X (ix2 a b) := by pointwise [k0_pay45]
theorem pay46_apply (X : FVec Ideal S512x512 .f32) (a b : Fin 512) : k0_pay46 X (ix2 a b) = X (ix2 a b) := by pointwise [k0_pay46]
theorem pay48_apply (X : FVec Ideal S1x512 .f32) (A : Vec Ideal S1x512 .f32) (b : Fin 512) : k0_pay48 X A (ix2 0 b) = A (ix2 0 b) + X (ix2 0 b) := by pointwise [k0_pay48]
theorem pay50_apply (X : FVec Ideal S1x512 .f32) (A : Vec Ideal S1x512 .f32) (b : Fin 512) : k0_pay50 X A (ix2 0 b) = A (ix2 0 b) + X (ix2 0 b) := by pointwise [k0_pay50]
theorem pay52_apply (X : FVec Ideal S1x512 .f32) (A : Vec Ideal S1x512 .f32) (b : Fin 512) : k0_pay52 X A (ix2 0 b) = A (ix2 0 b) + X (ix2 0 b) := by pointwise [k0_pay52]
theorem pay54_apply (X : FVec Ideal S1x512 .f32) (A : Vec Ideal S1x512 .f32) (b : Fin 512) : k0_pay54 X A (ix2 0 b) = A (ix2 0 b) + X (ix2 0 b) := by pointwise [k0_pay54]
theorem pay56_apply (X : FVec Ideal S1x512 .f32) (A : Vec Ideal S1x512 .f32) (b : Fin 512) : k0_pay56 X A (ix2 0 b) = A (ix2 0 b) + X (ix2 0 b) := by pointwise [k0_pay56]
theorem pay2_apply (X : FVec Ideal S1x512 .f32) (A : Vec Ideal S1x512 .f32) (b : Fin 512) : k0_pay2 X A (ix2 0 b) = A (ix2 0 b) + X (ix2 0 b) := by pointwise [k0_pay2]
theorem pay4_apply (X : FVec Ideal S1x512 .f32) (A : Vec Ideal S1x512 .f32) (b : Fin 512) : k0_pay4 X A (ix2 0 b) = A (ix2 0 b) + X (ix2 0 b) := by pointwise [k0_pay4]
theorem pay6_apply (X : FVec Ideal S1x512 .f32) (A : Vec Ideal S1x512 .f32) (b : Fin 512) : k0_pay6 X A (ix2 0 b) = A (ix2 0 b) + X (ix2 0 b) := by pointwise [k0_pay6]

theorem pay29_apply (X : FVec Ideal S512x512 .f32) (a : Fin 8) (b : Fin 512) : k0_pay29 X (ix2 a b) = X (ix2 ⟨a.val, by omega⟩ b) := by
  pointwise [k0_pay29]
theorem pay35_apply (X : FVec Ideal S512x512 .f32) (a : Fin 8) (b : Fin 512) : k0_pay35 X (ix2 a b) = X (ix2 ⟨a.val, by omega⟩ b) := by
  pointwise [k0_pay35]
theorem pay44_eq (X : FVec Ideal S512x512 .f32) : k0_pay44 X = k0_pay39 X := rfl

theorem pay22_apply (a : Fin 8) (b : Fin 512) : (k0_pay22 (F := Ideal)) (ix2 a b) = 0 := by pointwise [k0_pay22]
theorem pay23_apply (a : Fin 8) (b : Fin 512) : (k0_pay23 (F := Ideal)) (ix2 a b) = 0 := by pointwise [k0_pay23]
theorem pay47_apply (b : Fin 512) : (k0_pay47 (F := Ideal)) (ix2 0 b) = 0 := by pointwise [k0_pay47]
theorem pay49_apply (b : Fin 512) : (k0_pay49 (F := Ideal)) (ix2 0 b) = 0 := by pointwise [k0_pay49]
theorem pay51_apply (b : Fin 512) : (k0_pay51 (F := Ideal)) (ix2 0 b) = 0 := by pointwise [k0_pay51]
theorem pay53_apply (b : Fin 512) : (k0_pay53 (F := Ideal)) (ix2 0 b) = 0 := by pointwise [k0_pay53]
theorem pay55_apply (b : Fin 512) : (k0_pay55 (F := Ideal)) (ix2 0 b) = 0 := by pointwise [k0_pay55]
theorem pay1_apply (b : Fin 512) : (k0_pay1 (F := Ideal)) (ix2 0 b) = 0 := by pointwise [k0_pay1]
theorem pay3_apply (b : Fin 512) : (k0_pay3 (F := Ideal)) (ix2 0 b) = 0 := by pointwise [k0_pay3]
theorem pay5_apply (b : Fin 512) : (k0_pay5 (F := Ideal)) (ix2 0 b) = 0 := by pointwise [k0_pay5]

variable (m : (ℓ : Loc nD τ sig) → Buf (Elt Ideal) ℓ) (c : Dev nD)

/-- The four arrays. -/
abbrev aU : (⟨2, ![4096, 6144]⟩ : Shape).Idx → EReal := m ((c : Thread nD τ).loc main_arg0)
abbrev aW : (⟨2, ![3, 6144]⟩ : Shape).Idx → EReal := m ((c : Thread nD τ).loc main_arg1)
abbrev aB : (⟨2, ![1, 6144]⟩ : Shape).Idx → EReal := m ((c : Thread nD τ).loc main_arg2)
abbrev aD : (⟨2, ![4096, 3072]⟩ : Shape).Idx → EReal := m ((c : Thread nD τ).loc main_arg3)

/-- The step's row tile, counted from the first row. -/
def rt (t : Fin cfg0.N) : ℕ := 7 - t.val % 8

theorem t_lt (t : Fin cfg0.N) : t.val < 48 := lt_of_lt_of_eq t.isLt (show cfg0.N = 48 from N_0)

/-- The step's column `b`. -/
def ct (t : Fin cfg0.N) (b : Fin 512) : Fin 3072 := ⟨512 * (t.val / 8) + b.val, by have := t_lt t; omega⟩

theorem coord1 : ∀ t : Fin cfg0.N, (grid0.coords t 1).val = t.val % 8 :=
  (by decide +kernel : ∀ t : Fin grid0.N, (grid0.coords t 1).val = t.val % 8)
theorem idx0 : ∀ t : Fin cfg0.N, win0_0.index t 0 = 7 - t.val % 8 ∧ win0_0.index t 1 = t.val / 8 :=
  (by decide +kernel : ∀ t : Fin grid0.N, win0_0.index t 0 = 7 - t.val % 8 ∧ win0_0.index t 1 = t.val / 8)
theorem idx1 : ∀ t : Fin cfg0.N, (t.val % 8 < 7 → win0_1.index t 0 = 64 * (7 - t.val % 8) - 1) ∧ win0_1.index t 1 = t.val / 8 :=
  (by decide +kernel : ∀ t : Fin grid0.N, (t.val % 8 < 7 → win0_1.index t 0 = 64 * (7 - t.val % 8) - 1) ∧ win0_1.index t 1 = t.val / 8)
theorem idx2 : ∀ t : Fin cfg0.N, win0_2.index t 0 = 7 - t.val % 8 ∧ win0_2.index t 1 = 6 + t.val / 8 :=
  (by decide +kernel : ∀ t : Fin grid0.N, win0_2.index t 0 = 7 - t.val % 8 ∧ win0_2.index t 1 = 6 + t.val / 8)
theorem idx3 : ∀ t : Fin cfg0.N, (t.val % 8 < 7 → win0_3.index t 0 = 64 * (7 - t.val % 8) - 1) ∧ win0_3.index t 1 = 6 + t.val / 8 :=
  (by decide +kernel : ∀ t : Fin grid0.N, (t.val % 8 < 7 → win0_3.index t 0 = 64 * (7 - t.val % 8) - 1) ∧ win0_3.index t 1 = 6 + t.val / 8)
theorem idx4 : ∀ t : Fin cfg0.N, win0_4.index t 0 = 0 ∧ win0_4.index t 1 = t.val / 8 :=
  (by decide +kernel : ∀ t : Fin grid0.N, win0_4.index t 0 = 0 ∧ win0_4.index t 1 = t.val / 8)
theorem idx5 : ∀ t : Fin cfg0.N, win0_5.index t 0 = 0 ∧ win0_5.index t 1 = t.val / 8 :=
  (by decide +kernel : ∀ t : Fin grid0.N, win0_5.index t 0 = 0 ∧ win0_5.index t 1 = t.val / 8)
theorem idx6 : ∀ t : Fin cfg0.N, win0_6.index t 0 = 0 ∧ win0_6.index t 1 = 6 + t.val / 8 :=
  (by decide +kernel : ∀ t : Fin grid0.N, win0_6.index t 0 = 0 ∧ win0_6.index t 1 = 6 + t.val / 8)
theorem idx7 : ∀ t : Fin cfg0.N, win0_7.index t 0 = 0 ∧ win0_7.index t 1 = 6 + t.val / 8 :=
  (by decide +kernel : ∀ t : Fin grid0.N, win0_7.index t 0 = 0 ∧ win0_7.index t 1 = 6 + t.val / 8)
theorem idx8 : ∀ t : Fin cfg0.N, win0_8.index t 0 = 7 - t.val % 8 ∧ win0_8.index t 1 = t.val / 8 :=
  (by decide +kernel : ∀ t : Fin grid0.N, win0_8.index t 0 = 7 - t.val % 8 ∧ win0_8.index t 1 = t.val / 8)

theorem blk0 (t : Fin cfg0.N) (a : Fin 512) (b : Fin 512) (h : 512 * rt t + a.val < 4096) :
    (iblk m c 0 t : Vec Ideal S512x512 .f32) (ix2 a b) = aU m c (ix2 ⟨512 * rt t + a.val, h⟩ (colG (ct t b))) := by
  have hi := idx0 t
  unfold iblk
  rw [View.read_apply]
  show V m c main_arg0 _ = m (c.tc.loc main_arg0) _
  unfold V
  congr 1
  funext k
  apply Fin.ext
  match k with
  | ⟨0, _⟩ => show win0_0.index t 0 * 512 + 1 * a.val = 512 * rt t + a.val; rw [hi.1]; unfold rt; omega
  | ⟨1, _⟩ => show win0_0.index t 1 * 512 + 1 * b.val = 512 * (t.val / 8) + b.val; rw [hi.2]; omega

theorem blk1 (t : Fin cfg0.N) (a : Fin 8) (b : Fin 512) (h : 512 * rt t - 8 + a.val < 4096) (h0 : 0 < rt t) :
    (iblk m c 1 t : Vec Ideal S8x512 .f32) (ix2 a b) = aU m c (ix2 ⟨512 * rt t - 8 + a.val, h⟩ (colG (ct t b))) := by
  have hi := idx1 t
  unfold iblk
  rw [View.read_apply]
  show V m c main_arg0 _ = m (c.tc.loc main_arg0) _
  unfold V
  congr 1
  funext k
  apply Fin.ext
  match k with
  | ⟨0, _⟩ => show win0_1.index t 0 * 8 + 1 * a.val = 512 * rt t - 8 + a.val; unfold rt at *; rw [hi.1 (by omega)]; omega
  | ⟨1, _⟩ => show win0_1.index t 1 * 512 + 1 * b.val = 512 * (t.val / 8) + b.val; rw [hi.2]; omega

theorem blk2 (t : Fin cfg0.N) (a : Fin 512) (b : Fin 512) (h : 512 * rt t + a.val < 4096) :
    (iblk m c 2 t : Vec Ideal S512x512 .f32) (ix2 a b) = aU m c (ix2 ⟨512 * rt t + a.val, h⟩ (colV (ct t b))) := by
  have hi := idx2 t
  unfold iblk
  rw [View.read_apply]
  show V m c main_arg0 _ = m (c.tc.loc main_arg0) _
  unfold V
  congr 1
  funext k
  apply Fin.ext
  match k with
  | ⟨0, _⟩ => show win0_2.index t 0 * 512 + 1 * a.val = 512 * rt t + a.val; rw [hi.1]; unfold rt; omega
  | ⟨1, _⟩ => show win0_2.index t 1 * 512 + 1 * b.val = 3072 + (512 * (t.val / 8) + b.val); rw [hi.2]; omega

theorem blk3 (t : Fin cfg0.N) (a : Fin 8) (b : Fin 512) (h : 512 * rt t - 8 + a.val < 4096) (h0 : 0 < rt t) :
    (iblk m c 3 t : Vec Ideal S8x512 .f32) (ix2 a b) = aU m c (ix2 ⟨512 * rt t - 8 + a.val, h⟩ (colV (ct t b))) := by
  have hi := idx3 t
  unfold iblk
  rw [View.read_apply]
  show V m c main_arg0 _ = m (c.tc.loc main_arg0) _
  unfold V
  congr 1
  funext k
  apply Fin.ext
  match k with
  | ⟨0, _⟩ => show win0_3.index t 0 * 8 + 1 * a.val = 512 * rt t - 8 + a.val; unfold rt at *; rw [hi.1 (by omega)]; omega
  | ⟨1, _⟩ => show win0_3.index t 1 * 512 + 1 * b.val = 3072 + (512 * (t.val / 8) + b.val); rw [hi.2]; omega

theorem blk4 (t : Fin cfg0.N) (a : Fin 3) (b : Fin 512) :
    (iblk m c 4 t : Vec Ideal S3x512 .f32) (ix2 a b) = aW m c (ix2 a (colG (ct t b))) := by
  have hi := idx4 t
  unfold iblk
  rw [View.read_apply]
  show V m c main_arg1 _ = m (c.tc.loc main_arg1) _
  unfold V
  congr 1
  funext k
  apply Fin.ext
  match k with
  | ⟨0, _⟩ => show win0_4.index t 0 * 3 + 1 * a.val = a.val; rw [hi.1]; omega
  | ⟨1, _⟩ => show win0_4.index t 1 * 512 + 1 * b.val = 512 * (t.val / 8) + b.val; rw [hi.2]; omega

theorem blk5 (t : Fin cfg0.N) (a : Fin 1) (b : Fin 512) :
    (iblk m c 5 t : Vec Ideal S1x512 .f32) (ix2 a b) = aB m c (ix2 a (colG (ct t b))) := by
  have hi := idx5 t
  unfold iblk
  rw [View.read_apply]
  show V m c main_arg2 _ = m (c.tc.loc main_arg2) _
  unfold V
  congr 1
  funext k
  apply Fin.ext
  match k with
  | ⟨0, _⟩ => show win0_5.index t 0 * 1 + 1 * a.val = a.val; rw [hi.1]; omega
  | ⟨1, _⟩ => show win0_5.index t 1 * 512 + 1 * b.val = 512 * (t.val / 8) + b.val; rw [hi.2]; omega

theorem blk6 (t : Fin cfg0.N) (a : Fin 3) (b : Fin 512) :
    (iblk m c 6 t : Vec Ideal S3x512 .f32) (ix2 a b) = aW m c (ix2 a (colV (ct t b))) := by
  have hi := idx6 t
  unfold iblk
  rw [View.read_apply]
  show V m c main_arg1 _ = m (c.tc.loc main_arg1) _
  unfold V
  congr 1
  funext k
  apply Fin.ext
  match k with
  | ⟨0, _⟩ => show win0_6.index t 0 * 3 + 1 * a.val = a.val; rw [hi.1]; omega
  | ⟨1, _⟩ => show win0_6.index t 1 * 512 + 1 * b.val = 3072 + (512 * (t.val / 8) + b.val); rw [hi.2]; omega

theorem blk7 (t : Fin cfg0.N) (a : Fin 1) (b : Fin 512) :
    (iblk m c 7 t : Vec Ideal S1x512 .f32) (ix2 a b) = aB m c (ix2 a (colV (ct t b))) := by
  have hi := idx7 t
  unfold iblk
  rw [View.read_apply]
  show V m c main_arg2 _ = m (c.tc.loc main_arg2) _
  unfold V
  congr 1
  funext k
  apply Fin.ext
  match k with
  | ⟨0, _⟩ => show win0_7.index t 0 * 1 + 1 * a.val = a.val; rw [hi.1]; omega
  | ⟨1, _⟩ => show win0_7.index t 1 * 512 + 1 * b.val = 3072 + (512 * (t.val / 8) + b.val); rw [hi.2]; omega

theorem blk8 (t : Fin cfg0.N) (a : Fin 512) (b : Fin 512) (h : 512 * rt t + a.val < 4096) :
    (iblk m c 8 t : Vec Ideal S512x512 .bf16) (ix2 a b) = aD m c (ix2 ⟨512 * rt t + a.val, h⟩ (ct t b)) := by
  have hi := idx8 t
  unfold iblk
  rw [View.read_apply]
  show V m c main_arg3 _ = m (c.tc.loc main_arg3) _
  unfold V
  congr 1
  funext k
  apply Fin.ext
  match k with
  | ⟨0, _⟩ => show win0_8.index t 0 * 512 + 1 * a.val = 512 * rt t + a.val; rw [hi.1]; unfold rt; omega
  | ⟨1, _⟩ => show win0_8.index t 1 * 512 + 1 * b.val = 512 * (t.val / 8) + b.val; rw [hi.2]; omega

/-- The convolved gate tile of a step. -/
theorem cGt (t : Fin cfg0.N) (a b : Fin 512) :
    cG (grid0.coords t) (iblk m c 0 t) (iblk m c 1 t) (iblk m c 4 t) (iblk m c 5 t) (ix2 a b)
      = conv (aU m c) (aW m c) (aB m c) (512 * rt t + a.val) (colG (ct t b)) :=
  cG_apply (aU m c) (aW m c) (aB m c) (grid0.coords t) (rt t) (by rw [coord1]; unfold rt; omega) (fun b => colG (ct t b)) _ _
    (blk0 m c t) (fun a b h h0 => blk1 m c t a b h h0) _ _ (blk4 m c t) (fun b => blk5 m c t 0 b) a b

/-- The convolved value tile of a step. -/
theorem cVt (t : Fin cfg0.N) (a b : Fin 512) :
    cG (grid0.coords t) (iblk m c 2 t) (iblk m c 3 t) (iblk m c 6 t) (iblk m c 7 t) (ix2 a b)
      = conv (aU m c) (aW m c) (aB m c) (512 * rt t + a.val) (colV (ct t b)) :=
  cG_apply (aU m c) (aW m c) (aB m c) (grid0.coords t) (rt t) (by rw [coord1]; unfold rt; omega) (fun b => colV (ct t b)) _ _
    (blk2 m c t) (fun a b h h0 => blk3 m c t a b h h0) _ _ (blk6 m c t) (fun b => blk7 m c t 0 b) a b

/-- The gate gradient, the value gradient of a column. -/
abbrev gD (x : Fin 3072) : ℕ → EReal := dcG (aU m c) (aW m c) (aB m c) (aD m c) x
abbrev vD (x : Fin 3072) : ℕ → EReal := dcV (aU m c) (aW m c) (aB m c) (aD m c) x

theorem row_lt (t : Fin cfg0.N) (a : Fin 512) : 512 * rt t + a.val < 4096 := by unfold rt; omega

theorem tGt (t : Fin cfg0.N) (a b : Fin 512) :
    tG (grid0.coords t) (iblk m c 0 t) (iblk m c 1 t) (iblk m c 2 t) (iblk m c 3 t) (iblk m c 4 t) (iblk m c 5 t) (iblk m c 6 t) (iblk m c 7 t)
      (iblk m c 8 t) (ix2 a b) = gD m c (ct t b) (512 * rt t + a.val) := by
  rw [tG_open, cGt, cVt]
  unfold gD dcG
  rw [dif_pos (row_lt t a)]
  congr 1
  exact blk8 m c t a b _

theorem tVt (t : Fin cfg0.N) (a b : Fin 512) :
    tV (grid0.coords t) (iblk m c 0 t) (iblk m c 1 t) (iblk m c 4 t) (iblk m c 5 t) (iblk m c 8 t) (ix2 a b)
      = vD m c (ct t b) (512 * rt t + a.val) := by
  rw [tV_open, cGt]
  unfold vD dcV
  rw [dif_pos (row_lt t a)]
  congr 1
  exact blk8 m c t a b _

/-- The sum over the rows from row tile `r` down. -/
abbrev below (r : ℕ) (f : ℕ → EReal) : EReal := ∑ n ∈ Finset.Ico (512 * r) 4096, f n

/-- A tile's column sums in front of the sum over the rows below it. -/
theorem sum36 (t : Fin cfg0.N) (x T : FVec Ideal S512x512 .f32) (D : Fin 3072 → ℕ → EReal) (col : Fin 3072 → Fin 6144) (k : ℕ)
    (hT : ∀ a b : Fin 512, T (ix2 a b) = D (ct t b) (512 * rt t + a.val))
    (hx : ∀ a b : Fin 512, x (ix2 a b) = back (aU m c) k (512 * rt t + a.val) (col (ct t b))) (s : EReal) (b : Fin 512)
    (hs : s = below (rt t + 1) (tap (aU m c) (D (ct t b)) (col (ct t b)) k)) :
    s + k0_pay36 x T (ix2 0 b) = below (rt t) (tap (aU m c) (D (ct t b)) (col (ct t b)) k) := by
  rw [hs]
  show _ = ∑ n ∈ Finset.Ico (512 * rt t) 4096, _
  rw [← tile_add _ (rt t) (by unfold rt; omega)]
  congr 1
  refine (pay36_apply x T (ix2 0 b)).trans (Finset.sum_congr rfl fun a _ => ?_)
  show T (ix2 a b) * x (ix2 a b) = _
  rw [hT, hx]
  rfl

theorem sum39 (t : Fin cfg0.N) (T : FVec Ideal S512x512 .f32) (D : Fin 3072 → ℕ → EReal)
    (hT : ∀ a b : Fin 512, T (ix2 a b) = D (ct t b) (512 * rt t + a.val)) (s : EReal) (b : Fin 512)
    (hs : s = below (rt t + 1) (D (ct t b))) :
    s + k0_pay39 T (ix2 0 b) = below (rt t) (D (ct t b)) := by
  rw [hs]
  show _ = ∑ n ∈ Finset.Ico (512 * rt t) 4096, _
  rw [← tile_add _ (rt t) (by unfold rt; omega)]
  congr 1
  refine (pay39_apply T (ix2 0 b)).trans (Finset.sum_congr rfl fun a _ => ?_)
  exact hT a b

/-- What a step hands to the next one of its column: the accumulators at the sums over the rows from row tile `r` down,
    the carried rows at the gradient of row tile `r`. -/
structure Carry (t : Fin cfg0.N) (r : ℕ) (a11 a12 a13 a14 a15 a16 a17 a18 : Vec Ideal S1x512 .f32) (s0 s1 : Vec Ideal S8x512 .f32) : Prop where
  h11 : ∀ b : Fin 512, a11 (ix2 0 b) = below r (tap (aU m c) (gD m c (ct t b)) (colG (ct t b)) 0)
  h12 : ∀ b : Fin 512, a12 (ix2 0 b) = below r (tap (aU m c) (gD m c (ct t b)) (colG (ct t b)) 1)
  h13 : ∀ b : Fin 512, a13 (ix2 0 b) = below r (tap (aU m c) (gD m c (ct t b)) (colG (ct t b)) 2)
  h14 : ∀ b : Fin 512, a14 (ix2 0 b) = below r (gD m c (ct t b))
  h15 : ∀ b : Fin 512, a15 (ix2 0 b) = below r (tap (aU m c) (vD m c (ct t b)) (colV (ct t b)) 0)
  h16 : ∀ b : Fin 512, a16 (ix2 0 b) = below r (tap (aU m c) (vD m c (ct t b)) (colV (ct t b)) 1)
  h17 : ∀ b : Fin 512, a17 (ix2 0 b) = below r (tap (aU m c) (vD m c (ct t b)) (colV (ct t b)) 2)
  h18 : ∀ b : Fin 512, a18 (ix2 0 b) = below r (vD m c (ct t b))
  hs0 : ∀ (a : Fin 8) (b : Fin 512), s0 (ix2 a b) = gD m c (ct t b) (512 * r + a.val)
  hs1 : ∀ (a : Fin 8) (b : Fin 512), s1 (ix2 a b) = vD m c (ct t b) (512 * r + a.val)

/-- One step: from what the step before handed on to what this one does. -/
theorem carry_step (t : Fin cfg0.N) {a11 a12 a13 a14 a15 a16 a17 a18 : Vec Ideal S1x512 .f32} {s0 s1 : Vec Ideal S8x512 .f32}
    (h : Carry m c t (rt t + 1) a11 a12 a13 a14 a15 a16 a17 a18 s0 s1) :
    let o := outB m c t ((fun _ => 0), (fun _ => 0), a11, a12, a13, a14, a15, a16, a17, a18, s0, s1)
    Carry m c t (rt t) o.2.2.1 o.2.2.2.1 o.2.2.2.2.1 o.2.2.2.2.2.1 o.2.2.2.2.2.2.1 o.2.2.2.2.2.2.2.1 o.2.2.2.2.2.2.2.2.1 o.2.2.2.2.2.2.2.2.2.1
        o.2.2.2.2.2.2.2.2.2.2.1 o.2.2.2.2.2.2.2.2.2.2.2
      ∧ (∀ a b : Fin 512, o.1 (ix2 a b) = up (aW m c) (gD m c (ct t b)) (colG (ct t b)) (512 * rt t + a.val))
      ∧ (∀ a b : Fin 512, o.2.1 (ix2 a b) = up (aW m c) (vD m c (ct t b)) (colV (ct t b)) (512 * rt t + a.val)) := by
  have hr : rt t + (grid0.coords t 1).val = 7 := by rw [coord1]; unfold rt; omega
  have bG0 := back0 (aU m c) (grid0.coords t) (rt t) hr (fun b => colG (ct t b)) _ (blk0 m c t)
  have bG1 := back1 (aU m c) (grid0.coords t) (rt t) hr (fun b => colG (ct t b)) _ _ (blk0 m c t) (fun a b h h0 => blk1 m c t a b h h0)
  have bG2 := back2 (aU m c) (grid0.coords t) (rt t) hr (fun b => colG (ct t b)) _ _ (blk0 m c t) (fun a b h h0 => blk1 m c t a b h h0)
  have bV0 := back0 (aU m c) (grid0.coords t) (rt t) hr (fun b => colV (ct t b)) _ (blk2 m c t)
  have bV1 := back1 (aU m c) (grid0.coords t) (rt t) hr (fun b => colV (ct t b)) _ _ (blk2 m c t) (fun a b h h0 => blk3 m c t a b h h0)
  have bV2 := back2 (aU m c) (grid0.coords t) (rt t) hr (fun b => colV (ct t b)) _ _ (blk2 m c t) (fun a b h h0 => blk3 m c t a b h h0)
  intro o
  refine ⟨⟨fun b => ?_, fun b => ?_, fun b => ?_, fun b => ?_, fun b => ?_, fun b => ?_, fun b => ?_, fun b => ?_, fun a b => ?_, fun a b => ?_⟩,
    fun a b => ?_, fun a b => ?_⟩
  · refine (pay48_apply _ _ b).trans (sum36 m c t _ _ (gD m c) colG 0 (tGt m c t) bG0 _ b (h.h11 b))
  · refine (pay50_apply _ _ b).trans ?_
    rw [pay37_eq]; exact sum36 m c t _ _ (gD m c) colG 1 (tGt m c t) bG1 _ b (h.h12 b)
  · refine (pay52_apply _ _ b).trans ?_
    rw [pay38_eq]; exact sum36 m c t _ _ (gD m c) colG 2 (tGt m c t) bG2 _ b (h.h13 b)
  · exact (pay54_apply _ _ b).trans (sum39 t _ (gD m c) (tGt m c t) _ b (h.h14 b))
  · refine (pay56_apply _ _ b).trans ?_
    rw [pay40_eq]; exact sum36 m c t _ _ (vD m c) colV 0 (tVt m c t) bV0 _ b (h.h15 b)
  · refine (pay2_apply _ _ b).trans ?_
    rw [pay42_eq]; exact sum36 m c t _ _ (vD m c) colV 1 (tVt m c t) bV1 _ b (h.h16 b)
  · refine (pay4_apply _ _ b).trans ?_
    rw [pay43_eq]; exact sum36 m c t _ _ (vD m c) colV 2 (tVt m c t) bV2 _ b (h.h17 b)
  · refine (pay6_apply _ _ b).trans ?_
    rw [pay44_eq]; exact sum39 t _ (vD m c) (tVt m c t) _ b (h.h18 b)
  · exact (pay29_apply _ a b).trans (tGt m c t _ b)
  · exact (pay35_apply _ a b).trans (tVt m c t _ b)
  · exact (pay45_apply _ a b).trans (dG_apply (aW m c) (rt t) (fun b => colG (ct t b)) _ _ _ (blk4 m c t) (fun b => gD m c (ct t b)) (tGt m c t) h.hs0 a b)
  · exact (pay46_apply _ a b).trans (dG_apply (aW m c) (rt t) (fun b => colV (ct t b)) _ _ _ (blk6 m c t) (fun b => vD m c (ct t b)) (tVt m c t) h.hs1 a b)

/-- What holds after a step. -/
def Good (t : Fin cfg0.N) (o : Tup Ideal) : Prop :=
    Carry m c t (rt t) o.2.2.1 o.2.2.2.1 o.2.2.2.2.1 o.2.2.2.2.2.1 o.2.2.2.2.2.2.1 o.2.2.2.2.2.2.2.1 o.2.2.2.2.2.2.2.2.1 o.2.2.2.2.2.2.2.2.2.1
        o.2.2.2.2.2.2.2.2.2.2.1 o.2.2.2.2.2.2.2.2.2.2.2
      ∧ (∀ a b : Fin 512, o.1 (ix2 a b) = up (aW m c) (gD m c (ct t b)) (colG (ct t b)) (512 * rt t + a.val))
      ∧ (∀ a b : Fin 512, o.2.1 (ix2 a b) = up (aW m c) (vD m c (ct t b)) (colV (ct t b)) (512 * rt t + a.val))

theorem below_end (f : ℕ → EReal) : (0 : EReal) = below 8 f := by
  show (0 : EReal) = ∑ n ∈ Finset.Ico (512 * 8) 4096, f n
  rw [Finset.Ico_eq_empty (by omega), Finset.sum_empty]

theorem gD_end (x : Fin 3072) (a : Fin 8) : (0 : EReal) = gD m c x (512 * 8 + a.val) := by
  unfold gD dcG; rw [dif_neg (by omega)]
theorem vD_end (x : Fin 3072) (a : Fin 8) : (0 : EReal) = vD m c x (512 * 8 + a.val) := by
  unfold vD dcV; rw [dif_neg (by omega)]

theorem good_A (t : Fin cfg0.N) (ht : t.val % 8 = 0) : Good m c t (outA m c t) := by
  have e : rt t + 1 = 8 := by unfold rt; omega
  have := carry_step m c t (a11 := k0_pay47 (F := Ideal)) (a12 := k0_pay49 (F := Ideal)) (a13 := k0_pay51 (F := Ideal)) (a14 := k0_pay53 (F := Ideal)) (a15 := k0_pay55 (F := Ideal))
    (a16 := k0_pay1 (F := Ideal)) (a17 := k0_pay3 (F := Ideal)) (a18 := k0_pay5 (F := Ideal)) (s0 := k0_pay22 (F := Ideal)) (s1 := k0_pay23 (F := Ideal)) (by
      rw [e]
      exact ⟨fun b => (pay47_apply b).trans (below_end _), fun b => (pay49_apply b).trans (below_end _), fun b => (pay51_apply b).trans (below_end _),
        fun b => (pay53_apply b).trans (below_end _), fun b => (pay55_apply b).trans (below_end _), fun b => (pay1_apply b).trans (below_end _),
        fun b => (pay3_apply b).trans (below_end _), fun b => (pay5_apply b).trans (below_end _),
        fun a b => (pay22_apply a b).trans (gD_end m c _ a), fun a b => (pay23_apply a b).trans (vD_end m c _ a)⟩)
  exact this

theorem good_B (t t' : Fin cfg0.N) (ht : ¬t.val % 8 = 0) (hp : t'.val = t.val - 1) (p : Tup Ideal) (h : Good m c t' p) : Good m c t (outB m c t p) := by
  have e : rt t' = rt t + 1 := by unfold rt; omega
  have ec : ct t' = ct t := by funext b; unfold ct; apply Fin.ext; dsimp only; omega
  have hc := h.1
  have := carry_step m c t (a11 := p.2.2.1) (a12 := p.2.2.2.1) (a13 := p.2.2.2.2.1) (a14 := p.2.2.2.2.2.1) (a15 := p.2.2.2.2.2.2.1)
    (a16 := p.2.2.2.2.2.2.2.1) (a17 := p.2.2.2.2.2.2.2.2.1) (a18 := p.2.2.2.2.2.2.2.2.2.1) (s0 := p.2.2.2.2.2.2.2.2.2.2.1)
    (s1 := p.2.2.2.2.2.2.2.2.2.2.2) (by
      rw [e] at hc
      obtain ⟨h1, h2, h3, h4, h5, h6, h7, h8, h9, h10⟩ := hc
      rw [ec] at h1 h2 h3 h4 h5 h6 h7 h8 h9 h10
      exact ⟨h1, h2, h3, h4, h5, h6, h7, h8, h9, h10⟩)
  exact this

/-- After every step the buffers hold what they should. -/
theorem good : ∀ (n : ℕ) (hn : n < cfg0.N), Good m c ⟨n, hn⟩ (outsAt m c n hn)
  | 0, hn => (outsAt_A m c ⟨0, hn⟩ rfl) ▸ good_A m c ⟨0, hn⟩ rfl
  | n + 1, hn => by
    by_cases h : (n + 1) % 8 = 0
    · rw [show outsAt m c (n + 1) hn = _ from outsAt_A m c ⟨n + 1, hn⟩ h]
      exact good_A m c ⟨n + 1, hn⟩ h
    · rw [show outsAt m c (n + 1) hn = _ from outsAt_B m c ⟨n + 1, hn⟩ h]
      exact good_B m c ⟨n + 1, hn⟩ ⟨n, Nat.lt_of_succ_lt hn⟩ h rfl _ (good n (Nat.lt_of_succ_lt hn))

end Cert.KernelIdeal.Conv

end
-- ==== Proof.ConvArrays.lean ====
module

public import proofs.«01_k».proof.Proof.ConvAcc

/-!
The ten result arrays of the gradient kernel after the run, over the extended reals.
-/

@[expose] public section

set_option maxRecDepth 16384

noncomputable section

namespace Cert.KernelIdeal.Conv

open Cert.KernelIdeal Cert.KernelIdeal.Gen Cert.ConvMath Idealize.ShloMosaic Idealize.ShloMosaic.TcCoe Idealize.SL.Sem

variable (m : (ℓ : Loc nD τ sig) → Buf (Elt Ideal) ℓ) (c : Dev nD)

theorem eta2 {n k : ℕ} (j : (⟨2, ![n, k]⟩ : Shape).Idx) : j = ix2 (j 0) (j 1) := by
  funext a
  match a with
  | ⟨0, _⟩ => rfl
  | ⟨1, _⟩ => rfl

theorem eta1 {k : ℕ} (j : (⟨2, ![1, k]⟩ : Shape).Idx) : j = ix2 0 (j 1) := by
  funext a
  match a with
  | ⟨0, _⟩ => exact Subsingleton.elim (α := Fin 1) _ _
  | ⟨1, _⟩ => rfl

/-- The step that writes row `n`, column `x` of a tiled result; the last step of a column. -/
def stepOf (n : Fin 4096) (x : Fin 3072) : Fin cfg0.N := ⟨8 * (x.val / 512) + (7 - n.val / 512), by rw [show cfg0.N = 48 from N_0]; omega⟩
def lastOf (x : Fin 3072) : Fin cfg0.N := ⟨8 * (x.val / 512) + 7, by rw [show cfg0.N = 48 from N_0]; omega⟩

theorem idx9 : ∀ t : Fin cfg0.N, win0_9.index t 0 = 7 - t.val % 8 ∧ win0_9.index t 1 = t.val / 8 :=
  (by decide +kernel : ∀ t : Fin grid0.N, win0_9.index t 0 = 7 - t.val % 8 ∧ win0_9.index t 1 = t.val / 8)

/-- Result 0: the gradient at the convolution's input, gate columns. -/
def result9 : Buf (Elt Ideal) ((c : Thread nD τ).loc main_v0_0) := fun i => up (aW m c) (gD m c (i 1)) (colG (i 1)) (i 0).val

theorem flushed_eq9 (t : Fin cfg0.N) (hf : (cfg0.win 9).flush t = true) :
    (dats m 0 c).flushed 9 t = ((cfg0.win 9).blk t).view.read (Elt Ideal) (result9 m c) := by
  have hi := idx9 t
  rw [flushed9]
  funext j
  rw [View.read_apply]
  have hg := (good m c t.val t.isLt).2.1 (j 0) (j 1)
  refine (congrArg (outsAt m c t.val t.isLt).1 (eta2 (n := 512) (k := 512) j)).trans (hg.trans ?_)
  have e1 : ct t (j 1) = (⟨win0_9.index t 1 * 512 + 1 * (j 1).val, by rw [hi.2]; have := t_lt t; have := (j 1).isLt; have h : (j 1).val < 512 := this; omega⟩ : Fin 3072) := by
    unfold ct; apply Fin.ext; dsimp only; rw [hi.2]; omega
  have e0 : 512 * rt t + (j 0).val = win0_9.index t 0 * 512 + 1 * (j 0).val := by unfold rt; rw [hi.1]; omega
  exact congrArg₂ (fun x n => up (aW m c) (gD m c x) (colG x) n) e1 e0

theorem final9 : (dats m 0 c).arrAt 9 cfg0.N = result9 m c :=
  (dats m 0 c).arrAt_eq_of_cover 9 (result9 m c) (flushed_eq9 m c) fun i =>
    ⟨stepOf (i 0) (i 1), flush0_9 _, by
      have hi := idx9 (stepOf (i 0) (i 1))
      have h0 : (i 0 : Nat) < 4096 := (i 0).isLt
      have h1 : (i 1 : Nat) < 3072 := (i 1).isLt
      have hs : (stepOf (i 0) (i 1)).val = 8 * ((i 1).val / 512) + (7 - (i 0).val / 512) := rfl
      show i ∈ ((View.whole main_v0_0).slice (win0_9.rect (stepOf (i 0) (i 1)))).set
      rw [View.set_slice_whole, Rect.mem_set_unit]
      intro a
      match a with
      | ⟨0, _⟩ =>
        show win0_9.index (stepOf (i 0) (i 1)) 0 * 512 ≤ (i 0 : Nat) ∧ (i 0 : Nat) < win0_9.index (stepOf (i 0) (i 1)) 0 * 512 + 512
        rw [hi.1, hs]; omega
      | ⟨1, _⟩ =>
        show win0_9.index (stepOf (i 0) (i 1)) 1 * 512 ≤ (i 1 : Nat) ∧ (i 1 : Nat) < win0_9.index (stepOf (i 0) (i 1)) 1 * 512 + 512
        rw [hi.2, hs]; omega⟩

theorem idx10 : ∀ t : Fin cfg0.N, win0_10.index t 0 = 7 - t.val % 8 ∧ win0_10.index t 1 = t.val / 8 :=
  (by decide +kernel : ∀ t : Fin grid0.N, win0_10.index t 0 = 7 - t.val % 8 ∧ win0_10.index t 1 = t.val / 8)

/-- Result 1: the gradient at the convolution's input, value columns. -/
def result10 : Buf (Elt Ideal) ((c : Thread nD τ).loc main_v0_1) := fun i => up (aW m c) (vD m c (i 1)) (colV (i 1)) (i 0).val

theorem flushed_eq10 (t : Fin cfg0.N) (hf : (cfg0.win 10).flush t = true) :
    (dats m 0 c).flushed 10 t = ((cfg0.win 10).blk t).view.read (Elt Ideal) (result10 m c) := by
  have hi := idx10 t
  rw [flushed10]
  funext j
  rw [View.read_apply]
  have hg := (good m c t.val t.isLt).2.2 (j 0) (j 1)
  refine (congrArg (outsAt m c t.val t.isLt).2.1 (eta2 (n := 512) (k := 512) j)).trans (hg.trans ?_)
  have e1 : ct t (j 1) = (⟨win0_10.index t 1 * 512 + 1 * (j 1).val, by rw [hi.2]; have := t_lt t; have := (j 1).isLt; have h : (j 1).val < 512 := this; omega⟩ : Fin 3072) := by
    unfold ct; apply Fin.ext; dsimp only; rw [hi.2]; omega
  have e0 : 512 * rt t + (j 0).val = win0_10.index t 0 * 512 + 1 * (j 0).val := by unfold rt; rw [hi.1]; omega
  exact congrArg₂ (fun x n => up (aW m c) (vD m c x) (colV x) n) e1 e0

theorem final10 : (dats m 0 c).arrAt 10 cfg0.N = result10 m c :=
  (dats m 0 c).arrAt_eq_of_cover 10 (result10 m c) (flushed_eq10 m c) fun i =>
    ⟨stepOf (i 0) (i 1), flush0_10 _, by
      have hi := idx10 (stepOf (i 0) (i 1))
      have h0 : (i 0 : Nat) < 4096 := (i 0).isLt
      have h1 : (i 1 : Nat) < 3072 := (i 1).isLt
      have hs : (stepOf (i 0) (i 1)).val = 8 * ((i 1).val / 512) + (7 - (i 0).val / 512) := rfl
      show i ∈ ((View.whole main_v0_1).slice (win0_10.rect (stepOf (i 0) (i 1)))).set
      rw [View.set_slice_whole, Rect.mem_set_unit]
      intro a
      match a with
      | ⟨0, _⟩ =>
        show win0_10.index (stepOf (i 0) (i 1)) 0 * 512 ≤ (i 0 : Nat) ∧ (i 0 : Nat) < win0_10.index (stepOf (i 0) (i 1)) 0 * 512 + 512
        rw [hi.1, hs]; omega
      | ⟨1, _⟩ =>
        show win0_10.index (stepOf (i 0) (i 1)) 1 * 512 ≤ (i 1 : Nat) ∧ (i 1 : Nat) < win0_10.index (stepOf (i 0) (i 1)) 1 * 512 + 512
        rw [hi.2, hs]; omega⟩

theorem idx11 : ∀ t : Fin cfg0.N, win0_11.index t 0 = 0 ∧ win0_11.index t 1 = t.val / 8 :=
  (by decide +kernel : ∀ t : Fin grid0.N, win0_11.index t 0 = 0 ∧ win0_11.index t 1 = t.val / 8)

/-- Result 2: the gradient at tap 0, gate columns. -/
def result11 : Buf (Elt Ideal) ((c : Thread nD τ).loc main_v0_2) := fun i => tot (tap (aU m c) (gD m c (i 1)) (colG (i 1)) 0)

theorem flushed_eq11 (t : Fin cfg0.N) (hf : (cfg0.win 11).flush t = true) :
    (dats m 0 c).flushed 11 t = ((cfg0.win 11).blk t).view.read (Elt Ideal) (result11 m c) := by
  have hi := idx11 t
  have ht := (flush0_11 t).mp hf
  rw [flushed11]
  funext j
  rw [View.read_apply]
  have hg := (good m c t.val t.isLt).1.h11 (j 1)
  have er : rt t = 0 := by unfold rt; omega
  refine (congrArg (outsAt m c t.val t.isLt).2.2.1 (eta1 (k := 512) j)).trans (hg.trans ?_)
  have e1 : ct t (j 1) = (⟨win0_11.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (tap (aU m c) (gD m c x) (colG x) 0)) e1 er

theorem final11 : (dats m 0 c).arrAt 11 cfg0.N = result11 m c :=
  (dats m 0 c).arrAt_eq_of_cover 11 (result11 m c) (flushed_eq11 m c) fun i =>
    ⟨lastOf (i 1), (flush0_11 _).mpr (by show (8 * ((i 1).val / 512) + 7) % 8 = 7; omega), by
      have hi := idx11 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_2).slice (win0_11.rect (lastOf (i 1)))).set
      rw [View.set_slice_whole, Rect.mem_set_unit]
      intro a
      match a with
      | ⟨0, _⟩ =>
        show win0_11.index (lastOf (i 1)) 0 * 1 ≤ (i 0 : Nat) ∧ (i 0 : Nat) < win0_11.index (lastOf (i 1)) 0 * 1 + 1
        rw [hi.1]; omega
      | ⟨1, _⟩ =>
        show win0_11.index (lastOf (i 1)) 1 * 512 ≤ (i 1 : Nat) ∧ (i 1 : Nat) < win0_11.index (lastOf (i 1)) 1 * 512 + 512
        rw [hi.2, hs]; omega⟩

theorem idx12 : ∀ t : Fin cfg0.N, win0_12.index t 0 = 0 ∧ win0_12.index t 1 = t.val / 8 :=
  (by decide +kernel : ∀ t : Fin grid0.N, win0_12.index t 0 = 0 ∧ win0_12.index t 1 = t.val / 8)

/-- Result 3: the gradient at tap 1, gate columns. -/
def result12 : Buf (Elt Ideal) ((c : Thread nD τ).loc main_v0_3) := fun i => tot (tap (aU m c) (gD m c (i 1)) (colG (i 1)) 1)

theorem flushed_eq12 (t : Fin cfg0.N) (hf : (cfg0.win 12).flush t = true) :
    (dats m 0 c).flushed 12 t = ((cfg0.win 12).blk t).view.read (Elt Ideal) (result12 m c) := by
  have hi := idx12 t
  have ht := (flush0_12 t).mp hf
  rw [flushed12]
  funext j
  rw [View.read_apply]
  have hg := (good m c t.val t.isLt).1.h12 (j 1)
  have er : rt t = 0 := by unfold rt; omega
  refine (congrArg (outsAt m c t.val t.isLt).2.2.2.1 (eta1 (k := 512) j)).trans (hg.trans ?_)
  have e1 : ct t (j 1) = (⟨win0_12.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (tap (aU m c) (gD m c x) (colG x) 1)) e1 er

theorem final12 : (dats m 0 c).arrAt 12 cfg0.N = result12 m c :=
  (dats m 0 c).arrAt_eq_of_cover 12 (result12 m c) (flushed_eq12 m c) fun i =>
    ⟨lastOf (i 1), (flush0_12 _).mpr (by show (8 * ((i 1).val / 512) + 7) % 8 = 7; omega), by
      have hi := idx12 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_3).slice (win0_12.rect (lastOf (i 1)))).set
      rw [View.set_slice_whole, Rect.mem_set_unit]
      intro a
      match a with
      | ⟨0, _⟩ =>
        show win0_12.index (lastOf (i 1)) 0 * 1 ≤ (i 0 : Nat) ∧ (i 0 : Nat) < win0_12.index (lastOf (i 1)) 0 * 1 + 1
        rw [hi.1]; omega
      | ⟨1, _⟩ =>
        show win0_12.index (lastOf (i 1)) 1 * 512 ≤ (i 1 : Nat) ∧ (i 1 : Nat) < win0_12.index (lastOf (i 1)) 1 * 512 + 512
        rw [hi.2, hs]; omega⟩

theorem idx13 : ∀ t : Fin cfg0.N, win0_13.index t 0 = 0 ∧ win0_13.index t 1 = t.val / 8 :=
  (by decide +kernel : ∀ t : Fin grid0.N, win0_13.index t 0 = 0 ∧ win0_13.index t 1 = t.val / 8)

/-- Result 4: the gradient at tap 2, gate columns. -/
def result13 : Buf (Elt Ideal) ((c : Thread nD τ).loc main_v0_4) := fun i => tot (tap (aU m c) (gD m c (i 1)) (colG (i 1)) 2)

theorem flushed_eq13 (t : Fin cfg0.N) (hf : (cfg0.win 13).flush t = true) :
    (dats m 0 c).flushed 13 t = ((cfg0.win 13).blk t).view.read (Elt Ideal) (result13 m c) := by
  have hi := idx13 t
  have ht := (flush0_13 t).mp hf
  rw [flushed13]
  funext j
  rw [View.read_apply]
  have hg := (good m c t.val t.isLt).1.h13 (j 1)
  have er : rt t = 0 := by unfold rt; omega
  refine (congrArg (outsAt m c t.val t.isLt).2.2.2.2.1 (eta1 (k := 512) j)).trans (hg.trans ?_)
  have e1 : ct t (j 1) = (⟨win0_13.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (tap (aU m c) (gD m c x) (colG x) 2)) e1 er

theorem final13 : (dats m 0 c).arrAt 13 cfg0.N = result13 m c :=
  (dats m 0 c).arrAt_eq_of_cover 13 (result13 m c) (flushed_eq13 m c) fun i =>
    ⟨lastOf (i 1), (flush0_13 _).mpr (by show (8 * ((i 1).val / 512) + 7) % 8 = 7; omega), by
      have hi := idx13 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_4).slice (win0_13.rect (lastOf (i 1)))).set
      rw [View.set_slice_whole, Rect.mem_set_unit]
      intro a
      match a with
      | ⟨0, _⟩ =>
        show win0_13.index (lastOf (i 1)) 0 * 1 ≤ (i 0 : Nat) ∧ (i 0 : Nat) < win0_13.index (lastOf (i 1)) 0 * 1 + 1
        rw [hi.1]; omega
      | ⟨1, _⟩ =>
        show win0_13.index (lastOf (i 1)) 1 * 512 ≤ (i 1 : Nat) ∧ (i 1 : Nat) < win0_13.index (lastOf (i 1)) 1 * 512 + 512
        rw [hi.2, hs]; omega⟩

theorem idx14 : ∀ t : Fin cfg0.N, win0_14.index t 0 = 0 ∧ win0_14.index t 1 = t.val / 8 :=
  (by decide +kernel : ∀ t : Fin grid0.N, win0_14.index t 0 = 0 ∧ win0_14.index t 1 = t.val / 8)

/-- Result 5: the gradient at the bias, gate columns. -/
def result14 : Buf (Elt Ideal) ((c : Thread nD τ).loc main_v0_5) := fun i => tot (gD m c (i 1))

theorem flushed_eq14 (t : Fin cfg0.N) (hf : (cfg0.win 14).flush t = true) :
    (dats m 0 c).flushed 14 t = ((cfg0.win 14).blk t).view.read (Elt Ideal) (result14 m c) := by
  have hi := idx14 t
  have ht := (flush0_14 t).mp hf
  rw [flushed14]
  funext j
  rw [View.read_apply]
  have hg := (good m c t.val t.isLt).1.h14 (j 1)
  have er : rt t = 0 := by unfold rt; omega
  refine (congrArg (outsAt m c t.val t.isLt).2.2.2.2.2.1 (eta1 (k := 512) j)).trans (hg.trans ?_)
  have e1 : ct t (j 1) = (⟨win0_14.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (gD m c x)) e1 er

theorem final14 : (dats m 0 c).arrAt 14 cfg0.N = result14 m c :=
  (dats m 0 c).arrAt_eq_of_cover 14 (result14 m c) (flushed_eq14 m c) fun i =>
    ⟨lastOf (i 1), (flush0_14 _).mpr (by show (8 * ((i 1).val / 512) + 7) % 8 = 7; omega), by
      have hi := idx14 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_5).slice (win0_14.rect (lastOf (i 1)))).set
      rw [View.set_slice_whole, Rect.mem_set_unit]
      intro a
      match a with
      | ⟨0, _⟩ =>
        show win0_14.index (lastOf (i 1)) 0 * 1 ≤ (i 0 : Nat) ∧ (i 0 : Nat) < win0_14.index (lastOf (i 1)) 0 * 1 + 1
        rw [hi.1]; omega
      | ⟨1, _⟩ =>
        show win0_14.index (lastOf (i 1)) 1 * 512 ≤ (i 1 : Nat) ∧ (i 1 : Nat) < win0_14.index (lastOf (i 1)) 1 * 512 + 512
        rw [hi.2, hs]; omega⟩

theorem idx15 : ∀ t : Fin cfg0.N, win0_15.index t 0 = 0 ∧ win0_15.index t 1 = t.val / 8 :=
  (by decide +kernel : ∀ t : Fin grid0.N, win0_15.index t 0 = 0 ∧ win0_15.index t 1 = t.val / 8)

/-- Result 6: the gradient at tap 0, value columns. -/
def result15 : Buf (Elt Ideal) ((c : Thread nD τ).loc main_v0_6) := fun i => tot (tap (aU m c) (vD m c (i 1)) (colV (i 1)) 0)

theorem flushed_eq15 (t : Fin cfg0.N) (hf : (cfg0.win 15).flush t = true) :
    (dats m 0 c).flushed 15 t = ((cfg0.win 15).blk t).view.read (Elt Ideal) (result15 m c) := by
  have hi := idx15 t
  have ht := (flush0_15 t).mp hf
  rw [flushed15]
  funext j
  rw [View.read_apply]
  have hg := (good m c t.val t.isLt).1.h15 (j 1)
  have er : rt t = 0 := by unfold rt; omega
  refine (congrArg (outsAt m c t.val t.isLt).2.2.2.2.2.2.1 (eta1 (k := 512) j)).trans (hg.trans ?_)
  have e1 : ct t (j 1) = (⟨win0_15.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (tap (aU m c) (vD m c x) (colV x) 0)) e1 er

theorem final15 : (dats m 0 c).arrAt 15 cfg0.N = result15 m c :=
  (dats m 0 c).arrAt_eq_of_cover 15 (result15 m c) (flushed_eq15 m c) fun i =>
    ⟨lastOf (i 1), (flush0_15 _).mpr (by show (8 * ((i 1).val / 512) + 7) % 8 = 7; omega), by
      have hi := idx15 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_6).slice (win0_15.rect (lastOf (i 1)))).set
      rw [View.set_slice_whole, Rect.mem_set_unit]
      intro a
      match a with
      | ⟨0, _⟩ =>
        show win0_15.index (lastOf (i 1)) 0 * 1 ≤ (i 0 : Nat) ∧ (i 0 : Nat) < win0_15.index (lastOf (i 1)) 0 * 1 + 1
        rw [hi.1]; omega
      | ⟨1, _⟩ =>
        show win0_15.index (lastOf (i 1)) 1 * 512 ≤ (i 1 : Nat) ∧ (i 1 : Nat) < win0_15.index (lastOf (i 1)) 1 * 512 + 512
        rw [hi.2, hs]; omega⟩

theorem idx16 : ∀ t : Fin cfg0.N, win0_16.index t 0 = 0 ∧ win0_16.index t 1 = t.val / 8 :=
  (by decide +kernel : ∀ t : Fin grid0.N, win0_16.index t 0 = 0 ∧ win0_16.index t 1 = t.val / 8)

/-- Result 7: the gradient at tap 1, value columns. -/
def result16 : Buf (Elt Ideal) ((c : Thread nD τ).loc main_v0_7) := fun i => tot (tap (aU m c) (vD m c (i 1)) (colV (i 1)) 1)

theorem flushed_eq16 (t : Fin cfg0.N) (hf : (cfg0.win 16).flush t = true) :
    (dats m 0 c).flushed 16 t = ((cfg0.win 16).blk t).view.read (Elt Ideal) (result16 m c) := by
  have hi := idx16 t
  have ht := (flush0_16 t).mp hf
  rw [flushed16]
  funext j
  rw [View.read_apply]
  have hg := (good m c t.val t.isLt).1.h16 (j 1)
  have er : rt t = 0 := by unfold rt; omega
  refine (congrArg (outsAt m c t.val t.isLt).2.2.2.2.2.2.2.1 (eta1 (k := 512) j)).trans (hg.trans ?_)
  have e1 : ct t (j 1) = (⟨win0_16.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (tap (aU m c) (vD m c x) (colV x) 1)) e1 er

theorem final16 : (dats m 0 c).arrAt 16 cfg0.N = result16 m c :=
  (dats m 0 c).arrAt_eq_of_cover 16 (result16 m c) (flushed_eq16 m c) fun i =>
    ⟨lastOf (i 1), (flush0_16 _).mpr (by show (8 * ((i 1).val / 512) + 7) % 8 = 7; omega), by
      have hi := idx16 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_7).slice (win0_16.rect (lastOf (i 1)))).set
      rw [View.set_slice_whole, Rect.mem_set_unit]
      intro a
      match a with
      | ⟨0, _⟩ =>
        show win0_16.index (lastOf (i 1)) 0 * 1 ≤ (i 0 : Nat) ∧ (i 0 : Nat) < win0_16.index (lastOf (i 1)) 0 * 1 + 1
        rw [hi.1]; omega
      | ⟨1, _⟩ =>
        show win0_16.index (lastOf (i 1)) 1 * 512 ≤ (i 1 : Nat) ∧ (i 1 : Nat) < win0_16.index (lastOf (i 1)) 1 * 512 + 512
        rw [hi.2, hs]; omega⟩

theorem idx17 : ∀ t : Fin cfg0.N, win0_17.index t 0 = 0 ∧ win0_17.index t 1 = t.val / 8 :=
  (by decide +kernel : ∀ t : Fin grid0.N, win0_17.index t 0 = 0 ∧ win0_17.index t 1 = t.val / 8)

/-- Result 8: the gradient at tap 2, value columns. -/
def result17 : Buf (Elt Ideal) ((c : Thread nD τ).loc main_v0_8) := fun i => tot (tap (aU m c) (vD m c (i 1)) (colV (i 1)) 2)

theorem flushed_eq17 (t : Fin cfg0.N) (hf : (cfg0.win 17).flush t = true) :
    (dats m 0 c).flushed 17 t = ((cfg0.win 17).blk t).view.read (Elt Ideal) (result17 m c) := by
  have hi := idx17 t
  have ht := (flush0_17 t).mp hf
  rw [flushed17]
  funext j
  rw [View.read_apply]
  have hg := (good m c t.val t.isLt).1.h17 (j 1)
  have er : rt t = 0 := by unfold rt; omega
  refine (congrArg (outsAt m c t.val t.isLt).2.2.2.2.2.2.2.2.1 (eta1 (k := 512) j)).trans (hg.trans ?_)
  have e1 : ct t (j 1) = (⟨win0_17.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (tap (aU m c) (vD m c x) (colV x) 2)) e1 er

theorem final17 : (dats m 0 c).arrAt 17 cfg0.N = result17 m c :=
  (dats m 0 c).arrAt_eq_of_cover 17 (result17 m c) (flushed_eq17 m c) fun i =>
    ⟨lastOf (i 1), (flush0_17 _).mpr (by show (8 * ((i 1).val / 512) + 7) % 8 = 7; omega), by
      have hi := idx17 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_8).slice (win0_17.rect (lastOf (i 1)))).set
      rw [View.set_slice_whole, Rect.mem_set_unit]
      intro a
      match a with
      | ⟨0, _⟩ =>
        show win0_17.index (lastOf (i 1)) 0 * 1 ≤ (i 0 : Nat) ∧ (i 0 : Nat) < win0_17.index (lastOf (i 1)) 0 * 1 + 1
        rw [hi.1]; omega
      | ⟨1, _⟩ =>
        show win0_17.index (lastOf (i 1)) 1 * 512 ≤ (i 1 : Nat) ∧ (i 1 : Nat) < win0_17.index (lastOf (i 1)) 1 * 512 + 512
        rw [hi.2, hs]; omega⟩

theorem idx18 : ∀ t : Fin cfg0.N, win0_18.index t 0 = 0 ∧ win0_18.index t 1 = t.val / 8 :=
  (by decide +kernel : ∀ t : Fin grid0.N, win0_18.index t 0 = 0 ∧ win0_18.index t 1 = t.val / 8)

/-- Result 9: the gradient at the bias, value columns. -/
def result18 : Buf (Elt Ideal) ((c : Thread nD τ).loc main_v0_9) := fun i => tot (vD m c (i 1))

theorem flushed_eq18 (t : Fin cfg0.N) (hf : (cfg0.win 18).flush t = true) :
    (dats m 0 c).flushed 18 t = ((cfg0.win 18).blk t).view.read (Elt Ideal) (result18 m c) := by
  have hi := idx18 t
  have ht := (flush0_18 t).mp hf
  rw [flushed18]
  funext j
  rw [View.read_apply]
  have hg := (good m c t.val t.isLt).1.h18 (j 1)
  have er : rt t = 0 := by unfold rt; omega
  refine (congrArg (outsAt m c t.val t.isLt).2.2.2.2.2.2.2.2.2.1 (eta1 (k := 512) j)).trans (hg.trans ?_)
  have e1 : ct t (j 1) = (⟨win0_18.index t 1 * 512 + 1 * (j 1).val, by rw [hi.2]; have := t_lt t; have := (j 1).isLt; have h : (j 1).val < 512 := this; omega⟩ : Fin 3072) := by
    unfold ct; apply Fin.ext; dsimp only; rw [hi.2]; omega
  exact congrArg₂ (fun x r => below r (vD m c x)) e1 er

theorem final18 : (dats m 0 c).arrAt 18 cfg0.N = result18 m c :=
  (dats m 0 c).arrAt_eq_of_cover 18 (result18 m c) (flushed_eq18 m c) fun i =>
    ⟨lastOf (i 1), (flush0_18 _).mpr (by show (8 * ((i 1).val / 512) + 7) % 8 = 7; omega), by
      have hi := idx18 (lastOf (i 1))
      have h0 : (i 0 : Nat) < 1 := (i 0).isLt
      have h1 : (i 1 : Nat) < 3072 := (i 1).isLt
      have hs : (lastOf (i 1)).val = 8 * ((i 1).val / 512) + 7 := rfl
      show i ∈ ((View.whole main_v0_9).slice (win0_18.rect (lastOf (i 1)))).set
      rw [View.set_slice_whole, Rect.mem_set_unit]
      intro a
      match a with
      | ⟨0, _⟩ =>
        show win0_18.index (lastOf (i 1)) 0 * 1 ≤ (i 0 : Nat) ∧ (i 0 : Nat) < win0_18.index (lastOf (i 1)) 0 * 1 + 1
        rw [hi.1]; omega
      | ⟨1, _⟩ =>
        show win0_18.index (lastOf (i 1)) 1 * 512 ≤ (i 1 : Nat) ∧ (i 1 : Nat) < win0_18.index (lastOf (i 1)) 1 * 512 + 512
        rw [hi.2, hs]; omega⟩

end Cert.KernelIdeal.Conv

end
-- ==== Proof.ConvRef.lean ====
module

public import proofs.«01_k».proof.Proof.ConvMath
public import proofs.«01_k».proof.Proof.Gen.ReferenceIdeal.Run
public import Idealize.ShloMosaic.Lib.Pointwise

/-!
The reference's results read at an index: the formulas of `ConvMath` at the four arguments.
-/

@[expose] public section

set_option maxRecDepth 16384

noncomputable section

namespace Cert.ReferenceIdeal.ConvRef

open Cert.ReferenceIdeal Cert.ReferenceIdeal.Gen Cert.ReferenceIdeal.Value Cert.ConvMath
open Idealize.ShloMosaic Idealize.ShloMosaic.TcCoe Idealize.SL.Sem Idealize.ShloMosaic.StableHlo

variable (V0 : Valuation τ sig (Elt Ideal))

/-- The convolution's input. -/
abbrev U : (⟨2, ![4096, 6144]⟩ : Shape).Idx → EReal := V0 (Proc.devRef .tc main_arg0)
/-- The three taps. -/
abbrev W : (⟨2, ![3, 6144]⟩ : Shape).Idx → EReal := V0 (Proc.devRef .tc main_arg1)
/-- The bias. -/
abbrev B : (⟨2, ![1, 6144]⟩ : Shape).Idx → EReal := V0 (Proc.devRef .tc main_arg2)
/-- The result's gradient. -/
abbrev D : (⟨2, ![4096, 3072]⟩ : Shape).Idx → EReal := V0 (Proc.devRef .tc main_arg3)

theorem v0_apply (n : Fin 4096) (c : Fin 6144) : res_main_v0 V0 (ix3 0 n c) = back (U V0) 0 n.val c := by
  unfold back
  rw [dif_pos ⟨Nat.zero_le _, by omega⟩]
  pointwise [res_main_v0]

theorem v4_apply (c : Fin 6144) : res_main_v4 V0 (ix3 0 0 c) = W V0 (ix2 0 c) := by
  pointwise [res_main_v4]

theorem v15_apply (c : Fin 6144) : res_main_v15 V0 (ix3 0 0 c) = W V0 (ix2 1 c) := by
  pointwise [res_main_v15]

theorem v25_apply (c : Fin 6144) : res_main_v25 V0 (ix3 0 0 c) = W V0 (ix2 2 c) := by
  pointwise [res_main_v25]

/-- `n` rows of zeros in front, read at a row. -/
theorem v13_open (n : Fin 4096) (c : Fin 6144) :
    res_main_v13 V0 (ix3 0 n c) = if h : n.val < 1 then (0 : EReal) else res_main_v0 V0 (ix3 0 ⟨n.val - 1, by omega⟩ c) := by
  unfold res_main_v13
  generalize res_main_v0 V0 = x0
  pointwise

theorem v23_open (n : Fin 4096) (c : Fin 6144) :
    res_main_v23 V0 (ix3 0 n c) = if h : n.val < 2 then (0 : EReal) else res_main_v0 V0 (ix3 0 ⟨n.val - 2, by omega⟩ c) := by
  unfold res_main_v23
  generalize res_main_v0 V0 = x0
  pointwise

theorem back_sub (U : (⟨2, ![4096, 6144]⟩ : Shape).Idx → EReal) (k n : ℕ) (c : Fin 6144) (hk : k ≤ n) : back U 0 (n - k) c = back U k n c := by
  unfold back
  simp only [Nat.zero_le, Nat.sub_zero, true_and, hk]

theorem v13_apply (n : Fin 4096) (c : Fin 6144) : res_main_v13 V0 (ix3 0 n c) = back (U V0) 1 n.val c := by
  rw [v13_open]
  split
  · next h => unfold back; rw [dif_neg (by omega)]
  · next h => rw [v0_apply]; exact back_sub _ _ _ _ (by omega)

theorem v23_apply (n : Fin 4096) (c : Fin 6144) : res_main_v23 V0 (ix3 0 n c) = back (U V0) 2 n.val c := by
  rw [v23_open]
  split
  · next h => unfold back; rw [dif_neg (by omega)]
  · next h => rw [v0_apply]; exact back_sub _ _ _ _ (by omega)

theorem v31_apply (n : Fin 4096) (c : Fin 6144) : res_main_v31 V0 (ix3 0 n c) = conv (U V0) (W V0) (B V0) n.val c := by
  unfold conv
  rw [← v0_apply, ← v13_apply, ← v23_apply, ← v4_apply, ← v15_apply, ← v25_apply]
  unfold res_main_v31
  generalize res_main_v13 V0 = x13
  generalize res_main_v23 V0 = x23
  generalize res_main_v0 V0 = x0
  generalize res_main_v4 V0 = x4
  generalize res_main_v15 V0 = x15
  generalize res_main_v25 V0 = x25
  pointwise
  simp only [add_assoc]

theorem cat_gate (p q : FVec Ideal S1x4096x3072 .f32) (h) (n : Fin 4096) (c : Fin 3072) :
    concatenate S1x4096x6144 2 [⟨S1x4096x3072, p⟩, ⟨S1x4096x3072, q⟩] h (ix3 0 n (colG c)) = p (ix3 0 n c) := by
  unfold colG
  pointwise

theorem cat_value (p q : FVec Ideal S1x4096x3072 .f32) (h) (n : Fin 4096) (c : Fin 3072) :
    concatenate S1x4096x6144 2 [⟨S1x4096x3072, p⟩, ⟨S1x4096x3072, q⟩] h (ix3 0 n (colV c)) = q (ix3 0 n c) := by
  unfold colV
  pointwise

theorem v32_apply (n : Fin 4096) (c : Fin 3072) :
    res_main_v32 V0 (ix3 0 n c) = res_main_v31 V0 (ix3 0 n (colG c)) := by
  unfold res_main_v32 colG
  pointwise
theorem v33_apply (n : Fin 4096) (c : Fin 3072) :
    res_main_v33 V0 (ix3 0 n c) = res_main_v31 V0 (ix3 0 n (colV c)) := by
  unfold res_main_v33 colV
  pointwise

/-- The tangent of the gate. -/
theorem v44_apply (n : Fin 4096) (c : Fin 3072) :
    res_main_v44 V0 (ix3 0 n c) = th (res_main_v32 V0 (ix3 0 n c)) := by
  unfold res_main_v44 th k1 k2
  generalize res_main_v32 V0 = x
  pointwise

theorem v59_apply (n : Fin 4096) (c : Fin 3072) (y : EReal) (hy : res_main_v33 V0 (ix3 0 n c) = y) :
    res_main_v59 V0 (ix3 0 n c) = D V0 (ix2 n c) * y := by
  subst hy
  unfold res_main_v59 res_main_v57
  generalize res_main_v33 V0 = x
  pointwise

theorem v53_apply (n : Fin 4096) (c : Fin 3072) (t : EReal) (ht : res_main_v44 V0 (ix3 0 n c) = t) :
    res_main_v53 V0 (ix3 0 n c) = hf * (1 + t) := by
  subst ht
  unfold res_main_v53 hf
  generalize res_main_v44 V0 = x
  pointwise
  try rfl

theorem v66_apply (n : Fin 4096) (c : Fin 3072) (x p t : EReal) (hx : res_main_v32 V0 (ix3 0 n c) = x) (hp : res_main_v59 V0 (ix3 0 n c) = p)
    (ht : res_main_v44 V0 (ix3 0 n c) = t) :
    res_main_v66 V0 (ix3 0 n c) = k1 * (hf * (x * p) * ((1 + t) * (1 - t))) := by
  subst hx hp ht
  unfold res_main_v66 hf k1
  generalize res_main_v44 V0 = x
  generalize res_main_v59 V0 = y
  generalize res_main_v32 V0 = z
  pointwise
  try rfl

/-- The word of the factor three. -/
theorem three_word : Ideal.ofBits FTy.f32 1077936128#32 = 3 := by
  have h : Ideal.ofBits FTy.f32 1077936128#32 = ((3 : ℝ) : EReal) := by
    simp [Ideal.ofBits, Ideal.ieee]
    norm_cast
    norm_num
  exact h

theorem v72_gate_open (n : Fin 4096) (c : Fin 3072) (x p g q : EReal) (hx : res_main_v32 V0 (ix3 0 n c) = x) (hp : res_main_v59 V0 (ix3 0 n c) = p)
    (hg : res_main_v53 V0 (ix3 0 n c) = g) (hq : res_main_v66 V0 (ix3 0 n c) = q) :
    res_main_v72 V0 (ix3 0 n (colG c)) = p * g + q + k2 * q * (3 * (x * x)) := by
  subst hx hp hg hq
  unfold res_main_v72
  refine (cat_gate _ _ _ n c).trans ?_
  generalize res_main_v59 V0 = x59
  generalize res_main_v53 V0 = x53
  generalize res_main_v66 V0 = x66
  generalize res_main_v32 V0 = x32
  rw [← three_word]
  unfold k2
  pointwise

theorem v72_gate (n : Fin 4096) (c : Fin 3072) :
    res_main_v72 V0 (ix3 0 n (colG c)) = dcG (U V0) (W V0) (B V0) (D V0) c n.val := by
  have hx := (v32_apply V0 n c).trans (v31_apply V0 n (colG c))
  have hy := (v33_apply V0 n c).trans (v31_apply V0 n (colV c))
  have ht := (v44_apply V0 n c).trans (congrArg th hx)
  have hp := v59_apply V0 n c _ hy
  unfold dcG
  rw [dif_pos n.isLt, ← gGate_eq]
  exact v72_gate_open V0 n c _ _ _ _ hx hp (v53_apply V0 n c _ ht) (v66_apply V0 n c _ _ _ hx hp ht)

theorem v72_value_open (n : Fin 4096) (c : Fin 3072) (x g : EReal) (hx : res_main_v32 V0 (ix3 0 n c) = x) (hg : res_main_v53 V0 (ix3 0 n c) = g) :
    res_main_v72 V0 (ix3 0 n (colV c)) = x * g * D V0 (ix2 n c) := by
  subst hx hg
  unfold res_main_v72
  refine (cat_value _ _ _ n c).trans ?_
  unfold res_main_v54 res_main_v57
  generalize res_main_v53 V0 = x53
  generalize res_main_v32 V0 = x32
  pointwise
  try rfl

theorem v72_value (n : Fin 4096) (c : Fin 3072) :
    res_main_v72 V0 (ix3 0 n (colV c)) = dcV (U V0) (W V0) (B V0) (D V0) c n.val := by
  have hx := (v32_apply V0 n c).trans (v31_apply V0 n (colG c))
  have ht := (v44_apply V0 n c).trans (congrArg th hx)
  unfold dcV
  rw [dif_pos n.isLt, ← gVal_eq]
  exact v72_value_open V0 n c _ _ hx (v53_apply V0 n c _ ht)

theorem v110_open (x4 x15 x25 : FVec Ideal S1x1x6144 .f32) (x72 : FVec Ideal S1x4096x6144 .f32) (e4 : res_main_v4 V0 = x4) (e15 : res_main_v15 V0 = x15)
    (e25 : res_main_v25 V0 = x25) (e72 : res_main_v72 V0 = x72) (n : Fin 4096) (c : Fin 6144) :
    res_main_v110 V0 (ix2 n c) = ((if h : n.val < 4094 then x25 (ix3 0 0 c) * x72 (ix3 0 ⟨2 + n.val, by omega⟩ c) else (0 : EReal))
      + if h : n.val < 4095 then x15 (ix3 0 0 c) * x72 (ix3 0 ⟨1 + n.val, by omega⟩ c) else (0 : EReal))
      + x4 (ix3 0 0 c) * x72 (ix3 0 n c) := by
  unfold res_main_v110 res_main_v77 res_main_v88
  rw [e4, e15, e25, e72]
  pointwise

/-- The convolution's gradient at its input, a column's gradient being `dc`. -/
theorem v110_apply (n : Fin 4096) (c : Fin 6144) (dc : ℕ → EReal) (h : ∀ n : Fin 4096, res_main_v72 V0 (ix3 0 n c) = dc n.val)
    (h0 : ∀ n, 4096 ≤ n → dc n = 0) :
    res_main_v110 V0 (ix2 n c) = up (W V0) dc c n.val := by
  have h4 := v4_apply V0 c
  have h15 := v15_apply V0 c
  have h25 := v25_apply V0 c
  refine (v110_open V0 _ _ _ _ rfl rfl rfl rfl n c).trans ?_
  generalize res_main_v72 V0 = x72 at h ⊢
  generalize res_main_v4 V0 = x4 at h4 ⊢
  generalize res_main_v15 V0 = x15 at h15 ⊢
  generalize res_main_v25 V0 = x25 at h25 ⊢
  rw [h4, h15, h25, h n]
  have e2 : (if h : n.val < 4094 then W V0 (ix2 2 c) * x72 (ix3 0 ⟨2 + n.val, by omega⟩ c) else (0 : EReal))
      = W V0 (ix2 2 c) * dc (n.val + 2) := by
    split
    · rw [h]; show _ * dc (2 + n.val) = _; rw [add_comm]
    · rw [h0 _ (by omega), mul_zero]
  have e1 : (if h : n.val < 4095 then W V0 (ix2 1 c) * x72 (ix3 0 ⟨1 + n.val, by omega⟩ c) else (0 : EReal))
      = W V0 (ix2 1 c) * dc (n.val + 1) := by
    split
    · rw [h]; show _ * dc (1 + n.val) = _; rw [add_comm]
    · rw [h0 _ (by omega), mul_zero]
  rw [e1, e2]
  unfold up
  rw [add_comm (W V0 (ix2 2 c) * dc (n.val + 2)), add_comm, add_assoc]

/-- Over a shape with two unit axes in front, nothing is added up. -/
theorem red01 (x : FVec Ideal S1x1x6144 .f32) (c : Fin 6144) :
    Ideal.hostReduceAdd reducesTo_S1x1x6144_S6144_d0_1 x 0 (ix1 c) = x (ix3 0 0 c) := by
  unfold Ideal.hostReduceAdd
  rw [zero_add, show Finset.univ.filter (fun i => (reducesTo_S1x1x6144_S6144_d0_1).drop i = ix1 c) = {ix3 (0 : Fin 1) (0 : Fin 1) c} from ?_, Finset.sum_singleton]
  ext i
  rw [Finset.mem_filter, Finset.mem_singleton]
  constructor
  · rintro ⟨-, e⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))
  · rintro rfl
    refine ⟨Finset.mem_univ _, ?_⟩
    funext a
    match a with
    | ⟨0, _⟩ => rfl

/-- The sum over all rows, written as the program writes it. -/
theorem rows_sum (x : FVec Ideal S1x4096x6144 .f32) (c : Fin 6144) :
    Ideal.hostReduceAdd reducesTo_S1x1x6144_S6144_d0_1
      (shapeCast S1x1x6144 (Host.reduceAdd x (constant S_ FTy.f32 0#32) reducesTo_S1x4096x6144_S1x6144_d1 h_S_)
        shapeCasts_S1x6144_S1x1x6144) 0 (ix1 c) = ∑ n : Fin 4096, x (ix3 0 n c) := by
  rw [red01]
  pointwise

theorem v111_apply (c : Fin 6144) (dc : ℕ → EReal) (h : ∀ n : Fin 4096, res_main_v72 V0 (ix3 0 n c) = dc n.val) :
    res_main_v111 V0 (ix2 0 c) = tot dc := by
  rw [tot_eq]
  unfold res_main_v111
  generalize res_main_v72 V0 = x72 at h ⊢
  pointwise
  exact (rows_sum x72 c).trans (Finset.sum_congr rfl fun n _ => h n)

theorem v109_apply0 (c : Fin 6144) (dc : ℕ → EReal) (h : ∀ n : Fin 4096, res_main_v72 V0 (ix3 0 n c) = dc n.val) :
    res_main_v109 V0 (ix2 0 c) = tot (tap (U V0) dc c 0) := by
  have hb := fun n : Fin 4096 => v0_apply V0 n c
  unfold tap
  rw [tot_eq]
  unfold res_main_v109
  generalize res_main_v72 V0 = x72 at h ⊢
  generalize res_main_v23 V0 = x23 at hb ⊢
  generalize res_main_v13 V0 = x13 at hb ⊢
  generalize res_main_v0 V0 = x0 at hb ⊢
  pointwise
  refine (rows_sum _ c).trans (Finset.sum_congr rfl fun n _ => ?_)
  exact congrArg₂ (fun a b : EReal => a * b) (h n) (hb n)

theorem v109_apply1 (c : Fin 6144) (dc : ℕ → EReal) (h : ∀ n : Fin 4096, res_main_v72 V0 (ix3 0 n c) = dc n.val) :
    res_main_v109 V0 (ix2 1 c) = tot (tap (U V0) dc c 1) := by
  have hb := fun n : Fin 4096 => v13_apply V0 n c
  unfold tap
  rw [tot_eq]
  unfold res_main_v109
  generalize res_main_v72 V0 = x72 at h ⊢
  generalize res_main_v23 V0 = x23 at hb ⊢
  generalize res_main_v13 V0 = x13 at hb ⊢
  generalize res_main_v0 V0 = x0 at hb ⊢
  pointwise
  refine (rows_sum _ c).trans (Finset.sum_congr rfl fun n _ => ?_)
  exact congrArg₂ (fun a b : EReal => a * b) (h n) (hb n)

theorem v109_apply2 (c : Fin 6144) (dc : ℕ → EReal) (h : ∀ n : Fin 4096, res_main_v72 V0 (ix3 0 n c) = dc n.val) :
    res_main_v109 V0 (ix2 2 c) = tot (tap (U V0) dc c 2) := by
  have hb := fun n : Fin 4096 => v23_apply V0 n c
  unfold tap
  rw [tot_eq]
  unfold res_main_v109
  generalize res_main_v72 V0 = x72 at h ⊢
  generalize res_main_v23 V0 = x23 at hb ⊢
  generalize res_main_v13 V0 = x13 at hb ⊢
  generalize res_main_v0 V0 = x0 at hb ⊢
  pointwise
  refine (rows_sum _ c).trans (Finset.sum_congr rfl fun n _ => ?_)
  exact congrArg₂ (fun a b : EReal => a * b) (h n) (hb n)

theorem dcG_end (U : (⟨2, ![4096, 6144]⟩ : Shape).Idx → EReal) (W B D) (c : Fin 3072) (n : ℕ) (h : 4096 ≤ n) : dcG U W B D c n = 0 := by
  unfold dcG; rw [dif_neg (by omega)]
theorem dcV_end (U : (⟨2, ![4096, 6144]⟩ : Shape).Idx → EReal) (W B D) (c : Fin 3072) (n : ℕ) (h : 4096 ≤ n) : dcV U W B D c n = 0 := by
  unfold dcV; rw [dif_neg (by omega)]

theorem res_du_g (n : Fin 4096) (c : Fin 3072) :
    truncf .bf16 (extractStridedSlice S4096x3072 ![0, 0] (res_main_v110 V0) slices_S4096x6144_S4096x3072_0_0) bitsLt_bf16_f32 (ix2 n c)
      = up (W V0) (dcG (U V0) (W V0) (B V0) (D V0) c) (colG c) n.val := by
  rw [← v110_apply V0 n (colG c) _ (fun n => v72_gate V0 n c) (dcG_end _ _ _ _ c)]
  generalize res_main_v110 V0 = x
  unfold colG
  pointwise

theorem res_du_v (n : Fin 4096) (c : Fin 3072) :
    truncf .bf16 (extractStridedSlice S4096x3072 ![0, 3072] (res_main_v110 V0) slices_S4096x6144_S4096x3072_0_3072) bitsLt_bf16_f32 (ix2 n c)
      = up (W V0) (dcV (U V0) (W V0) (B V0) (D V0) c) (colV c) n.val := by
  rw [← v110_apply V0 n (colV c) _ (fun n => v72_value V0 n c) (dcV_end _ _ _ _ c)]
  generalize res_main_v110 V0 = x
  unfold colV
  pointwise

theorem res_dw0_g (c : Fin 3072) :
    extractStridedSlice S1x3072 ![0, 0] (res_main_v116 V0) slices_S1x6144_S1x3072_0_0 (ix2 0 c) = tot (tap (U V0) (dcG (U V0) (W V0) (B V0) (D V0) c) (colG c) 0) := by
  rw [← v109_apply0 V0 (colG c) _ (fun n => v72_gate V0 n c)]
  unfold res_main_v116
  generalize res_main_v109 V0 = x
  unfold colG
  pointwise

theorem res_dw1_g (c : Fin 3072) :
    extractStridedSlice S1x3072 ![0, 0] (res_main_v119 V0) slices_S1x6144_S1x3072_0_0 (ix2 0 c) = tot (tap (U V0) (dcG (U V0) (W V0) (B V0) (D V0) c) (colG c) 1) := by
  rw [← v109_apply1 V0 (colG c) _ (fun n => v72_gate V0 n c)]
  unfold res_main_v119
  generalize res_main_v109 V0 = x
  unfold colG
  pointwise

theorem res_dw2_g (c : Fin 3072) :
    extractStridedSlice S1x3072 ![0, 0] (res_main_v122 V0) slices_S1x6144_S1x3072_0_0 (ix2 0 c) = tot (tap (U V0) (dcG (U V0) (W V0) (B V0) (D V0) c) (colG c) 2) := by
  rw [← v109_apply2 V0 (colG c) _ (fun n => v72_gate V0 n c)]
  unfold res_main_v122
  generalize res_main_v109 V0 = x
  unfold colG
  pointwise

theorem res_db_g (c : Fin 3072) :
    extractStridedSlice S1x3072 ![0, 0] (res_main_v111 V0) slices_S1x6144_S1x3072_0_0 (ix2 0 c) = tot (dcG (U V0) (W V0) (B V0) (D V0) c) := by
  rw [← v111_apply V0 (colG c) _ (fun n => v72_gate V0 n c)]
  generalize res_main_v111 V0 = x
  unfold colG
  pointwise

theorem res_dw0_v (c : Fin 3072) :
    extractStridedSlice S1x3072 ![0, 3072] (res_main_v116 V0) slices_S1x6144_S1x3072_0_3072 (ix2 0 c) = tot (tap (U V0) (dcV (U V0) (W V0) (B V0) (D V0) c) (colV c) 0) := by
  rw [← v109_apply0 V0 (colV c) _ (fun n => v72_value V0 n c)]
  unfold res_main_v116
  generalize res_main_v109 V0 = x
  unfold colV
  pointwise

theorem res_dw1_v (c : Fin 3072) :
    extractStridedSlice S1x3072 ![0, 3072] (res_main_v119 V0) slices_S1x6144_S1x3072_0_3072 (ix2 0 c) = tot (tap (U V0) (dcV (U V0) (W V0) (B V0) (D V0) c) (colV c) 1) := by
  rw [← v109_apply1 V0 (colV c) _ (fun n => v72_value V0 n c)]
  unfold res_main_v119
  generalize res_main_v109 V0 = x
  unfold colV
  pointwise

theorem res_dw2_v (c : Fin 3072) :
    extractStridedSlice S1x3072 ![0, 3072] (res_main_v122 V0) slices_S1x6144_S1x3072_0_3072 (ix2 0 c) = tot (tap (U V0) (dcV (U V0) (W V0) (B V0) (D V0) c) (colV c) 2) := by
  rw [← v109_apply2 V0 (colV c) _ (fun n => v72_value V0 n c)]
  unfold res_main_v122
  generalize res_main_v109 V0 = x
  unfold colV
  pointwise

theorem res_db_v (c : Fin 3072) :
    extractStridedSlice S1x3072 ![0, 3072] (res_main_v111 V0) slices_S1x6144_S1x3072_0_3072 (ix2 0 c) = tot (dcV (U V0) (W V0) (B V0) (D V0) c) := by
  rw [← v111_apply V0 (colV c) _ (fun n => v72_value V0 n c)]
  generalize res_main_v111 V0 = x
  unfold colV
  pointwise

end Cert.ReferenceIdeal.ConvRef

end
-- ==== Proof.ConvEq.lean ====
module

public import proofs.«01_k».proof.Proof.ConvArrays
public import proofs.«01_k».proof.Proof.ConvRef

/-!
The reference's results, from memories that agree on the arguments, are the kernel's result arrays.
-/

@[expose] public section

set_option maxRecDepth 16384

noncomputable section

namespace Cert.ConvEq

open Idealize.ShloMosaic Idealize.ShloMosaic.TcCoe Idealize.SL.Sem Cert.ConvMath
open Cert.KernelIdeal.Conv (eta2 eta1)

theorem ext2 {n k : ℕ} (f g : (⟨2, ![n, k]⟩ : Shape).Idx → EReal) (h : ∀ a b, f (ix2 a b) = g (ix2 a b)) : f = g :=
  funext fun j => by rw [eta2 j]; exact h _ _
theorem ext1 {k : ℕ} (f g : (⟨2, ![1, k]⟩ : Shape).Idx → EReal) (h : ∀ b, f (ix2 0 b) = g (ix2 0 b)) : f = g :=
  funext fun j => by rw [eta1 j]; exact h _

variable (m : (ℓ : Loc Cert.KernelIdeal.nD Cert.KernelIdeal.τ Cert.KernelIdeal.sig) → Buf (Elt Ideal) ℓ) (c : Dev Cert.KernelIdeal.nD)
  (V0 : Valuation Cert.ReferenceIdeal.τ Cert.ReferenceIdeal.sig (Elt Ideal))
  (hU : Cert.ReferenceIdeal.ConvRef.U V0 = Cert.KernelIdeal.Conv.aU m c) (hW : Cert.ReferenceIdeal.ConvRef.W V0 = Cert.KernelIdeal.Conv.aW m c)
  (hB : Cert.ReferenceIdeal.ConvRef.B V0 = Cert.KernelIdeal.Conv.aB m c) (hD : Cert.ReferenceIdeal.ConvRef.D V0 = Cert.KernelIdeal.Conv.aD m c)
include hU hW hB hD

open Cert.ReferenceIdeal Cert.ReferenceIdeal.Gen Cert.ReferenceIdeal.Value

theorem eq_du_g : ((truncf .bf16 (extractStridedSlice S4096x3072 ![0, 0] (res_main_v110 V0) slices_S4096x6144_S4096x3072_0_0) bitsLt_bf16_f32) : (⟨2, ![4096, 3072]⟩ : Shape).Idx → EReal)
    = Cert.KernelIdeal.Conv.result9 m c :=
  ext2 _ _ fun a b => by
    have h := ConvRef.res_du_g V0 a b
    rw [hU, hW, hB, hD] at h
    exact h.trans rfl

theorem eq_du_v : ((truncf .bf16 (extractStridedSlice S4096x3072 ![0, 3072] (res_main_v110 V0) slices_S4096x6144_S4096x3072_0_3072) bitsLt_bf16_f32) : (⟨2, ![4096, 3072]⟩ : Shape).Idx → EReal)
    = Cert.KernelIdeal.Conv.result10 m c :=
  ext2 _ _ fun a b => by
    have h := ConvRef.res_du_v V0 a b
    rw [hU, hW, hB, hD] at h
    exact h.trans rfl

theorem eq_dw0_g : ((extractStridedSlice S1x3072 ![0, 0] (res_main_v116 V0) slices_S1x6144_S1x3072_0_0) : (⟨2, ![1, 3072]⟩ : Shape).Idx → EReal)
    = Cert.KernelIdeal.Conv.result11 m c :=
  ext1 _ _ fun b => by
    have h := ConvRef.res_dw0_g V0 b
    rw [hU, hW, hB, hD] at h
    exact h.trans rfl

theorem eq_dw1_g : ((extractStridedSlice S1x3072 ![0, 0] (res_main_v119 V0) slices_S1x6144_S1x3072_0_0) : (⟨2, ![1, 3072]⟩ : Shape).Idx → EReal)
    = Cert.KernelIdeal.Conv.result12 m c :=
  ext1 _ _ fun b => by
    have h := ConvRef.res_dw1_g V0 b
    rw [hU, hW, hB, hD] at h
    exact h.trans rfl

theorem eq_dw2_g : ((extractStridedSlice S1x3072 ![0, 0] (res_main_v122 V0) slices_S1x6144_S1x3072_0_0) : (⟨2, ![1, 3072]⟩ : Shape).Idx → EReal)
    = Cert.KernelIdeal.Conv.result13 m c :=
  ext1 _ _ fun b => by
    have h := ConvRef.res_dw2_g V0 b
    rw [hU, hW, hB, hD] at h
    exact h.trans rfl

theorem eq_db_g : ((extractStridedSlice S1x3072 ![0, 0] (res_main_v111 V0) slices_S1x6144_S1x3072_0_0) : (⟨2, ![1, 3072]⟩ : Shape).Idx → EReal)
    = Cert.KernelIdeal.Conv.result14 m c :=
  ext1 _ _ fun b => by
    have h := ConvRef.res_db_g V0 b
    rw [hU, hW, hB, hD] at h
    exact h.trans rfl

theorem eq_dw0_v : ((extractStridedSlice S1x3072 ![0, 3072] (res_main_v116 V0) slices_S1x6144_S1x3072_0_3072) : (⟨2, ![1, 3072]⟩ : Shape).Idx → EReal)
    = Cert.KernelIdeal.Conv.result15 m c :=
  ext1 _ _ fun b => by
    have h := ConvRef.res_dw0_v V0 b
    rw [hU, hW, hB, hD] at h
    exact h.trans rfl

theorem eq_dw1_v : ((extractStridedSlice S1x3072 ![0, 3072] (res_main_v119 V0) slices_S1x6144_S1x3072_0_3072) : (⟨2, ![1, 3072]⟩ : Shape).Idx → EReal)
    = Cert.KernelIdeal.Conv.result16 m c :=
  ext1 _ _ fun b => by
    have h := ConvRef.res_dw1_v V0 b
    rw [hU, hW, hB, hD] at h
    exact h.trans rfl

theorem eq_dw2_v : ((extractStridedSlice S1x3072 ![0, 3072] (res_main_v122 V0) slices_S1x6144_S1x3072_0_3072) : (⟨2, ![1, 3072]⟩ : Shape).Idx → EReal)
    = Cert.KernelIdeal.Conv.result17 m c :=
  ext1 _ _ fun b => by
    have h := ConvRef.res_dw2_v V0 b
    rw [hU, hW, hB, hD] at h
    exact h.trans rfl

theorem eq_db_v : ((extractStridedSlice S1x3072 ![0, 3072] (res_main_v111 V0) slices_S1x6144_S1x3072_0_3072) : (⟨2, ![1, 3072]⟩ : Shape).Idx → EReal)
    = Cert.KernelIdeal.Conv.result18 m c :=
  ext1 _ _ fun b => by
    have h := ConvRef.res_db_v V0 b
    rw [hU, hW, hB, hD] at h
    exact h.trans rfl

end Cert.ConvEq

end
-- ==== Proof.MatMath.lean ====
module

public import Idealize.ShloMosaic.Lib.Pointwise
public import Idealize.ShloMosaic.Lib.Pipeline.ValueKit
public import Idealize.ShloMosaic.Lib.Pipeline.ReadBack

/-!
Matrix products over the extended reals: an array read at a pair of numbers, and a contraction cut into
equal runs.
-/

@[expose] public section

noncomputable section

namespace Cert.MatMath

open Finset Idealize.ShloMosaic

/-- A two-dimensional array. -/
abbrev Arr (n k : ℕ) : Type := (⟨2, ![n, k]⟩ : Shape).Idx → EReal

/-- An array at row `a`, column `b`; zero outside. -/
def at2 {n k : ℕ} (f : Arr n k) (a b : ℕ) : EReal :=
  if h : a < n ∧ b < k then f (ix2 ⟨a, h.1⟩ ⟨b, h.2⟩) else 0

theorem at2_val {n k : ℕ} (f : Arr n k) (a : Fin n) (b : Fin k) : at2 f a.val b.val = f (ix2 a b) := by
  unfold at2; rw [dif_pos ⟨a.isLt, b.isLt⟩]

theorem eta2 {n k : ℕ} (j : (⟨2, ![n, k]⟩ : Shape).Idx) : j = ix2 (j 0) (j 1) := by
  funext a
  match a with
  | ⟨0, _⟩ => rfl
  | ⟨1, _⟩ => rfl

theorem at2_of {n k : ℕ} (f : Arr n k) (i : (⟨2, ![n, k]⟩ : Shape).Idx) :
    f i = at2 f (i 0).val (i 1).val := by
  conv_lhs => rw [eta2 i]
  exact (at2_val f (i 0) (i 1)).symm

/-- The array read at an index whose coordinates are known. -/
theorem at2_eq {n k : ℕ} (f : Arr n k) (i : (⟨2, ![n, k]⟩ : Shape).Idx) {a b : ℕ}
    (h0 : (i 0).val = a) (h1 : (i 1).val = b) : f i = at2 f a b := by
  rw [at2_of f i, h0, h1]

/-- A block of rows holds an array's rows from `s` on. -/
def Rows {n N k : ℕ} (X : Arr n k) (W : Arr N k) (s : ℕ) : Prop := ∀ i j, X (ix2 i j) = at2 W (s + i.val) j.val

theorem rows_self {n k : ℕ} (W : Arr n k) : Rows W W 0 := fun i j => by rw [zero_add, at2_val]

/-- The sum of a run of `b` numbers, the `s`-th run. -/
def run (b : ℕ) (f : ℕ → EReal) (s : ℕ) : EReal := ∑ r : Fin b, f (b * s + r.val)

/-- The sum over all is the sum over the runs. -/
theorem sum_runs (b n : ℕ) (f : ℕ → EReal) : ∑ s ∈ range n, run b f s = ∑ k : Fin (b * n), f k.val := by
  induction n with
  | zero => simp
  | succ n ih =>
    rw [sum_range_succ, ih]
    simp only [run, Fin.sum_univ_eq_sum_range (fun k => f k), Fin.sum_univ_eq_sum_range (fun k => f (b * n + k)), Nat.mul_succ, sum_range_add]

/-- Rows of the left array against rows of the right one: both contract their first axis. -/
def tnTerm {K n k : ℕ} (A : Arr K n) (B : Arr K k) (a b r : ℕ) : EReal := at2 A r a * at2 B r b
/-- Both contract their second axis. -/
def ntTerm {K n k : ℕ} (A : Arr n K) (B : Arr k K) (a b r : ℕ) : EReal := at2 A a r * at2 B b r

/-- Rows of the left array against columns of the right one. -/
def nnTerm {K n k : ℕ} (A : Arr n K) (B : Arr K k) (a b r : ℕ) : EReal := at2 A a r * at2 B r b

def tn {K n k : ℕ} (A : Arr K n) (B : Arr K k) (a b : ℕ) : EReal := ∑ r : Fin K, tnTerm A B a b r.val
def nt {K n k : ℕ} (A : Arr n K) (B : Arr k K) (a b : ℕ) : EReal := ∑ r : Fin K, ntTerm A B a b r.val
def nn {K n k : ℕ} (A : Arr n K) (B : Arr K k) (a b : ℕ) : EReal := ∑ r : Fin K, nnTerm A B a b r.val

theorem tn_val {K n k : ℕ} (A : Arr K n) (B : Arr K k) (a : Fin n) (b : Fin k) :
    tn A B a.val b.val = ∑ r : Fin K, A (ix2 r a) * B (ix2 r b) := by
  simp only [tn, tnTerm, at2_val]
theorem nt_val {K n k : ℕ} (A : Arr n K) (B : Arr k K) (a : Fin n) (b : Fin k) :
    nt A B a.val b.val = ∑ r : Fin K, A (ix2 a r) * B (ix2 b r) := by
  simp only [nt, ntTerm, at2_val]
theorem nn_val {K n k : ℕ} (A : Arr n K) (B : Arr K k) (a : Fin n) (b : Fin k) :
    nn A B a.val b.val = ∑ r : Fin K, A (ix2 a r) * B (ix2 r b) := by
  simp only [nn, nnTerm, at2_val]

/-- The gradient at the right factor of a product, as its transpose holds it. -/
theorem tn_swap {K n k : ℕ} (A : Arr K n) (B : Arr K k) (a : Fin n) (b : Fin k) :
    ∑ r : Fin K, B (ix2 r b) * A (ix2 r a) = tn A B a.val b.val :=
  (sum_congr rfl fun _ _ => mul_comm _ _).trans (tn_val A B a b).symm

section read
variable {n k b p q : ℕ} {f g : Fin b → EReal}

/-- A tile that holds the whole contraction: its factors are read from the two arrays. -/
theorem nt_all (A : Arr n b) (B : Arr k b)
    (hf : ∀ r : Fin b, f r = at2 A p r.val) (hg : ∀ r : Fin b, g r = at2 B q r.val) :
    ∑ r, f r * g r = nt A B p q := sum_congr rfl fun r _ => by rw [hf, hg]; rfl
theorem nn_all (A : Arr n b) (B : Arr b k)
    (hf : ∀ r : Fin b, f r = at2 A p r.val) (hg : ∀ r : Fin b, g r = at2 B r.val q) :
    ∑ r, f r * g r = nn A B p q := sum_congr rfl fun r _ => by rw [hf, hg]; rfl

end read

/-- A tile's accumulator, set to zero before the first of `J` runs and given one run a step, holds the whole
contraction at the last. `T q i` are the contraction's terms at index `i` of tile `q`. -/
theorem acc_runs {N : ℕ} {ι : Type} (f : (n : ℕ) → n < N → ι → EReal) (J b : ℕ) (T : ℕ → ι → ℕ → EReal)
    (h0 : ∀ t : Fin N, t.val % J = 0 → ∀ i, f t.val t.isLt i = 0 + run b (T (t.val / J) i) (t.val % J))
    (hs : ∀ t : Fin N, ¬t.val % J = 0 → ∀ i,
      f t.val t.isLt i = f (t.val - 1) (Nat.lt_of_le_of_lt (Nat.sub_le _ _) t.isLt) i + run b (T (t.val / J) i) (t.val % J))
    (t : Fin N) (ht : t.val % J + 1 = J) (i : ι) : f t.val t.isLt i = ∑ k : Fin (b * J), T (t.val / J) i k.val := by
  have h := Pipeline.eq_sum_of_reset_step_divmod (fun n h => f n h i) J 0 (fun q s => run b (T q i) s)
    (fun t h => h0 t h i) (fun t h => hs t h i) t
  rw [h, zero_add, ht, sum_runs]

/-- The same for a product of two arrays: at step `t` the left factor's block holds the rows `ra (t / J) + a`
and the right one's the columns `rb (t / J) + c`, both at the `t % J`-th run of the contraction. `L` and `R`
read the arrays, `X` and `Y` the blocks. -/
theorem tile {N p q : ℕ} (J b : ℕ) (L R : ℕ → ℕ → EReal) (ra rb : ℕ → ℕ)
    (X : Fin N → Fin p → Fin b → EReal) (Y : Fin N → Fin q → Fin b → EReal) (acc : (n : ℕ) → n < N → Arr p q)
    (hX : ∀ t a r, X t a r = L (ra (t.val / J) + a.val) (b * (t.val % J) + r.val))
    (hY : ∀ t c r, Y t c r = R (rb (t.val / J) + c.val) (b * (t.val % J) + r.val))
    (h0 : ∀ t : Fin N, t.val % J = 0 → ∀ a c, acc t.val t.isLt (ix2 a c) = ∑ r, X t a r * Y t c r)
    (hs : ∀ t : Fin N, ¬t.val % J = 0 → ∀ a c, acc t.val t.isLt (ix2 a c)
      = acc (t.val - 1) (Nat.lt_of_le_of_lt (Nat.sub_le _ _) t.isLt) (ix2 a c) + ∑ r, X t a r * Y t c r)
    (t : Fin N) (ht : t.val % J + 1 = J) (a : Fin p) (c : Fin q) :
    acc t.val t.isLt (ix2 a c) = ∑ k : Fin (b * J), L (ra (t.val / J) + a.val) k.val * R (rb (t.val / J) + c.val) k.val :=
  acc_runs (fun n h (i : Fin p × Fin q) => acc n h (ix2 i.1 i.2)) J b
    (fun s i k => L (ra s + i.1.val) k * R (rb s + i.2.val) k)
    (fun t h i => by simp only [h0 t h, hX, hY, run, zero_add]) (fun t h i => by simp only [hs t h, hX, hY, run]) t ht (a, c)

end Cert.MatMath
-- ==== Proof.GradW.lean ====
module

public import proofs.«01_k».proof.Defs
public import proofs.«01_k».proof.Proof.MatMath
public import proofs.«01_k».proof.Proof.Gen.WDownIdeal.Value
public import proofs.«01_k».proof.Proof.Gen.WDownRefIdeal.Run
public import proofs.«01_k».proof.Proof.Gen.WUpIdeal.Value
public import proofs.«01_k».proof.Proof.Gen.WUpRefIdeal.Run
public import proofs.«01_k».proof.Proof.Gen.WInIdeal.Value
public import proofs.«01_k».proof.Proof.Gen.WInRefIdeal.Run
public import proofs.«01_k».proof.Proof.Gen.WGateIdeal.Value
public import proofs.«01_k».proof.Proof.Gen.WGateRefIdeal.Run

/-!
The gradients at the large weights: the down and up projections of the feed-forward block, the input
projection and the branch gates. Each tile adds the two halves of the 4096 rows.
-/

@[expose] public section

set_option maxRecDepth 16384

noncomputable section

open Cert.MatMath Finset Idealize.ShloMosaic Idealize.ShloMosaic.TcCoe Idealize.SL.Sem

namespace Cert.WDownIdeal.Mat

open Cert.WDownIdeal Cert.WDownIdeal.Gen

variable (m : (ℓ : Loc nD τ sig) → Buf (Elt Ideal) ℓ) (c : Dev nD)

abbrev aA : Arr 4096 3072 := m ((c : Thread nD τ).loc main_arg0)
abbrev aB : Arr 4096 1024 := m ((c : Thread nD τ).loc main_arg1)

theorem idx : ∀ t : Fin cfg0.N, (win0_0.index t 0 = t.val % 2 ∧ win0_0.index t 1 = t.val / 2) ∧ (win0_1.index t 0 = t.val % 2 ∧ win0_1.index t 1 = 0) ∧
    win0_2.index t 0 = t.val / 2 ∧ win0_2.index t 1 = 0 := (by decide +kernel : ∀ t : Fin grid0.N, _)

theorem acc (t : Fin cfg0.N) (ht : t.val % 2 = 1) (a b : Fin 1024) :
    (outsAt0 m c t.val t.isLt).2 (ix2 a b) = tn (aA m c) (aB m c) (1024 * (t.val / 2) + a.val) (0 + b.val) :=
  tile 2 2048 (fun a r => at2 (aA m c) r a) (fun b r => at2 (aB m c) r b) (1024 * ·) (fun _ => 0)
    (fun t a r => (iblk m c 0 t : Vec Ideal S2048x1024 .bf16) (ix2 r a)) (fun t b r => (iblk m c 1 t : Vec Ideal S2048x1024 .bf16) (ix2 r b))
    (fun n h => (outsAt0 m c n h).2)
    (fun t a r => by have hi := idx t; exact at2_eq (aA m c) _ (show win0_0.index t 0 * 2048 + 1 * r.val = _ by omega) (show win0_0.index t 1 * 1024 + 1 * a.val = _ by omega))
    (fun t b r => by have hi := idx t; exact at2_eq (aB m c) _ (show win0_1.index t 0 * 2048 + 1 * r.val = _ by omega) (show win0_1.index t 1 * 1024 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 1024) (k := 1024) y]
    pointwise [k0_pay3]
    exact ha.trans (congrArg₂ (tn _ _) (show 1024 * (t.val / 2) + (y 0).val = _ by omega) (show 0 + (y 1).val = _ by omega))

theorem values : Cert.algebraic_WDownIdeal_WDownRefIdeal := fun m g m' g' _ h =>
  ⟨fun c i => tn (aA m c) (aB m c) (i 0).val (i 1).val,
    (θ_run _ _ _).mono (fun _ hr c => ⟨(hr c).1.trans (final m c), (hr c).2⟩) (Cert.WDownIdeal.Value.run_blocks m g),
    (θ_run _ _ _).mono (fun _ hr c => ⟨(hr c).1.trans (by
      rw [(h c).1, (h c).2]; funext i; rw [eta2 (n := 3072) (k := 1024) i]; pointwise
      exact tn_swap (aA m c) (aB m c) (i 0) (i 1)), (hr c).2⟩) (Cert.WDownRefIdeal.Value.run m' g')⟩

end Cert.WDownIdeal.Mat

namespace Cert.WUpIdeal.Mat

open Cert.WUpIdeal Cert.WUpIdeal.Gen

variable (m : (ℓ : Loc nD τ sig) → Buf (Elt Ideal) ℓ) (c : Dev nD)

abbrev aA : Arr 4096 1024 := m ((c : Thread nD τ).loc main_arg0)
abbrev aB : Arr 4096 6144 := m ((c : Thread nD τ).loc main_arg1)

theorem idx : ∀ t : Fin cfg0.N, (win0_0.index t 0 = t.val % 2 ∧ win0_0.index t 1 = 0) ∧ (win0_1.index t 0 = t.val % 2 ∧ win0_1.index t 1 = t.val / 2) ∧
    win0_2.index t 0 = 0 ∧ win0_2.index t 1 = t.val / 2 := (by decide +kernel : ∀ t : Fin grid0.N, _)

theorem acc (t : Fin cfg0.N) (ht : t.val % 2 = 1) (a : Fin 1024) (b : Fin 2048) :
    (outsAt0 m c t.val t.isLt).2 (ix2 a b) = tn (aA m c) (aB m c) (0 + a.val) (2048 * (t.val / 2) + b.val) :=
  tile 2 2048 (fun a r => at2 (aA m c) r a) (fun b r => at2 (aB m c) r b) (fun _ => 0) (2048 * ·)
    (fun t a r => (iblk m c 0 t : Vec Ideal S2048x1024 .bf16) (ix2 r a)) (fun t b r => (iblk m c 1 t : Vec Ideal S2048x2048 .bf16) (ix2 r b))
    (fun n h => (outsAt0 m c n h).2)
    (fun t a r => by have hi := idx t; exact at2_eq (aA m c) _ (show win0_0.index t 0 * 2048 + 1 * r.val = _ by omega) (show win0_0.index t 1 * 1024 + 1 * a.val = _ by omega))
    (fun t b r => by have hi := idx t; exact at2_eq (aB m c) _ (show win0_1.index t 0 * 2048 + 1 * r.val = _ by omega) (show win0_1.index t 1 * 2048 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 1024) (k := 2048) y]
    pointwise [k0_pay3]
    exact ha.trans (congrArg₂ (tn _ _) (show 0 + (y 0).val = _ by omega) (show 2048 * (t.val / 2) + (y 1).val = _ by omega))

theorem values : Cert.algebraic_WUpIdeal_WUpRefIdeal := fun m g m' g' _ h =>
  ⟨fun c i => tn (aA m c) (aB m c) (i 0).val (i 1).val,
    (θ_run _ _ _).mono (fun _ hr c => ⟨(hr c).1.trans (final m c), (hr c).2⟩) (Cert.WUpIdeal.Value.run_blocks m g),
    (θ_run _ _ _).mono (fun _ hr c => ⟨(hr c).1.trans (by
      rw [(h c).1, (h c).2]; funext i; rw [eta2 (n := 1024) (k := 6144) i]; pointwise
      exact tn_swap (aA m c) (aB m c) (i 0) (i 1)), (hr c).2⟩) (Cert.WUpRefIdeal.Value.run m' g')⟩

end Cert.WUpIdeal.Mat

namespace Cert.WInIdeal.Mat

open Cert.WInIdeal Cert.WInIdeal.Gen

variable (m : (ℓ : Loc nD τ sig) → Buf (Elt Ideal) ℓ) (c : Dev nD)

abbrev aA : Arr 4096 1024 := m ((c : Thread nD τ).loc main_arg0)
abbrev aB : Arr 4096 4608 := m ((c : Thread nD τ).loc main_arg1)

theorem idx : ∀ t : Fin cfg0.N, (win0_0.index t 0 = t.val % 2 ∧ win0_0.index t 1 = 0) ∧ (win0_1.index t 0 = t.val % 2 ∧ win0_1.index t 1 = t.val / 2) ∧
    win0_2.index t 0 = 0 ∧ win0_2.index t 1 = t.val / 2 := (by decide +kernel : ∀ t : Fin grid0.N, _)

theorem acc (t : Fin cfg0.N) (ht : t.val % 2 = 1) (a : Fin 1024) (b : Fin 1536) :
    (outsAt0 m c t.val t.isLt).2 (ix2 a b) = tn (aA m c) (aB m c) (0 + a.val) (1536 * (t.val / 2) + b.val) :=
  tile 2 2048 (fun a r => at2 (aA m c) r a) (fun b r => at2 (aB m c) r b) (fun _ => 0) (1536 * ·)
    (fun t a r => (iblk m c 0 t : Vec Ideal S2048x1024 .bf16) (ix2 r a)) (fun t b r => (iblk m c 1 t : Vec Ideal S2048x1536 .bf16) (ix2 r b))
    (fun n h => (outsAt0 m c n h).2)
    (fun t a r => by have hi := idx t; exact at2_eq (aA m c) _ (show win0_0.index t 0 * 2048 + 1 * r.val = _ by omega) (show win0_0.index t 1 * 1024 + 1 * a.val = _ by omega))
    (fun t b r => by have hi := idx t; exact at2_eq (aB m c) _ (show win0_1.index t 0 * 2048 + 1 * r.val = _ by omega) (show win0_1.index t 1 * 1536 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 1024) (k := 1536) y]
    pointwise [k0_pay3]
    exact ha.trans (congrArg₂ (tn _ _) (show 0 + (y 0).val = _ by omega) (show 1536 * (t.val / 2) + (y 1).val = _ by omega))

theorem values : Cert.algebraic_WInIdeal_WInRefIdeal := fun m g m' g' _ h =>
  ⟨fun c i => tn (aA m c) (aB m c) (i 0).val (i 1).val,
    (θ_run _ _ _).mono (fun _ hr c => ⟨(hr c).1.trans (final m c), (hr c).2⟩) (Cert.WInIdeal.Value.run_blocks m g),
    (θ_run _ _ _).mono (fun _ hr c => ⟨(hr c).1.trans (by
      rw [(h c).1, (h c).2]; funext i; rw [eta2 (n := 1024) (k := 4608) i]; pointwise
      exact tn_swap (aA m c) (aB m c) (i 0) (i 1)), (hr c).2⟩) (Cert.WInRefIdeal.Value.run m' g')⟩

end Cert.WInIdeal.Mat

namespace Cert.WGateIdeal.Mat

open Cert.WGateIdeal Cert.WGateIdeal.Gen

variable (m : (ℓ : Loc nD τ sig) → Buf (Elt Ideal) ℓ) (c : Dev nD)

abbrev aA : Arr 4096 1024 := m ((c : Thread nD τ).loc main_arg0)
abbrev aB : Arr 4096 2048 := m ((c : Thread nD τ).loc main_arg1)

theorem idx : ∀ t : Fin cfg0.N, (win0_0.index t 0 = t.val % 2 ∧ win0_0.index t 1 = 0) ∧ (win0_1.index t 0 = t.val % 2 ∧ win0_1.index t 1 = 0) ∧
    win0_2.index t 0 = 0 ∧ win0_2.index t 1 = 0 := (by decide +kernel : ∀ t : Fin grid0.N, _)

theorem acc (t : Fin cfg0.N) (ht : t.val % 2 = 1) (a : Fin 1024) (b : Fin 2048) :
    (outsAt0 m c t.val t.isLt).2 (ix2 a b) = tn (aA m c) (aB m c) (0 + a.val) (0 + b.val) :=
  tile 2 2048 (fun a r => at2 (aA m c) r a) (fun b r => at2 (aB m c) r b) (fun _ => 0) (fun _ => 0)
    (fun t a r => (iblk m c 0 t : Vec Ideal S2048x1024 .bf16) (ix2 r a)) (fun t b r => (iblk m c 1 t : Vec Ideal S2048x2048 .bf16) (ix2 r b))
    (fun n h => (outsAt0 m c n h).2)
    (fun t a r => by have hi := idx t; exact at2_eq (aA m c) _ (show win0_0.index t 0 * 2048 + 1 * r.val = _ by omega) (show win0_0.index t 1 * 1024 + 1 * a.val = _ by omega))
    (fun t b r => by have hi := idx t; exact at2_eq (aB m c) _ (show win0_1.index t 0 * 2048 + 1 * r.val = _ by omega) (show win0_1.index t 1 * 2048 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 1024) (k := 2048) y]
    pointwise [k0_pay3]
    exact ha.trans (congrArg₂ (tn _ _) (show 0 + (y 0).val = _ by omega) (show 0 + (y 1).val = _ by omega))

theorem values : Cert.algebraic_WGateIdeal_WGateRefIdeal := fun m g m' g' _ h =>
  ⟨fun c i => tn (aA m c) (aB m c) (i 0).val (i 1).val,
    (θ_run _ _ _).mono (fun _ hr c => ⟨(hr c).1.trans (final m c), (hr c).2⟩) (Cert.WGateIdeal.Value.run_blocks m g),
    (θ_run _ _ _).mono (fun _ hr c => ⟨(hr c).1.trans (by
      rw [(h c).1, (h c).2]; funext i; rw [eta2 (n := 1024) (k := 2048) i]; pointwise
      exact tn_swap (aA m c) (aB m c) (i 0) (i 1)), (hr c).2⟩) (Cert.WGateRefIdeal.Value.run m' g')⟩

end Cert.WGateIdeal.Mat
-- ==== Proof.GradW2.lean ====
module

public import proofs.«01_k».proof.Defs
public import proofs.«01_k».proof.Proof.MatMath
public import proofs.«01_k».proof.Proof.Gen.WPleIdeal.Value
public import proofs.«01_k».proof.Proof.Gen.WPleRefIdeal.Run
public import proofs.«01_k».proof.Proof.Gen.WPleGateIdeal.Value
public import proofs.«01_k».proof.Proof.Gen.WPleGateRefIdeal.Run
public import proofs.«01_k».proof.Proof.Gen.WBranchAIdeal.Value
public import proofs.«01_k».proof.Proof.Gen.WBranchARefIdeal.Run
public import proofs.«01_k».proof.Proof.Gen.WBranchBIdeal.Value
public import proofs.«01_k».proof.Proof.Gen.WBranchBRefIdeal.Run

/-!
The gradients at the weights one tile covers: the per-layer embedding and its gate, and the two branches'
output projections. The tile adds the two halves of the 4096 rows.
-/

@[expose] public section

set_option maxRecDepth 16384

noncomputable section

open Cert.MatMath Finset Idealize.ShloMosaic Idealize.ShloMosaic.TcCoe Idealize.SL.Sem

namespace Cert.WPleIdeal.Mat

open Cert.WPleIdeal Cert.WPleIdeal.Gen

variable (m : (ℓ : Loc nD τ sig) → Buf (Elt Ideal) ℓ) (c : Dev nD)

abbrev aA : Arr 4096 256 := m ((c : Thread nD τ).loc main_arg0)
abbrev aB : Arr 4096 1024 := m ((c : Thread nD τ).loc main_arg1)

theorem idx : ∀ t : Fin cfg0.N, (win0_0.index t 0 = t.val % 2 ∧ win0_0.index t 1 = 0) ∧ (win0_1.index t 0 = t.val % 2 ∧ win0_1.index t 1 = 0) ∧
    win0_2.index t 0 = 0 ∧ win0_2.index t 1 = 0 := (by decide +kernel : ∀ t : Fin grid0.N, _)

theorem acc (t : Fin cfg0.N) (ht : t.val % 2 = 1) (a : Fin 256) (b : Fin 1024) :
    (outsAt0 m c t.val t.isLt).2 (ix2 a b) = tn (aA m c) (aB m c) (0 + a.val) (0 + b.val) :=
  tile 2 2048 (fun a r => at2 (aA m c) r a) (fun b r => at2 (aB m c) r b) (fun _ => 0) (fun _ => 0)
    (fun t a r => (iblk m c 0 t : Vec Ideal S2048x256 .f32) (ix2 r a)) (fun t b r => (iblk m c 1 t : Vec Ideal S2048x1024 .bf16) (ix2 r b))
    (fun n h => (outsAt0 m c n h).2)
    (fun t a r => by have hi := idx t; exact at2_eq (aA m c) _ (show win0_0.index t 0 * 2048 + 1 * r.val = _ by omega) (show win0_0.index t 1 * 256 + 1 * a.val = _ by omega))
    (fun t b r => by have hi := idx t; exact at2_eq (aB m c) _ (show win0_1.index t 0 * 2048 + 1 * r.val = _ by omega) (show win0_1.index t 1 * 1024 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 256) (k := 1024) y]
    pointwise [k0_pay3]
    exact ha.trans (congrArg₂ (tn _ _) (show 0 + (y 0).val = _ by omega) (show 0 + (y 1).val = _ by omega))

theorem values : Cert.algebraic_WPleIdeal_WPleRefIdeal := fun m g m' g' _ h =>
  ⟨fun c i => tn (aA m c) (aB m c) (i 0).val (i 1).val,
    (θ_run _ _ _).mono (fun _ hr c => ⟨(hr c).1.trans (final m c), (hr c).2⟩) (Cert.WPleIdeal.Value.run_blocks m g),
    (θ_run _ _ _).mono (fun _ hr c => ⟨(hr c).1.trans (by
      rw [(h c).1, (h c).2]; funext i; rw [eta2 (n := 256) (k := 1024) i]; pointwise
      exact tn_swap (aA m c) (aB m c) (i 0) (i 1)), (hr c).2⟩) (Cert.WPleRefIdeal.Value.run m' g')⟩

end Cert.WPleIdeal.Mat

namespace Cert.WPleGateIdeal.Mat

open Cert.WPleGateIdeal Cert.WPleGateIdeal.Gen

variable (m : (ℓ : Loc nD τ sig) → Buf (Elt Ideal) ℓ) (c : Dev nD)

abbrev aA : Arr 4096 1024 := m ((c : Thread nD τ).loc main_arg0)
abbrev aB : Arr 4096 1024 := m ((c : Thread nD τ).loc main_arg1)

theorem idx : ∀ t : Fin cfg0.N, (win0_0.index t 0 = t.val % 2 ∧ win0_0.index t 1 = 0) ∧ (win0_1.index t 0 = t.val % 2 ∧ win0_1.index t 1 = 0) ∧
    win0_2.index t 0 = 0 ∧ win0_2.index t 1 = 0 := (by decide +kernel : ∀ t : Fin grid0.N, _)

theorem acc (t : Fin cfg0.N) (ht : t.val % 2 = 1) (a b : Fin 1024) :
    (outsAt0 m c t.val t.isLt).2 (ix2 a b) = tn (aA m c) (aB m c) (0 + a.val) (0 + b.val) :=
  tile 2 2048 (fun a r => at2 (aA m c) r a) (fun b r => at2 (aB m c) r b) (fun _ => 0) (fun _ => 0)
    (fun t a r => (iblk m c 0 t : Vec Ideal S2048x1024 .bf16) (ix2 r a)) (fun t b r => (iblk m c 1 t : Vec Ideal S2048x1024 .bf16) (ix2 r b))
    (fun n h => (outsAt0 m c n h).2)
    (fun t a r => by have hi := idx t; exact at2_eq (aA m c) _ (show win0_0.index t 0 * 2048 + 1 * r.val = _ by omega) (show win0_0.index t 1 * 1024 + 1 * a.val = _ by omega))
    (fun t b r => by have hi := idx t; exact at2_eq (aB m c) _ (show win0_1.index t 0 * 2048 + 1 * r.val = _ by omega) (show win0_1.index t 1 * 1024 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 1024) (k := 1024) y]
    pointwise [k0_pay3]
    exact ha.trans (congrArg₂ (tn _ _) (show 0 + (y 0).val = _ by omega) (show 0 + (y 1).val = _ by omega))

theorem values : Cert.algebraic_WPleGateIdeal_WPleGateRefIdeal := fun m g m' g' _ h =>
  ⟨fun c i => tn (aA m c) (aB m c) (i 0).val (i 1).val,
    (θ_run _ _ _).mono (fun _ hr c => ⟨(hr c).1.trans (final m c), (hr c).2⟩) (Cert.WPleGateIdeal.Value.run_blocks m g),
    (θ_run _ _ _).mono (fun _ hr c => ⟨(hr c).1.trans (by
      rw [(h c).1, (h c).2]; funext i; rw [eta2 (n := 1024) (k := 1024) i]; pointwise
      exact tn_swap (aA m c) (aB m c) (i 0) (i 1)), (hr c).2⟩) (Cert.WPleGateRefIdeal.Value.run m' g')⟩

end Cert.WPleGateIdeal.Mat

namespace Cert.WBranchAIdeal.Mat

open Cert.WBranchAIdeal Cert.WBranchAIdeal.Gen

variable (m : (ℓ : Loc nD τ sig) → Buf (Elt Ideal) ℓ) (c : Dev nD)

abbrev aA : Arr 4096 512 := m ((c : Thread nD τ).loc main_arg0)
abbrev aB : Arr 4096 1024 := m ((c : Thread nD τ).loc main_arg1)

theorem idx : ∀ t : Fin cfg0.N, (win0_0.index t 0 = t.val % 2 ∧ win0_0.index t 1 = 0) ∧ (win0_1.index t 0 = t.val % 2 ∧ win0_1.index t 1 = 0) ∧
    win0_2.index t 0 = 0 ∧ win0_2.index t 1 = 0 := (by decide +kernel : ∀ t : Fin grid0.N, _)

theorem acc (t : Fin cfg0.N) (ht : t.val % 2 = 1) (a : Fin 512) (b : Fin 1024) :
    (outsAt0 m c t.val t.isLt).2 (ix2 a b) = tn (aA m c) (aB m c) (0 + a.val) (0 + b.val) :=
  tile 2 2048 (fun a r => at2 (aA m c) r a) (fun b r => at2 (aB m c) r b) (fun _ => 0) (fun _ => 0)
    (fun t a r => (iblk m c 0 t : Vec Ideal S2048x512 .bf16) (ix2 r a)) (fun t b r => (iblk m c 1 t : Vec Ideal S2048x1024 .bf16) (ix2 r b))
    (fun n h => (outsAt0 m c n h).2)
    (fun t a r => by have hi := idx t; exact at2_eq (aA m c) _ (show win0_0.index t 0 * 2048 + 1 * r.val = _ by omega) (show win0_0.index t 1 * 512 + 1 * a.val = _ by omega))
    (fun t b r => by have hi := idx t; exact at2_eq (aB m c) _ (show win0_1.index t 0 * 2048 + 1 * r.val = _ by omega) (show win0_1.index t 1 * 1024 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 512) (k := 1024) y]
    pointwise [k0_pay3]
    exact ha.trans (congrArg₂ (tn _ _) (show 0 + (y 0).val = _ by omega) (show 0 + (y 1).val = _ by omega))

theorem values : Cert.algebraic_WBranchAIdeal_WBranchARefIdeal := fun m g m' g' _ h =>
  ⟨fun c i => tn (aA m c) (aB m c) (i 0).val (i 1).val,
    (θ_run _ _ _).mono (fun _ hr c => ⟨(hr c).1.trans (final m c), (hr c).2⟩) (Cert.WBranchAIdeal.Value.run_blocks m g),
    (θ_run _ _ _).mono (fun _ hr c => ⟨(hr c).1.trans (by
      rw [(h c).1, (h c).2]; funext i; rw [eta2 (n := 512) (k := 1024) i]; pointwise
      exact tn_swap (aA m c) (aB m c) (i 0) (i 1)), (hr c).2⟩) (Cert.WBranchARefIdeal.Value.run m' g')⟩

end Cert.WBranchAIdeal.Mat

namespace Cert.WBranchBIdeal.Mat

open Cert.WBranchBIdeal Cert.WBranchBIdeal.Gen

variable (m : (ℓ : Loc nD τ sig) → Buf (Elt Ideal) ℓ) (c : Dev nD)

abbrev aA : Arr 4096 256 := m ((c : Thread nD τ).loc main_arg0)
abbrev aB : Arr 4096 1024 := m ((c : Thread nD τ).loc main_arg1)

theorem idx : ∀ t : Fin cfg0.N, (win0_0.index t 0 = t.val % 2 ∧ win0_0.index t 1 = 0) ∧ (win0_1.index t 0 = t.val % 2 ∧ win0_1.index t 1 = 0) ∧
    win0_2.index t 0 = 0 ∧ win0_2.index t 1 = 0 := (by decide +kernel : ∀ t : Fin grid0.N, _)

theorem acc (t : Fin cfg0.N) (ht : t.val % 2 = 1) (a : Fin 256) (b : Fin 1024) :
    (outsAt0 m c t.val t.isLt).2 (ix2 a b) = tn (aA m c) (aB m c) (0 + a.val) (0 + b.val) :=
  tile 2 2048 (fun a r => at2 (aA m c) r a) (fun b r => at2 (aB m c) r b) (fun _ => 0) (fun _ => 0)
    (fun t a r => (iblk m c 0 t : Vec Ideal S2048x256 .bf16) (ix2 r a)) (fun t b r => (iblk m c 1 t : Vec Ideal S2048x1024 .bf16) (ix2 r b))
    (fun n h => (outsAt0 m c n h).2)
    (fun t a r => by have hi := idx t; exact at2_eq (aA m c) _ (show win0_0.index t 0 * 2048 + 1 * r.val = _ by omega) (show win0_0.index t 1 * 256 + 1 * a.val = _ by omega))
    (fun t b r => by have hi := idx t; exact at2_eq (aB m c) _ (show win0_1.index t 0 * 2048 + 1 * r.val = _ by omega) (show win0_1.index t 1 * 1024 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

theorem final : (dats m 0 c).arrAt 2 cfg0.N = fun i => tn (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_B m c t (by omega) ht] at ha
    frame_out at ha
    blk_simp; rw [after0_2, outsAt0_B m c t (by omega) ht]; frame_out
    rw [eta2 (n := 256) (k := 1024) y]
    pointwise [k0_pay3]
    exact ha.trans (congrArg₂ (tn _ _) (show 0 + (y 0).val = _ by omega) (show 0 + (y 1).val = _ by omega))

theorem values : Cert.algebraic_WBranchBIdeal_WBranchBRefIdeal := fun m g m' g' _ h =>
  ⟨fun c i => tn (aA m c) (aB m c) (i 0).val (i 1).val,
    (θ_run _ _ _).mono (fun _ hr c => ⟨(hr c).1.trans (final m c), (hr c).2⟩) (Cert.WBranchBIdeal.Value.run_blocks m g),
    (θ_run _ _ _).mono (fun _ hr c => ⟨(hr c).1.trans (by
      rw [(h c).1, (h c).2]; funext i; rw [eta2 (n := 256) (k := 1024) i]; pointwise
      exact tn_swap (aA m c) (aB m c) (i 0) (i 1)), (hr c).2⟩) (Cert.WBranchBRefIdeal.Value.run m' g')⟩

end Cert.WBranchBIdeal.Mat
-- ==== Proof.GradH.lean ====
module

public import proofs.«01_k».proof.Defs
public import proofs.«01_k».proof.Proof.MatMath
public import proofs.«01_k».proof.Proof.Gen.H2Ideal.Value
public import proofs.«01_k».proof.Proof.Gen.H2RefIdeal.Run
public import proofs.«01_k».proof.Proof.Gen.HIdeal.Value
public import proofs.«01_k».proof.Proof.Gen.HRefIdeal.Run
public import proofs.«01_k».proof.Proof.Gen.FIdeal.Value
public import proofs.«01_k».proof.Proof.Gen.FRefIdeal.Run
public import proofs.«01_k».proof.Proof.Gen.HGateIdeal.Value
public import proofs.«01_k».proof.Proof.Gen.HGateRefIdeal.Run

/-!
The gradients at the left factors of the large products: the two inputs of the feed-forward block's
projections, and the input of the mixer by its projection and its gates.
-/

@[expose] public section

set_option maxRecDepth 16384

noncomputable section

open Cert.MatMath Finset Idealize.ShloMosaic Idealize.ShloMosaic.TcCoe Idealize.SL.Sem

namespace Cert.H2Ideal.Mat

open Cert.H2Ideal Cert.H2Ideal.Gen

variable (m : (ℓ : Loc nD τ sig) → Buf (Elt Ideal) ℓ) (c : Dev nD)

abbrev aA : Arr 4096 6144 := m ((c : Thread nD τ).loc main_arg0)
abbrev aB : Arr 1024 6144 := m ((c : Thread nD τ).loc main_arg1)

theorem idx : ∀ t : Fin cfg0.N, (win0_0.index t 0 = t.val / 3 ∧ win0_0.index t 1 = t.val % 3) ∧ (win0_1.index t 0 = 0 ∧ win0_1.index t 1 = t.val % 3) ∧
    win0_2.index t 0 = t.val / 3 ∧ win0_2.index t 1 = 0 := (by decide +kernel : ∀ t : Fin grid0.N, _)

theorem acc (t : Fin cfg0.N) (ht : t.val % 3 = 2) (a b : Fin 1024) :
    (outsAt0 m c t.val t.isLt).2 (ix2 a b) = nt (aA m c) (aB m c) (1024 * (t.val / 3) + a.val) (0 + b.val) :=
  tile 3 2048 (fun a r => at2 (aA m c) a r) (fun b r => at2 (aB m c) b r) (1024 * ·) (fun _ => 0)
    (fun t a r => (iblk m c 0 t : Vec Ideal S1024x2048 .bf16) (ix2 a r)) (fun t b r => (iblk m c 1 t : Vec Ideal S1024x2048 .bf16) (ix2 b r))
    (fun n h => (outsAt0 m c n h).2)
    (fun t a r => by have hi := idx t; exact at2_eq (aA m c) _ (show win0_0.index t 0 * 1024 + 1 * a.val = _ by omega) (show win0_0.index t 1 * 2048 + 1 * r.val = _ by omega))
    (fun t b r => by have hi := idx t; exact at2_eq (aB m c) _ (show win0_1.index t 0 * 1024 + 1 * b.val = _ by omega) (show win0_1.index t 1 * 2048 + 1 * r.val = _ by omega))
    (fun t h a b => by rw [outsAt0_A m c t h (by omega)]; frame_out; pointwise [k0_pay1, k0_pay2])
    (fun t h a b => by
      by_cases h2 : t.val % 3 = 2
      · rw [outsAt0_C m c t h h2]; frame_out; rw [read_unread_whole]; pointwise [k0_pay2]
      · rw [outsAt0_B m c t h h2]; frame_out; rw [read_unread_whole]; pointwise [k0_pay2]) t (by omega) a b

theorem final : (dats m 0 c).arrAt 2 cfg0.N = fun i => nt (aA m c) (aB m c) (i 0).val (i 1).val :=
  (dats m 0 c).arrAt_eq_of_covers 2 _ (by decide +kernel) fun t hf y => by
    have hi := idx t
    have ht := (flush0_2 t).mp hf
    have ha := acc m c t ht (y 0) (y 1)
    rw [outsAt0_C m c t (by omega) ht] at ha
    frame_out at ha
    blk_simp; rw [after0_2, outsAt0_C m c t (by omega) ht]; frame_out
    rw [eta2 (n := 1024) (k := 1024) y]
    exact ha.trans (congrArg₂ (nt _ _) (show 1024 * (t.val / 3) + (y 0).val = win0_2.index t 0 * 1024 + (y 0).val by omega)
      (show 0 + (y 1).val = win0_2.index t 1 * 1024 + (y 1).val by omega))

theorem values : Cert.algebraic_H2Ideal_H2RefIdeal := fun m g m' g' _ h =>
  ⟨fun c i => nt (aA m c) (aB m c) (i 0).val (i 1).val,
    (θ_run _ _ _).mono (fun _ hr c => ⟨(hr c).1.trans (final m c), (hr c).2⟩) (Cert.H2Ideal.Value.run_blocks m g),
    (θ_run _ _ _).mono (fun _ hr c => ⟨(hr c).1.trans (by
      rw [(h c).1, (h c).2]; funext i; rw [eta2 (n := 4096) (k := 1024) i]; pointwise
      exact (nt_val (aA m c) (aB m c) (i 0) (i 1)).symm), (hr c).2⟩) (Cert.H2RefIdeal.Value.run m' g')⟩

end Cert.H2Ideal.Mat

namespace Cert.HIdeal.Mat

open Cert.HIdeal Cert.HIdeal.Gen

variable (m : (ℓ : Loc nD τ sig) → Buf (Elt Ideal) ℓ) (c : Dev nD)

abbrev aA : Arr 4096 4608 := m ((c : Thread nD τ).loc main_arg0)
abbrev aB : Arr 1024 4608 := m ((c : Thread nD τ).loc main_arg1)
abbrev aC : Arr 4096 1024 := m ((c : Thread nD τ).loc main_arg2)

theorem idx : ∀ t : Fin cfg0.N, (win0_0.index t 0 = t.val / 3 ∧ win0_0.index t 1 = t.val % 3) ∧ (win0_1.index t 0 = 0 ∧ win0_1.index t 1 = t.val % 3) ∧
    (win0_2.index t 0 = t.val / 3 ∧ win0_2.index t 1 = 0) ∧ win0_3.index t 0 = t.val / 3 ∧ win0_3.index t 1 = 0 := (by decide +kernel : ∀ t : Fin grid0.N, _)

theorem acc (t : Fin cfg0.N) (ht : t.val % 3 = 2) (a b : Fin 1024) :
    (outsAt0 m c t.val t.isLt).2 (ix2 a b) = nt (aA m c) (aB m c) (1024 * (t.val / 3) + a.val) (0 + b.val) :=
  tile 3 1536 (fun a r => at2 (aA m c) a r) (fun b r => at2 (aB m c) b r) (1024 * ·) (fun _ => 0)
    (fun t a r => (iblk m c 0 t : Vec Ideal S1024x1536 .bf16) (ix2 a r)) (fun t b r => (iblk m c 1 t : Vec Ideal S1024x1536 .bf16) (ix2 b r))
    (fun n h => (outsAt0 m c n h).2)
    (fun t a r => by have hi := idx t; exact at2_eq (aA m c) _ (show win0_0.index t 0 * 1024 + 1 * a.val = _ by omega) (show win0_0.index t 1 * 1536 + 1 * r.val = _ by omega))
    (fun t b r => by have hi := idx t; exact at2_eq (aB m c) _ (show win0_1.index t 0 * 1024 + 1 * b.val = _ by omega) (show win0_1.index t 1 * 1536 + 1 * r.val = _ by omega))
    (fun t h a b => by rw [outsAt0_A m c t h (by omega)]; frame_out; pointwise [k0_pay1, k0_pay2])
    (fun t h a b => by
      by_cases h2 : t.val % 3 = 2
      · rw [outsAt0_C m c t h h2]; frame_out; rw [read_unread_whole]; pointwise [k0_pay2]
      · rw [outsAt0_B m c t h h2]; frame_out; rw [read_unread_whole]; pointwise [k0_pay2]) t (by omega) a b

/-- The product and the array it is added to. -/
def result : Buf (Elt Ideal) ((c : Thread nD τ).loc main_v0) := fun i => nt (aA m c) (aB m c) (i 0).val (i 1).val + at2 (aC m c) (i 0).val (i 1).val

theorem final : (dats m 0 c).arrAt 3 cfg0.N = result m c :=
  (dats m 0 c).arrAt_eq_of_covers 3 _ (by decide +kernel) fun t hf y => by
    have hi := idx t
    have ht := (flush0_3 t).mp hf
    have ha := acc m c t ht (y 0) (y 1)
    rw [outsAt0_C m c t (by omega) ht] at ha
    frame_out at ha
    blk_simp; rw [after0_3, outsAt0_C m c t (by omega) ht]; frame_out
    rw [eta2 (n := 1024) (k := 1024) y]
    pointwise [k0_pay3, result]
    exact congrArg₂ (fun x y : EReal => x + y)
      (ha.trans (congrArg₂ (nt _ _) (show 1024 * (t.val / 3) + (y 0).val = win0_3.index t 0 * 1024 + 1 * (y 0).val by omega)
        (show 0 + (y 1).val = win0_3.index t 1 * 1024 + 1 * (y 1).val by omega)))
      (at2_eq (aC m c) _ (show win0_2.index t 0 * 1024 + 1 * (y 0).val = win0_3.index t 0 * 1024 + 1 * (y 0).val by omega)
        (show win0_2.index t 1 * 1024 + 1 * (y 1).val = win0_3.index t 1 * 1024 + 1 * (y 1).val by omega))

theorem values : Cert.algebraic_HIdeal_HRefIdeal := fun m g m' g' _ h =>
  ⟨fun c => result m c,
    (θ_run _ _ _).mono (fun _ hr c => ⟨(hr c).1.trans (final m c), (hr c).2⟩) (Cert.HIdeal.Value.run_blocks m g),
    (θ_run _ _ _).mono (fun _ hr c => ⟨(hr c).1.trans (by
      rw [(h c).1, (h c).2.1, (h c).2.2]; funext i; rw [eta2 (n := 4096) (k := 1024) i]; pointwise [result]
      exact (add_comm _ _).trans (congrArg₂ (fun x y : EReal => x + y) (nt_val (aA m c) (aB m c) (i 0) (i 1)).symm (at2_of (aC m c) i))), (hr c).2⟩)
      (Cert.HRefIdeal.Value.run m' g')⟩

end Cert.HIdeal.Mat

namespace Cert.FIdeal.Mat

open Cert.FIdeal Cert.FIdeal.Gen

variable (m : (ℓ : Loc nD τ sig) → Buf (Elt Ideal) ℓ) (c : Dev nD)

abbrev aA : Arr 4096 1024 := m ((c : Thread nD τ).loc main_arg0)
abbrev aB : Arr 3072 1024 := m ((c : Thread nD τ).loc main_arg1)

theorem idx : ∀ t : Fin cfg0.N, (win0_0.index t 0 = t.val / 2 ∧ win0_0.index t 1 = 0) ∧ (win0_1.index t 0 = t.val % 2 ∧ win0_1.index t 1 = 0) ∧
    win0_2.index t 0 = t.val / 2 ∧ win0_2.index t 1 = t.val % 2 := (by decide +kernel : ∀ t : Fin grid0.N, _)

theorem final : (dats m 0 c).arrAt 2 cfg0.N = fun i => nt (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1536) y]
    pointwise [k0_pay1, k0_pay2, k0_pay3]
    exact nt_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 1536 + 1 * (y 1).val = _ by omega) (show win0_1.index t 1 * 1024 + 1 * r.val = _ by omega))

theorem values : Cert.algebraic_FIdeal_FRefIdeal := fun m g m' g' _ h =>
  ⟨fun c i => nt (aA m c) (aB m c) (i 0).val (i 1).val,
    (θ_run _ _ _).mono (fun _ hr c => ⟨(hr c).1.trans (final m c), (hr c).2⟩) (Cert.FIdeal.Value.run_blocks m g),
    (θ_run _ _ _).mono (fun _ hr c => ⟨(hr c).1.trans (by
      rw [(h c).1, (h c).2]; funext i; rw [eta2 (n := 4096) (k := 3072) i]; pointwise
      exact (nt_val (aA m c) (aB m c) (i 0) (i 1)).symm), (hr c).2⟩) (Cert.FRefIdeal.Value.run m' g')⟩

end Cert.FIdeal.Mat

namespace Cert.HGateIdeal.Mat

open Cert.HGateIdeal Cert.HGateIdeal.Gen

variable (m : (ℓ : Loc nD τ sig) → Buf (Elt Ideal) ℓ) (c : Dev nD)

abbrev aA : Arr 4096 2048 := m ((c : Thread nD τ).loc main_arg0)
abbrev aB : Arr 1024 2048 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nt (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1024) y]
    pointwise [k0_pay1, k0_pay2]
    exact nt_all _ _
      (fun r => at2_eq (aA m c) _ (show win0_0.index t 0 * 1024 + 1 * (y 0).val = _ by omega) (show win0_0.index t 1 * 2048 + 1 * r.val = _ by omega))
      (fun r => at2_eq (aB m c) _ (show win0_1.index t 0 * 1024 + 1 * (y 1).val = _ by omega) (show win0_1.index t 1 * 2048 + 1 * r.val = _ by omega))

theorem values : Cert.algebraic_HGateIdeal_HGateRefIdeal := fun m g m' g' _ h =>
  ⟨fun c i => nt (aA m c) (aB m c) (i 0).val (i 1).val,
    (θ_run _ _ _).mono (fun _ hr c => ⟨(hr c).1.trans (final m c), (hr c).2⟩) (Cert.HGateIdeal.Value.run_blocks m g),
    (θ_run _ _ _).mono (fun _ hr c => ⟨(hr c).1.trans (by
      rw [(h c).1, (h c).2]; funext i; rw [eta2 (n := 4096) (k := 1024) i]; pointwise
      exact (nt_val (aA m c) (aB m c) (i 0) (i 1)).symm), (hr c).2⟩) (Cert.HGateRefIdeal.Value.run m' g')⟩

end Cert.HGateIdeal.Mat
-- ==== Proof.GradH2.lean ====
module

public import proofs.«01_k».proof.Defs
public import proofs.«01_k».proof.Proof.MatMath
public import proofs.«01_k».proof.Proof.Gen.MergedIdeal.Value
public import proofs.«01_k».proof.Proof.Gen.MergedRefIdeal.Run
public import proofs.«01_k».proof.Proof.Gen.H3Ideal.Value
public import proofs.«01_k».proof.Proof.Gen.H3RefIdeal.Run
public import proofs.«01_k».proof.Proof.Gen.YaIdeal.Value
public import proofs.«01_k».proof.Proof.Gen.YaRefIdeal.Run
public import proofs.«01_k».proof.Proof.Gen.YbIdeal.Value
public import proofs.«01_k».proof.Proof.Gen.YbRefIdeal.Run

/-!
The gradients at the left factors of the smaller products: the merged branches, the gate of the per-layer
embedding, and the two branches. A tile holds the whole contraction.
-/

@[expose] public section

set_option maxRecDepth 16384

noncomputable section

open Cert.MatMath Finset Idealize.ShloMosaic Idealize.ShloMosaic.TcCoe Idealize.SL.Sem

namespace Cert.MergedIdeal.Mat

open Cert.MergedIdeal Cert.MergedIdeal.Gen

variable (m : (ℓ : Loc nD τ sig) → Buf (Elt Ideal) ℓ) (c : Dev nD)

abbrev aA : Arr 4096 1024 := m ((c : Thread nD τ).loc main_arg0)
abbrev aB : Arr 1024 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nt (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1024) y]
    pointwise [k0_pay1, k0_pay2, k0_pay3]
    exact nt_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 1024 + 1 * (y 1).val = _ by omega) (show win0_1.index t 1 * 1024 + 1 * r.val = _ by omega))

theorem values : Cert.algebraic_MergedIdeal_MergedRefIdeal := fun m g m' g' _ h =>
  ⟨fun c i => nt (aA m c) (aB m c) (i 0).val (i 1).val,
    (θ_run _ _ _).mono (fun _ hr c => ⟨(hr c).1.trans (final m c), (hr c).2⟩) (Cert.MergedIdeal.Value.run_blocks m g),
    (θ_run _ _ _).mono (fun _ hr c => ⟨(hr c).1.trans (by
      rw [(h c).1, (h c).2]; funext i; rw [eta2 (n := 4096) (k := 1024) i]; pointwise
      exact (nt_val (aA m c) (aB m c) (i 0) (i 1)).symm), (hr c).2⟩) (Cert.MergedRefIdeal.Value.run m' g')⟩

end Cert.MergedIdeal.Mat

namespace Cert.H3Ideal.Mat

open Cert.H3Ideal Cert.H3Ideal.Gen

variable (m : (ℓ : Loc nD τ sig) → Buf (Elt Ideal) ℓ) (c : Dev nD)

abbrev aA : Arr 4096 1024 := m ((c : Thread nD τ).loc main_arg0)
abbrev aB : Arr 1024 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nt (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1024) y]
    pointwise [k0_pay1, k0_pay2]
    exact nt_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 1024 + 1 * (y 1).val = _ by omega) (show win0_1.index t 1 * 1024 + 1 * r.val = _ by omega))

theorem values : Cert.algebraic_H3Ideal_H3RefIdeal := fun m g m' g' _ h =>
  ⟨fun c i => nt (aA m c) (aB m c) (i 0).val (i 1).val,
    (θ_run _ _ _).mono (fun _ hr c => ⟨(hr c).1.trans (final m c), (hr c).2⟩) (Cert.H3Ideal.Value.run_blocks m g),
    (θ_run _ _ _).mono (fun _ hr c => ⟨(hr c).1.trans (by
      rw [(h c).1, (h c).2]; funext i; rw [eta2 (n := 4096) (k := 1024) i]; pointwise
      exact (nt_val (aA m c) (aB m c) (i 0) (i 1)).symm), (hr c).2⟩) (Cert.H3RefIdeal.Value.run m' g')⟩

end Cert.H3Ideal.Mat

namespace Cert.YaIdeal.Mat

open Cert.YaIdeal Cert.YaIdeal.Gen

variable (m : (ℓ : Loc nD τ sig) → Buf (Elt Ideal) ℓ) (c : Dev nD)

abbrev aA : Arr 4096 1024 := m ((c : Thread nD τ).loc main_arg0)
abbrev aB : Arr 512 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nt (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 512) y]
    pointwise [k0_pay1, k0_pay2]
    exact nt_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 512 + 1 * (y 1).val = _ by omega) (show win0_1.index t 1 * 1024 + 1 * r.val = _ by omega))

theorem values : Cert.algebraic_YaIdeal_YaRefIdeal := fun m g m' g' _ h =>
  ⟨fun c i => nt (aA m c) (aB m c) (i 0).val (i 1).val,
    (θ_run _ _ _).mono (fun _ hr c => ⟨(hr c).1.trans (final m c), (hr c).2⟩) (Cert.YaIdeal.Value.run_blocks m g),
    (θ_run _ _ _).mono (fun _ hr c => ⟨(hr c).1.trans (by
      rw [(h c).1, (h c).2]; funext i; rw [eta2 (n := 4096) (k := 512) i]; pointwise
      exact (nt_val (aA m c) (aB m c) (i 0) (i 1)).symm), (hr c).2⟩) (Cert.YaRefIdeal.Value.run m' g')⟩

end Cert.YaIdeal.Mat

namespace Cert.YbIdeal.Mat

open Cert.YbIdeal Cert.YbIdeal.Gen

variable (m : (ℓ : Loc nD τ sig) → Buf (Elt Ideal) ℓ) (c : Dev nD)

abbrev aA : Arr 4096 1024 := m ((c : Thread nD τ).loc main_arg0)
abbrev aB : Arr 256 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nt (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 256) y]
    pointwise [k0_pay1, k0_pay2]
    exact nt_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 256 + 1 * (y 1).val = _ by omega) (show win0_1.index t 1 * 1024 + 1 * r.val = _ by omega))

theorem values : Cert.algebraic_YbIdeal_YbRefIdeal := fun m g m' g' _ h =>
  ⟨fun c i => nt (aA m c) (aB m c) (i 0).val (i 1).val,
    (θ_run _ _ _).mono (fun _ hr c => ⟨(hr c).1.trans (final m c), (hr c).2⟩) (Cert.YbIdeal.Value.run_blocks m g),
    (θ_run _ _ _).mono (fun _ hr c => ⟨(hr c).1.trans (by
      rw [(h c).1, (h c).2]; funext i; rw [eta2 (n := 4096) (k := 256) i]; pointwise
      exact (nt_val (aA m c) (aB m c) (i 0) (i 1)).symm), (hr c).2⟩) (Cert.YbRefIdeal.Value.run m' g')⟩

end Cert.YbIdeal.Mat
-- ==== Proof.Forward.lean ====
module

public import proofs.«01_k».proof.Defs
public import proofs.«01_k».proof.Proof.MatMath
public import proofs.«01_k».proof.Proof.Gen.FfnUpIdeal.Value
public import proofs.«01_k».proof.Proof.Gen.FfnUpRefIdeal.Run
public import proofs.«01_k».proof.Proof.Gen.FfnDownIdeal.Value
public import proofs.«01_k».proof.Proof.Gen.FfnDownRefIdeal.Run
public import proofs.«01_k».proof.Proof.Gen.ProjRwIdeal.Value
public import proofs.«01_k».proof.Proof.Gen.ProjRwRefIdeal.Run
public import proofs.«01_k».proof.Proof.Gen.ProjAttIdeal.Value
public import proofs.«01_k».proof.Proof.Gen.ProjAttRefIdeal.Run
public import proofs.«01_k».proof.Proof.Gen.MixOutIdeal.Value
public import proofs.«01_k».proof.Proof.Gen.MixOutRefIdeal.Run

/-!
The forward products of the feed-forward block, the two parts of the mixer's input projection, and its
output projection.
-/

@[expose] public section

set_option maxRecDepth 16384

noncomputable section

open Cert.MatMath Finset Idealize.ShloMosaic Idealize.ShloMosaic.TcCoe Idealize.SL.Sem

namespace Cert.FfnDownIdeal.Mat

open Cert.FfnDownIdeal Cert.FfnDownIdeal.Gen

variable (m : (ℓ : Loc nD τ sig) → Buf (Elt Ideal) ℓ) (c : Dev nD)

abbrev aA : Arr 4096 3072 := m ((c : Thread nD τ).loc main_arg0)
abbrev aB : Arr 3072 1024 := m ((c : Thread nD τ).loc main_arg1)
abbrev aC : Arr 4096 1024 := m ((c : Thread nD τ).loc main_arg2)

theorem idx : ∀ t : Fin cfg0.N, (win0_0.index t 0 = t.val / 2 ∧ win0_0.index t 1 = t.val % 2) ∧ (win0_1.index t 0 = t.val % 2 ∧ win0_1.index t 1 = 0) ∧
    (win0_2.index t 0 = t.val / 2 ∧ win0_2.index t 1 = 0) ∧ win0_3.index t 0 = t.val / 2 ∧ win0_3.index t 1 = 0 := (by decide +kernel : ∀ t : Fin grid0.N, _)

theorem acc (t : Fin cfg0.N) (ht : t.val % 2 = 1) (a b : Fin 1024) :
    (outsAt0 m c t.val t.isLt).2 (ix2 a b) = nn (aA m c) (aB m c) (1024 * (t.val / 2) + a.val) (0 + b.val) :=
  tile 2 1536 (fun a r => at2 (aA m c) a r) (fun b r => at2 (aB m c) r b) (1024 * ·) (fun _ => 0)
    (fun t a r => (iblk m c 0 t : Vec Ideal S1024x1536 .bf16) (ix2 a r)) (fun t b r => (iblk m c 1 t : Vec Ideal S1536x1024 .bf16) (ix2 r b))
    (fun n h => (outsAt0 m c n h).2)
    (fun t a r => by have hi := idx t; exact at2_eq (aA m c) _ (show win0_0.index t 0 * 1024 + 1 * a.val = _ by omega) (show win0_0.index t 1 * 1536 + 1 * r.val = _ by omega))
    (fun t b r => by have hi := idx t; exact at2_eq (aB m c) _ (show win0_1.index t 0 * 1536 + 1 * r.val = _ by omega) (show win0_1.index t 1 * 1024 + 1 * b.val = _ by omega))
    (fun t h a b => by rw [outsAt0_A m c t h (by omega)]; frame_out; pointwise [k0_pay1, k0_pay2])
    (fun t h a b => by rw [outsAt0_B m c t h (by omega)]; frame_out; rw [read_unread_whole]; pointwise [k0_pay2]) t (by omega) a b

/-- The product and the array it is added to. -/
def result : Buf (Elt Ideal) ((c : Thread nD τ).loc main_v0) := fun i => nn (aA m c) (aB m c) (i 0).val (i 1).val + at2 (aC m c) (i 0).val (i 1).val

theorem final : (dats m 0 c).arrAt 3 cfg0.N = result m c :=
  (dats m 0 c).arrAt_eq_of_covers 3 _ (by decide +kernel) fun t hf y => by
    have hi := idx t
    have ht := (flush0_3 t).mp hf
    have ha := acc m c t ht (y 0) (y 1)
    rw [outsAt0_B m c t (by omega) ht] at ha
    frame_out at ha
    blk_simp; rw [after0_3, outsAt0_B m c t (by omega) ht]; frame_out
    rw [eta2 (n := 1024) (k := 1024) y]
    pointwise [k0_pay3, result]
    exact congrArg₂ (fun x y : EReal => x + y)
      (ha.trans (congrArg₂ (nn _ _) (show 1024 * (t.val / 2) + (y 0).val = win0_3.index t 0 * 1024 + 1 * (y 0).val by omega)
        (show 0 + (y 1).val = win0_3.index t 1 * 1024 + 1 * (y 1).val by omega)))
      (at2_eq (aC m c) _ (show win0_2.index t 0 * 1024 + 1 * (y 0).val = win0_3.index t 0 * 1024 + 1 * (y 0).val by omega)
        (show win0_2.index t 1 * 1024 + 1 * (y 1).val = win0_3.index t 1 * 1024 + 1 * (y 1).val by omega))

theorem values : Cert.algebraic_FfnDownIdeal_FfnDownRefIdeal := fun m g m' g' _ h =>
  ⟨fun c => result m c,
    (θ_run _ _ _).mono (fun _ hr c => ⟨(hr c).1.trans (final m c), (hr c).2⟩) (Cert.FfnDownIdeal.Value.run_blocks m g),
    (θ_run _ _ _).mono (fun _ hr c => ⟨(hr c).1.trans (by
      rw [(h c).1, (h c).2.1, (h c).2.2]; funext i; rw [eta2 (n := 4096) (k := 1024) i]; pointwise [result]
      exact (add_comm _ _).trans (congrArg₂ (fun x y : EReal => x + y) (nn_val (aA m c) (aB m c) (i 0) (i 1)).symm (at2_of (aC m c) i))), (hr c).2⟩)
      (Cert.FfnDownRefIdeal.Value.run m' g')⟩

end Cert.FfnDownIdeal.Mat

namespace Cert.MixOutIdeal.Mat

open Cert.MixOutIdeal Cert.MixOutIdeal.Gen

variable (m : (ℓ : Loc nD τ sig) → Buf (Elt Ideal) ℓ) (c : Dev nD)

abbrev aA : Arr 4096 1024 := m ((c : Thread nD τ).loc main_arg0)
abbrev aB : Arr 1024 1024 := m ((c : Thread nD τ).loc main_arg1)
abbrev aC : Arr 4096 1024 := m ((c : Thread nD τ).loc main_arg2)

theorem idx : ∀ t : Fin cfg0.N, (win0_0.index t 0 = t.val ∧ win0_0.index t 1 = 0) ∧ (win0_1.index t 0 = 0 ∧ win0_1.index t 1 = 0) ∧
    (win0_2.index t 0 = t.val ∧ win0_2.index t 1 = 0) ∧ win0_3.index t 0 = t.val ∧ win0_3.index t 1 = 0 := (by decide +kernel : ∀ t : Fin grid0.N, _)

/-- The product and the array it is added to. -/
def result : Buf (Elt Ideal) ((c : Thread nD τ).loc main_v0) := fun i => nn (aA m c) (aB m c) (i 0).val (i 1).val + at2 (aC m c) (i 0).val (i 1).val

theorem final : (dats m 0 c).arrAt 3 cfg0.N = result m c :=
  (dats m 0 c).arrAt_eq_of_covers 3 _ (by decide +kernel) fun t _ y => by
    have hi := idx t
    blk_simp; rw [after0_3]; unfold outsAt0; frame_out
    rw [eta2 (n := 1024) (k := 1024) y]
    pointwise [k0_pay1, k0_pay2, k0_pay3, result]
    exact congrArg₂ (fun x y : EReal => x + y)
      (nn_all (aA m c) (aB m c)
        (fun r => at2_eq (aA m c) _ (show win0_0.index t 0 * 1024 + 1 * (y 0).val = win0_3.index t 0 * 1024 + 1 * (y 0).val by omega) (show win0_0.index t 1 * 1024 + 1 * r.val = _ by omega))
        (fun r => at2_eq (aB m c) _ (show win0_1.index t 0 * 1024 + 1 * r.val = _ by omega) (show win0_1.index t 1 * 1024 + 1 * (y 1).val = win0_3.index t 1 * 1024 + 1 * (y 1).val by omega)))
      (at2_eq (aC m c) _ (show win0_2.index t 0 * 1024 + 1 * (y 0).val = win0_3.index t 0 * 1024 + 1 * (y 0).val by omega)
        (show win0_2.index t 1 * 1024 + 1 * (y 1).val = win0_3.index t 1 * 1024 + 1 * (y 1).val by omega))

theorem values : Cert.algebraic_MixOutIdeal_MixOutRefIdeal := fun m g m' g' _ h =>
  ⟨fun c => result m c,
    (θ_run _ _ _).mono (fun _ hr c => ⟨(hr c).1.trans (final m c), (hr c).2⟩) (Cert.MixOutIdeal.Value.run_blocks m g),
    (θ_run _ _ _).mono (fun _ hr c => ⟨(hr c).1.trans (by
      rw [(h c).1, (h c).2.1, (h c).2.2]; funext i; rw [eta2 (n := 4096) (k := 1024) i]; pointwise [result]
      exact (add_comm _ _).trans (congrArg₂ (fun x y : EReal => x + y) (nn_val (aA m c) (aB m c) (i 0) (i 1)).symm (at2_of (aC m c) i))), (hr c).2⟩)
      (Cert.MixOutRefIdeal.Value.run m' g')⟩

end Cert.MixOutIdeal.Mat

namespace Cert.FfnUpIdeal.Mat

open Cert.FfnUpIdeal Cert.FfnUpIdeal.Gen

variable (m : (ℓ : Loc nD τ sig) → Buf (Elt Ideal) ℓ) (c : Dev nD)

abbrev aA : Arr 4096 1024 := m ((c : Thread nD τ).loc main_arg0)
abbrev aB : Arr 1024 6144 := m ((c : Thread nD τ).loc main_arg1)

theorem idx : ∀ t : Fin cfg0.N, (win0_0.index t 0 = t.val / 3 ∧ win0_0.index t 1 = 0) ∧ (win0_1.index t 0 = 0 ∧ win0_1.index t 1 = t.val % 3) ∧
    win0_2.index t 0 = t.val / 3 ∧ win0_2.index t 1 = t.val % 3 := (by decide +kernel : ∀ t : Fin grid0.N, _)

theorem final : (dats m 0 c).arrAt 2 cfg0.N = fun i => nn (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 2048) y]
    pointwise [k0_pay1, k0_pay2]
    exact nn_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 1024 + 1 * r.val = _ by omega) (show win0_1.index t 1 * 2048 + 1 * (y 1).val = _ by omega))

theorem values : Cert.algebraic_FfnUpIdeal_FfnUpRefIdeal := fun m g m' g' _ h =>
  ⟨fun c i => nn (aA m c) (aB m c) (i 0).val (i 1).val,
    (θ_run _ _ _).mono (fun _ hr c => ⟨(hr c).1.trans (final m c), (hr c).2⟩) (Cert.FfnUpIdeal.Value.run_blocks m g),
    (θ_run _ _ _).mono (fun _ hr c => ⟨(hr c).1.trans (by
      rw [(h c).1, (h c).2]; funext i; rw [eta2 (n := 4096) (k := 6144) i]; pointwise
      exact (nn_val (aA m c) (aB m c) (i 0) (i 1)).symm), (hr c).2⟩) (Cert.FfnUpRefIdeal.Value.run m' g')⟩

end Cert.FfnUpIdeal.Mat

namespace Cert.ProjRwIdeal.Mat

open Cert.ProjRwIdeal Cert.ProjRwIdeal.Gen

variable (m : (ℓ : Loc nD τ sig) → Buf (Elt Ideal) ℓ) (c : Dev nD)

abbrev aA : Arr 4096 1024 := m ((c : Thread nD τ).loc main_arg0)
abbrev aB : Arr 1024 2048 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nn (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 2048) y]
    pointwise [k0_pay1, k0_pay2]
    exact nn_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 1024 + 1 * r.val = _ by omega) (show win0_1.index t 1 * 2048 + 1 * (y 1).val = _ by omega))

theorem values : Cert.algebraic_ProjRwIdeal_ProjRwRefIdeal := fun m g m' g' _ h =>
  ⟨fun c i => nn (aA m c) (aB m c) (i 0).val (i 1).val,
    (θ_run _ _ _).mono (fun _ hr c => ⟨(hr c).1.trans (final m c), (hr c).2⟩) (Cert.ProjRwIdeal.Value.run_blocks m g),
    (θ_run _ _ _).mono (fun _ hr c => ⟨(hr c).1.trans (by
      rw [(h c).1, (h c).2]; funext i; rw [eta2 (n := 4096) (k := 2048) i]; pointwise
      exact (nn_val (aA m c) (aB m c) (i 0) (i 1)).symm), (hr c).2⟩) (Cert.ProjRwRefIdeal.Value.run m' g')⟩

end Cert.ProjRwIdeal.Mat

namespace Cert.ProjAttIdeal.Mat

open Cert.ProjAttIdeal Cert.ProjAttIdeal.Gen

variable (m : (ℓ : Loc nD τ sig) → Buf (Elt Ideal) ℓ) (c : Dev nD)

abbrev aA : Arr 4096 1024 := m ((c : Thread nD τ).loc main_arg0)
abbrev aB : Arr 1024 2304 := m ((c : Thread nD τ).loc main_arg1)

theorem idx : ∀ t : Fin cfg0.N, (win0_0.index t 0 = t.val / 3 ∧ win0_0.index t 1 = 0) ∧ (win0_1.index t 0 = 0 ∧ win0_1.index t 1 = t.val % 3) ∧
    win0_2.index t 0 = t.val / 3 ∧ win0_2.index t 1 = t.val % 3 := (by decide +kernel : ∀ t : Fin grid0.N, _)

theorem final : (dats m 0 c).arrAt 2 cfg0.N = fun i => nn (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 768) y]
    pointwise [k0_pay1, k0_pay2, k0_pay3]
    exact nn_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 1024 + 1 * r.val = _ by omega) (show win0_1.index t 1 * 768 + 1 * (y 1).val = _ by omega))

theorem values : Cert.algebraic_ProjAttIdeal_ProjAttRefIdeal := fun m g m' g' _ h =>
  ⟨fun c i => nn (aA m c) (aB m c) (i 0).val (i 1).val,
    (θ_run _ _ _).mono (fun _ hr c => ⟨(hr c).1.trans (final m c), (hr c).2⟩) (Cert.ProjAttIdeal.Value.run_blocks m g),
    (θ_run _ _ _).mono (fun _ hr c => ⟨(hr c).1.trans (by
      rw [(h c).1, (h c).2]; funext i; rw [eta2 (n := 4096) (k := 2304) i]; pointwise
      exact (nn_val (aA m c) (aB m c) (i 0) (i 1)).symm), (hr c).2⟩) (Cert.ProjAttRefIdeal.Value.run m' g')⟩

end Cert.ProjAttIdeal.Mat
-- ==== Proof.Forward2.lean ====
module

public import proofs.«01_k».proof.Defs
public import proofs.«01_k».proof.Proof.MatMath
public import proofs.«01_k».proof.Proof.Gen.BranchAIdeal.Value
public import proofs.«01_k».proof.Proof.Gen.BranchARefIdeal.Run
public import proofs.«01_k».proof.Proof.Gen.BranchBIdeal.Value
public import proofs.«01_k».proof.Proof.Gen.BranchBRefIdeal.Run
public import proofs.«01_k».proof.Proof.Gen.PleGateIdeal.Value
public import proofs.«01_k».proof.Proof.Gen.PleGateRefIdeal.Run
public import proofs.«01_k».proof.Proof.Gen.PleEmbedIdeal.Value
public import proofs.«01_k».proof.Proof.Gen.PleEmbedRefIdeal.Run

/-!
The smaller forward products: the two branches' projections, and the per-layer embedding with its gate. A
tile holds the whole contraction.
-/

@[expose] public section

set_option maxRecDepth 16384

noncomputable section

open Cert.MatMath Finset Idealize.ShloMosaic Idealize.ShloMosaic.TcCoe Idealize.SL.Sem

namespace Cert.BranchAIdeal.Mat

open Cert.BranchAIdeal Cert.BranchAIdeal.Gen

variable (m : (ℓ : Loc nD τ sig) → Buf (Elt Ideal) ℓ) (c : Dev nD)

abbrev aA : Arr 4096 512 := m ((c : Thread nD τ).loc main_arg0)
abbrev aB : Arr 512 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nn (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1024) y]
    pointwise [k0_pay1, k0_pay2]
    exact nn_all _ _
      (fun r => at2_eq (aA m c) _ (show win0_0.index t 0 * 1024 + 1 * (y 0).val = _ by omega) (show win0_0.index t 1 * 512 + 1 * r.val = _ by omega))
      (fun r => at2_eq (aB m c) _ (show win0_1.index t 0 * 512 + 1 * r.val = _ by omega) (show win0_1.index t 1 * 1024 + 1 * (y 1).val = _ by omega))

theorem values : Cert.algebraic_BranchAIdeal_BranchARefIdeal := fun m g m' g' _ h =>
  ⟨fun c i => nn (aA m c) (aB m c) (i 0).val (i 1).val,
    (θ_run _ _ _).mono (fun _ hr c => ⟨(hr c).1.trans (final m c), (hr c).2⟩) (Cert.BranchAIdeal.Value.run_blocks m g),
    (θ_run _ _ _).mono (fun _ hr c => ⟨(hr c).1.trans (by
      rw [(h c).1, (h c).2]; funext i; rw [eta2 (n := 4096) (k := 1024) i]; pointwise
      exact (nn_val (aA m c) (aB m c) (i 0) (i 1)).symm), (hr c).2⟩) (Cert.BranchARefIdeal.Value.run m' g')⟩

end Cert.BranchAIdeal.Mat

namespace Cert.BranchBIdeal.Mat

open Cert.BranchBIdeal Cert.BranchBIdeal.Gen

variable (m : (ℓ : Loc nD τ sig) → Buf (Elt Ideal) ℓ) (c : Dev nD)

abbrev aA : Arr 4096 256 := m ((c : Thread nD τ).loc main_arg0)
abbrev aB : Arr 256 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nn (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1024) y]
    pointwise [k0_pay1, k0_pay2]
    exact nn_all _ _
      (fun r => at2_eq (aA m c) _ (show win0_0.index t 0 * 1024 + 1 * (y 0).val = _ by omega) (show win0_0.index t 1 * 256 + 1 * r.val = _ by omega))
      (fun r => at2_eq (aB m c) _ (show win0_1.index t 0 * 256 + 1 * r.val = _ by omega) (show win0_1.index t 1 * 1024 + 1 * (y 1).val = _ by omega))

theorem values : Cert.algebraic_BranchBIdeal_BranchBRefIdeal := fun m g m' g' _ h =>
  ⟨fun c i => nn (aA m c) (aB m c) (i 0).val (i 1).val,
    (θ_run _ _ _).mono (fun _ hr c => ⟨(hr c).1.trans (final m c), (hr c).2⟩) (Cert.BranchBIdeal.Value.run_blocks m g),
    (θ_run _ _ _).mono (fun _ hr c => ⟨(hr c).1.trans (by
      rw [(h c).1, (h c).2]; funext i; rw [eta2 (n := 4096) (k := 1024) i]; pointwise
      exact (nn_val (aA m c) (aB m c) (i 0) (i 1)).symm), (hr c).2⟩) (Cert.BranchBRefIdeal.Value.run m' g')⟩

end Cert.BranchBIdeal.Mat

namespace Cert.PleGateIdeal.Mat

open Cert.PleGateIdeal Cert.PleGateIdeal.Gen

variable (m : (ℓ : Loc nD τ sig) → Buf (Elt Ideal) ℓ) (c : Dev nD)

abbrev aA : Arr 4096 1024 := m ((c : Thread nD τ).loc main_arg0)
abbrev aB : Arr 1024 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nn (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1024) y]
    pointwise [k0_pay1, k0_pay2]
    exact nn_all _ _
      (fun r => at2_eq (aA m c) _ (show win0_0.index t 0 * 1024 + 1 * (y 0).val = _ by omega) (show win0_0.index t 1 * 1024 + 1 * r.val = _ by omega))
      (fun r => at2_eq (aB m c) _ (show win0_1.index t 0 * 1024 + 1 * r.val = _ by omega) (show win0_1.index t 1 * 1024 + 1 * (y 1).val = _ by omega))

theorem values : Cert.algebraic_PleGateIdeal_PleGateRefIdeal := fun m g m' g' _ h =>
  ⟨fun c i => nn (aA m c) (aB m c) (i 0).val (i 1).val,
    (θ_run _ _ _).mono (fun _ hr c => ⟨(hr c).1.trans (final m c), (hr c).2⟩) (Cert.PleGateIdeal.Value.run_blocks m g),
    (θ_run _ _ _).mono (fun _ hr c => ⟨(hr c).1.trans (by
      rw [(h c).1, (h c).2]; funext i; rw [eta2 (n := 4096) (k := 1024) i]; pointwise
      exact (nn_val (aA m c) (aB m c) (i 0) (i 1)).symm), (hr c).2⟩) (Cert.PleGateRefIdeal.Value.run m' g')⟩

end Cert.PleGateIdeal.Mat

namespace Cert.PleEmbedIdeal.Mat

open Cert.PleEmbedIdeal Cert.PleEmbedIdeal.Gen

variable (m : (ℓ : Loc nD τ sig) → Buf (Elt Ideal) ℓ) (c : Dev nD)

abbrev aA : Arr 4096 256 := m ((c : Thread nD τ).loc main_arg0)
abbrev aB : Arr 256 1024 := m ((c : Thread nD τ).loc main_arg1)

theorem idx : ∀ t : Fin cfg0.N, (win0_0.index t 0 = t.val ∧ win0_0.index t 1 = 0) ∧ (win0_1.index t 0 = 0 ∧ win0_1.index t 1 = 0) ∧
    win0_2.index t 0 = t.val ∧ win0_2.index t 1 = 0 := (by decide +kernel : ∀ t : Fin grid0.N, _)

theorem final : (dats m 0 c).arrAt 2 cfg0.N = fun i => nn (aA m c) (aB m c) (i 0).val (i 1).val :=
  (dats m 0 c).arrAt_eq_of_covers 2 _ (by decide +kernel) fun t _ y => by
    have hi := idx t
    blk_simp; rw [after0_2]; unfold outsAt0; frame_out
    rw [eta2 (n := 1024) (k := 1024) y]
    pointwise [k0_pay1, k0_pay2]
    exact nn_all _ _
      (fun r => at2_eq (aA m c) _ (show win0_0.index t 0 * 1024 + 1 * (y 0).val = _ by omega) (show win0_0.index t 1 * 256 + 1 * r.val = _ by omega))
      (fun r => at2_eq (aB m c) _ (show win0_1.index t 0 * 256 + 1 * r.val = _ by omega) (show win0_1.index t 1 * 1024 + 1 * (y 1).val = _ by omega))

theorem values : Cert.algebraic_PleEmbedIdeal_PleEmbedRefIdeal := fun m g m' g' _ h =>
  ⟨fun c i => nn (aA m c) (aB m c) (i 0).val (i 1).val,
    (θ_run _ _ _).mono (fun _ hr c => ⟨(hr c).1.trans (final m c), (hr c).2⟩) (Cert.PleEmbedIdeal.Value.run_blocks m g),
    (θ_run _ _ _).mono (fun _ hr c => ⟨(hr c).1.trans (by
      rw [(h c).1, (h c).2]; funext i; rw [eta2 (n := 4096) (k := 1024) i]; pointwise
      exact (nn_val (aA m c) (aB m c) (i 0) (i 1)).symm), (hr c).2⟩) (Cert.PleEmbedRefIdeal.Value.run m' g')⟩

end Cert.PleEmbedIdeal.Mat
-- ==== Proof.NormMath.lean ====
module

public import proofs.«01_k».proof.Proof.MatMath

/-!
The root-mean-square norm of a row of 1024 numbers, and its gradient, over the extended reals.
-/

@[expose] public section

noncomputable section

namespace Cert.NormMath

open Finset Idealize.ShloMosaic Cert.MatMath

/-- The mean square of a row and the small constant. -/
def ms (X : Fin 1024 → EReal) : EReal :=
  Ideal.div (∑ k, X k * X k) (Ideal.ofBits .f32 1149239296#32) + Ideal.ofBits .f32 897988541#32

/-- The gradient at the mean square, spread over the row. -/
def dms (X D G : Fin 1024 → EReal) : EReal :=
  ∑ _k : Fin 1, Ideal.div ((∑ k, X k * (D k * G k)) * (Ideal.ofBits .f32 3204448256#32 * Ideal.div (Ideal.rsqrt (ms X)) (ms X)))
    (Ideal.ofBits .f32 1149239296#32)

/-- One number of the gradient at a row, added to what comes past the norm. `X`, `D`, `G` are the row, the gradient at the
norm and the gains; `x`, `d`, `g` are theirs at the place, and `r` what is added. -/
def dx (X D G : Fin 1024 → EReal) (x d g r : EReal) : EReal :=
  r + (d * g * Ideal.rsqrt (ms X) + x * dms X D G + dms X D G * x)

/-- Row `a` of an array. -/
abbrev row {n : ℕ} (A : Arr n 1024) (a : ℕ) : Fin 1024 → EReal := fun k => at2 A a k.val

theorem row_val {n : ℕ} (A : Arr n 1024) (a : Fin n) : row A a.val = fun k => A (ix2 a k) :=
  funext fun k => at2_val A a k

/-- The norm of an array's rows. -/
abbrev normAt {n : ℕ} (X : Arr n 1024) (G : Arr 1 1024) (a b : ℕ) : EReal :=
  at2 X a b * Ideal.rsqrt (ms (row X a)) * at2 G 0 b

/-- The gradient at an array, row by row. -/
abbrev dxAt {n : ℕ} (X : Arr n 1024) (G : Arr 1 1024) (D R : Arr n 1024) (a b : ℕ) : EReal :=
  dx (row X a) (row D a) (row G 0) (at2 X a b) (at2 D a b) (at2 G 0 b) (at2 R a b)

/-- What row `a` adds to the gradient at gain `b`. -/
abbrev dgTerm {n : ℕ} (X D : Arr n 1024) (b a : ℕ) : EReal := at2 X a b * Ideal.rsqrt (ms (row X a)) * at2 D a b

/-- The gradient at gain `b`. -/
abbrev dgAt {n : ℕ} (X D : Arr n 1024) (b : ℕ) : EReal := ∑ r : Fin n, dgTerm X D b r.val

theorem dx_eq {X X' D D' G G' : Fin 1024 → EReal} {x x' d d' g g' r r' : EReal} (hX : X = X') (hD : D = D') (hG : G = G')
    (hx : x = x') (hd : d = d') (hg : g = g') (hr : r = r') : dx X D G x d g r = dx X' D' G' x' d' g' r' := by
  rw [hX, hD, hG, hx, hd, hg, hr]

theorem norm_eq {X X' : Fin 1024 → EReal} {x x' d d' : EReal} (hX : X = X') (hx : x = x') (hd : d = d') :
    x * Ideal.rsqrt (ms X) * d = x' * Ideal.rsqrt (ms X') * d' := by
  rw [hX, hx, hd]

theorem dx_val {n : ℕ} (X : Arr n 1024) (G : Arr 1 1024) (D R : Arr n 1024) (a : Fin n) (b : Fin 1024) :
    dx (fun k => X (ix2 a k)) (fun k => D (ix2 a k)) (fun k => G (ix2 0 k)) (X (ix2 a b)) (D (ix2 a b)) (G (ix2 0 b)) (R (ix2 a b))
      = dxAt X G D R a.val b.val :=
  dx_eq (row_val X a).symm (row_val D a).symm (row_val G 0).symm (at2_val X a b).symm (at2_val D a b).symm (at2_val G 0 b).symm
    (at2_val R a b).symm

/-- What a block of rows adds to the gradient at gain `b`. -/
abbrev dgTile (X D : Arr 512 1024) (b : Fin 1024) : EReal :=
  ∑ a : Fin 512, X (ix2 a b) * Ideal.rsqrt (ms fun k => X (ix2 a k)) * D (ix2 a b)

/-- The gains' gradient added up block by block over eight blocks of rows `X t` and `D t` of the arrays `A` and `B`. -/
theorem dg_runs {N : ℕ} (A B : Arr 4096 1024) (X D : Fin N → Arr 512 1024)
    (hX : ∀ t a b, X t (ix2 a b) = at2 A (512 * (t.val % 8) + a.val) b.val)
    (hD : ∀ t a b, D t (ix2 a b) = at2 B (512 * (t.val % 8) + a.val) b.val) (f : (n : ℕ) → n < N → Arr 1 1024)
    (h0 : ∀ t : Fin N, t.val % 8 = 0 → ∀ b, f t.val t.isLt (ix2 0 b) = dgTile (X t) (D t) b)
    (hs : ∀ t : Fin N, ¬t.val % 8 = 0 → ∀ b, f t.val t.isLt (ix2 0 b)
      = f (t.val - 1) (Nat.lt_of_le_of_lt (Nat.sub_le _ _) t.isLt) (ix2 0 b) + dgTile (X t) (D t) b)
    (t : Fin N) (ht : t.val % 8 + 1 = 8) (b : Fin 1024) : f t.val t.isLt (ix2 0 b) = dgAt A B b.val :=
  acc_runs (fun n h (b : Fin 1024) => f n h (ix2 0 b)) 8 512 (fun _ b => dgTerm A B b.val)
    (fun t h b => by simp only [h0 t h, dgTile, hX, hD, run, zero_add]) (fun t h b => by simp only [hs t h, dgTile, hX, hD, run]) t ht b

end Cert.NormMath

end
-- ==== Proof.Norm.lean ====
module

public import proofs.«01_k».proof.Defs
public import proofs.«01_k».proof.Proof.NormMath
public import proofs.«01_k».proof.Proof.Gen.RmsIdeal.Value
public import proofs.«01_k».proof.Proof.Gen.RmsRefIdeal.Run
public import proofs.«01_k».proof.Proof.Gen.RmsBwdIdeal.Value
public import proofs.«01_k».proof.Proof.Gen.RmsBwdRefIdeal.Run
public import proofs.«01_k».proof.Proof.Gen.RmsMixBwdIdeal.Value
public import proofs.«01_k».proof.Proof.Gen.RmsMixBwdRefIdeal.Run

/-!
The root-mean-square norm and its gradient: eight tiles of 512 rows, the gradient at the gains summed over
the tiles.
-/

@[expose] public section

set_option maxRecDepth 16384

noncomputable section

open Cert.MatMath Cert.NormMath Finset Idealize.ShloMosaic Idealize.ShloMosaic.TcCoe Idealize.SL.Sem

namespace Cert.RmsIdeal.Row

open Cert.RmsIdeal Cert.RmsIdeal.Gen

variable (m : (ℓ : Loc nD τ sig) → Buf (Elt Ideal) ℓ) (c : Dev nD)

abbrev aX : Arr 4096 1024 := m ((c : Thread nD τ).loc main_arg0)
abbrev aG : Arr 1 1024 := m ((c : Thread nD τ).loc main_arg1)

theorem idx : ∀ t : Fin cfg0.N, (win0_0.index t 0 = t.val % 8 ∧ win0_0.index t 1 = 0) ∧ (win0_1.index t 0 = 0 ∧ win0_1.index t 1 = 0) ∧
    win0_2.index t 0 = t.val % 8 ∧ win0_2.index t 1 = 0 := (by decide +kernel : ∀ t : Fin grid0.N, _)

/-- A block of the rows, and the gains' block. -/
theorem blkX (t : Fin cfg0.N) (a : Fin 512) (b : Fin 1024) :
    (iblk m c 0 t : Vec Ideal S512x1024 .f32) (ix2 a b) = at2 (aX m c) (512 * (t.val % 8) + a.val) b.val := by
  have hi := idx t
  exact at2_eq (aX m c) _ (show win0_0.index t 0 * 512 + 1 * a.val = _ by omega) (show win0_0.index t 1 * 1024 + 1 * b.val = _ by omega)
theorem blkG (t : Fin cfg0.N) (b : Fin 1024) : (iblk m c 1 t : Vec Ideal S1x1024 .f32) (ix2 0 b) = at2 (aG m c) 0 b.val := by
  have hi := idx t
  exact at2_eq (aG m c) _ (show win0_1.index t 0 * 1 + 1 * 0 = _ by omega) (show win0_1.index t 1 * 1024 + 1 * b.val = _ by omega)

theorem final : (dats m 0 c).arrAt 2 cfg0.N = fun i => normAt (aX m c) (aG m c) (i 0).val (i 1).val :=
  (dats m 0 c).arrAt_eq_of_covers 2 _ (by decide +kernel) fun t _ y => by
    have hi := idx t
    obtain ⟨a, b, rfl⟩ : ∃ (a : Fin 512) (b : Fin 1024), y = ix2 a b := ⟨y 0, y 1, eta2 (n := 512) (k := 1024) y⟩
    blk_simp; rw [after0_2]; frame_out
    pointwise [k0_pay1]
    rw [show win0_2.index t 0 * 512 + a.val = 512 * (t.val % 8) + a.val by omega, show win0_2.index t 1 * 1024 + b.val = b.val by omega]
    exact norm_eq (funext fun k => blkX m c t a k) (blkX m c t a b) (blkG m c t b)

theorem values : Cert.algebraic_RmsIdeal_RmsRefIdeal := fun m g m' g' _ h =>
  ⟨fun c i => normAt (aX m c) (aG m c) (i 0).val (i 1).val,
    (θ_run _ _ _).mono (fun _ hr c => ⟨(hr c).1.trans (final m c), (hr c).2⟩) (Cert.RmsIdeal.Value.run_blocks m g),
    (θ_run _ _ _).mono (fun _ hr c => ⟨(hr c).1.trans (by
      rw [(h c).1, (h c).2]; funext i
      obtain ⟨a, b, rfl⟩ : ∃ (a : Fin 4096) (b : Fin 1024), i = ix2 a b := ⟨i 0, i 1, eta2 (n := 4096) (k := 1024) i⟩
      pointwise
      exact norm_eq (row_val (aX m c) a).symm (at2_val (aX m c) a b).symm (at2_val (aG m c) 0 b).symm), (hr c).2⟩)
      (Cert.RmsRefIdeal.Value.run m' g')⟩

end Cert.RmsIdeal.Row

namespace Cert.RmsBwdIdeal.Row

open Cert.RmsBwdIdeal Cert.RmsBwdIdeal.Gen

variable (m : (ℓ : Loc nD τ sig) → Buf (Elt Ideal) ℓ) (c : Dev nD)

abbrev aX : Arr 4096 1024 := m ((c : Thread nD τ).loc main_arg0)
abbrev aG : Arr 1 1024 := m ((c : Thread nD τ).loc main_arg1)
abbrev aD : Arr 4096 1024 := m ((c : Thread nD τ).loc main_arg2)
abbrev aR : Arr 4096 1024 := m ((c : Thread nD τ).loc main_arg3)

theorem idx : ∀ t : Fin cfg0.N, (win0_0.index t 0 = t.val % 8 ∧ win0_0.index t 1 = 0) ∧ (win0_1.index t 0 = 0 ∧ win0_1.index t 1 = 0) ∧
    (win0_2.index t 0 = t.val % 8 ∧ win0_2.index t 1 = 0) ∧ (win0_3.index t 0 = t.val % 8 ∧ win0_3.index t 1 = 0) ∧
    (win0_4.index t 0 = t.val % 8 ∧ win0_4.index t 1 = 0) ∧ (win0_5.index t 0 = t.val % 8 ∧ win0_5.index t 1 = 0) ∧
    win0_6.index t 0 = 0 ∧ win0_6.index t 1 = 0 := (by decide +kernel : ∀ t : Fin grid0.N, _)

/-- The four inputs' blocks. -/
theorem blkX (t : Fin cfg0.N) (a : Fin 512) (b : Fin 1024) :
    (iblk m c 0 t : Vec Ideal S512x1024 .f32) (ix2 a b) = at2 (aX m c) (512 * (t.val % 8) + a.val) b.val := by
  have hi := idx t
  exact at2_eq (aX m c) _ (show win0_0.index t 0 * 512 + 1 * a.val = _ by omega) (show win0_0.index t 1 * 1024 + 1 * b.val = _ by omega)
theorem blkG (t : Fin cfg0.N) (b : Fin 1024) : (iblk m c 1 t : Vec Ideal S1x1024 .f32) (ix2 0 b) = at2 (aG m c) 0 b.val := by
  have hi := idx t
  exact at2_eq (aG m c) _ (show win0_1.index t 0 * 1 + 1 * 0 = _ by omega) (show win0_1.index t 1 * 1024 + 1 * b.val = _ by omega)
theorem blkD (t : Fin cfg0.N) (a : Fin 512) (b : Fin 1024) :
    (iblk m c 2 t : Vec Ideal S512x1024 .f32) (ix2 a b) = at2 (aD m c) (512 * (t.val % 8) + a.val) b.val := by
  have hi := idx t
  exact at2_eq (aD m c) _ (show win0_2.index t 0 * 512 + 1 * a.val = _ by omega) (show win0_2.index t 1 * 1024 + 1 * b.val = _ by omega)
theorem blkR (t : Fin cfg0.N) (a : Fin 512) (b : Fin 1024) :
    (iblk m c 3 t : Vec Ideal S512x1024 .f32) (ix2 a b) = at2 (aR m c) (512 * (t.val % 8) + a.val) b.val := by
  have hi := idx t
  exact at2_eq (aR m c) _ (show win0_3.index t 0 * 512 + 1 * a.val = _ by omega) (show win0_3.index t 1 * 1024 + 1 * b.val = _ by omega)

/-- What a tile computes of the gradient at the rows. -/
theorem tileX (t : Fin cfg0.N) (a : Fin 512) (b : Fin 1024) :
    k0_pay6 (iblk m c 0 t) (iblk m c 1 t) (iblk m c 2 t) (iblk m c 3 t) (ix2 a b)
      = dxAt (aX m c) (aG m c) (aD m c) (aR m c) (512 * (t.val % 8) + a.val) b.val := by
  pointwise [k0_pay3, k0_pay4, k0_pay5, k0_pay6]
  exact dx_eq (funext fun k => blkX m c t a k) (funext fun k => blkD m c t a k) (funext fun k => blkG m c t k)
    (blkX m c t a b) (blkD m c t a b) (blkG m c t b) (blkR m c t a b)

theorem final4 : (dats m 0 c).arrAt 4 cfg0.N = fun i => dxAt (aX m c) (aG m c) (aD m c) (aR m c) (i 0).val (i 1).val :=
  (dats m 0 c).arrAt_eq_of_covers 4 _ (by decide +kernel) fun t _ y => by
    have hi := idx t
    obtain ⟨a, b, rfl⟩ : ∃ (a : Fin 512) (b : Fin 1024), y = ix2 a b := ⟨y 0, y 1, eta2 (n := 512) (k := 1024) y⟩
    blk_simp
    rw [after0_4, show win0_4.index t 0 * 512 + a.val = 512 * (t.val % 8) + a.val by omega, show win0_4.index t 1 * 1024 + b.val = b.val by omega]
    refine Eq.trans ?_ (tileX m c t a b)
    by_cases h0 : t.val % 8 = 0
    · rw [outsAt0_A m c t h0]; frame_out
    · rw [outsAt0_B m c t h0]; frame_out

theorem final5 : (dats m 0 c).arrAt 5 cfg0.N = fun i => dxAt (aX m c) (aG m c) (aD m c) (aR m c) (i 0).val (i 1).val :=
  (dats m 0 c).arrAt_eq_of_covers 5 _ (by decide +kernel) fun t _ y => by
    have hi := idx t
    obtain ⟨a, b, rfl⟩ : ∃ (a : Fin 512) (b : Fin 1024), y = ix2 a b := ⟨y 0, y 1, eta2 (n := 512) (k := 1024) y⟩
    blk_simp
    rw [after0_5, show win0_5.index t 0 * 512 + a.val = 512 * (t.val % 8) + a.val by omega, show win0_5.index t 1 * 1024 + b.val = b.val by omega]
    refine Eq.trans ?_ (tileX m c t a b)
    by_cases h0 : t.val % 8 = 0
    · rw [outsAt0_A m c t h0]; frame_out; rfl
    · rw [outsAt0_B m c t h0]; frame_out; rfl

/-- The gains' gradient after the last tile. -/
theorem acc : ∀ (t : Fin cfg0.N), t.val % 8 + 1 = 8 → ∀ b : Fin 1024, (outsAt0 m c t.val t.isLt).2.2 (ix2 0 b) = dgAt (aX m c) (aD m c) b.val :=
  dg_runs (aX m c) (aD m c) (fun t => iblk m c 0 t) (fun t => iblk m c 2 t) (blkX m c) (blkD m c) (fun n h => (outsAt0 m c n h).2.2)
    (fun t h b => by
      rw [outsAt0_A m c t h]; frame_out
      pointwise [k0_pay1, k0_pay2, k0_pay3, k0_pay4, k0_pay5, k0_pay7]
      rfl)
    (fun t h b => by
      rw [outsAt0_B m c t h]; frame_out
      pointwise [k0_pay1, k0_pay2, k0_pay3, k0_pay4, k0_pay5, k0_pay7]
      rfl)

theorem final6 : (dats m 0 c).arrAt 6 cfg0.N = fun i => dgAt (aX m c) (aD m c) (i 1).val :=
  (dats m 0 c).arrAt_eq_of_covers 6 _ (by decide +kernel) fun t hf y => by
    have hi := idx t
    have ht := (flush0_6 t).mp hf
    obtain ⟨a, b, rfl⟩ : ∃ (a : Fin 1) (b : Fin 1024), y = ix2 a b := ⟨y 0, y 1, eta2 (n := 1) (k := 1024) y⟩
    rw [Fin.fin_one_eq_zero a]
    blk_simp
    rw [after0_6, show win0_6.index t 1 * 1024 + b.val = b.val by omega]
    exact acc m c t (by omega) b

set_option maxHeartbeats 1000000 in
theorem values : Cert.algebraic_RmsBwdIdeal_RmsBwdRefIdeal := fun m g m' g' _ h =>
  ⟨fun c i => dxAt (aX m c) (aG m c) (aD m c) (aR m c) (i 0).val (i 1).val, fun c i => dxAt (aX m c) (aG m c) (aD m c) (aR m c) (i 0).val (i 1).val,
    fun c i => dgAt (aX m c) (aD m c) (i 1).val,
    (θ_run _ _ _).mono (fun _ hr c => ⟨(hr c).1.trans (final4 m c), (hr c).2.1.trans (final5 m c), (hr c).2.2.1.trans (final6 m c), (hr c).2.2.2⟩)
      (Cert.RmsBwdIdeal.Value.run_blocks m g),
    (θ_run _ _ _).mono (fun _ hr c => by
      obtain ⟨h0, h1, h2, hk⟩ := hr c
      obtain ⟨a0, a1, a2, a3⟩ := h c
      refine ⟨h0.trans ?_, h1.trans ?_, h2.trans ?_, hk⟩
      · unfold Cert.RmsBwdRefIdeal.Value.res_main_v37
        rw [a0, a1, a2, a3]; funext i
        obtain ⟨a, b, rfl⟩ : ∃ (a : Fin 4096) (b : Fin 1024), i = ix2 a b := ⟨i 0, i 1, eta2 (n := 4096) (k := 1024) i⟩
        pointwise
        exact dx_val (aX m c) (aG m c) (aD m c) (aR m c) a b
      · unfold Cert.RmsBwdRefIdeal.Value.res_main_v39
        rw [a0, a1, a2, a3]; funext i
        obtain ⟨a, b, rfl⟩ : ∃ (a : Fin 4096) (b : Fin 1024), i = ix2 a b := ⟨i 0, i 1, eta2 (n := 4096) (k := 1024) i⟩
        pointwise
        exact dx_val (aX m c) (aG m c) (aD m c) (aR m c) a b
      · rw [a0, a2]; funext i
        obtain ⟨a, b, rfl⟩ : ∃ (a : Fin 1) (b : Fin 1024), i = ix2 a b := ⟨i 0, i 1, eta2 (n := 1) (k := 1024) i⟩
        pointwise
        refine (Fin.sum_univ_one _).trans (sum_congr rfl fun r _ => ?_)
        exact norm_eq (row_val (aX m c) r).symm (at2_val (aX m c) r b).symm (at2_val (aD m c) r b).symm)
      (Cert.RmsBwdRefIdeal.Value.run m' g')⟩

end Cert.RmsBwdIdeal.Row

namespace Cert.RmsMixBwdIdeal.Row

open Cert.RmsMixBwdIdeal Cert.RmsMixBwdIdeal.Gen

variable (m : (ℓ : Loc nD τ sig) → Buf (Elt Ideal) ℓ) (c : Dev nD)

abbrev aX : Arr 4096 1024 := m ((c : Thread nD τ).loc main_arg0)
abbrev aG : Arr 1 1024 := m ((c : Thread nD τ).loc main_arg1)
abbrev aD : Arr 4096 1024 := m ((c : Thread nD τ).loc main_arg2)
abbrev aR : Arr 4096 1024 := m ((c : Thread nD τ).loc main_arg3)

theorem idx : ∀ t : Fin cfg0.N, (win0_0.index t 0 = t.val % 8 ∧ win0_0.index t 1 = 0) ∧ (win0_1.index t 0 = 0 ∧ win0_1.index t 1 = 0) ∧
    (win0_2.index t 0 = t.val % 8 ∧ win0_2.index t 1 = 0) ∧ (win0_3.index t 0 = t.val % 8 ∧ win0_3.index t 1 = 0) ∧
    (win0_4.index t 0 = t.val % 8 ∧ win0_4.index t 1 = 0) ∧ win0_5.index t 0 = 0 ∧ win0_5.index t 1 = 0 := (by decide +kernel : ∀ t : Fin grid0.N, _)

/-- The four inputs' blocks. -/
theorem blkX (t : Fin cfg0.N) (a : Fin 512) (b : Fin 1024) :
    (iblk m c 0 t : Vec Ideal S512x1024 .f32) (ix2 a b) = at2 (aX m c) (512 * (t.val % 8) + a.val) b.val := by
  have hi := idx t
  exact at2_eq (aX m c) _ (show win0_0.index t 0 * 512 + 1 * a.val = _ by omega) (show win0_0.index t 1 * 1024 + 1 * b.val = _ by omega)
theorem blkG (t : Fin cfg0.N) (b : Fin 1024) : (iblk m c 1 t : Vec Ideal S1x1024 .f32) (ix2 0 b) = at2 (aG m c) 0 b.val := by
  have hi := idx t
  exact at2_eq (aG m c) _ (show win0_1.index t 0 * 1 + 1 * 0 = _ by omega) (show win0_1.index t 1 * 1024 + 1 * b.val = _ by omega)
theorem blkD (t : Fin cfg0.N) (a : Fin 512) (b : Fin 1024) :
    (iblk m c 2 t : Vec Ideal S512x1024 .f32) (ix2 a b) = at2 (aD m c) (512 * (t.val % 8) + a.val) b.val := by
  have hi := idx t
  exact at2_eq (aD m c) _ (show win0_2.index t 0 * 512 + 1 * a.val = _ by omega) (show win0_2.index t 1 * 1024 + 1 * b.val = _ by omega)
theorem blkR (t : Fin cfg0.N) (a : Fin 512) (b : Fin 1024) :
    (iblk m c 3 t : Vec Ideal S512x1024 .f32) (ix2 a b) = at2 (aR m c) (512 * (t.val % 8) + a.val) b.val := by
  have hi := idx t
  exact at2_eq (aR m c) _ (show win0_3.index t 0 * 512 + 1 * a.val = _ by omega) (show win0_3.index t 1 * 1024 + 1 * b.val = _ by omega)

/-- What a tile computes of the gradient at the rows. -/
theorem tileX (t : Fin cfg0.N) (a : Fin 512) (b : Fin 1024) :
    k0_pay6 (iblk m c 0 t) (iblk m c 1 t) (iblk m c 2 t) (iblk m c 3 t) (ix2 a b)
      = dxAt (aX m c) (aG m c) (aD m c) (aR m c) (512 * (t.val % 8) + a.val) b.val := by
  pointwise [k0_pay3, k0_pay4, k0_pay5, k0_pay6]
  exact dx_eq (funext fun k => blkX m c t a k) (funext fun k => blkD m c t a k) (funext fun k => blkG m c t k)
    (blkX m c t a b) (blkD m c t a b) (blkG m c t b) (blkR m c t a b)

theorem final4 : (dats m 0 c).arrAt 4 cfg0.N = fun i => dxAt (aX m c) (aG m c) (aD m c) (aR m c) (i 0).val (i 1).val :=
  (dats m 0 c).arrAt_eq_of_covers 4 _ (by decide +kernel) fun t _ y => by
    have hi := idx t
    obtain ⟨a, b, rfl⟩ : ∃ (a : Fin 512) (b : Fin 1024), y = ix2 a b := ⟨y 0, y 1, eta2 (n := 512) (k := 1024) y⟩
    blk_simp
    rw [after0_4, show win0_4.index t 0 * 512 + a.val = 512 * (t.val % 8) + a.val by omega, show win0_4.index t 1 * 1024 + b.val = b.val by omega]
    refine Eq.trans ?_ (tileX m c t a b)
    by_cases h0 : t.val % 8 = 0
    · rw [outsAt0_A m c t h0]; frame_out
    · rw [outsAt0_B m c t h0]; frame_out

/-- The gains' gradient after the last tile. -/
theorem acc : ∀ (t : Fin cfg0.N), t.val % 8 + 1 = 8 → ∀ b : Fin 1024, (outsAt0 m c t.val t.isLt).2 (ix2 0 b) = dgAt (aX m c) (aD m c) b.val :=
  dg_runs (aX m c) (aD m c) (fun t => iblk m c 0 t) (fun t => iblk m c 2 t) (blkX m c) (blkD m c) (fun n h => (outsAt0 m c n h).2)
    (fun t h b => by
      rw [outsAt0_A m c t h]; frame_out
      pointwise [k0_pay1, k0_pay2, k0_pay3, k0_pay4, k0_pay5]
      rfl)
    (fun t h b => by
      rw [outsAt0_B m c t h]; frame_out
      pointwise [k0_pay1, k0_pay2, k0_pay3, k0_pay4, k0_pay5]
      rfl)

theorem final5 : (dats m 0 c).arrAt 5 cfg0.N = fun i => dgAt (aX m c) (aD m c) (i 1).val :=
  (dats m 0 c).arrAt_eq_of_covers 5 _ (by decide +kernel) fun t hf y => by
    have hi := idx t
    have ht := (flush0_5 t).mp hf
    obtain ⟨a, b, rfl⟩ : ∃ (a : Fin 1) (b : Fin 1024), y = ix2 a b := ⟨y 0, y 1, eta2 (n := 1) (k := 1024) y⟩
    rw [Fin.fin_one_eq_zero a]
    blk_simp
    rw [after0_5, show win0_5.index t 1 * 1024 + b.val = b.val by omega]
    exact acc m c t (by omega) b

set_option maxHeartbeats 1000000 in
theorem values : Cert.algebraic_RmsMixBwdIdeal_RmsMixBwdRefIdeal := fun m g m' g' _ h =>
  ⟨fun c i => dxAt (aX m c) (aG m c) (aD m c) (aR m c) (i 0).val (i 1).val, fun c i => dgAt (aX m c) (aD m c) (i 1).val,
    (θ_run _ _ _).mono (fun _ hr c => ⟨(hr c).1.trans (final4 m c), (hr c).2.1.trans (final5 m c), (hr c).2.2⟩)
      (Cert.RmsMixBwdIdeal.Value.run_blocks m g),
    (θ_run _ _ _).mono (fun _ hr c => by
      obtain ⟨h0, h1, hk⟩ := hr c
      obtain ⟨a0, a1, a2, a3⟩ := h c
      refine ⟨h0.trans ?_, h1.trans ?_, hk⟩
      · unfold Cert.RmsMixBwdRefIdeal.Value.res_main_v37
        rw [a0, a1, a2, a3]; funext i
        obtain ⟨a, b, rfl⟩ : ∃ (a : Fin 4096) (b : Fin 1024), i = ix2 a b := ⟨i 0, i 1, eta2 (n := 4096) (k := 1024) i⟩
        pointwise
        exact dx_val (aX m c) (aG m c) (aD m c) (aR m c) a b
      · rw [a0, a2]; funext i
        obtain ⟨a, b, rfl⟩ : ∃ (a : Fin 1) (b : Fin 1024), i = ix2 a b := ⟨i 0, i 1, eta2 (n := 1) (k := 1024) i⟩
        pointwise
        refine (Fin.sum_univ_one _).trans (sum_congr rfl fun r _ => ?_)
        exact norm_eq (row_val (aX m c) r).symm (at2_val (aX m c) r b).symm (at2_val (aD m c) r b).symm)
      (Cert.RmsMixBwdRefIdeal.Value.run m' g')⟩

end Cert.RmsMixBwdIdeal.Row

end
-- ==== Proof.MergeMath.lean ====
module

public import proofs.«01_k».proof.Proof.MatMath

/-!
The gated sum of two arrays, and its gradient, over the extended reals. The gates of both lie side by side: columns below 1024
are the first's, the others the second's.
-/

@[expose] public section

noncomputable section

namespace Cert.MergeMath

open Finset Idealize.ShloMosaic Cert.MatMath

/-- The gate. -/
def gate (z : EReal) : EReal := Ideal.div 1 (1 + Ideal.exp (-z))

/-- The gate's derivative from the exponential is the one from the gate, at every extended real. -/
theorem slope (z A : EReal) :
    -(-(A * Ideal.div 1 ((1 + Ideal.exp (-z)) * (1 + Ideal.exp (-z)))) * Ideal.exp (-z)) = A * (gate z * (1 - gate z)) := by
  have h : Ideal.div 1 ((1 + Ideal.exp (-z)) * (1 + Ideal.exp (-z))) * Ideal.exp (-z) = gate z * (1 - gate z) := by
    unfold gate
    generalize -z = n
    induction n with
    | bot => simpa [Ideal.div] using (EReal.sub_self (x := 1) (by decide) (by decide)).symm
    | top => simp [Ideal.div, show (1 : EReal) + ⊤ = ⊤ from EReal.coe_add_top 1]
    | coe r =>
      have hp : (0 : ℝ) < 1 + Real.exp r := by positivity
      rw [Ideal.exp_coe, show (1 : EReal) + (Real.exp r : EReal) = ((1 + Real.exp r : ℝ) : EReal) by push_cast; rfl, ← EReal.coe_mul,
        Ideal.div_coe (mul_pos hp hp).ne', Ideal.div_coe hp.ne', one_mul, one_mul, ← EReal.coe_mul, ← EReal.coe_one, ← EReal.coe_sub, ← EReal.coe_mul]
      congr 1
      field_simp
      ring
  rw [EReal.neg_mul, neg_neg, mul_assoc, h]

/-- Two halves, each filled up with zeros, add up to the two side by side. -/
theorem halves {p : Prop} [Decidable p] (x : ¬p → EReal) (y : p → EReal) :
    (if h : p then 0 else x h) + (if h : p then y h else 0) = if h : p then y h else x h := by
  split_ifs
  · exact zero_add _
  · exact add_zero _

section rows
variable {n : ℕ} (P : Arr n 2048) (b : Arr 1 2048) (A B C : Arr n 1024)

/-- The gate at row `i` and column `j`. -/
abbrev gateAt (i j : ℕ) : EReal := gate (at2 P i j + at2 b 0 j)

/-- The gated sum. -/
abbrev mergeAt (i j : ℕ) : EReal := gateAt P b i j * at2 A i j + gateAt P b i (1024 + j) * at2 B i j

/-- The gradient at the gate's argument. -/
abbrev dpAt (i j : ℕ) : EReal :=
  (if j < 1024 then at2 C i j * at2 A i j else at2 C i (j - 1024) * at2 B i (j - 1024)) * (gateAt P b i j * (1 - gateAt P b i j))

/-- The gradient at the gate's bias. -/
abbrev dbAt (j : ℕ) : EReal := ∑ i : Fin n, dpAt P b A B C i.val j

/-- The gradients at the two arrays: `o` is where its gates begin. -/
abbrev dzAt (o i j : ℕ) : EReal := gateAt P b i (o + j) * at2 C i j

/-- The gradient at the gate's argument, from a block's entries. -/
def dp (i : Fin n) (j : Fin 2048) : EReal :=
  (if h : j.val < 1024 then C (ix2 i ⟨j.val, h⟩) * A (ix2 i ⟨j.val, h⟩)
    else C (ix2 i ⟨j.val - 1024, by omega⟩) * B (ix2 i ⟨j.val - 1024, by omega⟩))
    * (gate (P (ix2 i j) + b (ix2 0 j)) * (1 - gate (P (ix2 i j) + b (ix2 0 j))))

variable {P b A B C}

theorem dp_eq {N s : ℕ} {P' : Arr N 2048} {b' : Arr 1 2048} {A' B' C' : Arr N 1024} (hP : Rows P P' s) (hb : Rows b b' 0)
    (hA : Rows A A' s) (hB : Rows B B' s) (hC : Rows C C' s) (i : Fin n) (j : Fin 2048) :
    dp P b A B C i j = dpAt P' b' A' B' C' (s + i.val) j.val := by
  unfold dp
  split_ifs with h <;> simp only [hP i j, hb 0 j, hA i _, hB i _, hC i _, Fin.val_zero, zero_add, dpAt, if_pos, if_neg, h, not_false_eq_true]

/-- An entry of a block's gated sum, with the exponential's argument as the tile writes it; `j'` is the second gate's column. -/
theorem merge_eq {N s : ℕ} {P' : Arr N 2048} {b' : Arr 1 2048} {A' B' : Arr N 1024} (hP : Rows P P' s) (hb : Rows b b' 0)
    (hA : Rows A A' s) (hB : Rows B B' s) (i : Fin n) (j : Fin 1024) :
    Ideal.div 1 (1 + Ideal.exp (0 - (P (ix2 i ⟨j.val, by omega⟩) + b (ix2 0 ⟨j.val, by omega⟩)))) * A (ix2 i j)
      + Ideal.div 1 (1 + Ideal.exp (0 - (P (ix2 i ⟨1024 + j.val, by omega⟩) + b (ix2 0 ⟨1024 + j.val, by omega⟩)))) * B (ix2 i j)
        = mergeAt P' b' A' B' (s + i.val) j.val := by
  simp only [zero_sub, hP i _, hb 0 _, hA i _, hB i _, Fin.val_zero, zero_add]
  rfl

/-- An entry of a gradient at one of the two arrays. -/
theorem dz_eq {N s : ℕ} {P' : Arr N 2048} {b' : Arr 1 2048} {C' : Arr N 1024} (o : ℕ) (hP : Rows P P' s) (hb : Rows b b' 0)
    (hC : Rows C C' s) (i : Fin n) (j : Fin 1024) (k : Fin 2048) (hk : k.val = o + j.val) :
    Ideal.div 1 (1 + Ideal.exp (0 - (P (ix2 i k) + b (ix2 0 k)))) * C (ix2 i j) = dzAt P' b' C' o (s + i.val) j.val := by
  rw [zero_sub, hP i k, hb 0 k, hC i j, hk]
  simp only [Fin.val_zero, zero_add]
  rfl

variable (P b A B C)

theorem merge_self (i : Fin n) (j : Fin 1024) :
    Ideal.div 1 (1 + Ideal.exp (-(P (ix2 i ⟨j.val, by omega⟩) + b (ix2 0 ⟨j.val, by omega⟩)))) * A (ix2 i j)
      + Ideal.div 1 (1 + Ideal.exp (-(P (ix2 i ⟨1024 + j.val, by omega⟩) + b (ix2 0 ⟨1024 + j.val, by omega⟩)))) * B (ix2 i j)
        = mergeAt P b A B i.val j.val := by
  have h := merge_eq (rows_self P) (rows_self b) (rows_self A) (rows_self B) i j
  rwa [zero_sub, zero_sub, zero_add] at h

theorem dp_self (i : Fin n) (j : Fin 2048) : dp P b A B C i j = dpAt P b A B C i.val j.val :=
  (dp_eq (rows_self P) (rows_self b) (rows_self A) (rows_self B) (rows_self C) i j).trans (by rw [zero_add])

theorem dz_self (o : ℕ) (i : Fin n) (j : Fin 1024) (k : Fin 2048) (hk : k.val = o + j.val) :
    Ideal.div 1 (1 + Ideal.exp (-(P (ix2 i k) + b (ix2 0 k)))) * C (ix2 i j) = dzAt P b C o i.val j.val := by
  have h := dz_eq o (rows_self P) (rows_self b) (rows_self C) i j k hk
  rwa [zero_sub, zero_add] at h

variable {P b A B C}

/-- The bias's gradient added up block by block over eight blocks of 512 rows. -/
theorem db_runs {N : ℕ} {P' : Arr 4096 2048} {b' : Arr 1 2048} {A' B' C' : Arr 4096 1024} {P : Fin N → Arr 512 2048} {b : Fin N → Arr 1 2048}
    {A B C : Fin N → Arr 512 1024} (hP : ∀ t, Rows (P t) P' (512 * (t.val % 8))) (hb : ∀ t, Rows (b t) b' 0)
    (hA : ∀ t, Rows (A t) A' (512 * (t.val % 8))) (hB : ∀ t, Rows (B t) B' (512 * (t.val % 8))) (hC : ∀ t, Rows (C t) C' (512 * (t.val % 8)))
    (f : (n : ℕ) → n < N → Arr 1 2048)
    (h0 : ∀ t : Fin N, t.val % 8 = 0 → ∀ j, f t.val t.isLt (ix2 0 j) = ∑ i, dp (P t) (b t) (A t) (B t) (C t) i j)
    (hs : ∀ t : Fin N, ¬t.val % 8 = 0 → ∀ j, f t.val t.isLt (ix2 0 j)
      = f (t.val - 1) (Nat.lt_of_le_of_lt (Nat.sub_le _ _) t.isLt) (ix2 0 j) + ∑ i, dp (P t) (b t) (A t) (B t) (C t) i j)
    (t : Fin N) (ht : t.val % 8 + 1 = 8) (j : Fin 2048) : f t.val t.isLt (ix2 0 j) = dbAt P' b' A' B' C' j.val :=
  acc_runs (fun n h (j : Fin 2048) => f n h (ix2 0 j)) 8 512 (fun _ j i => dpAt P' b' A' B' C' i j.val)
    (fun t h j => by simp only [h0 t h, dp_eq (hP t) (hb t) (hA t) (hB t) (hC t), run, zero_add])
    (fun t h j => by simp only [hs t h, dp_eq (hP t) (hb t) (hA t) (hB t) (hC t), run]) t ht j

end rows

end Cert.MergeMath

end
-- ==== Proof.Merge.lean ====
module

public import proofs.«01_k».proof.Defs
public import proofs.«01_k».proof.Proof.MergeMath
public import proofs.«01_k».proof.Proof.Gen.MergeIdeal.Value
public import proofs.«01_k».proof.Proof.Gen.MergeRefIdeal.Run
public import proofs.«01_k».proof.Proof.Gen.MergeBwdIdeal.Value
public import proofs.«01_k».proof.Proof.Gen.MergeBwdRefIdeal.Run

/-!
The gated sum and its gradient: eight tiles of 512 rows, the gradient at the gate's bias summed over the tiles.
-/

@[expose] public section

set_option maxRecDepth 16384

noncomputable section

open Cert.MatMath Cert.MergeMath Finset Idealize.ShloMosaic Idealize.ShloMosaic.TcCoe Idealize.SL.Sem

namespace Cert.MergeIdeal.Row

open Cert.MergeIdeal Cert.MergeIdeal.Gen

variable (m : (ℓ : Loc nD τ sig) → Buf (Elt Ideal) ℓ) (c : Dev nD)

abbrev aP : Arr 4096 2048 := m ((c : Thread nD τ).loc main_arg0)
abbrev ab : Arr 1 2048 := m ((c : Thread nD τ).loc main_arg1)
abbrev aA : Arr 4096 1024 := m ((c : Thread nD τ).loc main_arg2)
abbrev aB : Arr 4096 1024 := m ((c : Thread nD τ).loc main_arg3)

theorem idx : ∀ t : Fin cfg0.N, (win0_0.index t 0 = t.val ∧ win0_0.index t 1 = 0) ∧ (win0_1.index t 0 = 0 ∧ win0_1.index t 1 = 0) ∧
    (win0_2.index t 0 = t.val ∧ win0_2.index t 1 = 0) ∧ (win0_3.index t 0 = t.val ∧ win0_3.index t 1 = 0) ∧
    win0_4.index t 0 = t.val ∧ win0_4.index t 1 = 0 := (by decide +kernel : ∀ t : Fin grid0.N, _)

/-- The four inputs' blocks. -/
theorem blkP (t : Fin cfg0.N) : Rows (n := 512) (k := 2048) (iblk m c 0 t) (aP m c) (512 * t.val) := fun a b => by
  have hi := idx t
  exact at2_eq (aP m c) _ (show win0_0.index t 0 * 512 + 1 * a.val = _ by omega) (show win0_0.index t 1 * 2048 + 1 * b.val = _ by omega)
theorem blkb (t : Fin cfg0.N) : Rows (n := 1) (k := 2048) (iblk m c 1 t) (ab m c) 0 := fun a b => by
  have hi := idx t
  exact at2_eq (ab m c) _ (show win0_1.index t 0 * 1 + 1 * a.val = _ by omega) (show win0_1.index t 1 * 2048 + 1 * b.val = _ by omega)
theorem blkA (t : Fin cfg0.N) : Rows (n := 512) (k := 1024) (iblk m c 2 t) (aA m c) (512 * t.val) := fun a b => by
  have hi := idx t
  exact at2_eq (aA m c) _ (show win0_2.index t 0 * 512 + 1 * a.val = _ by omega) (show win0_2.index t 1 * 1024 + 1 * b.val = _ by omega)
theorem blkB (t : Fin cfg0.N) : Rows (n := 512) (k := 1024) (iblk m c 3 t) (aB m c) (512 * t.val) := fun a b => by
  have hi := idx t
  exact at2_eq (aB m c) _ (show win0_3.index t 0 * 512 + 1 * a.val = _ by omega) (show win0_3.index t 1 * 1024 + 1 * b.val = _ by omega)

theorem final : (dats m 0 c).arrAt 4 cfg0.N = fun i => mergeAt (aP m c) (ab m c) (aA m c) (aB m c) (i 0).val (i 1).val :=
  (dats m 0 c).arrAt_eq_of_covers 4 _ (by decide +kernel) fun t _ y => by
    have hi := idx t
    obtain ⟨a, b, rfl⟩ : ∃ (a : Fin 512) (b : Fin 1024), y = ix2 a b := ⟨y 0, y 1, eta2 (n := 512) (k := 1024) y⟩
    blk_simp; rw [after0_4]; frame_out
    pointwise [k0_pay1]
    rw [show win0_4.index t 0 * 512 + a.val = 512 * t.val + a.val by omega, show win0_4.index t 1 * 1024 + b.val = b.val by omega]
    exact merge_eq (blkP m c t) (blkb m c t) (blkA m c t) (blkB m c t) a b

theorem values : Cert.algebraic_MergeIdeal_MergeRefIdeal := fun m g m' g' _ h =>
  ⟨fun c i => mergeAt (aP m c) (ab m c) (aA m c) (aB m c) (i 0).val (i 1).val,
    (θ_run _ _ _).mono (fun _ hr c => ⟨(hr c).1.trans (final m c), (hr c).2⟩) (Cert.MergeIdeal.Value.run_blocks m g),
    (θ_run _ _ _).mono (fun _ hr c => ⟨(hr c).1.trans (by
      rw [(h c).1, (h c).2.1, (h c).2.2.1, (h c).2.2.2]; funext i
      obtain ⟨a, b, rfl⟩ : ∃ (a : Fin 4096) (b : Fin 1024), i = ix2 a b := ⟨i 0, i 1, eta2 (n := 4096) (k := 1024) i⟩
      pointwise
      exact merge_self (aP m c) (ab m c) (aA m c) (aB m c) a b), (hr c).2⟩)
      (Cert.MergeRefIdeal.Value.run m' g')⟩

end Cert.MergeIdeal.Row

namespace Cert.MergeBwdIdeal.Row

open Cert.MergeBwdIdeal Cert.MergeBwdIdeal.Gen

variable (m : (ℓ : Loc nD τ sig) → Buf (Elt Ideal) ℓ) (c : Dev nD)

abbrev aP : Arr 4096 2048 := m ((c : Thread nD τ).loc main_arg0)
abbrev ab : Arr 1 2048 := m ((c : Thread nD τ).loc main_arg1)
abbrev aA : Arr 4096 1024 := m ((c : Thread nD τ).loc main_arg2)
abbrev aB : Arr 4096 1024 := m ((c : Thread nD τ).loc main_arg3)
abbrev aC : Arr 4096 1024 := m ((c : Thread nD τ).loc main_arg4)

theorem idx : ∀ t : Fin cfg0.N, (win0_0.index t 0 = t.val % 8 ∧ win0_0.index t 1 = 0) ∧ (win0_1.index t 0 = 0 ∧ win0_1.index t 1 = 0) ∧
    (win0_2.index t 0 = t.val % 8 ∧ win0_2.index t 1 = 0) ∧ (win0_3.index t 0 = t.val % 8 ∧ win0_3.index t 1 = 0) ∧
    (win0_4.index t 0 = t.val % 8 ∧ win0_4.index t 1 = 0) ∧ (win0_5.index t 0 = t.val % 8 ∧ win0_5.index t 1 = 0) ∧
    (win0_6.index t 0 = 0 ∧ win0_6.index t 1 = 0) ∧ (win0_7.index t 0 = t.val % 8 ∧ win0_7.index t 1 = 0) ∧
    win0_8.index t 0 = t.val % 8 ∧ win0_8.index t 1 = 0 := (by decide +kernel : ∀ t : Fin grid0.N, _)

/-- The five inputs' blocks. -/
theorem blkP (t : Fin cfg0.N) : Rows (n := 512) (k := 2048) (iblk m c 0 t) (aP m c) (512 * (t.val % 8)) := fun a b => by
  have hi := idx t
  exact at2_eq (aP m c) _ (show win0_0.index t 0 * 512 + 1 * a.val = _ by omega) (show win0_0.index t 1 * 2048 + 1 * b.val = _ by omega)
theorem blkb (t : Fin cfg0.N) : Rows (n := 1) (k := 2048) (iblk m c 1 t) (ab m c) 0 := fun a b => by
  have hi := idx t
  exact at2_eq (ab m c) _ (show win0_1.index t 0 * 1 + 1 * a.val = _ by omega) (show win0_1.index t 1 * 2048 + 1 * b.val = _ by omega)
theorem blkA (t : Fin cfg0.N) : Rows (n := 512) (k := 1024) (iblk m c 2 t) (aA m c) (512 * (t.val % 8)) := fun a b => by
  have hi := idx t
  exact at2_eq (aA m c) _ (show win0_2.index t 0 * 512 + 1 * a.val = _ by omega) (show win0_2.index t 1 * 1024 + 1 * b.val = _ by omega)
theorem blkB (t : Fin cfg0.N) : Rows (n := 512) (k := 1024) (iblk m c 3 t) (aB m c) (512 * (t.val % 8)) := fun a b => by
  have hi := idx t
  exact at2_eq (aB m c) _ (show win0_3.index t 0 * 512 + 1 * a.val = _ by omega) (show win0_3.index t 1 * 1024 + 1 * b.val = _ by omega)
theorem blkC (t : Fin cfg0.N) : Rows (n := 512) (k := 1024) (iblk m c 4 t) (aC m c) (512 * (t.val % 8)) := fun a b => by
  have hi := idx t
  exact at2_eq (aC m c) _ (show win0_4.index t 0 * 512 + 1 * a.val = _ by omega) (show win0_4.index t 1 * 1024 + 1 * b.val = _ by omega)

/-- What a tile computes of the gradient at the gate's argument. -/
theorem tileP (t : Fin cfg0.N) (a : Fin 512) (b : Fin 2048) :
    k0_pay12 (iblk m c 0 t) (iblk m c 1 t) (iblk m c 2 t) (iblk m c 3 t) (iblk m c 4 t) (ix2 a b)
      = dp (n := 512) (iblk m c 0 t) (iblk m c 1 t) (iblk m c 2 t) (iblk m c 3 t) (iblk m c 4 t) a b := by
  pointwise [k0_pay6, k0_pay7, k0_pay8, k0_pay9, k0_pay10, k0_pay11, k0_pay12]
  rw [zero_sub, zero_sub, zero_sub, slope, halves]
  rfl

theorem final5 : (dats m 0 c).arrAt 5 cfg0.N = fun i => dpAt (aP m c) (ab m c) (aA m c) (aB m c) (aC m c) (i 0).val (i 1).val :=
  (dats m 0 c).arrAt_eq_of_covers 5 _ (by decide +kernel) fun t _ y => by
    have hi := idx t
    obtain ⟨a, b, rfl⟩ : ∃ (a : Fin 512) (b : Fin 2048), y = ix2 a b := ⟨y 0, y 1, eta2 (n := 512) (k := 2048) y⟩
    blk_simp
    rw [after0_5, show win0_5.index t 0 * 512 + a.val = 512 * (t.val % 8) + a.val by omega, show win0_5.index t 1 * 2048 + b.val = b.val by omega]
    refine Eq.trans ?_ ((tileP m c t a b).trans (dp_eq (blkP m c t) (blkb m c t) (blkA m c t) (blkB m c t) (blkC m c t) a b))
    by_cases h0 : t.val % 8 = 0
    · rw [outsAt0_A m c t h0]; frame_out; rfl
    · rw [outsAt0_B m c t h0]; frame_out; rfl

/-- The bias's gradient after the last tile. -/
theorem acc : ∀ t : Fin cfg0.N, t.val % 8 + 1 = 8 → ∀ b : Fin 2048,
    (outsAt0 m c t.val t.isLt).2.1 (ix2 0 b) = dbAt (aP m c) (ab m c) (aA m c) (aB m c) (aC m c) b.val :=
  db_runs (blkP m c) (blkb m c) (blkA m c) (blkB m c) (blkC m c) (fun n h => (outsAt0 m c n h).2.1)
    (fun t h b => by
      rw [outsAt0_A m c t h]; frame_out
      pointwise [k0_pay2, k0_pay3, k0_pay13]
      exact sum_congr rfl fun a _ => tileP m c t a b)
    (fun t h b => by
      rw [outsAt0_B m c t h]; frame_out
      pointwise [k0_pay2, k0_pay3, k0_pay13]
      exact congrArg _ (sum_congr rfl fun a _ => tileP m c t a b))

theorem final6 : (dats m 0 c).arrAt 6 cfg0.N = fun i => dbAt (aP m c) (ab m c) (aA m c) (aB m c) (aC m c) (i 1).val :=
  (dats m 0 c).arrAt_eq_of_covers 6 _ (by decide +kernel) fun t hf y => by
    have hi := idx t
    have ht := (flush0_6 t).mp hf
    obtain ⟨a, b, rfl⟩ : ∃ (a : Fin 1) (b : Fin 2048), y = ix2 a b := ⟨y 0, y 1, eta2 (n := 1) (k := 2048) y⟩
    rw [Fin.fin_one_eq_zero a]
    blk_simp
    rw [after0_6, show win0_6.index t 1 * 2048 + b.val = b.val by omega]
    exact acc m c t (by omega) b

theorem final7 : (dats m 0 c).arrAt 7 cfg0.N = fun i => dzAt (aP m c) (ab m c) (aC m c) 0 (i 0).val (i 1).val :=
  (dats m 0 c).arrAt_eq_of_covers 7 _ (by decide +kernel) fun t _ y => by
    have hi := idx t
    obtain ⟨a, b, rfl⟩ : ∃ (a : Fin 512) (b : Fin 1024), y = ix2 a b := ⟨y 0, y 1, eta2 (n := 512) (k := 1024) y⟩
    blk_simp
    rw [after0_7, show win0_7.index t 0 * 512 + a.val = 512 * (t.val % 8) + a.val by omega, show win0_7.index t 1 * 1024 + b.val = b.val by omega]
    by_cases h0 : t.val % 8 = 0
    · rw [outsAt0_A m c t h0]; frame_out
      pointwise [k0_pay4, k0_pay6, k0_pay7, k0_pay8, k0_pay9, k0_pay11]
      exact dz_eq 0 (blkP m c t) (blkb m c t) (blkC m c t) a b _ (zero_add _).symm
    · rw [outsAt0_B m c t h0]; frame_out
      pointwise [k0_pay4, k0_pay6, k0_pay7, k0_pay8, k0_pay9, k0_pay11]
      exact dz_eq 0 (blkP m c t) (blkb m c t) (blkC m c t) a b _ (zero_add _).symm

theorem final8 : (dats m 0 c).arrAt 8 cfg0.N = fun i => dzAt (aP m c) (ab m c) (aC m c) 1024 (i 0).val (i 1).val :=
  (dats m 0 c).arrAt_eq_of_covers 8 _ (by decide +kernel) fun t _ y => by
    have hi := idx t
    obtain ⟨a, b, rfl⟩ : ∃ (a : Fin 512) (b : Fin 1024), y = ix2 a b := ⟨y 0, y 1, eta2 (n := 512) (k := 1024) y⟩
    blk_simp
    rw [after0_8, show win0_8.index t 0 * 512 + a.val = 512 * (t.val % 8) + a.val by omega, show win0_8.index t 1 * 1024 + b.val = b.val by omega]
    by_cases h0 : t.val % 8 = 0
    · rw [outsAt0_A m c t h0]; frame_out
      pointwise [k0_pay5, k0_pay6, k0_pay7, k0_pay8, k0_pay9, k0_pay10]
      exact dz_eq 1024 (blkP m c t) (blkb m c t) (blkC m c t) a b _ rfl
    · rw [outsAt0_B m c t h0]; frame_out
      pointwise [k0_pay5, k0_pay6, k0_pay7, k0_pay8, k0_pay9, k0_pay10]
      exact dz_eq 1024 (blkP m c t) (blkb m c t) (blkC m c t) a b _ rfl

set_option maxHeartbeats 2000000 in
theorem values : Cert.algebraic_MergeBwdIdeal_MergeBwdRefIdeal := fun m g m' g' _ h =>
  ⟨fun c i => dpAt (aP m c) (ab m c) (aA m c) (aB m c) (aC m c) (i 0).val (i 1).val,
    fun c i => dbAt (aP m c) (ab m c) (aA m c) (aB m c) (aC m c) (i 1).val,
    fun c i => dzAt (aP m c) (ab m c) (aC m c) 0 (i 0).val (i 1).val, fun c i => dzAt (aP m c) (ab m c) (aC m c) 1024 (i 0).val (i 1).val,
    (θ_run _ _ _).mono (fun _ hr c => ⟨(hr c).1.trans (final5 m c), (hr c).2.1.trans (final6 m c), (hr c).2.2.1.trans (final7 m c),
      (hr c).2.2.2.1.trans (final8 m c), (hr c).2.2.2.2⟩) (Cert.MergeBwdIdeal.Value.run_blocks m g),
    (θ_run _ _ _).mono (fun _ hr c => by
      obtain ⟨h0, h1, h2, h3, hk⟩ := hr c
      obtain ⟨a0, a1, a2, a3, a4⟩ := h c
      refine ⟨h0.trans ?_, h1.trans ?_, h2.trans ?_, h3.trans ?_, hk⟩
      · rw [a0, a1, a2, a3, a4]; funext i
        obtain ⟨a, b, rfl⟩ : ∃ (a : Fin 4096) (b : Fin 2048), i = ix2 a b := ⟨i 0, i 1, eta2 (n := 4096) (k := 2048) i⟩
        pointwise
        exact dp_self (aP m c) (ab m c) (aA m c) (aB m c) (aC m c) a b
      · rw [a0, a1, a2, a3, a4]; funext i
        obtain ⟨a, b, rfl⟩ : ∃ (a : Fin 1) (b : Fin 2048), i = ix2 a b := ⟨i 0, i 1, eta2 (n := 1) (k := 2048) i⟩
        pointwise
        exact (Fin.sum_univ_one _).trans (sum_congr rfl fun r _ => dp_self (aP m c) (ab m c) (aA m c) (aB m c) (aC m c) r b)
      · rw [a0, a1, a4]; funext i
        obtain ⟨a, b, rfl⟩ : ∃ (a : Fin 4096) (b : Fin 1024), i = ix2 a b := ⟨i 0, i 1, eta2 (n := 4096) (k := 1024) i⟩
        pointwise
        exact dz_self (aP m c) (ab m c) (aC m c) 0 a b _ (zero_add _).symm
      · rw [a0, a1, a4]; funext i
        obtain ⟨a, b, rfl⟩ : ∃ (a : Fin 4096) (b : Fin 1024), i = ix2 a b := ⟨i 0, i 1, eta2 (n := 4096) (k := 1024) i⟩
        pointwise
        exact dz_self (aP m c) (ab m c) (aC m c) 1024 a b _ rfl)
      (Cert.MergeBwdRefIdeal.Value.run m' g')⟩

end Cert.MergeBwdIdeal.Row

end
-- ==== Proof.HeadMath.lean ====
module

public import proofs.«01_k».proof.Proof.NormMath
public import proofs.«01_k».proof.Proof.MergeMath

/-!
The loss after the last layer: a gated sum, its norm, half the mean square of the distance to the target summed over the
rows, and the gradients at what goes in.
-/

@[expose] public section

noncomputable section

namespace Cert.HeadMath

open Finset Idealize.ShloMosaic Cert.MatMath Cert.NormMath Cert.MergeMath

/-- An array of rows of 1024 numbers, by row and column. -/
abbrev Tab (n : ℕ) : Type := Fin n → Fin 1024 → EReal
abbrev tab {n : ℕ} (X : Arr n 1024) : Tab n := fun a b => X (ix2 a b)

section defs
variable {n : ℕ} (X Z P T : Tab n) (G : Fin 1024 → EReal)

/-- The gated sum, its norm, and the distance to the target. -/
def x3 : Tab n := fun a b => X a b + gate (Z a b) * P a b
def nrm (A : Tab n) : Tab n := fun a b => A a b * Ideal.rsqrt (ms (A a))
def err : Tab n := fun a b => nrm (x3 X Z P) a b * G b - T a b

/-- The loss a row adds, before it is halved. -/
def rowLoss (a : Fin n) : EReal :=
  Ideal.div (∑ k, err X Z P T G a k * err X Z P T G a k) (Ideal.ofBits .f32 1149239296#32)

/-- The weight of a square in the loss. -/
def share : EReal := Ideal.div (Ideal.ofBits .f32 1056964608#32) (Ideal.ofBits .f32 1149239296#32)

/-- The gradients at the norm, at the gated sum, at the gate's argument and at what is gated; and what a row adds to the
gradient at the gains. -/
def dy : Tab n := fun a b => share * (Ideal.ofBits .f32 1073741824#32 * err X Z P T G a b)
def dx3 : Tab n := fun a b => dy X Z P T G a b * G b * Ideal.rsqrt (ms (x3 X Z P a))
  + x3 X Z P a b * dms (x3 X Z P a) (dy X Z P T G a) G + dms (x3 X Z P a) (dy X Z P T G a) G * x3 X Z P a b
def dz : Tab n := fun a b => dx3 X Z P T G a b * P a b * (gate (Z a b) * (1 - gate (Z a b)))
def dp : Tab n := fun a b => gate (Z a b) * dx3 X Z P T G a b
def dgRow : Tab n := fun a b => nrm (x3 X Z P) a b * dy X Z P T G a b
end defs

theorem two_word : Ideal.ofBits .f32 1073741824#32 = 1 + 1 := by
  have h : Ideal.ofBits .f32 1073741824#32 = ((2 : ℝ) : EReal) := by
    simp [Ideal.ofBits, Ideal.ieee]
    norm_cast
    norm_num
  rw [h, ← EReal.coe_one, ← EReal.coe_add]
  norm_num

theorem half_word : Ideal.ofBits .f32 1056964608#32 = ((1 / 2 : ℝ) : EReal) := by
  simp [Ideal.ofBits, Ideal.ieee]
  norm_cast
  norm_num

theorem share_eq : share = ((1 / 2048 : ℝ) : EReal) := by
  have h : Ideal.ofBits .f32 1149239296#32 = ((1024 : ℝ) : EReal) := by
    simp [Ideal.ofBits, Ideal.ieee]
    norm_cast
    norm_num
  unfold share
  rw [half_word, h, Ideal.div_coe (by norm_num), ← EReal.coe_mul]
  norm_num

/-- The square's gradient from its two factors. -/
theorem square_grad (e : EReal) : e * (∑ _k : Fin 1, share) + (∑ _k : Fin 1, share) * e = share * (Ideal.ofBits .f32 1073741824#32 * e) := by
  have h0 : (0 : EReal) ≤ 1 := zero_le_one
  rw [Fin.sum_univ_one, two_word, EReal.right_distrib_of_nonneg h0 h0, one_mul, share_eq,
    EReal.left_distrib_of_nonneg_of_ne_top (EReal.coe_nonneg.mpr (by norm_num)) (EReal.coe_ne_top _), mul_comm e]

/-- Half a sum is the sum of the halves. -/
theorem half_sum {n : ℕ} (f : Fin n → EReal) : Ideal.ofBits .f32 1056964608#32 * ∑ a, f a = ∑ a, Ideal.ofBits .f32 1056964608#32 * f a := by
  have h : ∀ s : Finset (Fin n), Ideal.ofBits .f32 1056964608#32 * ∑ a ∈ s, f a = ∑ a ∈ s, Ideal.ofBits .f32 1056964608#32 * f a := fun s => by
    induction s using Finset.induction_on with
    | empty => simp
    | insert a s ha ih =>
      rw [sum_insert ha, sum_insert ha, ← ih, half_word]
      exact EReal.left_distrib_of_nonneg_of_ne_top (EReal.coe_nonneg.mpr (by norm_num)) (EReal.coe_ne_top _) _ _
  exact h univ

/-- Row `a` of tile `t`, counted over the eight tiles. -/
abbrev place (t : ℕ) (a : Fin 512) : Fin 4096 := ⟨512 * (t % 8) + a.val, by omega⟩

/-- A sum over the rows, added up tile by tile. -/
theorem row_runs {N : ℕ} {ι : Type} (F : Fin 4096 → ι → EReal) (f : (n : ℕ) → n < N → ι → EReal)
    (h0 : ∀ t : Fin N, t.val % 8 = 0 → ∀ i, f t.val t.isLt i = ∑ a, F (place t.val a) i)
    (hs : ∀ t : Fin N, ¬t.val % 8 = 0 → ∀ i,
      f t.val t.isLt i = f (t.val - 1) (Nat.lt_of_le_of_lt (Nat.sub_le _ _) t.isLt) i + ∑ a, F (place t.val a) i)
    (t : Fin N) (ht : t.val % 8 + 1 = 8) (i : ι) : f t.val t.isLt i = ∑ r, F r i := by
  have hr (t : ℕ) (i : ι) : run 512 (fun r => if h : r < 4096 then F ⟨r, h⟩ i else 0) (t % 8) = ∑ a, F (place t a) i :=
    sum_congr rfl fun a _ => dif_pos (place t a).isLt
  rw [acc_runs f 8 512 (fun _ i r => if h : r < 4096 then F ⟨r, h⟩ i else 0) (fun t h i => by rw [h0 t h, hr, zero_add])
    (fun t h i => by rw [hs t h, hr]) t ht i]
  exact sum_congr rfl fun r _ => dif_pos r.isLt

end Cert.HeadMath

end
-- ==== Proof.Tail.lean ====
module

public import proofs.«01_k».proof.Defs
public import proofs.«01_k».proof.Proof.HeadMath
public import proofs.«01_k».proof.Proof.Gen.TailIdeal.Value
public import proofs.«01_k».proof.Proof.Gen.TailRefIdeal.Run

/-!
The loss and its gradients: eight tiles of 512 rows, the loss and the gradient at the gains summed over the tiles.
-/

@[expose] public section

set_option maxRecDepth 16384

noncomputable section

open Cert.MatMath Cert.MergeMath Cert.HeadMath Cert.NormMath Finset Idealize.ShloMosaic Idealize.ShloMosaic.TcCoe Idealize.SL.Sem

namespace Cert.TailIdeal.Row

open Cert.TailIdeal Cert.TailIdeal.Gen

section tile
variable (X Z P : Vec Ideal S512x1024 .f32) (G : Vec Ideal S1x1024 .f32) (T : Vec Ideal S512x1024 .f32) (a : Fin 512) (b : Fin 1024)

/-- The gains. -/
abbrev gains (G : Arr 1 1024) : Fin 1024 → EReal := fun b => G (ix2 0 b)

/-- What a tile computes at row `a` and column `b`. -/
theorem t_x3 : k0_pay11 X Z P (ix2 a b) = x3 (tab X) (tab Z) (tab P) a b := by
  pointwise [k0_pay7, k0_pay8, k0_pay9, k0_pay11]
  rw [zero_sub]; rfl
theorem t_ms (u : Fin 1) : k0_pay12 X Z P (ix2 a u) = ms (x3 (tab X) (tab Z) (tab P) a) := by
  rw [Fin.fin_one_eq_zero u]
  pointwise [k0_pay12]
  simp only [t_x3]; rfl
theorem t_nrm : k0_pay15 X Z P (ix2 a b) = nrm (x3 (tab X) (tab Z) (tab P)) a b := by
  pointwise [k0_pay13, k0_pay15]
  rw [t_x3, t_ms]; rfl
theorem t_err : k0_pay17 X Z P G T (ix2 a b) = err (tab X) (tab Z) (tab P) (tab T) (gains G) a b := by
  pointwise [k0_pay16, k0_pay17]
  rw [t_nrm]; rfl
theorem t_err' : k0_pay18 X Z P G T (ix2 a b) = err (tab X) (tab Z) (tab P) (tab T) (gains G) a b := t_err X Z P G T a b
theorem t_loss : k0_pay19 X Z P G T (ix2 a 0) = rowLoss (tab X) (tab Z) (tab P) (tab T) (gains G) a := by
  pointwise [k0_pay19]
  simp only [t_err, t_err']; rfl
theorem t_dy : k0_pay20 (k0_pay17 X Z P G T) (k0_pay18 X Z P G T) (ix2 a b) = dy (tab X) (tab Z) (tab P) (tab T) (gains G) a b := by
  pointwise [k0_pay20]
  rw [t_err, t_err']
  exact square_grad _
theorem t_dx : k0_pay22 G (k0_pay11 X Z P) (k0_pay13 X Z P) (k0_pay14 X Z P) (k0_pay17 X Z P G T) (k0_pay18 X Z P G T) (ix2 a b)
    = dx3 (tab X) (tab Z) (tab P) (tab T) (gains G) a b := by
  pointwise [k0_pay13, k0_pay14, k0_pay22]
  simp only [t_x3, t_ms, t_dy]; rfl
theorem t_dp : k0_pay23 G (k0_pay9 Z) (k0_pay11 X Z P) (k0_pay13 X Z P) (k0_pay14 X Z P) (k0_pay17 X Z P G T) (k0_pay18 X Z P G T) (ix2 a b)
    = dp (tab X) (tab Z) (tab P) (tab T) (gains G) a b := by
  pointwise [k0_pay7, k0_pay8, k0_pay9, k0_pay23]
  rw [t_dx, zero_sub]; rfl
theorem t_dz : k0_pay24 P G (k0_pay7 Z) (k0_pay10 Z) (k0_pay11 X Z P) (k0_pay13 X Z P) (k0_pay14 X Z P) (k0_pay17 X Z P G T) (k0_pay18 X Z P G T) (ix2 a b)
    = dz (tab X) (tab Z) (tab P) (tab T) (gains G) a b := by
  pointwise [k0_pay7, k0_pay8, k0_pay10, k0_pay24]
  rw [t_dx, zero_sub, zero_sub, zero_sub, slope]; rfl
theorem t_dg : k0_pay21 (k0_pay15 X Z P) (k0_pay17 X Z P G T) (k0_pay18 X Z P G T) (ix2 0 b)
    = ∑ a, dgRow (tab X) (tab Z) (tab P) (tab T) (gains G) a b := by
  pointwise [k0_pay21]
  simp only [t_nrm, t_dy]; rfl
theorem t_sum (j : Fin 128) : k0_pay25 (k0_pay19 X Z P G T) (ix2 0 j)
    = ∑ a, Ideal.ofBits .f32 1056964608#32 * rowLoss (tab X) (tab Z) (tab P) (tab T) (gains G) a := by
  pointwise [k0_pay25]
  simp only [t_loss, Fin.sum_univ_one]
  exact half_sum _
end tile

variable (m : (ℓ : Loc nD τ sig) → Buf (Elt Ideal) ℓ) (c : Dev nD)

abbrev aX : Arr 4096 1024 := m ((c : Thread nD τ).loc main_arg0)
abbrev aZ : Arr 4096 1024 := m ((c : Thread nD τ).loc main_arg1)
abbrev aP : Arr 4096 1024 := m ((c : Thread nD τ).loc main_arg2)
abbrev aG : Arr 1 1024 := m ((c : Thread nD τ).loc main_arg3)
abbrev aT : Arr 4096 1024 := m ((c : Thread nD τ).loc main_arg4)

theorem idx : ∀ t : Fin cfg0.N, (win0_0.index t 0 = t.val % 8 ∧ win0_0.index t 1 = 0) ∧ (win0_1.index t 0 = t.val % 8 ∧ win0_1.index t 1 = 0) ∧
    (win0_2.index t 0 = t.val % 8 ∧ win0_2.index t 1 = 0) ∧ (win0_3.index t 0 = 0 ∧ win0_3.index t 1 = 0) ∧
    (win0_4.index t 0 = t.val % 8 ∧ win0_4.index t 1 = 0) ∧ (win0_5.index t 0 = t.val % 8 ∧ win0_5.index t 1 = 0) ∧
    (win0_6.index t 0 = t.val % 8 ∧ win0_6.index t 1 = 0) ∧ (win0_7.index t 0 = t.val % 8 ∧ win0_7.index t 1 = 0) ∧
    (win0_8.index t 0 = 0 ∧ win0_8.index t 1 = 0) ∧ win0_9.index t 0 = 0 ∧ win0_9.index t 1 = 0 := (by decide +kernel : ∀ t : Fin grid0.N, _)

/-- The five inputs' blocks. -/
theorem blkX (t : Fin cfg0.N) : tab (n := 512) (iblk m c 0 t) = fun a => tab (aX m c) (place t.val a) := funext fun a => funext fun b => by
  have hi := idx t
  exact (at2_eq (aX m c) _ (show win0_0.index t 0 * 512 + 1 * a.val = 512 * (t.val % 8) + a.val by omega)
    (show win0_0.index t 1 * 1024 + 1 * b.val = b.val by omega)).trans (at2_val (aX m c) (place t.val a) b)
theorem blkZ (t : Fin cfg0.N) : tab (n := 512) (iblk m c 1 t) = fun a => tab (aZ m c) (place t.val a) := funext fun a => funext fun b => by
  have hi := idx t
  exact (at2_eq (aZ m c) _ (show win0_1.index t 0 * 512 + 1 * a.val = 512 * (t.val % 8) + a.val by omega)
    (show win0_1.index t 1 * 1024 + 1 * b.val = b.val by omega)).trans (at2_val (aZ m c) (place t.val a) b)
theorem blkP (t : Fin cfg0.N) : tab (n := 512) (iblk m c 2 t) = fun a => tab (aP m c) (place t.val a) := funext fun a => funext fun b => by
  have hi := idx t
  exact (at2_eq (aP m c) _ (show win0_2.index t 0 * 512 + 1 * a.val = 512 * (t.val % 8) + a.val by omega)
    (show win0_2.index t 1 * 1024 + 1 * b.val = b.val by omega)).trans (at2_val (aP m c) (place t.val a) b)
theorem blkG (t : Fin cfg0.N) : gains (iblk m c 3 t) = gains (aG m c) := funext fun b => by
  have hi := idx t
  exact (at2_eq (aG m c) _ (show win0_3.index t 0 * 1 + 1 * 0 = 0 by omega)
    (show win0_3.index t 1 * 1024 + 1 * b.val = b.val by omega)).trans (at2_val (aG m c) 0 b)
theorem blkT (t : Fin cfg0.N) : tab (n := 512) (iblk m c 4 t) = fun a => tab (aT m c) (place t.val a) := funext fun a => funext fun b => by
  have hi := idx t
  exact (at2_eq (aT m c) _ (show win0_4.index t 0 * 512 + 1 * a.val = 512 * (t.val % 8) + a.val by omega)
    (show win0_4.index t 1 * 1024 + 1 * b.val = b.val by omega)).trans (at2_val (aT m c) (place t.val a) b)

/-- The whole results. -/
abbrev Dx : Tab 4096 := dx3 (tab (aX m c)) (tab (aZ m c)) (tab (aP m c)) (tab (aT m c)) (gains (aG m c))
abbrev Dz : Tab 4096 := dz (tab (aX m c)) (tab (aZ m c)) (tab (aP m c)) (tab (aT m c)) (gains (aG m c))
abbrev Dp : Tab 4096 := dp (tab (aX m c)) (tab (aZ m c)) (tab (aP m c)) (tab (aT m c)) (gains (aG m c))
abbrev Dg (b : Fin 1024) : EReal := ∑ a, dgRow (tab (aX m c)) (tab (aZ m c)) (tab (aP m c)) (tab (aT m c)) (gains (aG m c)) a b
abbrev Loss : EReal := ∑ a, Ideal.ofBits .f32 1056964608#32 * rowLoss (tab (aX m c)) (tab (aZ m c)) (tab (aP m c)) (tab (aT m c)) (gains (aG m c)) a

theorem out5 (t : Fin cfg0.N) (a : Fin 512) (b : Fin 1024) : (outsAt0 m c t.val t.isLt).1 (ix2 a b) = Dx m c (place t.val a) b := by
  by_cases h : t.val % 8 = 0
  · rw [outsAt0_A m c t h h]; frame_out; rw [t_dx, blkX, blkZ, blkP, blkG, blkT]; rfl
  · rw [outsAt0_B m c t h h]; frame_out; rw [t_dx, blkX, blkZ, blkP, blkG, blkT]; rfl
theorem out6 (t : Fin cfg0.N) (a : Fin 512) (b : Fin 1024) : (outsAt0 m c t.val t.isLt).2.1 (ix2 a b) = Dz m c (place t.val a) b := by
  by_cases h : t.val % 8 = 0
  · rw [outsAt0_A m c t h h]; frame_out; pointwise [k0_pay1]; rw [t_dz, blkX, blkZ, blkP, blkG, blkT]; rfl
  · rw [outsAt0_B m c t h h]; frame_out; pointwise [k0_pay1]; rw [t_dz, blkX, blkZ, blkP, blkG, blkT]; rfl
theorem out7 (t : Fin cfg0.N) (a : Fin 512) (b : Fin 1024) : (outsAt0 m c t.val t.isLt).2.2.1 (ix2 a b) = Dp m c (place t.val a) b := by
  by_cases h : t.val % 8 = 0
  · rw [outsAt0_A m c t h h]; frame_out; pointwise [k0_pay2]; rw [t_dp, blkX, blkZ, blkP, blkG, blkT]; rfl
  · rw [outsAt0_B m c t h h]; frame_out; pointwise [k0_pay2]; rw [t_dp, blkX, blkZ, blkP, blkG, blkT]; rfl

theorem acc8 : ∀ t : Fin cfg0.N, t.val % 8 + 1 = 8 → ∀ b, (outsAt0 m c t.val t.isLt).2.2.2.1 (ix2 0 b) = Dg m c b :=
  row_runs _ (fun n h b => (outsAt0 m c n h).2.2.2.1 (ix2 0 b))
    (fun t h b => by
      rw [outsAt0_A m c t h h]; frame_out; pointwise [k0_pay3, k0_pay4]
      rw [t_dg, blkX, blkZ, blkP, blkG, blkT]; rfl)
    (fun t h b => by
      rw [outsAt0_B m c t h h]; frame_out; pointwise [k0_pay3, k0_pay4]
      rw [t_dg, blkX, blkZ, blkP, blkG, blkT]; rfl)

theorem acc9 : ∀ t : Fin cfg0.N, t.val % 8 + 1 = 8 → ∀ j : Fin 128, (outsAt0 m c t.val t.isLt).2.2.2.2 (ix2 0 j) = Loss m c :=
  row_runs (fun r _ => Ideal.ofBits .f32 1056964608#32 * rowLoss (tab (aX m c)) (tab (aZ m c)) (tab (aP m c)) (tab (aT m c)) (gains (aG m c)) r)
    (fun n h j => (outsAt0 m c n h).2.2.2.2 (ix2 0 j))
    (fun t h j => by
      rw [outsAt0_A m c t h h]; frame_out; pointwise [k0_pay5, k0_pay6]
      rw [t_sum, blkX, blkZ, blkP, blkG, blkT]; rfl)
    (fun t h j => by
      rw [outsAt0_B m c t h h]; frame_out; pointwise [k0_pay5, k0_pay6]
      rw [t_sum, blkX, blkZ, blkP, blkG, blkT]; rfl)

theorem final5 : (dats m 0 c).arrAt 5 cfg0.N = fun i => Dx m c (i 0) (i 1) :=
  (dats m 0 c).arrAt_eq_of_covers 5 _ (by decide +kernel) fun t _ y => by
    have hi := idx t
    obtain ⟨a, b, rfl⟩ : ∃ (a : Fin 512) (b : Fin 1024), y = ix2 a b := ⟨y 0, y 1, eta2 (n := 512) (k := 1024) y⟩
    blk_simp; rw [after0_5]
    exact (out5 m c t a b).trans (congrArg₂ (Dx m c) (Fin.ext (show 512 * (t.val % 8) + a.val = win0_5.index t 0 * 512 + 1 * a.val by omega))
      (Fin.ext (show b.val = win0_5.index t 1 * 1024 + 1 * b.val by omega)))
theorem final6 : (dats m 0 c).arrAt 6 cfg0.N = fun i => Dz m c (i 0) (i 1) :=
  (dats m 0 c).arrAt_eq_of_covers 6 _ (by decide +kernel) fun t _ y => by
    have hi := idx t
    obtain ⟨a, b, rfl⟩ : ∃ (a : Fin 512) (b : Fin 1024), y = ix2 a b := ⟨y 0, y 1, eta2 (n := 512) (k := 1024) y⟩
    blk_simp; rw [after0_6]
    exact (out6 m c t a b).trans (congrArg₂ (Dz m c) (Fin.ext (show 512 * (t.val % 8) + a.val = win0_6.index t 0 * 512 + 1 * a.val by omega))
      (Fin.ext (show b.val = win0_6.index t 1 * 1024 + 1 * b.val by omega)))
theorem final7 : (dats m 0 c).arrAt 7 cfg0.N = fun i => Dp m c (i 0) (i 1) :=
  (dats m 0 c).arrAt_eq_of_covers 7 _ (by decide +kernel) fun t _ y => by
    have hi := idx t
    obtain ⟨a, b, rfl⟩ : ∃ (a : Fin 512) (b : Fin 1024), y = ix2 a b := ⟨y 0, y 1, eta2 (n := 512) (k := 1024) y⟩
    blk_simp; rw [after0_7]
    exact (out7 m c t a b).trans (congrArg₂ (Dp m c) (Fin.ext (show 512 * (t.val % 8) + a.val = win0_7.index t 0 * 512 + 1 * a.val by omega))
      (Fin.ext (show b.val = win0_7.index t 1 * 1024 + 1 * b.val by omega)))
theorem final8 : (dats m 0 c).arrAt 8 cfg0.N = fun i => Dg m c (i 1) :=
  (dats m 0 c).arrAt_eq_of_covers 8 _ (by decide +kernel) fun t hf y => by
    have hi := idx t
    have ht := (flush0_8 t).mp hf
    obtain ⟨a, b, rfl⟩ : ∃ (a : Fin 1) (b : Fin 1024), y = ix2 a b := ⟨y 0, y 1, eta2 (n := 1) (k := 1024) y⟩
    rw [Fin.fin_one_eq_zero a]
    blk_simp; rw [after0_8]
    exact (acc8 m c t (by omega) b).trans (congrArg (Dg m c) (Fin.ext (show b.val = win0_8.index t 1 * 1024 + 1 * b.val by omega)))
theorem final9 : (dats m 0 c).arrAt 9 cfg0.N = fun _ => Loss m c :=
  (dats m 0 c).arrAt_eq_of_covers 9 _ (by decide +kernel) fun t hf y => by
    have ht := (flush0_9 t).mp hf
    obtain ⟨a, b, rfl⟩ : ∃ (a : Fin 1) (b : Fin 128), y = ix2 a b := ⟨y 0, y 1, eta2 (n := 1) (k := 128) y⟩
    rw [Fin.fin_one_eq_zero a]
    blk_simp; rw [after0_9]
    exact acc9 m c t (by omega) b

set_option maxHeartbeats 4000000 in
theorem values : Cert.algebraic_TailIdeal_TailRefIdeal := fun m g m' g' _ h =>
  ⟨fun c i => Dx m c (i 0) (i 1), fun c i => Dz m c (i 0) (i 1), fun c i => Dp m c (i 0) (i 1), fun c i => Dg m c (i 1), fun c _ => Loss m c,
    (θ_run _ _ _).mono (fun _ hr c => ⟨(hr c).1.trans (final5 m c), (hr c).2.1.trans (final6 m c), (hr c).2.2.1.trans (final7 m c),
      (hr c).2.2.2.1.trans (final8 m c), (hr c).2.2.2.2.1.trans (final9 m c), (hr c).2.2.2.2.2⟩) (Cert.TailIdeal.Value.run_blocks m g),
    (θ_run _ _ _).mono (fun _ hr c => by
      obtain ⟨h0, h1, h2, h3, h4, hk⟩ := hr c
      obtain ⟨a0, a1, a2, a3, a4⟩ := h c
      refine ⟨h0.trans (funext fun i => ?_), h1.trans (funext fun i => ?_), h2.trans (funext fun i => ?_), h3.trans (funext fun i => ?_),
        h4.trans (funext fun i => ?_), hk⟩
      · obtain ⟨a, b, rfl⟩ : ∃ (a : Fin 4096) (b : Fin 1024), i = ix2 a b := ⟨i 0, i 1, eta2 (n := 4096) (k := 1024) i⟩
        unfold TailRefIdeal.Value.res_main_v62
        rw [a0, a1, a2, a3, a4]; pointwise; rfl
      · obtain ⟨a, b, rfl⟩ : ∃ (a : Fin 4096) (b : Fin 1024), i = ix2 a b := ⟨i 0, i 1, eta2 (n := 4096) (k := 1024) i⟩
        unfold TailRefIdeal.Value.res_main_v66
        rw [a0, a1, a2, a3, a4]; pointwise; rfl
      · obtain ⟨a, b, rfl⟩ : ∃ (a : Fin 4096) (b : Fin 1024), i = ix2 a b := ⟨i 0, i 1, eta2 (n := 4096) (k := 1024) i⟩
        unfold TailRefIdeal.Value.res_main_v67
        rw [a0, a1, a2, a3, a4]; pointwise; rfl
      · obtain ⟨a, b, rfl⟩ : ∃ (a : Fin 1) (b : Fin 1024), i = ix2 a b := ⟨i 0, i 1, eta2 (n := 1) (k := 1024) i⟩
        rw [a0, a1, a2, a3, a4]; pointwise
        exact Fin.sum_univ_one _
      · obtain ⟨a, b, rfl⟩ : ∃ (a : Fin 1) (b : Fin 128), i = ix2 a b := ⟨i 0, i 1, eta2 (n := 1) (k := 128) i⟩
        rw [a0, a1, a2, a3, a4]; pointwise
        exact half_sum _) (Cert.TailRefIdeal.Value.run m' g')⟩

end Cert.TailIdeal.Row

end
-- ==== Proof.AdamMath.lean ====
module

public import proofs.«01_k».proof.Proof.MatMath

/-!
One step of the optimiser on a shard: the eight devices' gradients are added, the two moments are updated, and the
weights' change is computed from them.
-/

@[expose] public section

noncomputable section

namespace Cert.AdamMath

open Finset Idealize.ShloMosaic Cert.MatMath

/-- `d` arrays of `n` rows and `k` columns. -/
abbrev Arr3 (d n k : ℕ) : Type := (⟨3, ![d, n, k]⟩ : Shape).Idx → EReal

/-- Array `d` at row `a`, column `b`; zero outside. -/
def at3 {p n k : ℕ} (f : Arr3 p n k) (d a b : ℕ) : EReal :=
  if h : d < p ∧ a < n ∧ b < k then f (ix3 ⟨d, h.1⟩ ⟨a, h.2.1⟩ ⟨b, h.2.2⟩) else 0

theorem at3_eq {p n k : ℕ} (f : Arr3 p n k) (i : (⟨3, ![p, n, k]⟩ : Shape).Idx) {d a b : ℕ}
    (h0 : (i 0).val = d) (h1 : (i 1).val = a) (h2 : (i 2).val = b) : f i = at3 f d a b := by
  subst h0 h1 h2
  unfold at3
  rw [dif_pos ⟨(i 0).isLt, (i 1).isLt, (i 2).isLt⟩]
  congr 1
  funext j
  match j with
  | ⟨0, _⟩ => rfl
  | ⟨1, _⟩ => rfl
  | ⟨2, _⟩ => rfl

/-- The first moment after the step, from the gradient and the moment before; the second one; and the weights' change. -/
def mom1 (g m : EReal) : EReal := Ideal.ofBits .f32 1063675494#32 * m + Ideal.ofBits .f32 1036831949#32 * g
def mom2 (g v : EReal) : EReal := Ideal.ofBits .f32 1065336439#32 * v + Ideal.ofBits .f32 981668463#32 * (g * g)
def change (w m v : EReal) : EReal :=
  Ideal.ofBits .f32 3129152111#32 * (Ideal.div (Ideal.div m (Ideal.ofBits .f32 1059503362#32))
    (Ideal.sqrt (Ideal.div v (Ideal.ofBits .f32 1008933580#32)) + Ideal.ofBits .f32 841731191#32) + Ideal.ofBits .f32 1008981770#32 * w)

section shard
variable {N k : ℕ} (P : Arr3 8 N k) (W M V : Arr N k) (i j : ℕ)

/-- The sum of the devices' gradients, the new moments and the change, at row `i` and column `j`. -/
abbrev gAt : EReal := ∑ d : Fin 8, at3 P d.val i j
abbrev mAt : EReal := mom1 (gAt P i j) (at2 M i j)
abbrev vAt : EReal := mom2 (gAt P i j) (at2 V i j)
abbrev dAt : EReal := change (at2 W i j) (mAt P M i j) (vAt P V i j)

/-- The same as whole arrays. -/
abbrev gArr : Arr N k := fun i => gAt P (i 0).val (i 1).val
abbrev mArr : Arr N k := fun i => mAt P M (i 0).val (i 1).val
abbrev vArr : Arr N k := fun i => vAt P V (i 0).val (i 1).val
abbrev dArr : Arr N k := fun i => dAt P W M V (i 0).val (i 1).val
end shard

/-- The eight gradients at one place, added in order. -/
abbrev sum8 {n k : ℕ} (P : Arr3 8 n k) (a : Fin n) (b : Fin k) : EReal :=
  P (ix3 0 a b) + P (ix3 1 a b) + P (ix3 2 a b) + P (ix3 3 a b) + P (ix3 4 a b) + P (ix3 5 a b) + P (ix3 6 a b) + P (ix3 7 a b)

/-- Blocks of the gradients, the weights and the moments that hold the arrays' rows from `s` on. -/
structure Tile {n N k : ℕ} (P : Arr3 8 n k) (W M V : Arr n k) (P' : Arr3 8 N k) (W' M' V' : Arr N k) (s : ℕ) : Prop where
  p : ∀ d a b, P (ix3 d a b) = at3 P' d.val (s + a.val) b.val
  w : Rows W W' s
  m : Rows M M' s
  v : Rows V V' s

namespace Tile

theorem self {N k : ℕ} (P : Arr3 8 N k) (W M V : Arr N k) : Tile P W M V P W M V 0 :=
  ⟨fun _ _ _ => at3_eq P _ rfl (zero_add _).symm rfl, rows_self W, rows_self M, rows_self V⟩

variable {n N k s : ℕ} {P : Arr3 8 n k} {W M V : Arr n k} {P' : Arr3 8 N k} {W' M' V' : Arr N k} (h : Tile P W M V P' W' M' V' s)
  (a : Fin n) (b : Fin k) {i j : ℕ} (hi : i = s + a.val) (hj : j = b.val)

include h hi hj

theorem sum : ∑ d : Fin 8, P (ix3 d a b) = gAt P' i j := by subst hi hj; exact sum_congr rfl fun d _ => h.p d a b
theorem g : sum8 P a b = gAt P' i j := (Fin.sum_univ_eight fun d => P (ix3 d a b)).symm.trans (h.sum a b hi hj)

variable {g : EReal} (hg : g = gAt P' i j)
include hg

theorem mom : mom1 g (M (ix2 a b)) = mAt P' M' i j := by subst hi hj; rw [hg, h.m]
theorem sq : mom2 g (V (ix2 a b)) = vAt P' V' i j := by subst hi hj; rw [hg, h.v]
theorem delta : change (W (ix2 a b)) (mom1 g (M (ix2 a b))) (mom2 g (V (ix2 a b))) = dAt P' W' M' V' i j := by
  subst hi hj; rw [hg, h.w, h.m, h.v]

end Tile

end Cert.AdamMath

end
-- ==== Proof.Adam.lean ====
module

public import proofs.«01_k».proof.Defs
public import proofs.«01_k».proof.Proof.AdamMath
public import proofs.«01_k».proof.Proof.Gen.AdamInIdeal.Value
public import proofs.«01_k».proof.Proof.Gen.AdamInRefIdeal.Run
public import proofs.«01_k».proof.Proof.Gen.AdamUpIdeal.Value
public import proofs.«01_k».proof.Proof.Gen.AdamUpRefIdeal.Run
public import proofs.«01_k».proof.Proof.Gen.AdamGateIdeal.Value
public import proofs.«01_k».proof.Proof.Gen.AdamGateRefIdeal.Run
public import proofs.«01_k».proof.Proof.Gen.AdamOutIdeal.Value
public import proofs.«01_k».proof.Proof.Gen.AdamOutRefIdeal.Run

/-!
The optimiser's step on the shards, tile by tile of rows.
-/

@[expose] public section

set_option maxRecDepth 16384

noncomputable section

open Cert.MatMath Cert.AdamMath Finset Idealize.ShloMosaic Idealize.ShloMosaic.TcCoe Idealize.SL.Sem

namespace Cert.AdamInIdeal.Row

open Cert.AdamInIdeal Cert.AdamInIdeal.Gen

variable (m : (ℓ : Loc nD τ sig) → Buf (Elt Ideal) ℓ) (c : Dev nD)

abbrev aP : Arr3 8 1024 640 := m ((c : Thread nD τ).loc main_arg0)
abbrev aW : Arr 1024 640 := m ((c : Thread nD τ).loc main_arg1)
abbrev aM : Arr 1024 640 := m ((c : Thread nD τ).loc main_arg2)
abbrev aV : Arr 1024 640 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 256) (k := 640) (iblk m c 0 t) (iblk m c 1 t) (iblk m c 2 t) (iblk m c 3 t)
    (aP m c) (aW m c) (aM m c) (aV m c) (256 * t.val) := by
  have hi := idx t
  exact ⟨fun d a b => at3_eq (aP m c) _ (show win0_0.index t 0 * 8 + 1 * d.val = _ by omega) (show win0_0.index t 1 * 256 + 1 * a.val = _ by omega)
      (show win0_0.index t 2 * 640 + 1 * b.val = _ by omega),
    fun a b => at2_eq (aW m c) _ (show win0_1.index t 0 * 256 + 1 * a.val = _ by omega) (show win0_1.index t 1 * 640 + 1 * b.val = _ by omega),
    fun a b => at2_eq (aM m c) _ (show win0_2.index t 0 * 256 + 1 * a.val = _ by omega) (show win0_2.index t 1 * 640 + 1 * b.val = _ by omega),
    fun a b => at2_eq (aV m c) _ (show win0_3.index t 0 * 256 + 1 * a.val = _ by omega) (show win0_3.index t 1 * 640 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 256) (b : Fin 640), y = ix2 a b := ⟨y 0, y 1, eta2 (n := 256) (k := 640) y⟩
    blk_simp; rw [after0_4]; frame_out; pointwise [k0_pay2]
    exact (tile m c t).g a b (show win0_4.index t 0 * 256 + 1 * a.val = _ by omega) (show win0_4.index t 1 * 640 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 256) (b : Fin 640), y = ix2 a b := ⟨y 0, y 1, eta2 (n := 256) (k := 640) y⟩
    blk_simp; rw [after0_5]; frame_out; pointwise [k0_pay1, k0_pay2, k0_pay3, k0_pay4, k0_pay5, k0_pay6]
    have h0 : win0_5.index t 0 * 256 + 1 * a.val = 256 * t.val + a.val := by omega
    have h1 : win0_5.index t 1 * 640 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 256) (b : Fin 640), y = ix2 a b := ⟨y 0, y 1, eta2 (n := 256) (k := 640) y⟩
    blk_simp; rw [after0_6]; frame_out; pointwise [k0_pay2, k0_pay3, k0_pay5]
    have h0 : win0_6.index t 0 * 256 + 1 * a.val = 256 * t.val + a.val := by omega
    have h1 : win0_6.index t 1 * 640 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 256) (b : Fin 640), y = ix2 a b := ⟨y 0, y 1, eta2 (n := 256) (k := 640) y⟩
    blk_simp; rw [after0_7]; frame_out; pointwise [k0_pay2, k0_pay4, k0_pay6]
    have h0 : win0_7.index t 0 * 256 + 1 * a.val = 256 * t.val + a.val := by omega
    have h1 : win0_7.index t 1 * 640 + 1 * b.val = b.val := by omega
    exact (tile m c t).sq a b h0 h1 ((tile m c t).g a b h0 h1)

theorem values : Cert.algebraic_AdamInIdeal_AdamInRefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamInIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 1024) (b : Fin 640), i = ix2 a b := ⟨i 0, i 1, eta2 (n := 1024) (k := 640) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamInRefIdeal.Value.run m' g')⟩

end Cert.AdamInIdeal.Row

namespace Cert.AdamUpIdeal.Row

open Cert.AdamUpIdeal Cert.AdamUpIdeal.Gen

variable (m : (ℓ : Loc nD τ sig) → Buf (Elt Ideal) ℓ) (c : Dev nD)

abbrev aP : Arr3 8 1024 768 := m ((c : Thread nD τ).loc main_arg0)
abbrev aW : Arr 1024 768 := m ((c : Thread nD τ).loc main_arg1)
abbrev aM : Arr 1024 768 := m ((c : Thread nD τ).loc main_arg2)
abbrev aV : Arr 1024 768 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 256) (k := 768) (iblk m c 0 t) (iblk m c 1 t) (iblk m c 2 t) (iblk m c 3 t)
    (aP m c) (aW m c) (aM m c) (aV m c) (256 * t.val) := by
  have hi := idx t
  exact ⟨fun d a b => at3_eq (aP m c) _ (show win0_0.index t 0 * 8 + 1 * d.val = _ by omega) (show win0_0.index t 1 * 256 + 1 * a.val = _ by omega)
      (show win0_0.index t 2 * 768 + 1 * b.val = _ by omega),
    fun a b => at2_eq (aW m c) _ (show win0_1.index t 0 * 256 + 1 * a.val = _ by omega) (show win0_1.index t 1 * 768 + 1 * b.val = _ by omega),
    fun a b => at2_eq (aM m c) _ (show win0_2.index t 0 * 256 + 1 * a.val = _ by omega) (show win0_2.index t 1 * 768 + 1 * b.val = _ by omega),
    fun a b => at2_eq (aV m c) _ (show win0_3.index t 0 * 256 + 1 * a.val = _ by omega) (show win0_3.index t 1 * 768 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 256) (b : Fin 768), y = ix2 a b := ⟨y 0, y 1, eta2 (n := 256) (k := 768) y⟩
    blk_simp; rw [after0_4]; frame_out; pointwise [k0_pay2]
    exact (tile m c t).g a b (show win0_4.index t 0 * 256 + 1 * a.val = _ by omega) (show win0_4.index t 1 * 768 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 256) (b : Fin 768), y = ix2 a b := ⟨y 0, y 1, eta2 (n := 256) (k := 768) y⟩
    blk_simp; rw [after0_5]; frame_out; pointwise [k0_pay1, k0_pay2, k0_pay3, k0_pay4, k0_pay5, k0_pay6]
    have h0 : win0_5.index t 0 * 256 + 1 * a.val = 256 * t.val + a.val := by omega
    have h1 : win0_5.index t 1 * 768 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 256) (b : Fin 768), y = ix2 a b := ⟨y 0, y 1, eta2 (n := 256) (k := 768) y⟩
    blk_simp; rw [after0_6]; frame_out; pointwise [k0_pay2, k0_pay3, k0_pay5]
    have h0 : win0_6.index t 0 * 256 + 1 * a.val = 256 * t.val + a.val := by omega
    have h1 : win0_6.index t 1 * 768 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 256) (b : Fin 768), y = ix2 a b := ⟨y 0, y 1, eta2 (n := 256) (k := 768) y⟩
    blk_simp; rw [after0_7]; frame_out; pointwise [k0_pay2, k0_pay4, k0_pay6]
    have h0 : win0_7.index t 0 * 256 + 1 * a.val = 256 * t.val + a.val := by omega
    have h1 : win0_7.index t 1 * 768 + 1 * b.val = b.val := by omega
    exact (tile m c t).sq a b h0 h1 ((tile m c t).g a b h0 h1)

theorem values : Cert.algebraic_AdamUpIdeal_AdamUpRefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamUpIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 1024) (b : Fin 768), i = ix2 a b := ⟨i 0, i 1, eta2 (n := 1024) (k := 768) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamUpRefIdeal.Value.run m' g')⟩

end Cert.AdamUpIdeal.Row

namespace Cert.AdamGateIdeal.Row

open Cert.AdamGateIdeal Cert.AdamGateIdeal.Gen

variable (m : (ℓ : Loc nD τ sig) → Buf (Elt Ideal) ℓ) (c : Dev nD)

abbrev aP : Arr3 8 1024 256 := m ((c : Thread nD τ).loc main_arg0)
abbrev aW : Arr 1024 256 := m ((c : Thread nD τ).loc main_arg1)
abbrev aM : Arr 1024 256 := m ((c : Thread nD τ).loc main_arg2)
abbrev aV : Arr 1024 256 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 1024) (k := 256) (iblk m c 0 t) (iblk m c 1 t) (iblk m c 2 t) (iblk m c 3 t)
    (aP m c) (aW m c) (aM m c) (aV m c) (1024 * t.val) := by
  have hi := idx t
  exact ⟨fun d a b => at3_eq (aP m c) _ (show win0_0.index t 0 * 8 + 1 * d.val = _ by omega) (show win0_0.index t 1 * 1024 + 1 * a.val = _ by omega)
      (show win0_0.index t 2 * 256 + 1 * b.val = _ by omega),
    fun a b => at2_eq (aW m c) _ (show win0_1.index t 0 * 1024 + 1 * a.val = _ by omega) (show win0_1.index t 1 * 256 + 1 * b.val = _ by omega),
    fun a b => at2_eq (aM m c) _ (show win0_2.index t 0 * 1024 + 1 * a.val = _ by omega) (show win0_2.index t 1 * 256 + 1 * b.val = _ by omega),
    fun a b => at2_eq (aV m c) _ (show win0_3.index t 0 * 1024 + 1 * a.val = _ by omega) (show win0_3.index t 1 * 256 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 1024) (b : Fin 256), y = ix2 a b := ⟨y 0, y 1, eta2 (n := 1024) (k := 256) y⟩
    blk_simp; rw [after0_4]; frame_out; pointwise [k0_pay2]
    exact (tile m c t).g a b (show win0_4.index t 0 * 1024 + 1 * a.val = _ by omega) (show win0_4.index t 1 * 256 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 1024) (b : Fin 256), y = ix2 a b := ⟨y 0, y 1, eta2 (n := 1024) (k := 256) y⟩
    blk_simp; rw [after0_5]; frame_out; pointwise [k0_pay1, k0_pay2, k0_pay3, k0_pay4, k0_pay5, k0_pay6]
    have h0 : win0_5.index t 0 * 1024 + 1 * a.val = 1024 * t.val + a.val := by omega
    have h1 : win0_5.index t 1 * 256 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 1024) (b : Fin 256), y = ix2 a b := ⟨y 0, y 1, eta2 (n := 1024) (k := 256) y⟩
    blk_simp; rw [after0_6]; frame_out; pointwise [k0_pay2, k0_pay3, k0_pay5]
    have h0 : win0_6.index t 0 * 1024 + 1 * a.val = 1024 * t.val + a.val := by omega
    have h1 : win0_6.index t 1 * 256 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 1024) (b : Fin 256), y = ix2 a b := ⟨y 0, y 1, eta2 (n := 1024) (k := 256) y⟩
    blk_simp; rw [after0_7]; frame_out; pointwise [k0_pay2, k0_pay4, k0_pay6]
    have h0 : win0_7.index t 0 * 1024 + 1 * a.val = 1024 * t.val + a.val := by omega
    have h1 : win0_7.index t 1 * 256 + 1 * b.val = b.val := by omega
    exact (tile m c t).sq a b h0 h1 ((tile m c t).g a b h0 h1)

theorem values : Cert.algebraic_AdamGateIdeal_AdamGateRefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamGateIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 1024) (b : Fin 256), i = ix2 a b := ⟨i 0, i 1, eta2 (n := 1024) (k := 256) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamGateRefIdeal.Value.run m' g')⟩

end Cert.AdamGateIdeal.Row

namespace Cert.AdamOutIdeal.Row

open Cert.AdamOutIdeal Cert.AdamOutIdeal.Gen

variable (m : (ℓ : Loc nD τ sig) → Buf (Elt Ideal) ℓ) (c : Dev nD)

abbrev aP : Arr3 8 128 1024 := m ((c : Thread nD τ).loc main_arg0)
abbrev aW : Arr 128 1024 := m ((c : Thread nD τ).loc main_arg1)
abbrev aM : Arr 128 1024 := m ((c : Thread nD τ).loc main_arg2)
abbrev aV : Arr 128 1024 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 128) (k := 1024) (iblk m c 0 t) (iblk m c 1 t) (iblk m c 2 t) (iblk m c 3 t)
    (aP m c) (aW m c) (aM m c) (aV m c) (128 * t.val) := by
  have hi := idx t
  exact ⟨fun d a b => at3_eq (aP m c) _ (show win0_0.index t 0 * 8 + 1 * d.val = _ by omega) (show win0_0.index t 1 * 128 + 1 * a.val = _ by omega)
      (show win0_0.index t 2 * 1024 + 1 * b.val = _ by omega),
    fun a b => at2_eq (aW m c) _ (show win0_1.index t 0 * 128 + 1 * a.val = _ by omega) (show win0_1.index t 1 * 1024 + 1 * b.val = _ by omega),
    fun a b => at2_eq (aM m c) _ (show win0_2.index t 0 * 128 + 1 * a.val = _ by omega) (show win0_2.index t 1 * 1024 + 1 * b.val = _ by omega),
    fun a b => at2_eq (aV m c) _ (show win0_3.index t 0 * 128 + 1 * a.val = _ by omega) (show win0_3.index t 1 * 1024 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 128) (b : Fin 1024), y = ix2 a b := ⟨y 0, y 1, eta2 (n := 128) (k := 1024) y⟩
    blk_simp; rw [after0_4]; frame_out; pointwise [k0_pay2]
    exact (tile m c t).g a b (show win0_4.index t 0 * 128 + 1 * a.val = _ by omega) (show win0_4.index t 1 * 1024 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 128) (b : Fin 1024), y = ix2 a b := ⟨y 0, y 1, eta2 (n := 128) (k := 1024) y⟩
    blk_simp; rw [after0_5]; frame_out; pointwise [k0_pay1, k0_pay2, k0_pay3, k0_pay4, k0_pay5, k0_pay6]
    have h0 : win0_5.index t 0 * 128 + 1 * a.val = 128 * t.val + a.val := by omega
    have h1 : win0_5.index t 1 * 1024 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 128) (b : Fin 1024), y = ix2 a b := ⟨y 0, y 1, eta2 (n := 128) (k := 1024) y⟩
    blk_simp; rw [after0_6]; frame_out; pointwise [k0_pay2, k0_pay3, k0_pay5]
    have h0 : win0_6.index t 0 * 128 + 1 * a.val = 128 * t.val + a.val := by omega
    have h1 : win0_6.index t 1 * 1024 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 128) (b : Fin 1024), y = ix2 a b := ⟨y 0, y 1, eta2 (n := 128) (k := 1024) y⟩
    blk_simp; rw [after0_7]; frame_out; pointwise [k0_pay2, k0_pay4, k0_pay6]
    have h0 : win0_7.index t 0 * 128 + 1 * a.val = 128 * t.val + a.val := by omega
    have h1 : win0_7.index t 1 * 1024 + 1 * b.val = b.val := by omega
    exact (tile m c t).sq a b h0 h1 ((tile m c t).g a b h0 h1)

theorem values : Cert.algebraic_AdamOutIdeal_AdamOutRefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamOutIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 128) (b : Fin 1024), i = ix2 a b := ⟨i 0, i 1, eta2 (n := 128) (k := 1024) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamOutRefIdeal.Value.run m' g')⟩

end Cert.AdamOutIdeal.Row

end
-- ==== Proof.Adam2.lean ====
module

public import proofs.«01_k».proof.Defs
public import proofs.«01_k».proof.Proof.AdamMath
public import proofs.«01_k».proof.Proof.Gen.AdamDownIdeal.Value
public import proofs.«01_k».proof.Proof.Gen.AdamDownRefIdeal.Run
public import proofs.«01_k».proof.Proof.Gen.AdamBranchAIdeal.Value
public import proofs.«01_k».proof.Proof.Gen.AdamBranchARefIdeal.Run
public import proofs.«01_k».proof.Proof.Gen.AdamBranchBIdeal.Value
public import proofs.«01_k».proof.Proof.Gen.AdamBranchBRefIdeal.Run
public import proofs.«01_k».proof.Proof.Gen.AdamSmallIdeal.Value
public import proofs.«01_k».proof.Proof.Gen.AdamSmallRefIdeal.Run

/-!
The optimiser's step on the shards, tile by tile of rows.
-/

@[expose] public section

set_option maxRecDepth 16384

noncomputable section

open Cert.MatMath Cert.AdamMath Finset Idealize.ShloMosaic Idealize.ShloMosaic.TcCoe Idealize.SL.Sem

namespace Cert.AdamDownIdeal.Row

open Cert.AdamDownIdeal Cert.AdamDownIdeal.Gen

variable (m : (ℓ : Loc nD τ sig) → Buf (Elt Ideal) ℓ) (c : Dev nD)

abbrev aP : Arr3 8 384 1024 := m ((c : Thread nD τ).loc main_arg0)
abbrev aW : Arr 384 1024 := m ((c : Thread nD τ).loc main_arg1)
abbrev aM : Arr 384 1024 := m ((c : Thread nD τ).loc main_arg2)
abbrev aV : Arr 384 1024 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 192) (k := 1024) (iblk m c 0 t) (iblk m c 1 t) (iblk m c 2 t) (iblk m c 3 t)
    (aP m c) (aW m c) (aM m c) (aV m c) (192 * t.val) := by
  have hi := idx t
  exact ⟨fun d a b => at3_eq (aP m c) _ (show win0_0.index t 0 * 8 + 1 * d.val = _ by omega) (show win0_0.index t 1 * 192 + 1 * a.val = _ by omega)
      (show win0_0.index t 2 * 1024 + 1 * b.val = _ by omega),
    fun a b => at2_eq (aW m c) _ (show win0_1.index t 0 * 192 + 1 * a.val = _ by omega) (show win0_1.index t 1 * 1024 + 1 * b.val = _ by omega),
    fun a b => at2_eq (aM m c) _ (show win0_2.index t 0 * 192 + 1 * a.val = _ by omega) (show win0_2.index t 1 * 1024 + 1 * b.val = _ by omega),
    fun a b => at2_eq (aV m c) _ (show win0_3.index t 0 * 192 + 1 * a.val = _ by omega) (show win0_3.index t 1 * 1024 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 192) (b : Fin 1024), y = ix2 a b := ⟨y 0, y 1, eta2 (n := 192) (k := 1024) y⟩
    blk_simp; rw [after0_4]; frame_out; pointwise [k0_pay2]
    exact (tile m c t).g a b (show win0_4.index t 0 * 192 + 1 * a.val = _ by omega) (show win0_4.index t 1 * 1024 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 192) (b : Fin 1024), y = ix2 a b := ⟨y 0, y 1, eta2 (n := 192) (k := 1024) y⟩
    blk_simp; rw [after0_5]; frame_out; pointwise [k0_pay1, k0_pay2, k0_pay3, k0_pay4, k0_pay5, k0_pay6]
    have h0 : win0_5.index t 0 * 192 + 1 * a.val = 192 * t.val + a.val := by omega
    have h1 : win0_5.index t 1 * 1024 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 192) (b : Fin 1024), y = ix2 a b := ⟨y 0, y 1, eta2 (n := 192) (k := 1024) y⟩
    blk_simp; rw [after0_6]; frame_out; pointwise [k0_pay2, k0_pay3, k0_pay5]
    have h0 : win0_6.index t 0 * 192 + 1 * a.val = 192 * t.val + a.val := by omega
    have h1 : win0_6.index t 1 * 1024 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 192) (b : Fin 1024), y = ix2 a b := ⟨y 0, y 1, eta2 (n := 192) (k := 1024) y⟩
    blk_simp; rw [after0_7]; frame_out; pointwise [k0_pay2, k0_pay4, k0_pay6]
    have h0 : win0_7.index t 0 * 192 + 1 * a.val = 192 * t.val + a.val := by omega
    have h1 : win0_7.index t 1 * 1024 + 1 * b.val = b.val := by omega
    exact (tile m c t).sq a b h0 h1 ((tile m c t).g a b h0 h1)

theorem values : Cert.algebraic_AdamDownIdeal_AdamDownRefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamDownIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 384) (b : Fin 1024), i = ix2 a b := ⟨i 0, i 1, eta2 (n := 384) (k := 1024) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamDownRefIdeal.Value.run m' g')⟩

end Cert.AdamDownIdeal.Row

namespace Cert.AdamBranchAIdeal.Row

open Cert.AdamBranchAIdeal Cert.AdamBranchAIdeal.Gen

variable (m : (ℓ : Loc nD τ sig) → Buf (Elt Ideal) ℓ) (c : Dev nD)

abbrev aP : Arr3 8 512 128 := m ((c : Thread nD τ).loc main_arg0)
abbrev aW : Arr 512 128 := m ((c : Thread nD τ).loc main_arg1)
abbrev aM : Arr 512 128 := m ((c : Thread nD τ).loc main_arg2)
abbrev aV : Arr 512 128 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 512) (k := 128) (iblk m c 0 t) (iblk m c 1 t) (iblk m c 2 t) (iblk m c 3 t)
    (aP m c) (aW m c) (aM m c) (aV m c) (512 * t.val) := by
  have hi := idx t
  exact ⟨fun d a b => at3_eq (aP m c) _ (show win0_0.index t 0 * 8 + 1 * d.val = _ by omega) (show win0_0.index t 1 * 512 + 1 * a.val = _ by omega)
      (show win0_0.index t 2 * 128 + 1 * b.val = _ by omega),
    fun a b => at2_eq (aW m c) _ (show win0_1.index t 0 * 512 + 1 * a.val = _ by omega) (show win0_1.index t 1 * 128 + 1 * b.val = _ by omega),
    fun a b => at2_eq (aM m c) _ (show win0_2.index t 0 * 512 + 1 * a.val = _ by omega) (show win0_2.index t 1 * 128 + 1 * b.val = _ by omega),
    fun a b => at2_eq (aV m c) _ (show win0_3.index t 0 * 512 + 1 * a.val = _ by omega) (show win0_3.index t 1 * 128 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 512) (b : Fin 128), y = ix2 a b := ⟨y 0, y 1, eta2 (n := 512) (k := 128) y⟩
    blk_simp; rw [after0_4]; frame_out; pointwise [k0_pay2]
    exact (tile m c t).g a b (show win0_4.index t 0 * 512 + 1 * a.val = _ by omega) (show win0_4.index t 1 * 128 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 512) (b : Fin 128), y = ix2 a b := ⟨y 0, y 1, eta2 (n := 512) (k := 128) y⟩
    blk_simp; rw [after0_5]; frame_out; pointwise [k0_pay1, k0_pay2, k0_pay3, k0_pay4, k0_pay5, k0_pay6]
    have h0 : win0_5.index t 0 * 512 + 1 * a.val = 512 * t.val + a.val := by omega
    have h1 : win0_5.index t 1 * 128 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 512) (b : Fin 128), y = ix2 a b := ⟨y 0, y 1, eta2 (n := 512) (k := 128) y⟩
    blk_simp; rw [after0_6]; frame_out; pointwise [k0_pay2, k0_pay3, k0_pay5]
    have h0 : win0_6.index t 0 * 512 + 1 * a.val = 512 * t.val + a.val := by omega
    have h1 : win0_6.index t 1 * 128 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 512) (b : Fin 128), y = ix2 a b := ⟨y 0, y 1, eta2 (n := 512) (k := 128) y⟩
    blk_simp; rw [after0_7]; frame_out; pointwise [k0_pay2, k0_pay4, k0_pay6]
    have h0 : win0_7.index t 0 * 512 + 1 * a.val = 512 * t.val + a.val := by omega
    have h1 : win0_7.index t 1 * 128 + 1 * b.val = b.val := by omega
    exact (tile m c t).sq a b h0 h1 ((tile m c t).g a b h0 h1)

theorem values : Cert.algebraic_AdamBranchAIdeal_AdamBranchARefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamBranchAIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 512) (b : Fin 128), i = ix2 a b := ⟨i 0, i 1, eta2 (n := 512) (k := 128) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamBranchARefIdeal.Value.run m' g')⟩

end Cert.AdamBranchAIdeal.Row

namespace Cert.AdamBranchBIdeal.Row

open Cert.AdamBranchBIdeal Cert.AdamBranchBIdeal.Gen

variable (m : (ℓ : Loc nD τ sig) → Buf (Elt Ideal) ℓ) (c : Dev nD)

abbrev aP : Arr3 8 256 128 := m ((c : Thread nD τ).loc main_arg0)
abbrev aW : Arr 256 128 := m ((c : Thread nD τ).loc main_arg1)
abbrev aM : Arr 256 128 := m ((c : Thread nD τ).loc main_arg2)
abbrev aV : Arr 256 128 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 256) (k := 128) (iblk m c 0 t) (iblk m c 1 t) (iblk m c 2 t) (iblk m c 3 t)
    (aP m c) (aW m c) (aM m c) (aV m c) (256 * t.val) := by
  have hi := idx t
  exact ⟨fun d a b => at3_eq (aP m c) _ (show win0_0.index t 0 * 8 + 1 * d.val = _ by omega) (show win0_0.index t 1 * 256 + 1 * a.val = _ by omega)
      (show win0_0.index t 2 * 128 + 1 * b.val = _ by omega),
    fun a b => at2_eq (aW m c) _ (show win0_1.index t 0 * 256 + 1 * a.val = _ by omega) (show win0_1.index t 1 * 128 + 1 * b.val = _ by omega),
    fun a b => at2_eq (aM m c) _ (show win0_2.index t 0 * 256 + 1 * a.val = _ by omega) (show win0_2.index t 1 * 128 + 1 * b.val = _ by omega),
    fun a b => at2_eq (aV m c) _ (show win0_3.index t 0 * 256 + 1 * a.val = _ by omega) (show win0_3.index t 1 * 128 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 256) (b : Fin 128), y = ix2 a b := ⟨y 0, y 1, eta2 (n := 256) (k := 128) y⟩
    blk_simp; rw [after0_4]; frame_out; pointwise [k0_pay2]
    exact (tile m c t).g a b (show win0_4.index t 0 * 256 + 1 * a.val = _ by omega) (show win0_4.index t 1 * 128 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 256) (b : Fin 128), y = ix2 a b := ⟨y 0, y 1, eta2 (n := 256) (k := 128) y⟩
    blk_simp; rw [after0_5]; frame_out; pointwise [k0_pay1, k0_pay2, k0_pay3, k0_pay4, k0_pay5, k0_pay6]
    have h0 : win0_5.index t 0 * 256 + 1 * a.val = 256 * t.val + a.val := by omega
    have h1 : win0_5.index t 1 * 128 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 256) (b : Fin 128), y = ix2 a b := ⟨y 0, y 1, eta2 (n := 256) (k := 128) y⟩
    blk_simp; rw [after0_6]; frame_out; pointwise [k0_pay2, k0_pay3, k0_pay5]
    have h0 : win0_6.index t 0 * 256 + 1 * a.val = 256 * t.val + a.val := by omega
    have h1 : win0_6.index t 1 * 128 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 256) (b : Fin 128), y = ix2 a b := ⟨y 0, y 1, eta2 (n := 256) (k := 128) y⟩
    blk_simp; rw [after0_7]; frame_out; pointwise [k0_pay2, k0_pay4, k0_pay6]
    have h0 : win0_7.index t 0 * 256 + 1 * a.val = 256 * t.val + a.val := by omega
    have h1 : win0_7.index t 1 * 128 + 1 * b.val = b.val := by omega
    exact (tile m c t).sq a b h0 h1 ((tile m c t).g a b h0 h1)

theorem values : Cert.algebraic_AdamBranchBIdeal_AdamBranchBRefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamBranchBIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 256) (b : Fin 128), i = ix2 a b := ⟨i 0, i 1, eta2 (n := 256) (k := 128) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamBranchBRefIdeal.Value.run m' g')⟩

end Cert.AdamBranchBIdeal.Row

namespace Cert.AdamSmallIdeal.Row

open Cert.AdamSmallIdeal Cert.AdamSmallIdeal.Gen

variable (m : (ℓ : Loc nD τ sig) → Buf (Elt Ideal) ℓ) (c : Dev nD)

abbrev aP : Arr3 8 48 1024 := m ((c : Thread nD τ).loc main_arg0)
abbrev aW : Arr 48 1024 := m ((c : Thread nD τ).loc main_arg1)
abbrev aM : Arr 48 1024 := m ((c : Thread nD τ).loc main_arg2)
abbrev aV : Arr 48 1024 := m ((c : Thread nD τ).loc main_arg3)

theorem idx : ∀ t : Fin cfg0.N, (win0_0.index t 0 = 0 ∧ win0_0.index t 1 = t.val ∧ win0_0.index t 2 = 0) ∧
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = t.val ∧ win0_4.index t 1 = 0) ∧
    (win0_5.index t 0 = t.val ∧ win0_5.index t 1 = 0) ∧ (win0_6.index t 0 = t.val ∧ win0_6.index t 1 = 0) ∧
    win0_7.index t 0 = t.val ∧ win0_7.index t 1 = 0 := (by decide +kernel : ∀ t : Fin grid0.N, _)

theorem tile (t : Fin cfg0.N) : Tile (n := 48) (k := 1024) (iblk m c 0 t) (iblk m c 1 t) (iblk m c 2 t) (iblk m c 3 t)
    (aP m c) (aW m c) (aM m c) (aV m c) (48 * t.val) := by
  have hi := idx t
  exact ⟨fun d a b => at3_eq (aP m c) _ (show win0_0.index t 0 * 8 + 1 * d.val = _ by omega) (show win0_0.index t 1 * 48 + 1 * a.val = _ by omega)
      (show win0_0.index t 2 * 1024 + 1 * b.val = _ by omega),
    fun a b => at2_eq (aW m c) _ (show win0_1.index t 0 * 48 + 1 * a.val = _ by omega) (show win0_1.index t 1 * 1024 + 1 * b.val = _ by omega),
    fun a b => at2_eq (aM m c) _ (show win0_2.index t 0 * 48 + 1 * a.val = _ by omega) (show win0_2.index t 1 * 1024 + 1 * b.val = _ by omega),
    fun a b => at2_eq (aV m c) _ (show win0_3.index t 0 * 48 + 1 * a.val = _ by omega) (show win0_3.index t 1 * 1024 + 1 * b.val = _ by omega)⟩

theorem final4 : (dats m 0 c).arrAt 4 cfg0.N = gArr (aP m c) :=
  (dats m 0 c).arrAt_eq_of_covers 4 _ (by decide +kernel) fun t _ y => by
    have hi := idx t
    obtain ⟨a, b, rfl⟩ : ∃ (a : Fin 48) (b : Fin 1024), y = ix2 a b := ⟨y 0, y 1, eta2 (n := 48) (k := 1024) y⟩
    blk_simp; rw [after0_4]; frame_out; pointwise [k0_pay2]
    exact (tile m c t).g a b (show win0_4.index t 0 * 48 + 1 * a.val = _ by omega) (show win0_4.index t 1 * 1024 + 1 * b.val = _ by omega)

theorem final5 : (dats m 0 c).arrAt 5 cfg0.N = dArr (aP m c) (aW m c) (aM m c) (aV m c) :=
  (dats m 0 c).arrAt_eq_of_covers 5 _ (by decide +kernel) fun t _ y => by
    have hi := idx t
    obtain ⟨a, b, rfl⟩ : ∃ (a : Fin 48) (b : Fin 1024), y = ix2 a b := ⟨y 0, y 1, eta2 (n := 48) (k := 1024) y⟩
    blk_simp; rw [after0_5]; frame_out; pointwise [k0_pay1, k0_pay2, k0_pay3, k0_pay4, k0_pay5, k0_pay6]
    have h0 : win0_5.index t 0 * 48 + 1 * a.val = 48 * t.val + a.val := by omega
    have h1 : win0_5.index t 1 * 1024 + 1 * b.val = b.val := by omega
    exact (tile m c t).delta a b h0 h1 ((tile m c t).g a b h0 h1)

theorem final6 : (dats m 0 c).arrAt 6 cfg0.N = mArr (aP m c) (aM m c) :=
  (dats m 0 c).arrAt_eq_of_covers 6 _ (by decide +kernel) fun t _ y => by
    have hi := idx t
    obtain ⟨a, b, rfl⟩ : ∃ (a : Fin 48) (b : Fin 1024), y = ix2 a b := ⟨y 0, y 1, eta2 (n := 48) (k := 1024) y⟩
    blk_simp; rw [after0_6]; frame_out; pointwise [k0_pay2, k0_pay3, k0_pay5]
    have h0 : win0_6.index t 0 * 48 + 1 * a.val = 48 * t.val + a.val := by omega
    have h1 : win0_6.index t 1 * 1024 + 1 * b.val = b.val := by omega
    exact (tile m c t).mom a b h0 h1 ((tile m c t).g a b h0 h1)

theorem final7 : (dats m 0 c).arrAt 7 cfg0.N = vArr (aP m c) (aV m c) :=
  (dats m 0 c).arrAt_eq_of_covers 7 _ (by decide +kernel) fun t _ y => by
    have hi := idx t
    obtain ⟨a, b, rfl⟩ : ∃ (a : Fin 48) (b : Fin 1024), y = ix2 a b := ⟨y 0, y 1, eta2 (n := 48) (k := 1024) y⟩
    blk_simp; rw [after0_7]; frame_out; pointwise [k0_pay2, k0_pay4, k0_pay6]
    have h0 : win0_7.index t 0 * 48 + 1 * a.val = 48 * t.val + a.val := by omega
    have h1 : win0_7.index t 1 * 1024 + 1 * b.val = b.val := by omega
    exact (tile m c t).sq a b h0 h1 ((tile m c t).g a b h0 h1)

theorem values : Cert.algebraic_AdamSmallIdeal_AdamSmallRefIdeal := fun m g m' g' _ h =>
  ⟨fun c => gArr (aP m c), fun c => dArr (aP m c) (aW m c) (aM m c) (aV m c), fun c => mArr (aP m c) (aM m c), fun c => vArr (aP m c) (aV m c),
    (θ_run _ _ _).mono (fun _ hr c => ⟨(hr c).1.trans (final4 m c), (hr c).2.1.trans (final5 m c), (hr c).2.2.1.trans (final6 m c),
      (hr c).2.2.2.1.trans (final7 m c), (hr c).2.2.2.2⟩) (Cert.AdamSmallIdeal.Value.run_blocks m g),
    (θ_run _ _ _).mono (fun _ hr c => by
      obtain ⟨h0, h1, h2, h3, hk⟩ := hr c
      obtain ⟨a0, a1, a2, a3⟩ := h c
      have s := Tile.self (aP m c) (aW m c) (aM m c) (aV m c)
      have hg (a b) := s.sum a b (zero_add _).symm rfl
      refine ⟨h0.trans (funext fun i => ?_), h1.trans (funext fun i => ?_), h2.trans (funext fun i => ?_), h3.trans (funext fun i => ?_), hk⟩ <;>
        obtain ⟨a, b, rfl⟩ : ∃ (a : Fin 48) (b : Fin 1024), i = ix2 a b := ⟨i 0, i 1, eta2 (n := 48) (k := 1024) i⟩
      · rw [a0]; pointwise; exact hg a b
      · rw [a0, a1, a2, a3]; pointwise; exact s.delta a b (zero_add _).symm rfl (hg a b)
      · rw [a0, a2]; pointwise; exact s.mom a b (zero_add _).symm rfl (hg a b)
      · rw [a0, a3]; pointwise; exact s.sq a b (zero_add _).symm rfl (hg a b)) (Cert.AdamSmallRefIdeal.Value.run m' g')⟩

end Cert.AdamSmallIdeal.Row

end
-- ==== Proof.Sum.lean ====
module

public import proofs.«01_k».proof.Defs
public import proofs.«01_k».proof.Proof.MatMath
public import proofs.«01_k».proof.Proof.Gen.DProjIdeal.Value
public import proofs.«01_k».proof.Proof.Gen.DProjRefIdeal.Run

/-!
The gradient at the input projection: the mixer's two gradients, the second moved up by a row, beside the
nine of the attention, with zero columns after them.
-/

@[expose] public section

set_option maxRecDepth 16384

noncomputable section

open Cert.MatMath Finset Idealize.ShloMosaic Idealize.ShloMosaic.TcCoe Idealize.SL.Sem

namespace Cert.DProjIdeal.Row

open Cert.DProjIdeal Cert.DProjIdeal.Gen

/-- A row of the gradient: 2048 numbers, nine runs of 256, and zeros. -/
def lay (s : ℕ → EReal) (P : ℕ → ℕ → EReal) (b : ℕ) : EReal :=
  if b < 2048 then s b else if b < 4352 then P ((b - 2048) / 256) ((b - 2048) % 256) else 0

section lay
variable {s : ℕ → EReal} {P : ℕ → ℕ → EReal} {b : ℕ}

theorem lay_low (h : b < 2048) : lay s P b = s b := if_pos h

theorem lay_part (k : ℕ) {j : ℕ} (hk : k < 9) (hj : j < 256) (h : b = 2048 + 256 * k + j) : lay s P b = P k j := by
  unfold lay
  rw [if_neg (by omega), if_pos (by omega), show (b - 2048) / 256 = k by omega, show (b - 2048) % 256 = j by omega]

theorem lay_high (h : 4352 ≤ b) : lay s P b = 0 := by
  unfold lay
  rw [if_neg (by omega), if_neg (by omega)]

/-- One run of 256 against the rest. -/
theorem peel (k : ℕ) {o : ℕ} (hk : k < 9) (ho : b = 2048 + 256 * k + o) {x : o < 256 → EReal} {y : ¬o < 256 → EReal}
    (hx : ∀ h, x h = P k o) (hy : ∀ h, b = 2048 + 256 * (k + 1) + (o - 256) → y h = lay s P b) :
    dite (o < 256) x y = lay s P b := by
  by_cases h : o < 256
  · rw [dif_pos h, hx, lay_part k hk h ho]
  · rw [dif_neg h, hy h (by omega)]

end lay

theorem ge7 (a : Fin 8) : IntOp.cmpi .sge (BitVec.ofNat 32 a.val) 7#32 = if 7 ≤ a.val then 1#1 else 0#1 := by
  revert a; decide

theorem lt7 (a : Fin 8) : Scalar.cmpi .slt (BitVec.ofNat 32 a.val) 7#32 = if a.val < 7 then 1#1 else 0#1 := by
  revert a; decide

/-- A tile's sum: its rows of the first array, and the second array's next rows. -/
theorem pay3_apply (A B : Arr 4096 2048) (i : grid0.Coords) (r : ℕ) (hr : (i 0).val = r)
    (v0 v1 : Vec Ideal S512x2048 .f32) (v2 : Vec Ideal S8x2048 .f32)
    (h0 : ∀ a b, v0 (ix2 a b) = at2 A (512 * r + a.val) b.val)
    (h1 : ∀ a b, v1 (ix2 a b) = at2 B (512 * r + a.val) b.val)
    (h2 : r < 7 → ∀ a b, v2 (ix2 a b) = at2 B (512 * (r + 1) + a.val) b.val) (a : Fin 512) (b : Fin 2048) :
    k0_pay3 i v0 v1 v2 (ix2 a b) = at2 A (512 * r + a.val) b.val + at2 B (512 * r + a.val + 1) b.val := by
  have hj : a.val < 512 := a.isLt
  have hi : (i 0).val < 8 := (i 0).isLt
  pointwise [k0_pay3]
  rw [h0]
  congr 1
  split
  · rw [h1]; congr 1; dsimp only; omega
  · rw [ge7 ⟨a.val - 504, by omega⟩]
    simp only [Scalar.select]
    by_cases hz : 7 ≤ a.val - 504
    · rw [if_pos hz]
      refine (if_pos rfl).trans ?_
      have hg := lt7 ⟨(i 0).val, hi⟩
      dsimp only at hg
      rw [hg]
      by_cases hy : (i 0).val < 7
      · rw [if_pos hy]
        refine (if_pos rfl).trans ((h2 (by omega) _ _).trans ?_); congr 1; dsimp only; omega
      · rw [if_neg hy]
        refine (if_neg (by decide)).trans ?_
        unfold at2
        rw [dif_neg (by omega)]
    · rw [if_neg hz]; refine (if_neg (by decide)).trans ((h1 _ _).trans ?_); congr 1; dsimp only; omega

/-- The eleven pieces of a tile side by side. -/
theorem pay1_apply {s : ℕ → EReal} {P : ℕ → ℕ → EReal} (a : Fin 512) {V : FVec Ideal S512x2048 .f32}
    {B0 B1 B2 B3 B4 B5 B6 B7 B8 Z : FVec Ideal S512x256 .f32} (hs : ∀ j, V (ix2 a j) = s j.val)
    (h0 : ∀ j, B0 (ix2 a j) = P 0 j.val) (h1 : ∀ j, B1 (ix2 a j) = P 1 j.val) (h2 : ∀ j, B2 (ix2 a j) = P 2 j.val)
    (h3 : ∀ j, B3 (ix2 a j) = P 3 j.val) (h4 : ∀ j, B4 (ix2 a j) = P 4 j.val) (h5 : ∀ j, B5 (ix2 a j) = P 5 j.val)
    (h6 : ∀ j, B6 (ix2 a j) = P 6 j.val) (h7 : ∀ j, B7 (ix2 a j) = P 7 j.val) (h8 : ∀ j, B8 (ix2 a j) = P 8 j.val)
    (hz : ∀ j, Z (ix2 a j) = 0) (b : Fin 4608) :
    k0_pay1 B3 B4 B5 B6 B7 B8 Z V B0 B1 B2 (ix2 a b) = lay s P b.val := by
  pointwise [k0_pay1]
  by_cases hb : b.val < 2048
  · rw [dif_pos hb]
    exact (hs _).trans (lay_low hb).symm
  rw [dif_neg hb]
  refine peel 0 (by decide) (by omega) (fun _ => h0 _) fun _ e => ?_
  refine peel 1 (by decide) e (fun _ => h1 _) fun _ e => ?_
  refine peel 2 (by decide) e (fun _ => h2 _) fun _ e => ?_
  refine peel 3 (by decide) e (fun _ => h3 _) fun _ e => ?_
  refine peel 4 (by decide) e (fun _ => h4 _) fun _ e => ?_
  refine peel 5 (by decide) e (fun _ => h5 _) fun _ e => ?_
  refine peel 6 (by decide) e (fun _ => h6 _) fun _ e => ?_
  refine peel 7 (by decide) e (fun _ => h7 _) fun _ e => ?_
  refine peel 8 (by decide) e (fun _ => h8 _) fun _ e => ?_
  exact (hz _).trans (lay_high (by omega)).symm

theorem row {x t n : ℕ} (a : ℕ) (h : x = t) : x * n + 1 * a = n * t + a := by rw [h, one_mul, Nat.mul_comm]

theorem col {x n : ℕ} (a : ℕ) (h : x = 0) : x * n + 1 * a = a := by rw [h, zero_mul, one_mul, zero_add]

theorem idx : ∀ t : Fin cfg0.N, win0_0.index t 0 = t.val ∧ win0_0.index t 1 = 0 ∧ win0_1.index t 0 = t.val ∧
    win0_1.index t 1 = 0 ∧ (t.val < 7 → win0_2.index t 0 = 64 * (t.val + 1)) ∧ win0_2.index t 1 = 0 ∧
    win0_3.index t 0 = t.val ∧ win0_3.index t 1 = 0 ∧ win0_4.index t 0 = t.val ∧ win0_4.index t 1 = 0 ∧
    win0_5.index t 0 = t.val ∧ win0_5.index t 1 = 0 ∧ win0_6.index t 0 = t.val ∧ win0_6.index t 1 = 0 ∧
    win0_7.index t 0 = t.val ∧ win0_7.index t 1 = 0 ∧ win0_8.index t 0 = t.val ∧ win0_8.index t 1 = 0 ∧
    win0_9.index t 0 = t.val ∧ win0_9.index t 1 = 0 ∧ win0_10.index t 0 = t.val ∧ win0_10.index t 1 = 0 ∧
    win0_11.index t 0 = t.val ∧ win0_11.index t 1 = 0 ∧ win0_12.index t 0 = t.val ∧ win0_12.index t 1 = 0 ∧
    (grid0.coords t 0).val = t.val :=
  (by decide +kernel : ∀ t : Fin grid0.N, _)

variable (m : (ℓ : Loc nD τ sig) → Buf (Elt Ideal) ℓ) (c : Dev nD)

abbrev aP : Arr 4096 2048 := m ((c : Thread nD τ).loc main_arg0)
abbrev aS : Arr 4096 2048 := m ((c : Thread nD τ).loc main_arg1)
abbrev aQ0 : Arr 4096 256 := m ((c : Thread nD τ).loc main_arg2)
abbrev aQ1 : Arr 4096 256 := m ((c : Thread nD τ).loc main_arg3)
abbrev aQ2 : Arr 4096 256 := m ((c : Thread nD τ).loc main_arg4)
abbrev aQ3 : Arr 4096 256 := m ((c : Thread nD τ).loc main_arg5)
abbrev aQ4 : Arr 4096 256 := m ((c : Thread nD τ).loc main_arg6)
abbrev aQ5 : Arr 4096 256 := m ((c : Thread nD τ).loc main_arg7)
abbrev aQ6 : Arr 4096 256 := m ((c : Thread nD τ).loc main_arg8)
abbrev aQ7 : Arr 4096 256 := m ((c : Thread nD τ).loc main_arg9)
abbrev aQ8 : Arr 4096 256 := m ((c : Thread nD τ).loc main_arg10)

/-- The attention's gradients at a row. -/
def att (r : ℕ) : ℕ → ℕ → EReal
  | 0 => at2 (aQ0 m c) r
  | 1 => at2 (aQ1 m c) r
  | 2 => at2 (aQ2 m c) r
  | 3 => at2 (aQ3 m c) r
  | 4 => at2 (aQ4 m c) r
  | 5 => at2 (aQ5 m c) r
  | 6 => at2 (aQ6 m c) r
  | 7 => at2 (aQ7 m c) r
  | _ => at2 (aQ8 m c) r

/-- The gradient at row `r`, column `b`. -/
def grad (r b : ℕ) : EReal := lay (fun j => at2 (aP m c) r j + at2 (aS m c) (r + 1) j) (att m c r) b

theorem final : (dats m 0 c).arrAt 12 cfg0.N = fun i => grad m c (i 0).val (i 1).val :=
  (dats m 0 c).arrAt_eq_of_covers 12 _ (by decide +kernel) fun t _ y => by
    obtain ⟨r0, c0, r1, c1, r2, c2, r3, c3, r4, c4, r5, c5, r6, c6, r7, c7, r8, c8, r9, c9, r10, c10, r11, c11, r12, c12, ht⟩ := idx t
    obtain ⟨a, b, rfl⟩ : ∃ (a : Fin 512) (b : Fin 4608), y = ix2 a b := ⟨y 0, y 1, eta2 (n := 512) (k := 4608) y⟩
    blk_simp
    rw [after0_12]
    frame_out
    refine Eq.trans (pay1_apply (s := fun j => at2 (aP m c) (512 * t.val + a.val) j + at2 (aS m c) (512 * t.val + a.val + 1) j)
      (P := att m c (512 * t.val + a.val)) a ?_ ?_ ?_ ?_ ?_ ?_ ?_ ?_ ?_ ?_ ?_ b) ?_
    · intro j
      exact pay3_apply (aP m c) (aS m c) (grid0.coords t) t.val ht _ _ _
        (fun a b => at2_eq (aP m c) _ (row a.val r0) (col b.val c0))
        (fun a b => at2_eq (aS m c) _ (row a.val r1) (col b.val c1))
        (fun h a b => at2_eq (aS m c) _ (show win0_2.index t 0 * 8 + 1 * a.val = _ by rw [r2 h]; omega) (col b.val c2)) a j
    · intro j; pointwise [k0_pay4]; exact at2_eq (aQ0 m c) _ (row a.val r3) (col j.val c3)
    · intro j; pointwise [k0_pay5]; exact at2_eq (aQ1 m c) _ (row a.val r4) (col j.val c4)
    · intro j; pointwise [k0_pay6]; exact at2_eq (aQ2 m c) _ (row a.val r5) (col j.val c5)
    · intro j; exact at2_eq (aQ3 m c) _ (row a.val r6) (col j.val c6)
    · intro j; exact at2_eq (aQ4 m c) _ (row a.val r7) (col j.val c7)
    · intro j; exact at2_eq (aQ5 m c) _ (row a.val r8) (col j.val c8)
    · intro j; exact at2_eq (aQ6 m c) _ (row a.val r9) (col j.val c9)
    · intro j; exact at2_eq (aQ7 m c) _ (row a.val r10) (col j.val c10)
    · intro j; exact at2_eq (aQ8 m c) _ (row a.val r11) (col j.val c11)
    · intro j; pointwise [k0_pay2]
    · rw [show win0_12.index t 0 * 512 + a.val = 512 * t.val + a.val by rw [r12, Nat.mul_comm],
        show win0_12.index t 1 * 4608 + b.val = b.val by rw [c12, zero_mul, zero_add]]
      rfl

set_option maxHeartbeats 1000000 in
theorem values : Cert.algebraic_DProjIdeal_DProjRefIdeal := fun m g m' g' _ h =>
  ⟨fun c i => grad m c (i 0).val (i 1).val,
    (θ_run _ _ _).mono (fun _ hr c => ⟨(hr c).1.trans (final m c), (hr c).2⟩) (Cert.DProjIdeal.Value.run_blocks m g),
    (θ_run _ _ _).mono (fun _ hr c => ⟨(hr c).1.trans (by
      obtain ⟨e0, e1, e2, e3, e4, e5, e6, e7, e8, e9, e10⟩ := h c
      funext i
      obtain ⟨a, b, rfl⟩ : ∃ (a : Fin 4096) (b : Fin 4608), i = ix2 a b := ⟨i 0, i 1, eta2 (n := 4096) (k := 4608) i⟩
      pointwise
      by_cases hb : b.val < 2048
      · refine Eq.trans (congrArg₂ (· + ·) (dif_neg fun e => absurd hb (Nat.not_lt.mpr e.1)) (dif_pos hb)) ((zero_add _).trans (Eq.trans ?_ (lay_low hb).symm))
        congr 1
        · exact (congrFun e0 _).trans (at2_val (aP m c) a ⟨b.val, hb⟩).symm
        · by_cases ha : a.val < 4095
          · rw [dif_pos ⟨ha, hb⟩]
            exact (congrFun e1 _).trans <| at2_eq (aS m c) _ (show 1 + a.val = a.val + 1 by omega) rfl
          · rw [dif_neg (fun e => ha e.1)]
            unfold at2
            rw [dif_neg (by omega)]
      · by_cases hb' : b.val < 4352
        · refine Eq.trans (congrArg₂ (· + ·) (dif_pos ⟨by omega, by omega⟩) (dif_neg hb)) ((add_zero _).trans ?_)
          refine peel 0 (by decide) (by omega) (fun _ => (congrFun e2 _).trans (at2_eq (aQ0 m c) _ rfl rfl)) fun _ e => ?_
          refine peel 1 (by decide) e (fun _ => (congrFun e3 _).trans (at2_eq (aQ1 m c) _ rfl rfl)) fun _ e => ?_
          refine peel 2 (by decide) e (fun _ => (congrFun e4 _).trans (at2_eq (aQ2 m c) _ rfl rfl)) fun _ e => ?_
          refine peel 3 (by decide) e (fun _ => (congrFun e5 _).trans (at2_eq (aQ3 m c) _ rfl rfl)) fun _ e => ?_
          refine peel 4 (by decide) e (fun _ => (congrFun e6 _).trans (at2_eq (aQ4 m c) _ rfl rfl)) fun _ e => ?_
          refine peel 5 (by decide) e (fun _ => (congrFun e7 _).trans (at2_eq (aQ5 m c) _ rfl rfl)) fun _ e => ?_
          refine peel 6 (by decide) e (fun _ => (congrFun e8 _).trans (at2_eq (aQ6 m c) _ rfl rfl)) fun _ e => ?_
          refine peel 7 (by decide) e (fun _ => (congrFun e9 _).trans (at2_eq (aQ7 m c) _ rfl rfl)) fun _ e => ?_
          rw [lay_part (j := b.val - 4096) 8 (by decide) (by omega) (by omega)]
          exact (congrFun e10 _).trans (at2_eq (aQ8 m c) _ rfl (show b.val - 2048 - 256 - 256 - 256 - 256 - 256 - 256 - 256 - 256 = b.val - 4096 by omega))
        · exact (congrArg₂ (· + ·) (dif_neg (show ¬(2048 ≤ b.val ∧ b.val - 2048 < 2304) by omega)) (dif_neg hb)).trans ((add_zero _).trans (lay_high (by omega)).symm)), (hr c).2⟩) (Cert.DProjRefIdeal.Value.run m' g')⟩

end Cert.DProjIdeal.Row
end
-- ==== Proof.ConvFwd.lean ====
module

public import proofs.«01_k».proof.Defs
public import proofs.«01_k».proof.Proof.MatMath
public import proofs.«01_k».proof.Proof.ConvTile
public import proofs.«01_k».proof.Proof.Gen.ConvFwdIdeal.Value
public import proofs.«01_k».proof.Proof.Gen.ConvFwdRefIdeal.Run

/-!
The forward gated convolution: a causal three-tap convolution of every column, and each gate column's gated
tanh times its value column.
-/

@[expose] public section

set_option maxRecDepth 16384

noncomputable section

open Cert.MatMath Cert.ConvMath Finset Idealize.ShloMosaic Idealize.ShloMosaic.TcCoe Idealize.SL.Sem

namespace Cert.ConvFwdRefIdeal.Row

open Cert.ConvFwdRefIdeal Cert.ConvFwdRefIdeal.Gen

/-- The reference's convolution. -/
def convT (u : FVec Ideal S4096x6144 .f32) (w : FVec Ideal S3x6144 .f32) (b : FVec Ideal S1x6144 .f32) : FVec Ideal S1x4096x6144 .f32 :=
  addf (broadcastInDim S1x4096x6144 ![0, 1, 2] bcast_S1x1x6144_S1x4096x6144_0_1_2 (broadcastInDim S1x1x6144 ![2] bcast_S6144_S1x1x6144_2 (shapeCast _ b shapeCasts_S1x6144_S6144)))
    (addf (addf (addf (broadcastInDim S1x4096x6144 ![] bcast_S_S1x4096x6144 (constant S_ .f32 0x00000000#32))
      (mulf (broadcastInDim S1x4096x6144 ![0, 1, 2] bcast_S1x1x6144_S1x4096x6144_0_1_2 (broadcastInDim S1x1x6144 ![2] bcast_S6144_S1x1x6144_2 (shapeCast _ (extractStridedSlice S1x6144 ![0, 0] w slices_S3x6144_S1x6144_0_0) shapeCasts_S1x6144_S6144))) (broadcastInDim S1x4096x6144 ![1, 2] bcast_S4096x6144_S1x4096x6144_1_2 u)))
      (mulf (broadcastInDim S1x4096x6144 ![0, 1, 2] bcast_S1x1x6144_S1x4096x6144_0_1_2 (broadcastInDim S1x1x6144 ![2] bcast_S6144_S1x1x6144_2 (shapeCast _ (extractStridedSlice S1x6144 ![1, 0] w slices_S3x6144_S1x6144_1_0) shapeCasts_S1x6144_S6144)))
        (concatenate S1x4096x6144 1 [⟨S1x1x6144, (broadcastInDim S1x1x6144 ![] bcast_S_S1x1x6144 (constant S_ .f32 0x00000000#32))⟩,
          ⟨S1x4095x6144, (extractStridedSlice S1x4095x6144 ![0, 0, 0] (broadcastInDim S1x4096x6144 ![1, 2] bcast_S4096x6144_S1x4096x6144_1_2 u) slices_S1x4096x6144_S1x4095x6144_0_0_0)⟩] concatenates_S1x1x6144_S1x4095x6144_S1x4096x6144_d1)))
      (mulf (broadcastInDim S1x4096x6144 ![0, 1, 2] bcast_S1x1x6144_S1x4096x6144_0_1_2 (broadcastInDim S1x1x6144 ![2] bcast_S6144_S1x1x6144_2 (shapeCast _ (extractStridedSlice S1x6144 ![2, 0] w slices_S3x6144_S1x6144_2_0) shapeCasts_S1x6144_S6144)))
        (concatenate S1x4096x6144 1 [⟨S1x2x6144, (broadcastInDim S1x2x6144 ![] bcast_S_S1x2x6144 (constant S_ .f32 0x00000000#32))⟩,
          ⟨S1x4094x6144, (extractStridedSlice S1x4094x6144 ![0, 0, 0] (broadcastInDim S1x4096x6144 ![1, 2] bcast_S4096x6144_S1x4096x6144_1_2 u) slices_S1x4096x6144_S1x4094x6144_0_0_0)⟩] concatenates_S1x2x6144_S1x4094x6144_S1x4096x6144_d1)))

/-- The reference's gated unit. -/
def gluT (x : FVec Ideal S1x4096x6144 .f32) : FVec Ideal S4096x3072 .bf16 :=
  have g := extractStridedSlice S1x4096x3072 ![0, 0, 0] x slices_S1x4096x6144_S1x4096x3072_0_0_0
  have k := fun n : BitVec 32 => broadcastInDim S1x4096x3072 ![] bcast_S_S1x4096x3072 (constant (F := Ideal) S_ .f32 n)
  truncf .bf16 (shapeCast _ (mulf (mulf g (mulf (k 0x3F000000#32) (addf (k 0x3F800000#32)
      (Host.tanh (mulf (k 0x3F4C422A#32) (addf g (mulf (k 0x3D372713#32) (mulf (mulf g g) g))))))))
    (extractStridedSlice S1x4096x3072 ![0, 0, 3072] x slices_S1x4096x6144_S1x4096x3072_0_0_3072)) shapeCasts_S1x4096x3072_S4096x3072) bitsLt_bf16_f32

variable (m : (ℓ : Loc nD τ sig) → Buf (Elt Ideal) ℓ) (c : Dev nD)

theorem res_eq : Value.res_main_v47 (F := Ideal) m c = gluT (convT (m ((c.tc : Thread nD τ).loc main_arg0)) (m ((c.tc : Thread nD τ).loc main_arg1))
    (m ((c.tc : Thread nD τ).loc main_arg2))) := rfl

theorem convT_apply (u : FVec Ideal S4096x6144 .f32) (w : FVec Ideal S3x6144 .f32) (b : FVec Ideal S1x6144 .f32) (n : Fin 4096) (c : Fin 6144) :
    convT u w b (ix3 0 n c) = conv u w b n.val c := by
  have e0 : u (ix2 n c) = back u 0 n.val c := by
    unfold back; rw [dif_pos ⟨Nat.zero_le _, n.isLt⟩]; rfl
  have e1 : (if h : n.val < 1 then (0 : EReal) else u (ix2 ⟨n.val - 1, by omega⟩ c)) = back u 1 n.val c := by
    unfold back
    split
    · rw [dif_neg (by omega)]
    · rw [dif_pos (by omega)]
  have e2 : (if h : n.val < 2 then (0 : EReal) else u (ix2 ⟨n.val - 2, by omega⟩ c)) = back u 2 n.val c := by
    unfold back
    split
    · rw [dif_neg (by omega)]
    · rw [dif_pos (by omega)]
  pointwise [convT]
  rw [e1, e2, e0]
  simp only [conv, add_assoc]

/-- A gated unit. -/
def glu (x y : EReal) : EReal := hf * x * (1 + th x) * y

theorem gluT_apply (x : FVec Ideal S1x4096x6144 .f32) (n : Fin 4096) (c : Fin 3072) :
    gluT x (ix2 n c) = glu (x (ix3 0 n (colG c))) (x (ix3 0 n (colV c))) := by
  have e : ∀ p y : EReal, p * (hf * (1 + th p)) * y = glu p y := fun p y => by
    unfold glu; simp only [mul_assoc, mul_comm, mul_left_comm]
  rw [← e]
  unfold colG colV th k1 k2 hf
  pointwise [gluT]

end Cert.ConvFwdRefIdeal.Row

namespace Cert.ConvFwdIdeal.Row

open Cert.ConvFwdIdeal Cert.ConvFwdIdeal.Gen Cert.ConvFwdRefIdeal.Row
open Cert.KernelIdeal.Conv (mv1 mv2 mv1_apply mv2_apply)

/-- The convolved tile, the rows `z` above it given. -/
def tile (z : FVec Ideal S8x512 .f32) (x : Vec Ideal S512x512 .f32) (w : Vec Ideal S3x512 .f32) (b : Vec Ideal S1x512 .f32) : FVec Ideal S512x512 .f32 :=
  addf (addf (addf (broadcastTo S512x512 b broadcasts_S1x512_S512x512)
      (mulf (broadcastTo S512x512 (extractStridedSlice S1x512 ![0, 0] w slices_S3x512_o0_0_S1x512) broadcasts_S1x512_S512x512) x))
      (mulf (broadcastTo S512x512 (extractStridedSlice S1x512 ![1, 0] w slices_S3x512_o1_0_S1x512) broadcasts_S1x512_S512x512) (mv1 z x)))
    (mulf (broadcastTo S512x512 (extractStridedSlice S1x512 ![2, 0] w slices_S3x512_o2_0_S1x512) broadcasts_S1x512_S512x512) (mv2 z x))

theorem gate_eq (i : grid0.Coords) (v0 : Vec Ideal S512x512 .f32) (v1 : Vec Ideal S8x512 .f32) (v4 : Vec Ideal S3x512 .f32) (v5 : Vec Ideal S1x512 .f32) :
    k0_pay8 (k0_pay3 i v0 v1 v4 v5) (k0_pay4 v4) (k0_pay5 v0) (k0_pay6 i v1) (iota .tc S8x512 32 [0] iota_S8x512_d0_w32) k0_pay7
      = tile (k0_pay2 i v1) v0 v4 v5 := rfl

theorem value_eq (i : grid0.Coords) (v0 : Vec Ideal S512x512 .f32) (v1 : Vec Ideal S8x512 .f32) (v4 : Vec Ideal S3x512 .f32) (v5 : Vec Ideal S1x512 .f32) :
    k0_pay9 v0 v1 v4 v5 (Scalar.cmpi .sgt (BitVec.ofNat 32 (i 1).val) 0#32) = tile (k0_pay2 i v1) v0 v4 v5 := rfl

theorem tile_open (z : FVec Ideal S8x512 .f32) (x : Vec Ideal S512x512 .f32) (w : Vec Ideal S3x512 .f32) (b : Vec Ideal S1x512 .f32) (p q : Fin 512) :
    tile z x w b (ix2 p q) = b (ix2 0 q) + w (ix2 0 q) * x (ix2 p q) + w (ix2 1 q) * mv1 z x (ix2 p q) + w (ix2 2 q) * mv2 z x (ix2 p q) := by
  unfold tile
  generalize mv1 z x = s1
  generalize mv2 z x = s2
  pointwise

/-- The result's tile from the two convolved tiles. -/
theorem out_open (X : FVec Ideal S512x512 .f32) (v28 : FVec Ideal S512x512 .f32) (v29 : FVec Ideal S1x512 .f32) (v30 : FVec Ideal S512x512 .f32)
    (v31 : FVec Ideal S8x512 .f32) (v32 v33 : IVec S8x512 32) (p q : Fin 512) :
    k0_pay1 X (k0_pay10 v28 v29 v30 v31 v32 v33) (k0_pay11 v28 v29 v30 v31 v32 v33) (ix2 p q)
      = glu (k0_pay8 v28 v29 v30 v31 v32 v33 (ix2 p q)) (X (ix2 p q)) := by
  unfold glu th hf k1 k2 k0_pay10 k0_pay11
  generalize k0_pay8 v28 v29 v30 v31 v32 v33 = Y
  pointwise [k0_pay1]

theorem gt0 (a : Fin 8) : Scalar.cmpi .sgt (BitVec.ofNat 32 a.val) 0#32 = if 0 < a.val then 1#1 else 0#1 := by
  revert a; decide

theorem pay2_apply (i : grid0.Coords) (v1 : Vec Ideal S8x512 .f32) (a : Fin 8) (b : Fin 512) :
    k0_pay2 i v1 (ix2 a b) = if 0 < (i 1).val then v1 (ix2 a b) else 0 := by
  have hi : (i 1).val < 8 := (i 1).isLt
  pointwise [k0_pay2]
  have hg := gt0 ⟨(i 1).val, hi⟩
  by_cases h : 0 < (i 1).val
  · rw [if_pos h]; exact if_pos (hg.trans (if_pos h))
  · rw [if_neg h]; exact if_neg (fun e => absurd ((hg.trans (if_neg h)).symm.trans e) (by decide))

section Tile

variable (U : Arr 4096 6144) (W : Arr 3 6144) (B : Arr 1 6144) (i : grid0.Coords) (r : ℕ) (hr : (i 1).val = r) (col : Fin 512 → Fin 6144)
  (x : Vec Ideal S512x512 .f32) (v : Vec Ideal S8x512 .f32) (w : Vec Ideal S3x512 .f32) (b : Vec Ideal S1x512 .f32)
  (hx : ∀ p q : Fin 512, x (ix2 p q) = back U 0 (512 * r + p.val) (col q))
  (hv : 0 < r → ∀ (p : Fin 8) (q : Fin 512), v (ix2 p q) = back U 0 (512 * r - 8 + p.val) (col q))
  (hw : ∀ (k : Fin 3) (q : Fin 512), w (ix2 k q) = W (ix2 k (col q))) (hb : ∀ q : Fin 512, b (ix2 0 q) = B (ix2 0 (col q)))

include hr hx hv hw hb in
/-- The convolved tile at an index. -/
theorem tile_apply (p q : Fin 512) : tile (k0_pay2 i v) x w b (ix2 p q) = conv U W B (512 * r + p.val) (col q) := by
  have hp : p.val < 512 := p.isLt
  have hs : ∀ k n, k ≤ n → back U 0 (n - k) (col q) = back U k n (col q) := fun k n hk => by
    unfold back; simp only [Nat.zero_le, Nat.sub_zero, true_and, hk]
  have hz : ∀ k n, n < k → back U k n (col q) = 0 := fun k n hk => by
    unfold back; rw [dif_neg (by omega)]
  rw [tile_open, mv1_apply, mv2_apply, hx, hw, hw, hw, hb]
  unfold conv
  congr 1
  · congr 2
    split
    · rw [pay2_apply]
      by_cases h0 : 0 < r
      · rw [if_pos (by omega), hv h0, ← hs 1 _ (by omega)]; congr 1; dsimp only; omega
      · rw [if_neg (by omega), hz 1 _ (by omega)]
    · rw [hx, ← hs 1 _ (by omega)]; congr 1; dsimp only; omega
  · congr 1
    split
    · rw [pay2_apply]
      by_cases h0 : 0 < r
      · rw [if_pos (by omega), hv h0, ← hs 2 _ (by omega)]; congr 1; dsimp only; omega
      · rw [if_neg (by omega), hz 2 _ (by omega)]
    · rw [hx, ← hs 2 _ (by omega)]; congr 1; dsimp only; omega

end Tile

/-- An element of the input as a row and a column. -/
theorem read (f : Arr 4096 6144) (i : (⟨2, ![4096, 6144]⟩ : Shape).Idx) {n : ℕ} {d : Fin 6144} (h0 : (i 0).val = n) (h1 : (i 1).val = d.val) :
    f i = back f 0 n d := by
  subst h0
  unfold back
  rw [dif_pos ⟨Nat.zero_le _, (i 0).isLt⟩]
  refine congrArg f (funext fun k => ?_)
  match k with
  | ⟨0, _⟩ => rfl
  | ⟨1, _⟩ => exact Fin.ext h1

/-- An element of a small array as a row and a column. -/
theorem read_row {n : ℕ} (f : Arr n 6144) (i : (⟨2, ![n, 6144]⟩ : Shape).Idx) {k : Fin n} {d : Fin 6144} (h0 : (i 0).val = k.val)
    (h1 : (i 1).val = d.val) : f i = f (ix2 k d) := by
  refine congrArg f (funext fun k => ?_)
  match k with
  | ⟨0, _⟩ => exact Fin.ext h0
  | ⟨1, _⟩ => exact Fin.ext h1

theorem idx : ∀ t : Fin cfg0.N, (win0_0.index t 0 = t.val % 8 ∧ win0_0.index t 1 = t.val / 8) ∧
    ((0 < t.val % 8 → win0_1.index t 0 = 64 * (t.val % 8) - 1) ∧ win0_1.index t 1 = t.val / 8) ∧
    (win0_2.index t 0 = t.val % 8 ∧ win0_2.index t 1 = t.val / 8 + 6) ∧
    ((0 < t.val % 8 → win0_3.index t 0 = 64 * (t.val % 8) - 1) ∧ win0_3.index t 1 = t.val / 8 + 6) ∧
    (win0_4.index t 0 = 0 ∧ win0_4.index t 1 = t.val / 8) ∧ (win0_5.index t 0 = 0 ∧ win0_5.index t 1 = t.val / 8) ∧
    (win0_6.index t 0 = 0 ∧ win0_6.index t 1 = t.val / 8 + 6) ∧ (win0_7.index t 0 = 0 ∧ win0_7.index t 1 = t.val / 8 + 6) ∧
    (win0_8.index t 0 = t.val % 8 ∧ win0_8.index t 1 = t.val / 8) ∧ (grid0.coords t 1).val = t.val % 8 :=
  (by decide +kernel : ∀ t : Fin grid0.N, _)

variable (m : (ℓ : Loc nD τ sig) → Buf (Elt Ideal) ℓ) (c : Dev nD)

abbrev aU : Arr 4096 6144 := m ((c : Thread nD τ).loc main_arg0)
abbrev aW : Arr 3 6144 := m ((c : Thread nD τ).loc main_arg1)
abbrev aB : Arr 1 6144 := m ((c : Thread nD τ).loc main_arg2)

/-- The result at an index. -/
def res (n : ℕ) (d : Fin 3072) : EReal :=
  glu (conv (aU m c) (aW m c) (aB m c) n (colG d)) (conv (aU m c) (aW m c) (aB m c) n (colV d))

theorem final : (dats m 0 c).arrAt 8 cfg0.N = fun i => res m c (i 0).val (i 1) :=
  (dats m 0 c).arrAt_eq_of_covers 8 _ (by decide +kernel) fun t _ y => by
    obtain ⟨⟨r0, c0⟩, ⟨r1, c1⟩, ⟨r2, c2⟩, ⟨r3, c3⟩, ⟨r4, c4⟩, ⟨r5, c5⟩, ⟨r6, c6⟩, ⟨r7, c7⟩, ⟨r8, c8⟩, ht⟩ := idx t
    obtain ⟨a, b, rfl⟩ : ∃ (a : Fin 512) (b : Fin 512), y = ix2 a b := ⟨y 0, y 1, eta2 (n := 512) (k := 512) y⟩
    blk_simp
    rw [after0_8]
    frame_out [k0_pay12, k0_pay13, k0_pay14, k0_pay15, k0_pay16, k0_pay17]
    have hb := b.isLt
    have hN : t.val < 48 := t.isLt
    refine (out_open _ _ _ _ _ _ _ a b).trans ?_
    rw [gate_eq, value_eq]
    refine (congrArg₂ glu
      (tile_apply (aU m c) (aW m c) (aB m c) (grid0.coords t) (t.val % 8) ht (fun q => ⟨512 * (t.val / 8) + q.val, by omega⟩) _ _ _ _ ?_ ?_ ?_ ?_ a b)
      (tile_apply (aU m c) (aW m c) (aB m c) (grid0.coords t) (t.val % 8) ht (fun q => ⟨512 * (t.val / 8 + 6) + q.val, by omega⟩) _ _ _ _ ?_ ?_ ?_ ?_ a b)).trans ?_
    · intro p q
      exact read (aU m c) _ (show win0_0.index t 0 * 512 + 1 * p.val = _ by omega) (show win0_0.index t 1 * 512 + 1 * q.val = 512 * (t.val / 8) + q.val by omega)
    · intro h p q
      have hr := r1 h
      exact read (aU m c) _ (show win0_1.index t 0 * 8 + 1 * p.val = _ by omega) (show win0_1.index t 1 * 512 + 1 * q.val = 512 * (t.val / 8) + q.val by omega)
    · intro k q
      exact read_row (aW m c) _ (show win0_4.index t 0 * 3 + 1 * k.val = k.val by omega) (show win0_4.index t 1 * 512 + 1 * q.val = 512 * (t.val / 8) + q.val by omega)
    · intro q
      exact read_row (aB m c) _ (show win0_5.index t 0 * 1 + 1 * 0 = 0 by omega) (show win0_5.index t 1 * 512 + 1 * q.val = 512 * (t.val / 8) + q.val by omega)
    · intro p q
      exact read (aU m c) _ (show win0_2.index t 0 * 512 + 1 * p.val = _ by omega) (show win0_2.index t 1 * 512 + 1 * q.val = 512 * (t.val / 8 + 6) + q.val by omega)
    · intro h p q
      have hr := r3 h
      exact read (aU m c) _ (show win0_3.index t 0 * 8 + 1 * p.val = _ by omega) (show win0_3.index t 1 * 512 + 1 * q.val = 512 * (t.val / 8 + 6) + q.val by omega)
    · intro k q
      exact read_row (aW m c) _ (show win0_6.index t 0 * 3 + 1 * k.val = k.val by omega) (show win0_6.index t 1 * 512 + 1 * q.val = 512 * (t.val / 8 + 6) + q.val by omega)
    · intro q
      exact read_row (aB m c) _ (show win0_7.index t 0 * 1 + 1 * 0 = 0 by omega) (show win0_7.index t 1 * 512 + 1 * q.val = 512 * (t.val / 8 + 6) + q.val by omega)
    · have e : ((View.whole main_v0).slice (win0_8.rect t)).emb (ix2 a b) 1 = (⟨512 * (t.val / 8) + b.val, by omega⟩ : Fin 3072) :=
        Fin.ext (show win0_8.index t 1 * 512 + 1 * b.val = 512 * (t.val / 8) + b.val by omega)
      rw [e, show win0_8.index t 0 * 512 + a.val = 512 * (t.val % 8) + a.val by omega]
      refine congrArg₂ glu rfl (congrArg (conv (aU m c) (aW m c) (aB m c) _) (Fin.ext ?_))
      show 512 * (t.val / 8 + 6) + b.val = 3072 + (512 * (t.val / 8) + b.val)
      omega

set_option maxHeartbeats 1000000 in
theorem values : Cert.algebraic_ConvFwdIdeal_ConvFwdRefIdeal := fun m g m' g' _ h =>
  ⟨fun c i => res m c (i 0).val (i 1),
    (θ_run _ _ _).mono (fun _ hr c => ⟨(hr c).1.trans (final m c), (hr c).2⟩) (Cert.ConvFwdIdeal.Value.run_blocks m g),
    (θ_run _ _ _).mono (fun _ hr c => ⟨(hr c).1.trans (by
      rw [res_eq, (h c).1, (h c).2.1, (h c).2.2]
      funext i
      obtain ⟨a, b, rfl⟩ : ∃ (a : Fin 4096) (b : Fin 3072), i = ix2 a b := ⟨i 0, i 1, eta2 (n := 4096) (k := 3072) i⟩
      rw [gluT_apply, convT_apply, convT_apply]
      rfl), (hr c).2⟩) (Cert.ConvFwdRefIdeal.Value.run m' g')⟩

end Cert.ConvFwdIdeal.Row

end
-- ==== Proof.ShuffleMath.lean ====
module

public import proofs.«01_k».proof.Proof.MatMath

/-!
The input projection's columns in two layouts: side by side, and with the gaps of the padded layout. A
product with a matrix of zeros and a one per row reads a column.
-/

@[expose] public section

noncomputable section

namespace Cert.ShuffleMath

open Cert.MatMath Finset Idealize.ShloMosaic

/-- The padded layout's column of the column `s`. -/
def place (s : ℕ) : ℕ :=
  s + (if 1600 ≤ s then 64 else 0) + (if 1664 ≤ s then 64 else 0) + (if 1824 ≤ s then 96 else 0)

theorem place_le (s : ℕ) : s ≤ place s ∧ place s ≤ s + 224 := by
  unfold place; split <;> split <;> split <;> omega

theorem place_add (s j : ℕ) : place s ≤ place (s + j) ∧ place (s + j) ≤ place s + j + 224 := by
  unfold place; split_ifs <;> omega

theorem place_low {s : ℕ} (h : s < 1600) : place s = s := by
  unfold place; rw [if_neg (by omega), if_neg (by omega), if_neg (by omega)]; rfl

theorem place_mid {s : ℕ} (h : 1600 ≤ s) (h' : s < 1664) : place s = s + 64 := by
  unfold place; rw [if_pos h, if_neg (by omega), if_neg (by omega)]

theorem place_gate {s : ℕ} (h : 1664 ≤ s) (h' : s < 1824) : place s = s + 128 := by
  unfold place; rw [if_pos (by omega), if_pos h, if_neg (by omega)]

theorem place_high {s : ℕ} (h : 1824 ≤ s) : place s = s + 224 := by
  unfold place; rw [if_pos (by omega), if_pos (by omega), if_pos h]

/-- The columns of the padded layout that hold nothing, before the last column. -/
def Gap (C : ℕ) : Prop := (1600 ≤ C ∧ C < 1664) ∨ (1728 ≤ C ∧ C < 1792) ∨ (1952 ≤ C ∧ C < 2048)

instance (C : ℕ) : Decidable (Gap C) := by unfold Gap; infer_instance

/-- The column that the padded layout's column `C` holds. -/
def source (C : ℕ) : ℕ := if C < 1600 then C else if C < 1728 then C - 64 else if C < 1952 then C - 128 else C - 224

theorem place_eq (s C : ℕ) : place s = C ↔ source C = s ∧ ¬Gap C := by
  unfold place source Gap; split_ifs <;> omega

/-- A column of the padded layout that holds something. -/
def Live (C : ℕ) : Prop := ¬Gap C ∧ source C < 4128

instance (C : ℕ) : Decidable (Live C) := by unfold Live; infer_instance

theorem toInt_small {s : ℕ} (h : s < 2147483648) : (BitVec.ofNat 32 s).toInt = s := by
  rw [BitVec.toInt_ofNat', Int.bmod_def]; omega

theorem ge_word {s k : ℕ} (hs : s < 2147483648) (hk : k < 2147483648) :
    IntOp.cmpi .sge (BitVec.ofNat 32 s) (BitVec.ofNat 32 k) = if k ≤ s then 1#1 else 0#1 := by
  simp only [IntOp.cmpi, BitVec.sle_eq_decide, toInt_small hs, toInt_small hk]
  by_cases h : k ≤ s <;> simp [h]

theorem lt_word {s k : ℕ} (hs : s < 2147483648) (hk : k < 2147483648) :
    IntOp.cmpi .slt (BitVec.ofNat 32 s) (BitVec.ofNat 32 k) = if s < k then 1#1 else 0#1 := by
  simp only [IntOp.cmpi, BitVec.slt_eq_decide, toInt_small hs, toInt_small hk]
  by_cases h : s < k <;> simp [h]

theorem eq_word {s k : ℕ} (hs : s < 2147483648) (hk : k < 2147483648) :
    IntOp.cmpi .eq (BitVec.ofNat 32 s) (BitVec.ofNat 32 k) = if s = k then 1#1 else 0#1 := by
  have h : (BitVec.ofNat 32 s == BitVec.ofNat 32 k) = decide (s = k) := by
    rw [beq_eq_decide]
    congr 1
    rw [← BitVec.toNat_inj, BitVec.toNat_ofNat, BitVec.toNat_ofNat, eq_iff_iff]; omega
  simp only [IntOp.cmpi, h]
  by_cases h : s = k <;> simp [h]

theorem select_word {α : Type} (p : Prop) [Decidable p] (x y : α) :
    Scalar.select (if p then 1#1 else 0#1) x y = if p then x else y := by
  by_cases h : p
  · rw [if_pos h, if_pos h]; exact if_pos rfl
  · rw [if_neg h, if_neg h]; exact if_neg (by decide)

theorem select_ofNat (p : Prop) [Decidable p] (k : ℕ) :
    Scalar.select (if p then 1#1 else 0#1) (BitVec.ofNat 32 k) 0#32 = BitVec.ofNat 32 (if p then k else 0) := by
  rw [select_word]; split <;> rfl

theorem and_word (p q : Prop) [Decidable p] [Decidable q] :
    (if p then 1#1 else 0#1) &&& (if q then 1#1 else 0#1) = if p ∧ q then 1#1 else 0#1 := by
  by_cases h : p <;> by_cases h' : q <;> simp [h, h']

/-- The ones of the matrix: where the padded layout's column is the one asked for, below the shard's width. -/
theorem hit_word {α : Type} {s c j : ℕ} (hs : s < 8192) (hc : c < 8192) (hj : j < 8192) (x y : α) :
    Scalar.select (IntOp.andi
      (IntOp.cmpi .eq
        (IntOp.addi (IntOp.addi (IntOp.addi (BitVec.ofNat 32 s) (Scalar.select (IntOp.cmpi .sge (BitVec.ofNat 32 s) 1600#32) 64#32 0#32))
          (Scalar.select (IntOp.cmpi .sge (BitVec.ofNat 32 s) 1664#32) 64#32 0#32))
          (Scalar.select (IntOp.cmpi .sge (BitVec.ofNat 32 s) 1824#32) 96#32 0#32))
        (BitVec.ofNat 32 c))
      (IntOp.cmpi .slt (BitVec.ofNat 32 j) 516#32)) x y = if place s = c ∧ j < 516 then x else y := by
  have hp := place_le s
  have h : IntOp.addi (IntOp.addi (IntOp.addi (BitVec.ofNat 32 s) (Scalar.select (IntOp.cmpi .sge (BitVec.ofNat 32 s) 1600#32) 64#32 0#32))
      (Scalar.select (IntOp.cmpi .sge (BitVec.ofNat 32 s) 1664#32) 64#32 0#32))
      (Scalar.select (IntOp.cmpi .sge (BitVec.ofNat 32 s) 1824#32) 96#32 0#32) = BitVec.ofNat 32 (place s) := by
    rw [ge_word (k := 1600) (by omega) (by omega), ge_word (k := 1664) (by omega) (by omega), ge_word (k := 1824) (by omega) (by omega),
      select_ofNat _ 64, select_ofNat _ 64, select_ofNat _ 96]
    simp only [place, BitVec.ofNat_add]; rfl
  rw [h, eq_word (by omega) (by omega), lt_word (k := 516) (by omega) (by omega)]
  exact (congrArg (fun b => Scalar.select b x y) (and_word _ _)).trans (select_word _ x y)

/-- A sum over a run of `b` columns from `o` on with one column picked out. -/
theorem pick {b : ℕ} (o p : ℕ) (q : Prop) [Decidable q] (f : ℕ → EReal) :
    ∑ r : Fin b, (if p = o + r.val ∧ q then f (o + r.val) else 0) = if (o ≤ p ∧ p < o + b) ∧ q then f p else 0 := by
  by_cases h : (o ≤ p ∧ p < o + b) ∧ q
  · obtain ⟨⟨h1, h2⟩, h3⟩ := h
    rw [if_pos ⟨⟨h1, h2⟩, h3⟩, sum_eq_single ⟨p - o, by omega⟩]
    · rw [if_pos ⟨by dsimp only; omega, h3⟩]; congr 1; dsimp only; omega
    · intro r _ hr
      rw [if_neg]
      rintro ⟨e, _⟩
      exact hr (Fin.ext (by dsimp only; omega))
    · intro h; exact absurd (mem_univ _) h
  · rw [if_neg h]
    refine sum_eq_zero fun r _ => ?_
    rw [if_neg]
    rintro ⟨e, h3⟩
    exact h ⟨by have := r.isLt; omega, h3⟩

/-- A device's part of the padded layout's column `C`. -/
theorem pick_source (C d : ℕ) (hd : d < 8) (f : ℕ → ℕ → EReal) :
    ∑ r : Fin 640, (if place (516 * d + r.val) = C ∧ r.val < 516 then f d r.val else 0) =
      if source C / 516 = d ∧ Live C then f (source C / 516) (source C % 516) else 0 := by
  have h := pick (b := 640) (516 * d) (source C) (¬Gap C ∧ source C < 516 * d + 516) fun s => f d (s - 516 * d)
  refine (sum_congr rfl fun r _ => ?_).trans (h.trans ?_)
  · have e := place_eq (516 * d + r.val) C
    rw [show 516 * d + r.val - 516 * d = r.val by omega]
    refine if_congr ?_ rfl rfl
    rw [e]; unfold Gap; omega
  · by_cases hq : source C / 516 = d ∧ Live C
    · have hl := hq.2
      unfold Live Gap at hl
      rw [if_pos hq, if_pos (by unfold Gap; omega), hq.1, show source C % 516 = source C - 516 * d by omega]
    · rw [if_neg hq, if_neg]
      unfold Live Gap at hq
      unfold Gap
      omega

/-- The first device whose columns a tile of 768 meets. -/
def lead (j : ℕ) : ℕ := j + (if 3 ≤ j then 1 else 0) + (if 5 ≤ j then 1 else 0)

/-- Three devices from there on hold all of its columns. -/
theorem lead_reach {j b : ℕ} (hj : j < 6) (hb : b < 768) (h : Live (768 * j + b)) :
    lead j ≤ source (768 * j + b) / 516 ∧ source (768 * j + b) / 516 ≤ lead j + 2 := by
  unfold Live source at h
  unfold lead source
  interval_cases j <;> split_ifs at h ⊢ <;> omega

end Cert.ShuffleMath
-- ==== Proof.ShuffleGrad.lean ====
module

public import proofs.«01_k».proof.Defs
public import proofs.«01_k».proof.Proof.ShuffleMath
public import proofs.«01_k».proof.Proof.Gen.ShuffleGradIdeal.Value
public import proofs.«01_k».proof.Proof.Gen.ShuffleGradRefIdeal.Run

/-!
The input projection's gradient cut into the eight devices' shards: the columns of the padded layout read
back side by side, 516 to a device, with zero columns after them.
-/

@[expose] public section

set_option maxRecDepth 16384

noncomputable section

open Cert.MatMath Cert.ShuffleMath Finset Idealize.ShloMosaic Idealize.ShloMosaic.TcCoe Idealize.SL.Sem

namespace Cert.ShuffleGradIdeal.Row

open Cert.ShuffleGradIdeal Cert.ShuffleGradIdeal.Gen

theorem pay4_apply (i : grid0.Coords) (j : Fin 640) (r : Fin 768) :
    k0_pay4 i (ix2 j r) = BitVec.ofNat 32 (768 * cc0_transform_0 i 1 + r.val) := by
  have h : k0_pay4 i (ix2 j r) = BitVec.ofNat 32 (cc0_transform_0 i 1) * 768#32 + BitVec.ofNat 32 r.val := by
    refine Eq.trans ?_ (congrArg (fun x => x * 768#32 + BitVec.ofNat 32 r.val) (BitVec.ofNat_toNat 32 _).symm)
    pointwise [k0_pay4]
    rfl
  rw [h, Nat.mul_comm, BitVec.ofNat_add, BitVec.ofNat_mul]

theorem pay5_apply (i : grid0.Coords) (j : Fin 640) (r : Fin 768) :
    k0_pay5 i (ix2 j r) = BitVec.ofNat 32 (516 * (i 0).val + j.val) := by
  pointwise [k0_pay5]
  rw [BitVec.ofNat_add, BitVec.ofNat_mul, BitVec.mul_comm]
  rfl

/-- A block of 768 columns against the ones: the device's column where it lies in the block. -/
theorem pay1_apply (A : Arr 1024 4608) (i : grid0.Coords) (d w : ℕ) (hd : (i 0).val = d) (hw : cc0_transform_0 i 1 = w)
    (hw' : w < 6) (v : Vec Ideal S1024x768 .bf16) (hv : ∀ a r, v (ix2 a r) = at2 A a.val (768 * w + r.val)) (a : Fin 1024) (j : Fin 640) :
    k0_pay1 (iota .tc S640x768 32 [0] Facts₀.iota_S640x768_d0_w32) (k0_pay4 i) (k0_pay5 i) (k0_pay6 i) v (ix2 a j) =
      if (768 * w ≤ place (516 * d + j.val) ∧ place (516 * d + j.val) < 768 * w + 768) ∧ j.val < 516 then at2 A a.val (place (516 * d + j.val)) else 0 := by
  have hi : (i 0).val < 8 := (i 0).isLt
  rw [← pick]
  pointwise [k0_pay1, k0_pay6]
  refine sum_congr rfl fun r _ => ?_
  rw [pay5_apply, pay4_apply, hit_word (by omega) (by omega) (by omega), hv, hd, hw]

theorem idx : ∀ t : Fin cfg0.N, (win0_0.index t 0 = 0 ∧ win0_0.index t 1 = place (516 * (t.val / 2)) / 768 + t.val % 2) ∧
    cc0_transform_0 (grid0.coords t) 1 = place (516 * (t.val / 2)) / 768 + t.val % 2 ∧ (grid0.coords t 0).val = t.val / 2 ∧
    (win0_1.index t 0 = t.val / 2 ∧ win0_1.index t 1 = 0 ∧ win0_1.index t 2 = 0) ∧ place (516 * (t.val / 2)) / 768 + t.val % 2 < 6 :=
  (by decide +kernel : ∀ t : Fin grid0.N, _)

variable (m : (ℓ : Loc nD τ sig) → Buf (Elt Ideal) ℓ) (c : Dev nD)

abbrev aG : Arr 1024 4608 := m ((c : Thread nD τ).loc main_arg0)

/-- The block's part of a device's shard. -/
def part (d w : ℕ) (a j : ℕ) : EReal :=
  if (768 * w ≤ place (516 * d + j) ∧ place (516 * d + j) < 768 * w + 768) ∧ j < 516 then at2 (aG m c) a (place (516 * d + j)) else 0

theorem block (t : Fin cfg0.N) (a : Fin 1024) (j : Fin 640) :
    k0_pay1 (iota .tc S640x768 32 [0] Facts₀.iota_S640x768_d0_w32) (k0_pay4 (grid0.coords t)) (k0_pay5 (grid0.coords t))
      (k0_pay6 (grid0.coords t)) (iblk m c 0 t : Vec Ideal S1024x768 .bf16) (ix2 a j) =
      part m c (t.val / 2) (place (516 * (t.val / 2)) / 768 + t.val % 2) a.val j.val := by
  obtain ⟨⟨h0, h1⟩, h2, h3, h4, h5⟩ := idx t
  exact pay1_apply (aG m c) _ _ _ h3 h2 h5 _ (fun a r => at2_eq (aG m c) _ (show win0_0.index t 0 * 1024 + 1 * a.val = _ by omega)
    (show win0_0.index t 1 * 768 + 1 * r.val = _ by omega)) a j

/-- The shard: the two blocks' parts together. -/
theorem parts (d a j : ℕ) : part m c d (place (516 * d) / 768) a j + part m c d (place (516 * d) / 768 + 1) a j =
    if j < 516 then at2 (aG m c) a (place (516 * d + j)) else 0 := by
  have h := place_add (516 * d) j
  unfold part
  by_cases hj : j < 516
  · by_cases hp : place (516 * d + j) < 768 * (place (516 * d) / 768) + 768
    · rw [if_pos ⟨⟨by omega, hp⟩, hj⟩, if_neg (by omega), if_pos hj, add_zero]
    · rw [if_neg (by omega), if_pos ⟨⟨by omega, by omega⟩, hj⟩, if_pos hj, zero_add]
  · rw [if_neg (fun e => hj e.2), if_neg (fun e => hj e.2), if_neg hj, add_zero]

/-- The scratch tile after the first block. -/
theorem first (t : Fin cfg0.N) (ht : t.val % 2 = 0) (a : Fin 1024) (j : Fin 640) :
    (outsAt0 m c t.val t.isLt).2 (ix2 a j) = part m c (t.val / 2) (place (516 * (t.val / 2)) / 768 + t.val % 2) a.val j.val := by
  rw [outsAt0_A m c t ht (by omega)]
  frame_out
  pointwise [k0_pay2]
  exact block m c t a j

/-- The second block's step: the shard. -/
theorem shard (t : Fin cfg0.N) (ht : t.val % 2 = 1) (a : Fin 1024) (j : Fin 640) :
    k0_pay3 (iota .tc S640x768 32 [0] Facts₀.iota_S640x768_d0_w32) (k0_pay4 (grid0.coords t)) (k0_pay5 (grid0.coords t))
      (k0_pay6 (grid0.coords t)) (iblk m c 0 t : Vec Ideal S1024x768 .bf16)
      (outsAt0 m c (t.val - 1) (Nat.lt_of_le_of_lt (Nat.sub_le _ _) t.isLt)).2 (ix3 0 a j) =
      if j.val < 516 then at2 (aG m c) a.val (place (516 * (t.val / 2) + j.val)) else 0 := by
  have hb := block m c t a j
  have ha := first m c ⟨t.val - 1, Nat.lt_of_le_of_lt (Nat.sub_le _ _) t.isLt⟩ (by dsimp only; omega) a j
  have e1 : (t.val - 1) / 2 = t.val / 2 := by omega
  have e2 : (t.val - 1) % 2 = 0 := by omega
  dsimp only at ha
  rw [e1, e2] at ha
  rw [ht] at hb
  pointwise [k0_pay3]
  rw [hb, ha, Nat.add_zero]
  exact parts m c _ _ _

/-- The shards of the whole gradient. -/
def shards (i : S8x1024x640.Idx) : EReal :=
  if (i 2).val < 516 then at2 (aG m c) (i 1).val (place (516 * (i 0).val + (i 2).val)) else 0

theorem shards_of (i : S8x1024x640.Idx) {d a j : ℕ} (h0 : (i 0).val = d) (h1 : (i 1).val = a) (h2 : (i 2).val = j) :
    shards m c i = if j < 516 then at2 (aG m c) a (place (516 * d + j)) else 0 := by
  subst h0 h1 h2; rfl

theorem eta3 (y : S1x1024x640.Idx) : y = ix3 0 (y 1) (y 2) := by
  funext a
  match a with
  | ⟨0, _⟩ => exact Fin.ext (by have h : (y 0).val < 1 := (y 0).isLt; show (y 0).val = 0; omega)
  | ⟨1, _⟩ => rfl
  | ⟨2, _⟩ => rfl

/-- The whole result. -/
theorem final : (dats m 0 c).arrAt 1 cfg0.N = shards m c :=
  (dats m 0 c).arrAt_eq_of_covers 1 _ (by decide +kernel) fun t hf y => by
    have hi := idx t
    have ht := (flush0_1 t).mp hf
    blk_simp; rw [after0_1, outsAt0_B m c t (by omega) ht]; frame_out
    rw [read_unread_whole]
    refine Eq.trans (congrArg _ (eta3 y)) ((shard m c t ht (y 1) (y 2)).trans ?_)
    refine Eq.symm (shards_of m c _ (show win0_1.index t 0 * 1 + 1 * (y 0).val = _ from ?_) (show win0_1.index t 1 * 1024 + 1 * (y 1).val = _ by omega)
      (show win0_1.index t 2 * 640 + 1 * (y 2).val = _ by omega))
    have h0 : (y 0).val < 1 := (y 0).isLt
    omega

/-- The reference's columns, run by run. -/
theorem runs {A : Arr 1024 4608} {a s : ℕ} {x0 : s < 1600 → EReal} {x1 : ¬s < 1600 → s - 1600 < 64 → EReal}
    {x2 : ¬s < 1600 → ¬s - 1600 < 64 → s - 1600 - 64 < 160 → EReal} {x3 : ¬s < 1600 → ¬s - 1600 < 64 → ¬s - 1600 - 64 < 160 → EReal}
    (h0 : ∀ h, x0 h = at2 A a s) (h1 : 1600 ≤ s → ∀ h h', x1 h h' = at2 A a (s + 64))
    (h2 : 1664 ≤ s → ∀ h h' h'', x2 h h' h'' = at2 A a (s + 128)) (h3 : 1824 ≤ s → ∀ h h' h'', x3 h h' h'' = at2 A a (s + 224)) :
    (if h : s < 1600 then x0 h else if h' : s - 1600 < 64 then x1 h h' else if h'' : s - 1600 - 64 < 160 then x2 h h' h'' else x3 h h' h'') =
      at2 A a (place s) := by
  split
  · rw [h0, place_low (by omega)]
  split
  · rw [h1 (by omega), place_mid (by omega) (by omega)]
  split
  · rw [h2 (by omega), place_gate (by omega) (by omega)]
  · rw [h3 (by omega), place_high (by omega)]

theorem values : Cert.algebraic_ShuffleGradIdeal_ShuffleGradRefIdeal := fun m g m' g' _ h =>
  ⟨fun c => shards m c,
    (θ_run _ _ _).mono (fun _ hr c => ⟨(hr c).1.trans (final m c), (hr c).2⟩) (Cert.ShuffleGradIdeal.Value.run_blocks m g),
    (θ_run _ _ _).mono (fun _ hr c => ⟨(hr c).1.trans (by
      rw [h c]; funext i; rw [eq_ix3 i]
      pointwise
      unfold shards
      split
      · rw [Nat.mul_comm 516]
        exact runs (A := aG m c) (fun _ => at2_eq (aG m c) _ rfl rfl) (fun h _ _ => at2_eq (aG m c) _ rfl (show 1664 + _ = _ by omega))
          (fun h _ _ _ => at2_eq (aG m c) _ rfl (show 1792 + _ = _ by omega)) fun h _ _ _ => at2_eq (aG m c) _ rfl (show 2048 + _ = _ by omega)
      · rfl), (hr c).2⟩) (Cert.ShuffleGradRefIdeal.Value.run m' g')⟩

end Cert.ShuffleGradIdeal.Row
-- ==== Proof.Unshuffle.lean ====
module

public import proofs.«01_k».proof.Defs
public import proofs.«01_k».proof.Proof.ShuffleMath
public import proofs.«01_k».proof.Proof.Gen.UnshuffleIdeal.Value
public import proofs.«01_k».proof.Proof.Gen.UnshuffleRefIdeal.Run

/-!
The input projection put together from the eight devices' shards: 516 columns of each side by side, with the
gaps of the padded layout between them.
-/

@[expose] public section

set_option maxRecDepth 16384

noncomputable section

open Cert.MatMath Cert.ShuffleMath Finset Idealize.ShloMosaic Idealize.ShloMosaic.TcCoe Idealize.SL.Sem

namespace Cert.UnshuffleIdeal.Row

open Cert.UnshuffleIdeal Cert.UnshuffleIdeal.Gen

/-- The shards at device `d`, row `a`, column `r`; zero outside. -/
def at3 (f : S8x1024x640.Idx → EReal) (d a r : ℕ) : EReal :=
  if h : d < 8 ∧ a < 1024 ∧ r < 640 then f (ix3 ⟨d, h.1⟩ ⟨a, h.2.1⟩ ⟨r, h.2.2⟩) else 0

theorem at3_eq (f : S8x1024x640.Idx → EReal) (i : S8x1024x640.Idx) {d a r : ℕ} (h0 : (i 0).val = d) (h1 : (i 1).val = a)
    (h2 : (i 2).val = r) : f i = at3 f d a r := by
  subst h0 h1 h2
  unfold at3
  rw [dif_pos ⟨(i 0).isLt, (i 1).isLt, (i 2).isLt⟩]
  exact congrArg f (eq_ix3 i)

/-- The step's product, added to what the tile held: the device's column where it is the one asked for. -/
theorem pay4_apply (f : S8x1024x640.Idx → EReal) {w0 w6 : BitVec 32} {d j : ℕ} (h0 : w0 = BitVec.ofNat 32 j) (h6 : w6 = BitVec.ofNat 32 d)
    (hj : j < 6) (hd : d < 8) (x : Vec Ideal S1024x768 .f32) (v : Vec Ideal S1x1024x640 .bf16)
    (hv : ∀ a r, v (ix3 0 a r) = at3 f d a.val r.val) (a : Fin 1024) (b : Fin 768) :
    k0_pay4 w0 w6 x v (ix2 a b) = x (ix2 a b) +
      if source (768 * j + b.val) / 516 = d ∧ Live (768 * j + b.val) then
        at3 f (source (768 * j + b.val) / 516) a.val (source (768 * j + b.val) % 516) else 0 := by
  subst h0 h6
  have e1 : Scalar.muli (BitVec.ofNat 32 d) 516#32 = BitVec.ofNat 32 (516 * d) := by
    rw [Nat.mul_comm, BitVec.ofNat_mul]; rfl
  have e2 : Scalar.muli (BitVec.ofNat 32 j) 768#32 = BitVec.ofNat 32 (768 * j) := by
    rw [Nat.mul_comm, BitVec.ofNat_mul]; rfl
  have e3 : ∀ x y : ℕ, IntOp.addi (BitVec.ofNat 32 x) (BitVec.ofNat 32 y) = BitVec.ofNat 32 (x + y) := fun x y => (BitVec.ofNat_add x y).symm
  generalize hR : ite (source (768 * j + b.val) / 516 = d ∧ Live (768 * j + b.val)) _ (0 : EReal) = R
  pointwise [k0_pay4]
  rw [← hR, ← pick_source _ _ hd fun d r => at3 f d a.val r]
  refine congrArg _ (sum_congr rfl fun r _ => ?_)
  rw [e1, e2, e3, e3, hit_word (by omega) (by omega) (by omega), hv]

/-- Where the blocks of a step lie, and the device it reads. -/
theorem idx : ∀ t : Fin cfg0.N, (t.val < 16 → win0_0.index t 0 = lead (t.val / 3) + t.val % 3) ∧ win0_0.index t 1 = 0 ∧ win0_0.index t 2 = 0 ∧
    win0_1.index t 0 = 0 ∧ win0_1.index t 1 = t.val / 3 ∧ (grid0.coords t 0).val = t.val / 3 ∧
    (t.val < 16 ↔ lead (t.val / 3) + t.val % 3 < 8) ∧
    Scalar.addi (Scalar.addi (Scalar.addi (BitVec.ofNat 32 (grid0.coords t 0).val) (Scalar.select (Scalar.cmpi .sge (BitVec.ofNat 32 (grid0.coords t 0).val) 3#32) 1#32 0#32))
      (Scalar.select (Scalar.cmpi .sge (BitVec.ofNat 32 (grid0.coords t 0).val) 5#32) 1#32 0#32)) (BitVec.ofNat 32 (grid0.coords t 1).val) =
      BitVec.ofNat 32 (lead (t.val / 3) + t.val % 3) :=
  (by decide +kernel : ∀ t : Fin grid0.N, _)

variable (m : (ℓ : Loc nD τ sig) → Buf (Elt Ideal) ℓ) (c : Dev nD)

abbrev aS : S8x1024x640.Idx → EReal := m ((c : Thread nD τ).loc main_arg0)

/-- What the scratch tile holds of column `C` once the devices from `d` to `e` have been added. -/
def held (d e a C : ℕ) : EReal :=
  if (d ≤ source C / 516 ∧ source C / 516 ≤ e) ∧ Live C then at3 (aS m c) (source C / 516) a (source C % 516) else 0

theorem held_one (d a C : ℕ) : held m c d d a C =
    if source C / 516 = d ∧ Live C then at3 (aS m c) (source C / 516) a (source C % 516) else 0 :=
  if_congr (and_congr_left fun _ => by omega) rfl rfl

theorem held_add {d e : ℕ} (h : d ≤ e + 1) (a C : ℕ) : held m c d e a C +
    (if source C / 516 = e + 1 ∧ Live C then at3 (aS m c) (source C / 516) a (source C % 516) else 0) = held m c d (e + 1) a C := by
  unfold held
  by_cases hl : Live C
  · by_cases hq : source C / 516 = e + 1
    · rw [if_neg (fun h => by have := h.1.2; omega), if_pos ⟨hq, hl⟩, if_pos ⟨by omega, hl⟩, zero_add]
    · rw [if_neg (c := source C / 516 = e + 1 ∧ Live C) (fun h => hq h.1), add_zero]
      exact if_congr (and_congr_left fun _ => by omega) rfl rfl
  · rw [if_neg (fun h => hl h.2), if_neg (fun h => hl h.2), if_neg (fun h => hl h.2), add_zero]

/-- There is no device past the eighth. -/
theorem held_past {d e : ℕ} (h : 7 ≤ e) (a C : ℕ) : held m c d e a C = held m c d (e + 1) a C :=
  if_congr (and_congr_left fun hl => by have := hl.2; omega) rfl rfl

theorem pay2_apply (v : Vec Ideal S1024x768 .f32) (a : Fin 1024) (b : Fin 768) : k0_pay2 (F := Ideal) v (ix2 a b) = v (ix2 a b) := by
  pointwise [k0_pay2]

/-- The step's product over any tile. -/
theorem step (t : Fin cfg0.N) (h1 : t.val < 16) (x : Vec Ideal S1024x768 .f32) (a : Fin 1024) (b : Fin 768) :
    k0_pay2 (k0_pay4 (BitVec.ofNat 32 (grid0.coords t 0).val)
      (Scalar.addi (Scalar.addi (Scalar.addi (BitVec.ofNat 32 (grid0.coords t 0).val) (Scalar.select (Scalar.cmpi .sge (BitVec.ofNat 32 (grid0.coords t 0).val) 3#32) 1#32 0#32))
        (Scalar.select (Scalar.cmpi .sge (BitVec.ofNat 32 (grid0.coords t 0).val) 5#32) 1#32 0#32)) (BitVec.ofNat 32 (grid0.coords t 1).val))
      x (iblk m c 0 t : Vec Ideal S1x1024x640 .bf16)) (ix2 a b) = x (ix2 a b) +
      if source (768 * (t.val / 3) + b.val) / 516 = lead (t.val / 3) + t.val % 3 ∧ Live (768 * (t.val / 3) + b.val) then
        at3 (aS m c) (source (768 * (t.val / 3) + b.val) / 516) a.val (source (768 * (t.val / 3) + b.val) % 516) else 0 := by
  obtain ⟨i0, i1, i2, -, -, hj, hd, hw⟩ := idx t
  refine (pay2_apply _ a b).trans ?_
  exact pay4_apply (aS m c) (congrArg _ hj) hw (by omega) (hd.mp h1) x (iblk m c 0 t) (fun a r => at3_eq (aS m c) _
    (show win0_0.index t 0 * 1 + 1 * 0 = _ by rw [i0 h1, Nat.mul_one, Nat.add_zero]) (show win0_0.index t 1 * 1024 + 1 * a.val = a.val by omega)
    (show win0_0.index t 2 * 640 + 1 * r.val = r.val by omega)) a b

/-- The scratch tile after each step. -/
theorem acc (n : ℕ) (hn : n < cfg0.N) (a : Fin 1024) (b : Fin 768) : (outsAt0 m c n hn).2 (ix2 a b) =
    held m c (lead (n / 3)) (lead (n / 3) + n % 3) a.val (768 * (n / 3) + b.val) := by
  have hN : n < 18 := hn
  by_cases h0 : n % 3 = 0
  · have hs := step m c ⟨n, hn⟩ (by dsimp only; omega) (k0_pay1 (F := Ideal)) a b
    rw [show k0_pay1 (F := Ideal) (ix2 a b) = 0 by pointwise [k0_pay1], zero_add] at hs
    refine (congrArg (fun o => o.2 (ix2 a b)) (outsAt0_A m c ⟨n, hn⟩ h0 (by dsimp only; omega) (by dsimp only; omega))).trans ?_
    frame_out
    refine hs.trans ?_
    dsimp only
    rw [h0, Nat.add_zero, held_one]
  · have ha := acc (n - 1) (by omega) a b
    have e1 : (n - 1) / 3 = n / 3 := by omega
    obtain ⟨k, hk⟩ : ∃ k, n % 3 = k + 1 := ⟨n % 3 - 1, by omega⟩
    have e2 : (n - 1) % 3 = k := by omega
    rw [e1, e2] at ha
    have hs := step m c ⟨n, hn⟩
    dsimp only at hs
    rw [hk] at hs ⊢
    by_cases h1 : n < 16
    · by_cases h2 : n % 3 = 2
      · refine (congrArg (fun o => o.2 (ix2 a b)) (outsAt0_C m c ⟨n, hn⟩ h0 h1 h2)).trans ?_
        frame_out
        rw [read_unread_whole]
        refine (hs h1 _ a b).trans ?_
        rw [ha]
        exact held_add m c (by omega) _ _
      · refine (congrArg (fun o => o.2 (ix2 a b)) (outsAt0_B m c ⟨n, hn⟩ h0 h1 h2)).trans ?_
        frame_out
        rw [read_unread_whole]
        refine (hs h1 _ a b).trans ?_
        rw [ha]
        exact held_add m c (by omega) _ _
    · have hl := (idx ⟨n, hn⟩).2.2.2.2.2.2.1
      dsimp only at hl
      have hp := held_past m c (d := lead (n / 3)) (e := lead (n / 3) + k) (by omega) a.val (768 * (n / 3) + b.val)
      by_cases h2 : n % 3 = 2
      · exact (congrArg (fun o => o.2 (ix2 a b)) (outsAt0_E m c ⟨n, hn⟩ h0 h1 h2)).trans (ha.trans hp)
      · exact (congrArg (fun o => o.2 (ix2 a b)) (outsAt0_D m c ⟨n, hn⟩ h0 h1 h2)).trans (ha.trans hp)
termination_by n
decreasing_by omega

/-- The padded layout, put together from the shards. -/
def padded (i : S1024x4608.Idx) : EReal :=
  if Live (i 1).val then at3 (aS m c) (source (i 1).val / 516) (i 0).val (source (i 1).val % 516) else 0

theorem padded_of (i : S1024x4608.Idx) {a C : ℕ} (h0 : (i 0).val = a) (h1 : (i 1).val = C) :
    padded m c i = if Live C then at3 (aS m c) (source C / 516) a (source C % 516) else 0 := by
  subst h0 h1; rfl

theorem held_all {j b : ℕ} (hj : j < 6) (hb : b < 768) (a : ℕ) : held m c (lead j) (lead j + 2) a (768 * j + b) =
    if Live (768 * j + b) then at3 (aS m c) (source (768 * j + b) / 516) a (source (768 * j + b) % 516) else 0 :=
  if_congr ⟨And.right, fun h => ⟨lead_reach hj hb h, h⟩⟩ rfl rfl

theorem pay3_apply (v : Vec Ideal S1024x768 .f32) (y : S1024x768.Idx) : k0_pay3 v y = v (ix2 (y 0) (y 1)) := by
  refine (congrArg _ (eta2 y)).trans ?_
  pointwise [k0_pay3]

/-- The whole result. -/
theorem final : (dats m 0 c).arrAt 1 cfg0.N = padded m c :=
  (dats m 0 c).arrAt_eq_of_covers 1 _ (by decide +kernel) fun t hf y => by
    obtain ⟨-, -, -, i0, i1, -, -, -⟩ := idx t
    have ht := (flush0_1 t).mp hf
    have hN : t.val < 18 := t.isLt
    have ha := acc m c t.val t.isLt (y 0) (y 1)
    rw [ht, held_all m c (by omega) (y 1).isLt] at ha
    refine Eq.trans ?_ (ha.trans (padded_of m c _ (show win0_1.index t 0 * 1024 + 1 * (y 0).val = _ by omega)
      (show win0_1.index t 1 * 768 + 1 * (y 1).val = _ by omega)).symm)
    blk_simp; rw [after0_1]
    by_cases h1 : t.val < 16
    · rw [outsAt0_C m c t (by omega) h1 ht]; frame_out
      exact pay3_apply _ y
    · rw [outsAt0_E m c t (by omega) h1 ht]; frame_out
      rw [read_unread_whole]
      exact pay3_apply _ y

/-- The reference's columns, run by run. -/
theorem runs {f : S8x1024x640.Idx → EReal} {a C : ℕ} (hC : C < 4608) {x0 : C < 1600 → EReal}
    {x2 : ¬C < 1600 → ¬C - 1600 < 64 → C - 1600 - 64 < 64 → EReal}
    {x4 : ¬C < 1600 → ¬C - 1600 < 64 → ¬C - 1600 - 64 < 64 → ¬C - 1600 - 64 - 64 < 64 → C - 1600 - 64 - 64 - 64 < 160 → EReal}
    {x6 : ¬C < 1600 → ¬C - 1600 < 64 → ¬C - 1600 - 64 < 64 → ¬C - 1600 - 64 - 64 < 64 → ¬C - 1600 - 64 - 64 - 64 < 160 →
      ¬C - 1600 - 64 - 64 - 64 - 160 < 96 → C - 1600 - 64 - 64 - 64 - 160 - 96 < 2304 → EReal}
    (h0 : ∀ h, x0 h = at3 f (C / 516) a (C % 516))
    (h2 : 1664 ≤ C → ∀ h h' h'', x2 h h' h'' = at3 f ((C - 64) / 516) a ((C - 64) % 516))
    (h4 : 1792 ≤ C → ∀ h h' h'' k k', x4 h h' h'' k k' = at3 f ((C - 128) / 516) a ((C - 128) % 516))
    (h6 : 2048 ≤ C → ∀ h h' h'' k k' k'' l, x6 h h' h'' k k' k'' l = at3 f ((C - 224) / 516) a ((C - 224) % 516)) :
    (if h : C < 1600 then x0 h else if h' : C - 1600 < 64 then 0 else if h'' : C - 1600 - 64 < 64 then x2 h h' h'' else
      if k : C - 1600 - 64 - 64 < 64 then 0 else if k' : C - 1600 - 64 - 64 - 64 < 160 then x4 h h' h'' k k' else
      if k'' : C - 1600 - 64 - 64 - 64 - 160 < 96 then 0 else
      if l : C - 1600 - 64 - 64 - 64 - 160 - 96 < 2304 then x6 h h' h'' k k' k'' l else 0) =
      if Live C then at3 f (source C / 516) a (source C % 516) else 0 := by
  have live : ∀ s, source C = s → ¬Gap C → s < 4128 →
      at3 f (s / 516) a (s % 516) = if Live C then at3 f (source C / 516) a (source C % 516) else 0 := fun s e g hs => by
    subst e
    exact (if_pos ⟨g, hs⟩).symm
  have dead : ¬Live C → (0 : EReal) = if Live C then at3 f (source C / 516) a (source C % 516) else 0 := fun h => (if_neg h).symm
  split
  · rw [h0]; exact live _ (by unfold source; split_ifs <;> omega) (by unfold Gap; omega) (by omega)
  split
  · exact dead (by unfold Live Gap; omega)
  split
  · rw [h2 (by omega)]; exact live _ (by unfold source; split_ifs <;> omega) (by unfold Gap; omega) (by omega)
  split
  · exact dead (by unfold Live Gap; omega)
  split
  · rw [h4 (by omega)]; exact live _ (by unfold source; split_ifs <;> omega) (by unfold Gap; omega) (by omega)
  split
  · exact dead (by unfold Live Gap; omega)
  split
  · rw [h6 (by omega)]; exact live _ (by unfold source; split_ifs <;> omega) (by unfold Gap; omega) (by omega)
  · exact dead (by unfold Live source; split_ifs <;> omega)

theorem values : Cert.algebraic_UnshuffleIdeal_UnshuffleRefIdeal := fun m g m' g' _ h =>
  ⟨fun c => padded m c,
    (θ_run _ _ _).mono (fun _ hr c => ⟨(hr c).1.trans (final m c), (hr c).2⟩) (Cert.UnshuffleIdeal.Value.run_blocks m g),
    (θ_run _ _ _).mono (fun _ hr c => ⟨(hr c).1.trans (by
      rw [h c]; funext i
      have hi : (i 1).val < 4608 := (i 1).isLt
      rw [eq_ix2 i]
      pointwise
      exact runs (f := aS m c) hi (fun _ => at3_eq (aS m c) _ rfl rfl rfl)
        (fun h _ _ _ => at3_eq (aS m c) _ (show (1600 + _) / 516 = _ by omega) rfl (show (1600 + _) % 516 = _ by omega))
        (fun h _ _ _ _ _ => at3_eq (aS m c) _ (show (1664 + _) / 516 = _ by omega) rfl (show (1664 + _) % 516 = _ by omega))
        (fun h _ _ _ _ _ _ _ => at3_eq (aS m c) _ (show (1824 + _) / 516 = _ by omega) rfl (show (1824 + _) % 516 = _ by omega))), (hr c).2⟩)
      (Cert.UnshuffleRefIdeal.Value.run m' g')⟩

end Cert.UnshuffleIdeal.Row
-- ==== Proof.lean ====
module

public import proofs.«01_k».proof.Defs
public import proofs.«01_k».proof.Proof.Gen.Kernel
public import proofs.«01_k».proof.Proof.Gen.ReferenceIdeal.Run
public import proofs.«01_k».proof.Proof.ConvEq
public import proofs.«01_k».proof.Proof.GradW
public import proofs.«01_k».proof.Proof.GradW2
public import proofs.«01_k».proof.Proof.GradH
public import proofs.«01_k».proof.Proof.GradH2
public import proofs.«01_k».proof.Proof.Forward
public import proofs.«01_k».proof.Proof.Forward2
public import proofs.«01_k».proof.Proof.Norm
public import proofs.«01_k».proof.Proof.Merge
public import proofs.«01_k».proof.Proof.Tail
public import proofs.«01_k».proof.Proof.Adam
public import proofs.«01_k».proof.Proof.Adam2
public import proofs.«01_k».proof.Proof.Sum
public import proofs.«01_k».proof.Proof.ConvFwd
public import proofs.«01_k».proof.Proof.ShuffleGrad
public import proofs.«01_k».proof.Proof.Unshuffle
public import proofs.«01_k».proof.Proof.Gen.WPle.Frame
public import proofs.«01_k».proof.Proof.Gen.WPleGate.Frame
public import proofs.«01_k».proof.Proof.Gen.H3.Frame
public import proofs.«01_k».proof.Proof.Gen.WDown.Frame
public import proofs.«01_k».proof.Proof.Gen.F.Frame
public import proofs.«01_k».proof.Proof.Gen.WUp.Frame
public import proofs.«01_k».proof.Proof.Gen.H2.Frame
public import proofs.«01_k».proof.Proof.Gen.Merged.Frame
public import proofs.«01_k».proof.Proof.Gen.WBranchA.Frame
public import proofs.«01_k».proof.Proof.Gen.Ya.Frame
public import proofs.«01_k».proof.Proof.Gen.WBranchB.Frame
public import proofs.«01_k».proof.Proof.Gen.Yb.Frame
public import proofs.«01_k».proof.Proof.Gen.WGate.Frame
public import proofs.«01_k».proof.Proof.Gen.HGate.Frame
public import proofs.«01_k».proof.Proof.Gen.WIn.Frame
public import proofs.«01_k».proof.Proof.Gen.H.Frame
public import proofs.«01_k».proof.Proof.Gen.ProjRw.Frame
public import proofs.«01_k».proof.Proof.Gen.ProjAtt.Frame
public import proofs.«01_k».proof.Proof.Gen.BranchA.Frame
public import proofs.«01_k».proof.Proof.Gen.BranchB.Frame
public import proofs.«01_k».proof.Proof.Gen.MixOut.Frame
public import proofs.«01_k».proof.Proof.Gen.FfnUp.Frame
public import proofs.«01_k».proof.Proof.Gen.FfnDown.Frame
public import proofs.«01_k».proof.Proof.Gen.PleGate.Frame
public import proofs.«01_k».proof.Proof.Gen.PleEmbed.Frame
public import proofs.«01_k».proof.Proof.Gen.RmsBwd.Frame
public import proofs.«01_k».proof.Proof.Gen.RmsMixBwd.Frame
public import proofs.«01_k».proof.Proof.Gen.MergeBwd.Frame
public import proofs.«01_k».proof.Proof.Gen.Rms.Frame
public import proofs.«01_k».proof.Proof.Gen.Merge.Frame
public import proofs.«01_k».proof.Proof.Gen.Tail.Frame
public import proofs.«01_k».proof.Proof.Gen.AdamIn.Frame
public import proofs.«01_k».proof.Proof.Gen.AdamUp.Frame
public import proofs.«01_k».proof.Proof.Gen.AdamGate.Frame
public import proofs.«01_k».proof.Proof.Gen.AdamOut.Frame
public import proofs.«01_k».proof.Proof.Gen.AdamDown.Frame
public import proofs.«01_k».proof.Proof.Gen.AdamBranchA.Frame
public import proofs.«01_k».proof.Proof.Gen.AdamBranchB.Frame
public import proofs.«01_k».proof.Proof.Gen.AdamSmall.Frame
public import proofs.«01_k».proof.Proof.Gen.DProj.Frame
public import proofs.«01_k».proof.Proof.Gen.ConvFwd.Frame
public import proofs.«01_k».proof.Proof.Gen.ShuffleGrad.Frame
public import proofs.«01_k».proof.Proof.Gen.Unshuffle.Frame
public import Idealize.ShloMosaic.Lib.Quiescent

/-! The certificate: both frames, the reference's frame, and the equality of the ten results over the extended reals. -/

@[expose] public section

set_option maxRecDepth 16384

noncomputable section

namespace Cert.Proof

open Idealize.ShloMosaic Idealize.ShloMosaic.TcCoe Idealize.SL.Sem

section
variable {F : FTy → Type} [FloatOps F]

set_option maxHeartbeats 4000000 in
/-- The two programs have one text: the bodies agree label by label. -/
theorem bodies_eq : Cert.Kernel.defs₀ (F := F) = Cert.KernelIdeal.defs₀ (F := F) := by
  refine congrArg Defs.onTc ?_
  funext l a
  match l, a with
  | 0, (t, s) => rfl

set_option maxHeartbeats 4000000 in
/-- So the two body tables are one. -/
theorem defs_eq : Cert.Kernel.defs (F := F) = Cert.KernelIdeal.defs (F := F) :=
  congrArg (Pipeline.defs Cert.KernelIdeal.pcfgs) bodies_eq

end

set_option maxHeartbeats 4000000 in
/-- The run over any float values serves both programs. -/
theorem frame_kernel : Cert.quiescent_Kernel := fun m ρ _ => by
  rw [defs_eq]
  exact Cert.KernelIdeal.Conv.frame (F := Bits) m ρ

theorem frame_kernelIdeal : Cert.quiescent_KernelIdeal := fun m ρ _ => Cert.KernelIdeal.Conv.frame m ρ

/-- The reference declares no semaphore. -/
theorem frame_reference : Cert.quiescent_ReferenceIdeal := fun m ρ _ =>
  (θ_run _ _ _).mono (fun r h => by
    refine ⟨fun c => ?_, sem_eq_zero_of_no_sems (by decide) r.2⟩
    obtain ⟨-, -, -, -, -, -, -, -, -, -, k0, k1, k2, k3⟩ := h c
    exact ⟨k0, k1, k2, k3⟩) (Cert.ReferenceIdeal.Value.run m ρ)

theorem values : Cert.algebraic_KernelIdeal_ReferenceIdeal := by
  intro m g m' g' _ h
  refine ⟨fun c => Cert.KernelIdeal.Conv.result9 m c, fun c => Cert.KernelIdeal.Conv.result10 m c, fun c => Cert.KernelIdeal.Conv.result11 m c, fun c => Cert.KernelIdeal.Conv.result12 m c, fun c => Cert.KernelIdeal.Conv.result13 m c, fun c => Cert.KernelIdeal.Conv.result14 m c, fun c => Cert.KernelIdeal.Conv.result15 m c, fun c => Cert.KernelIdeal.Conv.result16 m c, fun c => Cert.KernelIdeal.Conv.result17 m c, fun c => Cert.KernelIdeal.Conv.result18 m c, ?_, ?_⟩
  · refine (θ_run _ _ _).mono (fun r hr c => ?_) (Cert.KernelIdeal.Conv.run_blocks m g)
    obtain ⟨h9, h10, h11, h12, h13, h14, h15, h16, h17, h18, k0, k1, k2, k3⟩ := hr c
    exact ⟨h9.trans (Cert.KernelIdeal.Conv.final9 m c), h10.trans (Cert.KernelIdeal.Conv.final10 m c), h11.trans (Cert.KernelIdeal.Conv.final11 m c), h12.trans (Cert.KernelIdeal.Conv.final12 m c), h13.trans (Cert.KernelIdeal.Conv.final13 m c), h14.trans (Cert.KernelIdeal.Conv.final14 m c), h15.trans (Cert.KernelIdeal.Conv.final15 m c), h16.trans (Cert.KernelIdeal.Conv.final16 m c), h17.trans (Cert.KernelIdeal.Conv.final17 m c), h18.trans (Cert.KernelIdeal.Conv.final18 m c), k0, k1, k2, k3⟩
  · refine (θ_run _ _ _).mono (fun r hr c => ?_) (Cert.ReferenceIdeal.Value.run m' g')
    obtain ⟨h9, h10, h11, h12, h13, h14, h15, h16, h17, h18, k0, k1, k2, k3⟩ := hr c
    obtain ⟨a0, a1, a2, a3⟩ := h c
    exact ⟨h9.trans (Cert.ConvEq.eq_du_g m c _ a0 a1 a2 a3), h10.trans (Cert.ConvEq.eq_du_v m c _ a0 a1 a2 a3), h11.trans (Cert.ConvEq.eq_dw0_g m c _ a0 a1 a2 a3), h12.trans (Cert.ConvEq.eq_dw1_g m c _ a0 a1 a2 a3), h13.trans (Cert.ConvEq.eq_dw2_g m c _ a0 a1 a2 a3), h14.trans (Cert.ConvEq.eq_db_g m c _ a0 a1 a2 a3), h15.trans (Cert.ConvEq.eq_dw0_v m c _ a0 a1 a2 a3), h16.trans (Cert.ConvEq.eq_dw1_v m c _ a0 a1 a2 a3), h17.trans (Cert.ConvEq.eq_dw2_v m c _ a0 a1 a2 a3), h18.trans (Cert.ConvEq.eq_db_v m c _ a0 a1 a2 a3), k0, k1, k2, k3⟩

/-- A program without semaphores whose run ends, on every device, with its results as `A` says and its arguments unchanged as
`B` says is quiescent. -/
theorem quiet {nD : ℕ} {τ : Topo} {sg : RefSig} {V : EltTy → Type} {Λ : Labels} {D : Defs nD τ sg V Λ}
    {p : (c : Thread nD τ) → Prog (TpuEff nD τ sg V Λ c.2) PUnit} {s : MemSt nD τ sg V} {A B : Dev nD → PUnit × MemSt nD τ sg V → Prop}
    (hs : sg.nSem + sg.nDmaSem = 0) (h : θ_run D p s (fun r => ∀ c, A c r ∧ B c r)) :
    θ_run D p s (fun r => (∀ c, B c r) ∧ r.2.sem = fun _ => 0) :=
  (θ_run _ _ _).mono (fun r h => ⟨fun c => (h c).2, sem_eq_zero_of_no_sems hs r.2⟩) h

theorem claim : Cert.Claim :=
  ⟨Cert.Kernel.Gen.facts, Cert.KernelIdeal.Gen.facts, Cert.ReferenceIdeal.Gen.facts,
    Cert.WPle.Gen.facts, Cert.WPleIdeal.Gen.facts, Cert.WPleRefIdeal.Gen.facts,
    Cert.WPleGate.Gen.facts, Cert.WPleGateIdeal.Gen.facts, Cert.WPleGateRefIdeal.Gen.facts,
    Cert.H3.Gen.facts, Cert.H3Ideal.Gen.facts, Cert.H3RefIdeal.Gen.facts,
    Cert.WDown.Gen.facts, Cert.WDownIdeal.Gen.facts, Cert.WDownRefIdeal.Gen.facts,
    Cert.F.Gen.facts, Cert.FIdeal.Gen.facts, Cert.FRefIdeal.Gen.facts,
    Cert.WUp.Gen.facts, Cert.WUpIdeal.Gen.facts, Cert.WUpRefIdeal.Gen.facts,
    Cert.H2.Gen.facts, Cert.H2Ideal.Gen.facts, Cert.H2RefIdeal.Gen.facts,
    Cert.Merged.Gen.facts, Cert.MergedIdeal.Gen.facts, Cert.MergedRefIdeal.Gen.facts,
    Cert.WBranchA.Gen.facts, Cert.WBranchAIdeal.Gen.facts, Cert.WBranchARefIdeal.Gen.facts,
    Cert.Ya.Gen.facts, Cert.YaIdeal.Gen.facts, Cert.YaRefIdeal.Gen.facts,
    Cert.WBranchB.Gen.facts, Cert.WBranchBIdeal.Gen.facts, Cert.WBranchBRefIdeal.Gen.facts,
    Cert.Yb.Gen.facts, Cert.YbIdeal.Gen.facts, Cert.YbRefIdeal.Gen.facts,
    Cert.WGate.Gen.facts, Cert.WGateIdeal.Gen.facts, Cert.WGateRefIdeal.Gen.facts,
    Cert.HGate.Gen.facts, Cert.HGateIdeal.Gen.facts, Cert.HGateRefIdeal.Gen.facts,
    Cert.WIn.Gen.facts, Cert.WInIdeal.Gen.facts, Cert.WInRefIdeal.Gen.facts,
    Cert.H.Gen.facts, Cert.HIdeal.Gen.facts, Cert.HRefIdeal.Gen.facts,
    Cert.ProjRw.Gen.facts, Cert.ProjRwIdeal.Gen.facts, Cert.ProjRwRefIdeal.Gen.facts,
    Cert.ProjAtt.Gen.facts, Cert.ProjAttIdeal.Gen.facts, Cert.ProjAttRefIdeal.Gen.facts,
    Cert.BranchA.Gen.facts, Cert.BranchAIdeal.Gen.facts, Cert.BranchARefIdeal.Gen.facts,
    Cert.BranchB.Gen.facts, Cert.BranchBIdeal.Gen.facts, Cert.BranchBRefIdeal.Gen.facts,
    Cert.MixOut.Gen.facts, Cert.MixOutIdeal.Gen.facts, Cert.MixOutRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.PleGate.Gen.facts, Cert.PleGateIdeal.Gen.facts, Cert.PleGateRefIdeal.Gen.facts,
    Cert.PleEmbed.Gen.facts, Cert.PleEmbedIdeal.Gen.facts, Cert.PleEmbedRefIdeal.Gen.facts,
    Cert.RmsBwd.Gen.facts, Cert.RmsBwdIdeal.Gen.facts, Cert.RmsBwdRefIdeal.Gen.facts,
    Cert.RmsMixBwd.Gen.facts, Cert.RmsMixBwdIdeal.Gen.facts, Cert.RmsMixBwdRefIdeal.Gen.facts,
    Cert.MergeBwd.Gen.facts, Cert.MergeBwdIdeal.Gen.facts, Cert.MergeBwdRefIdeal.Gen.facts,
    Cert.Rms.Gen.facts, Cert.RmsIdeal.Gen.facts, Cert.RmsRefIdeal.Gen.facts,
    Cert.Merge.Gen.facts, Cert.MergeIdeal.Gen.facts, Cert.MergeRefIdeal.Gen.facts,
    Cert.Tail.Gen.facts, Cert.TailIdeal.Gen.facts, Cert.TailRefIdeal.Gen.facts,
    Cert.AdamIn.Gen.facts, Cert.AdamInIdeal.Gen.facts, Cert.AdamInRefIdeal.Gen.facts,
    Cert.AdamUp.Gen.facts, Cert.AdamUpIdeal.Gen.facts, Cert.AdamUpRefIdeal.Gen.facts,
    Cert.AdamGate.Gen.facts, Cert.AdamGateIdeal.Gen.facts, Cert.AdamGateRefIdeal.Gen.facts,
    Cert.AdamOut.Gen.facts, Cert.AdamOutIdeal.Gen.facts, Cert.AdamOutRefIdeal.Gen.facts,
    Cert.AdamDown.Gen.facts, Cert.AdamDownIdeal.Gen.facts, Cert.AdamDownRefIdeal.Gen.facts,
    Cert.AdamBranchA.Gen.facts, Cert.AdamBranchAIdeal.Gen.facts, Cert.AdamBranchARefIdeal.Gen.facts,
    Cert.AdamBranchB.Gen.facts, Cert.AdamBranchBIdeal.Gen.facts, Cert.AdamBranchBRefIdeal.Gen.facts,
    Cert.AdamSmall.Gen.facts, Cert.AdamSmallIdeal.Gen.facts, Cert.AdamSmallRefIdeal.Gen.facts,
    Cert.DProj.Gen.facts, Cert.DProjIdeal.Gen.facts, Cert.DProjRefIdeal.Gen.facts,
    Cert.ConvFwd.Gen.facts, Cert.ConvFwdIdeal.Gen.facts, Cert.ConvFwdRefIdeal.Gen.facts,
    Cert.ShuffleGrad.Gen.facts, Cert.ShuffleGradIdeal.Gen.facts, Cert.ShuffleGradRefIdeal.Gen.facts,
    Cert.Unshuffle.Gen.facts, Cert.UnshuffleIdeal.Gen.facts, Cert.UnshuffleRefIdeal.Gen.facts,
    frame_kernel, frame_kernelIdeal, frame_reference,
    fun m ρ _ => Cert.WPle.Gen.frame m ρ, fun m ρ _ => Cert.WPleIdeal.Gen.frame m ρ, (fun m ρ _ => quiet (by decide) (Cert.WPleRefIdeal.Value.run m ρ)),
    fun m ρ _ => Cert.WPleGate.Gen.frame m ρ, fun m ρ _ => Cert.WPleGateIdeal.Gen.frame m ρ, (fun m ρ _ => quiet (by decide) (Cert.WPleGateRefIdeal.Value.run m ρ)),
    fun m ρ _ => Cert.H3.Gen.frame m ρ, fun m ρ _ => Cert.H3Ideal.Gen.frame m ρ, (fun m ρ _ => quiet (by decide) (Cert.H3RefIdeal.Value.run m ρ)),
    fun m ρ _ => Cert.WDown.Gen.frame m ρ, fun m ρ _ => Cert.WDownIdeal.Gen.frame m ρ, (fun m ρ _ => quiet (by decide) (Cert.WDownRefIdeal.Value.run m ρ)),
    fun m ρ _ => Cert.F.Gen.frame m ρ, fun m ρ _ => Cert.FIdeal.Gen.frame m ρ, (fun m ρ _ => quiet (by decide) (Cert.FRefIdeal.Value.run m ρ)),
    fun m ρ _ => Cert.WUp.Gen.frame m ρ, fun m ρ _ => Cert.WUpIdeal.Gen.frame m ρ, (fun m ρ _ => quiet (by decide) (Cert.WUpRefIdeal.Value.run m ρ)),
    fun m ρ _ => Cert.H2.Gen.frame m ρ, fun m ρ _ => Cert.H2Ideal.Gen.frame m ρ, (fun m ρ _ => quiet (by decide) (Cert.H2RefIdeal.Value.run m ρ)),
    fun m ρ _ => Cert.Merged.Gen.frame m ρ, fun m ρ _ => Cert.MergedIdeal.Gen.frame m ρ, (fun m ρ _ => quiet (by decide) (Cert.MergedRefIdeal.Value.run m ρ)),
    fun m ρ _ => Cert.WBranchA.Gen.frame m ρ, fun m ρ _ => Cert.WBranchAIdeal.Gen.frame m ρ, (fun m ρ _ => quiet (by decide) (Cert.WBranchARefIdeal.Value.run m ρ)),
    fun m ρ _ => Cert.Ya.Gen.frame m ρ, fun m ρ _ => Cert.YaIdeal.Gen.frame m ρ, (fun m ρ _ => quiet (by decide) (Cert.YaRefIdeal.Value.run m ρ)),
    fun m ρ _ => Cert.WBranchB.Gen.frame m ρ, fun m ρ _ => Cert.WBranchBIdeal.Gen.frame m ρ, (fun m ρ _ => quiet (by decide) (Cert.WBranchBRefIdeal.Value.run m ρ)),
    fun m ρ _ => Cert.Yb.Gen.frame m ρ, fun m ρ _ => Cert.YbIdeal.Gen.frame m ρ, (fun m ρ _ => quiet (by decide) (Cert.YbRefIdeal.Value.run m ρ)),
    fun m ρ _ => Cert.WGate.Gen.frame m ρ, fun m ρ _ => Cert.WGateIdeal.Gen.frame m ρ, (fun m ρ _ => quiet (by decide) (Cert.WGateRefIdeal.Value.run m ρ)),
    fun m ρ _ => Cert.HGate.Gen.frame m ρ, fun m ρ _ => Cert.HGateIdeal.Gen.frame m ρ, (fun m ρ _ => quiet (by decide) (Cert.HGateRefIdeal.Value.run m ρ)),
    fun m ρ _ => Cert.WIn.Gen.frame m ρ, fun m ρ _ => Cert.WInIdeal.Gen.frame m ρ, (fun m ρ _ => quiet (by decide) (Cert.WInRefIdeal.Value.run m ρ)),
    fun m ρ _ => Cert.H.Gen.frame m ρ, fun m ρ _ => Cert.HIdeal.Gen.frame m ρ, (fun m ρ _ => quiet (by decide) (Cert.HRefIdeal.Value.run m ρ)),
    fun m ρ _ => Cert.ProjRw.Gen.frame m ρ, fun m ρ _ => Cert.ProjRwIdeal.Gen.frame m ρ, (fun m ρ _ => quiet (by decide) (Cert.ProjRwRefIdeal.Value.run m ρ)),
    fun m ρ _ => Cert.ProjAtt.Gen.frame m ρ, fun m ρ _ => Cert.ProjAttIdeal.Gen.frame m ρ, (fun m ρ _ => quiet (by decide) (Cert.ProjAttRefIdeal.Value.run m ρ)),
    fun m ρ _ => Cert.BranchA.Gen.frame m ρ, fun m ρ _ => Cert.BranchAIdeal.Gen.frame m ρ, (fun m ρ _ => quiet (by decide) (Cert.BranchARefIdeal.Value.run m ρ)),
    fun m ρ _ => Cert.BranchB.Gen.frame m ρ, fun m ρ _ => Cert.BranchBIdeal.Gen.frame m ρ, (fun m ρ _ => quiet (by decide) (Cert.BranchBRefIdeal.Value.run m ρ)),
    fun m ρ _ => Cert.MixOut.Gen.frame m ρ, fun m ρ _ => Cert.MixOutIdeal.Gen.frame m ρ, (fun m ρ _ => quiet (by decide) (Cert.MixOutRefIdeal.Value.run m ρ)),
    fun m ρ _ => Cert.FfnUp.Gen.frame m ρ, fun m ρ _ => Cert.FfnUpIdeal.Gen.frame m ρ, (fun m ρ _ => quiet (by decide) (Cert.FfnUpRefIdeal.Value.run m ρ)),
    fun m ρ _ => Cert.FfnDown.Gen.frame m ρ, fun m ρ _ => Cert.FfnDownIdeal.Gen.frame m ρ, (fun m ρ _ => quiet (by decide) (Cert.FfnDownRefIdeal.Value.run m ρ)),
    fun m ρ _ => Cert.PleGate.Gen.frame m ρ, fun m ρ _ => Cert.PleGateIdeal.Gen.frame m ρ, (fun m ρ _ => quiet (by decide) (Cert.PleGateRefIdeal.Value.run m ρ)),
    fun m ρ _ => Cert.PleEmbed.Gen.frame m ρ, fun m ρ _ => Cert.PleEmbedIdeal.Gen.frame m ρ, (fun m ρ _ => quiet (by decide) (Cert.PleEmbedRefIdeal.Value.run m ρ)),
    fun m ρ _ => Cert.RmsBwd.Gen.frame m ρ, fun m ρ _ => Cert.RmsBwdIdeal.Gen.frame m ρ, (fun m ρ _ => quiet (A := fun _ _ => True) (by decide) ((θ_run _ _ _).mono (fun _ h c => ⟨trivial, (h c).2.2.2⟩) (Cert.RmsBwdRefIdeal.Value.run m ρ))),
    fun m ρ _ => Cert.RmsMixBwd.Gen.frame m ρ, fun m ρ _ => Cert.RmsMixBwdIdeal.Gen.frame m ρ, (fun m ρ _ => quiet (A := fun _ _ => True) (by decide) ((θ_run _ _ _).mono (fun _ h c => ⟨trivial, (h c).2.2⟩) (Cert.RmsMixBwdRefIdeal.Value.run m ρ))),
    fun m ρ _ => Cert.MergeBwd.Gen.frame m ρ, fun m ρ _ => Cert.MergeBwdIdeal.Gen.frame m ρ, (fun m ρ _ => quiet (A := fun _ _ => True) (by decide) ((θ_run _ _ _).mono (fun _ h c => ⟨trivial, (h c).2.2.2.2⟩) (Cert.MergeBwdRefIdeal.Value.run m ρ))),
    fun m ρ _ => Cert.Rms.Gen.frame m ρ, fun m ρ _ => Cert.RmsIdeal.Gen.frame m ρ, (fun m ρ _ => quiet (by decide) (Cert.RmsRefIdeal.Value.run m ρ)),
    fun m ρ _ => Cert.Merge.Gen.frame m ρ, fun m ρ _ => Cert.MergeIdeal.Gen.frame m ρ, (fun m ρ _ => quiet (by decide) (Cert.MergeRefIdeal.Value.run m ρ)),
    fun m ρ _ => Cert.Tail.Gen.frame m ρ, fun m ρ _ => Cert.TailIdeal.Gen.frame m ρ, (fun m ρ _ => quiet (A := fun _ _ => True) (by decide) ((θ_run _ _ _).mono (fun _ h c => ⟨trivial, (h c).2.2.2.2.2⟩) (Cert.TailRefIdeal.Value.run m ρ))),
    fun m ρ _ => Cert.AdamIn.Gen.frame m ρ, fun m ρ _ => Cert.AdamInIdeal.Gen.frame m ρ, (fun m ρ _ => quiet (A := fun _ _ => True) (by decide) ((θ_run _ _ _).mono (fun _ h c => ⟨trivial, (h c).2.2.2.2⟩) (Cert.AdamInRefIdeal.Value.run m ρ))),
    fun m ρ _ => Cert.AdamUp.Gen.frame m ρ, fun m ρ _ => Cert.AdamUpIdeal.Gen.frame m ρ, (fun m ρ _ => quiet (A := fun _ _ => True) (by decide) ((θ_run _ _ _).mono (fun _ h c => ⟨trivial, (h c).2.2.2.2⟩) (Cert.AdamUpRefIdeal.Value.run m ρ))),
    fun m ρ _ => Cert.AdamGate.Gen.frame m ρ, fun m ρ _ => Cert.AdamGateIdeal.Gen.frame m ρ, (fun m ρ _ => quiet (A := fun _ _ => True) (by decide) ((θ_run _ _ _).mono (fun _ h c => ⟨trivial, (h c).2.2.2.2⟩) (Cert.AdamGateRefIdeal.Value.run m ρ))),
    fun m ρ _ => Cert.AdamOut.Gen.frame m ρ, fun m ρ _ => Cert.AdamOutIdeal.Gen.frame m ρ, (fun m ρ _ => quiet (A := fun _ _ => True) (by decide) ((θ_run _ _ _).mono (fun _ h c => ⟨trivial, (h c).2.2.2.2⟩) (Cert.AdamOutRefIdeal.Value.run m ρ))),
    fun m ρ _ => Cert.AdamDown.Gen.frame m ρ, fun m ρ _ => Cert.AdamDownIdeal.Gen.frame m ρ, (fun m ρ _ => quiet (A := fun _ _ => True) (by decide) ((θ_run _ _ _).mono (fun _ h c => ⟨trivial, (h c).2.2.2.2⟩) (Cert.AdamDownRefIdeal.Value.run m ρ))),
    fun m ρ _ => Cert.AdamBranchA.Gen.frame m ρ, fun m ρ _ => Cert.AdamBranchAIdeal.Gen.frame m ρ, (fun m ρ _ => quiet (A := fun _ _ => True) (by decide) ((θ_run _ _ _).mono (fun _ h c => ⟨trivial, (h c).2.2.2.2⟩) (Cert.AdamBranchARefIdeal.Value.run m ρ))),
    fun m ρ _ => Cert.AdamBranchB.Gen.frame m ρ, fun m ρ _ => Cert.AdamBranchBIdeal.Gen.frame m ρ, (fun m ρ _ => quiet (A := fun _ _ => True) (by decide) ((θ_run _ _ _).mono (fun _ h c => ⟨trivial, (h c).2.2.2.2⟩) (Cert.AdamBranchBRefIdeal.Value.run m ρ))),
    fun m ρ _ => Cert.AdamSmall.Gen.frame m ρ, fun m ρ _ => Cert.AdamSmallIdeal.Gen.frame m ρ, (fun m ρ _ => quiet (A := fun _ _ => True) (by decide) ((θ_run _ _ _).mono (fun _ h c => ⟨trivial, (h c).2.2.2.2⟩) (Cert.AdamSmallRefIdeal.Value.run m ρ))),
    fun m ρ _ => Cert.DProj.Gen.frame m ρ, fun m ρ _ => Cert.DProjIdeal.Gen.frame m ρ, (fun m ρ _ => quiet (by decide) (Cert.DProjRefIdeal.Value.run m ρ)),
    fun m ρ _ => Cert.ConvFwd.Gen.frame m ρ, fun m ρ _ => Cert.ConvFwdIdeal.Gen.frame m ρ, (fun m ρ _ => quiet (by decide) (Cert.ConvFwdRefIdeal.Value.run m ρ)),
    fun m ρ _ => Cert.ShuffleGrad.Gen.frame m ρ, fun m ρ _ => Cert.ShuffleGradIdeal.Gen.frame m ρ, (fun m ρ _ => quiet (by decide) (Cert.ShuffleGradRefIdeal.Value.run m ρ)),
    fun m ρ _ => Cert.Unshuffle.Gen.frame m ρ, fun m ρ _ => Cert.UnshuffleIdeal.Gen.frame m ρ, (fun m ρ _ => quiet (by decide) (Cert.UnshuffleRefIdeal.Value.run m ρ)),
    trivial, values,
    trivial, Cert.WPleIdeal.Mat.values,
    trivial, Cert.WPleGateIdeal.Mat.values,
    trivial, Cert.H3Ideal.Mat.values,
    trivial, Cert.WDownIdeal.Mat.values,
    trivial, Cert.FIdeal.Mat.values,
    trivial, Cert.WUpIdeal.Mat.values,
    trivial, Cert.H2Ideal.Mat.values,
    trivial, Cert.MergedIdeal.Mat.values,
    trivial, Cert.WBranchAIdeal.Mat.values,
    trivial, Cert.YaIdeal.Mat.values,
    trivial, Cert.WBranchBIdeal.Mat.values,
    trivial, Cert.YbIdeal.Mat.values,
    trivial, Cert.WGateIdeal.Mat.values,
    trivial, Cert.HGateIdeal.Mat.values,
    trivial, Cert.WInIdeal.Mat.values,
    trivial, Cert.HIdeal.Mat.values,
    trivial, Cert.ProjRwIdeal.Mat.values,
    trivial, Cert.ProjAttIdeal.Mat.values,
    trivial, Cert.BranchAIdeal.Mat.values,
    trivial, Cert.BranchBIdeal.Mat.values,
    trivial, Cert.MixOutIdeal.Mat.values,
    trivial, Cert.FfnUpIdeal.Mat.values,
    trivial, Cert.FfnDownIdeal.Mat.values,
    trivial, Cert.PleGateIdeal.Mat.values,
    trivial, Cert.PleEmbedIdeal.Mat.values,
    trivial, Cert.RmsBwdIdeal.Row.values,
    trivial, Cert.RmsMixBwdIdeal.Row.values,
    trivial, Cert.MergeBwdIdeal.Row.values,
    trivial, Cert.RmsIdeal.Row.values,
    trivial, Cert.MergeIdeal.Row.values,
    trivial, Cert.TailIdeal.Row.values,
    trivial, Cert.AdamInIdeal.Row.values,
    trivial, Cert.AdamUpIdeal.Row.values,
    trivial, Cert.AdamGateIdeal.Row.values,
    trivial, Cert.AdamOutIdeal.Row.values,
    trivial, Cert.AdamDownIdeal.Row.values,
    trivial, Cert.AdamBranchAIdeal.Row.values,
    trivial, Cert.AdamBranchBIdeal.Row.values,
    trivial, Cert.AdamSmallIdeal.Row.values,
    trivial, Cert.DProjIdeal.Row.values,
    trivial, Cert.ConvFwdIdeal.Row.values,
    trivial, Cert.ShuffleGradIdeal.Row.values,
    trivial, Cert.UnshuffleIdeal.Row.values⟩

end Cert.Proof

end
